-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S8x4x128x256 : Shape := ⟨4, ![8, 4, 128, 256]⟩
abbrev S8x4 : Shape := ⟨2, ![8, 4]⟩
abbrev S8 : Shape := ⟨1, ![8]⟩
abbrev S_ : Shape := ⟨0, ![]⟩
abbrev S128x128 : Shape := ⟨2, ![128, 128]⟩
abbrev S128x1024 : Shape := ⟨2, ![128, 1024]⟩
abbrev S128x256 : Shape := ⟨2, ![128, 256]⟩
abbrev S1x1x128x256 : Shape := ⟨4, ![1, 1, 128, 256]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .bf16⟩
  | .local _ .vmem, ⟨0, _⟩ => ⟨S4096x128, .bf16⟩
  | .local _ .vmem, ⟨1, _⟩ => ⟨S128x2048, .bf16⟩
  | .local _ .vmem, ⟨2, _⟩ => ⟨S4096x2048, .bf16⟩
  | .local _ .vmem, ⟨3, _⟩ => ⟨S8x4x128x256, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 9 67 bufScoped semScoped dmaSemScoped tileCredit tileCredit_eq_zero tileCredit_pos).withBarriers [(2, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier2 : Sem sig := 8

abbrev nD : Nat := 32
abbrev τ : Topo := Topo.v7x

variable {F : FTy → Type} [FloatOps F]

abbrev grid0 : Pipeline.Grid := .none

def k0_dev1 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_66 : BitVec 32 := 1#32
  let v128 : BitVec 32 := Scalar.muli v126 c1_i32_66
  let v129 : BitVec 32 := Scalar.addi c0_i32_67 v128
  v129.toNat
def k0_dev2 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_69 : BitVec 32 := 1#32
  let v130 : BitVec 32 := Scalar.muli v88 c1_i32_69
  let v131 : BitVec 32 := Scalar.addi c0_i32_70 v130
  v131.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c128_i32 : BitVec 32 := 128#32
  let v132 : BitVec 32 := Scalar.muli v51 c128_i32
  let v133 : Index := Scalar.indexCast v132
  let c0 : Index := 0#32
  ![v133.toNat, 0]
def k0_dev3 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_90 : BitVec 32 := 1#32
  let v152 : BitVec 32 := Scalar.muli v88 c1_i32_90
  let v153 : BitVec 32 := Scalar.addi c0_i32_91 v152
  v153.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_107 : BitVec 32 := 1#32
  let v166 : BitVec 32 := Scalar.muli v126 c1_i32_107
  let v167 : BitVec 32 := Scalar.addi c0_i32_108 v166
  v167.toNat
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_124 : BitVec 32 := 1#32
  let v180 : BitVec 32 := Scalar.muli v88 c1_i32_124
  let v181 : BitVec 32 := Scalar.addi c0_i32_125 v180
  v181.toNat
def k0_dev6 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_141 : BitVec 32 := 1#32
  let v194 : BitVec 32 := Scalar.muli v126 c1_i32_141
  let v195 : BitVec 32 := Scalar.addi c0_i32_142 v194
  v195.toNat
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_158 : BitVec 32 := 1#32
  let v208 : BitVec 32 := Scalar.muli v88 c1_i32_158
  let v209 : BitVec 32 := Scalar.addi c0_i32_159 v208
  v209.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_174 : BitVec 32 := 1#32
  let v222 : BitVec 32 := Scalar.muli v126 c1_i32_174
  let v223 : BitVec 32 := Scalar.addi c0_i32_175 v222
  v223.toNat
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_190 : BitVec 32 := 1#32
  let v236 : BitVec 32 := Scalar.muli v88 c1_i32_190
  let v237 : BitVec 32 := Scalar.addi c0_i32_191 v236
  v237.toNat
def k0_dev10 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_206 : BitVec 32 := 1#32
  let v250 : BitVec 32 := Scalar.muli v126 c1_i32_206
  let v251 : BitVec 32 := Scalar.addi c0_i32_207 v250
  v251.toNat
def k0_off2 (d0 : Dev nD) (c0_i32_213 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_212 : BitVec 32 := 32#32
  let v260 : BitVec 32 := Scalar.addi v51 c32_i32_212
  let v261 : BitVec 32 := Scalar.subi v260 c0_i32_213
  let c1_i32_214 : BitVec 32 := 1#32
  let v262 : BitVec 32 := Scalar.subi v261 c1_i32_214
  let c32_i32_215 : BitVec 32 := 32#32
  let v263 : BitVec 32 := Scalar.remsi v262 c32_i32_215
  let c128_i32_219 : BitVec 32 := 128#32
  let v267 : BitVec 32 := Scalar.muli v263 c128_i32_219
  let v268 : Index := Scalar.indexCast v267
  let c0_220 : Index := 0#32
  ![v268.toNat, 0]
def k0_off3 (d0 : Dev nD) (c0_i32_216 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let v264 : BitVec 32 := Scalar.addi v51 c0_i32_216
  let c1_i32_217 : BitVec 32 := 1#32
  let v265 : BitVec 32 := Scalar.addi v264 c1_i32_217
  let c32_i32_218 : BitVec 32 := 32#32
  let v266 : BitVec 32 := Scalar.remsi v265 c32_i32_218
  let c128_i32_224 : BitVec 32 := 128#32
  let v274 : BitVec 32 := Scalar.muli v266 c128_i32_224
  let v275 : Index := Scalar.indexCast v274
  let c0_225 : Index := 0#32
  ![v275.toNat, 0]
def k0_dev11 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_259 : BitVec 32 := 1#32
  let v298 : BitVec 32 := Scalar.muli v88 c1_i32_259
  let v299 : BitVec 32 := Scalar.addi c0_i32_260 v298
  v299.toNat
def k0_dev12 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_280 : BitVec 32 := 1#32
  let v316 : BitVec 32 := Scalar.muli v126 c1_i32_280
  let v317 : BitVec 32 := Scalar.addi c0_i32_281 v316
  v317.toNat
def k0_dev13 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_312 : BitVec 32 := 1#32
  let v335 : BitVec 32 := Scalar.muli v126 c1_i32_312
  let v336 : BitVec 32 := Scalar.addi c0_i32_313 v335
  v336.toNat
def k0_dev14 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_333 : BitVec 32 := 1#32
  let v353 : BitVec 32 := Scalar.muli v88 c1_i32_333
  let v354 : BitVec 32 := Scalar.addi c0_i32_334 v353
  v354.toNat
def k0_dev15 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_365 : BitVec 32 := 1#32
  let v372 : BitVec 32 := Scalar.muli v88 c1_i32_365
  let v373 : BitVec 32 := Scalar.addi c0_i32_366 v372
  v373.toNat
def k0_dev16 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_386 : BitVec 32 := 1#32
  let v390 : BitVec 32 := Scalar.muli v126 c1_i32_386
  let v391 : BitVec 32 := Scalar.addi c0_i32_387 v390
  v391.toNat
def k0_dev17 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_418 : BitVec 32 := 1#32
  let v409 : BitVec 32 := Scalar.muli v126 c1_i32_418
  let v410 : BitVec 32 := Scalar.addi c0_i32_419 v409
  v410.toNat
def k0_dev18 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_439 : BitVec 32 := 1#32
  let v427 : BitVec 32 := Scalar.muli v88 c1_i32_439
  let v428 : BitVec 32 := Scalar.addi c0_i32_440 v427
  v428.toNat
def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_471 : BitVec 32 := 1#32
  let v446 : BitVec 32 := Scalar.muli v88 c1_i32_471
  let v447 : BitVec 32 := Scalar.addi c0_i32_472 v446
  v447.toNat
def k0_dev20 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_492 : BitVec 32 := 1#32
  let v464 : BitVec 32 := Scalar.muli v126 c1_i32_492
  let v465 : BitVec 32 := Scalar.addi c0_i32_493 v464
  v465.toNat
def k0_dev21 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_524 : BitVec 32 := 1#32
  let v483 : BitVec 32 := Scalar.muli v126 c1_i32_524
  let v484 : BitVec 32 := Scalar.addi c0_i32_525 v483
  v484.toNat
def k0_dev22 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_545 : BitVec 32 := 1#32
  let v501 : BitVec 32 := Scalar.muli v88 c1_i32_545
  let v502 : BitVec 32 := Scalar.addi c0_i32_546 v501
  v502.toNat
def k0_dev23 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_577 : BitVec 32 := 1#32
  let v520 : BitVec 32 := Scalar.muli v88 c1_i32_577
  let v521 : BitVec 32 := Scalar.addi c0_i32_578 v520
  v521.toNat
def k0_dev24 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_598 : BitVec 32 := 1#32
  let v538 : BitVec 32 := Scalar.muli v126 c1_i32_598
  let v539 : BitVec 32 := Scalar.addi c0_i32_599 v538
  v539.toNat
def k0_dev25 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_630 : BitVec 32 := 1#32
  let v557 : BitVec 32 := Scalar.muli v126 c1_i32_630
  let v558 : BitVec 32 := Scalar.addi c0_i32_631 v557
  v558.toNat
def k0_dev26 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_651 : BitVec 32 := 1#32
  let v575 : BitVec 32 := Scalar.muli v88 c1_i32_651
  let v576 : BitVec 32 := Scalar.addi c0_i32_652 v575
  v576.toNat
def k0_dev27 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_700 : BitVec 32 := 1#32
  let v615 : BitVec 32 := Scalar.muli v88 c1_i32_700
  let v616 : BitVec 32 := Scalar.addi c0_i32_701 v615
  v616.toNat
def k0_dev28 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_721 : BitVec 32 := 1#32
  let v633 : BitVec 32 := Scalar.muli v126 c1_i32_721
  let v634 : BitVec 32 := Scalar.addi c0_i32_722 v633
  v634.toNat
def k0_dev29 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_753 : BitVec 32 := 1#32
  let v652 : BitVec 32 := Scalar.muli v126 c1_i32_753
  let v653 : BitVec 32 := Scalar.addi c0_i32_754 v652
  v653.toNat
def k0_dev30 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_774 : BitVec 32 := 1#32
  let v670 : BitVec 32 := Scalar.muli v88 c1_i32_774
  let v671 : BitVec 32 := Scalar.addi c0_i32_775 v670
  v671.toNat
def k0_dev31 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_806 : BitVec 32 := 1#32
  let v689 : BitVec 32 := Scalar.muli v88 c1_i32_806
  let v690 : BitVec 32 := Scalar.addi c0_i32_807 v689
  v690.toNat
def k0_dev32 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_827 : BitVec 32 := 1#32
  let v707 : BitVec 32 := Scalar.muli v126 c1_i32_827
  let v708 : BitVec 32 := Scalar.addi c0_i32_828 v707
  v708.toNat
def k0_dev33 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_859 : BitVec 32 := 1#32
  let v726 : BitVec 32 := Scalar.muli v126 c1_i32_859
  let v727 : BitVec 32 := Scalar.addi c0_i32_860 v726
  v727.toNat
def k0_dev34 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_880 : BitVec 32 := 1#32
  let v744 : BitVec 32 := Scalar.muli v88 c1_i32_880
  let v745 : BitVec 32 := Scalar.addi c0_i32_881 v744
  v745.toNat
def k0_dev35 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_912 : BitVec 32 := 1#32
  let v763 : BitVec 32 := Scalar.muli v88 c1_i32_912
  let v764 : BitVec 32 := Scalar.addi c0_i32_913 v763
  v764.toNat
def k0_dev36 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_933 : BitVec 32 := 1#32
  let v781 : BitVec 32 := Scalar.muli v126 c1_i32_933
  let v782 : BitVec 32 := Scalar.addi c0_i32_934 v781
  v782.toNat
def k0_dev37 (d0 : Dev nD) : Nat :=
  let c0_i32_966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_965 : BitVec 32 := 1#32
  let v800 : BitVec 32 := Scalar.muli v126 c1_i32_965
  let v801 : BitVec 32 := Scalar.addi c0_i32_966 v800
  v801.toNat
def k0_dev38 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_986 : BitVec 32 := 1#32
  let v818 : BitVec 32 := Scalar.muli v88 c1_i32_986
  let v819 : BitVec 32 := Scalar.addi c0_i32_987 v818
  v819.toNat
def k0_dev39 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1018 : BitVec 32 := 1#32
  let v837 : BitVec 32 := Scalar.muli v88 c1_i32_1018
  let v838 : BitVec 32 := Scalar.addi c0_i32_1019 v837
  v838.toNat
def k0_dev40 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1039 : BitVec 32 := 1#32
  let v855 : BitVec 32 := Scalar.muli v126 c1_i32_1039
  let v856 : BitVec 32 := Scalar.addi c0_i32_1040 v855
  v856.toNat
def k0_dev41 (d0 : Dev nD) : Nat :=
  let c0_i32_1072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1071 : BitVec 32 := 1#32
  let v874 : BitVec 32 := Scalar.muli v126 c1_i32_1071
  let v875 : BitVec 32 := Scalar.addi c0_i32_1072 v874
  v875.toNat
def k0_dev42 (d0 : Dev nD) : Nat :=
  let c0_i32_1093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1092 : BitVec 32 := 1#32
  let v892 : BitVec 32 := Scalar.muli v88 c1_i32_1092
  let v893 : BitVec 32 := Scalar.addi c0_i32_1093 v892
  v893.toNat
def k0_dev43 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1144 : BitVec 32 := 1#32
  let v934 : BitVec 32 := Scalar.muli v88 c1_i32_1144
  let v935 : BitVec 32 := Scalar.addi c0_i32_1145 v934
  v935.toNat
def k0_dev44 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1165 : BitVec 32 := 1#32
  let v952 : BitVec 32 := Scalar.muli v126 c1_i32_1165
  let v953 : BitVec 32 := Scalar.addi c0_i32_1166 v952
  v953.toNat
def k0_dev45 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1200 : BitVec 32 := 1#32
  let v973 : BitVec 32 := Scalar.muli v126 c1_i32_1200
  let v974 : BitVec 32 := Scalar.addi c0_i32_1201 v973
  v974.toNat
def k0_dev46 (d0 : Dev nD) : Nat :=
  let c0_i32_1222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1221 : BitVec 32 := 1#32
  let v991 : BitVec 32 := Scalar.muli v88 c1_i32_1221
  let v992 : BitVec 32 := Scalar.addi c0_i32_1222 v991
  v992.toNat
def k0_dev47 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1256 : BitVec 32 := 1#32
  let v1012 : BitVec 32 := Scalar.muli v88 c1_i32_1256
  let v1013 : BitVec 32 := Scalar.addi c0_i32_1257 v1012
  v1013.toNat
def k0_dev48 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1277 : BitVec 32 := 1#32
  let v1030 : BitVec 32 := Scalar.muli v126 c1_i32_1277
  let v1031 : BitVec 32 := Scalar.addi c0_i32_1278 v1030
  v1031.toNat
def k0_dev49 (d0 : Dev nD) : Nat :=
  let c0_i32_1313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1312 : BitVec 32 := 1#32
  let v1051 : BitVec 32 := Scalar.muli v126 c1_i32_1312
  let v1052 : BitVec 32 := Scalar.addi c0_i32_1313 v1051
  v1052.toNat
def k0_dev50 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1333 : BitVec 32 := 1#32
  let v1069 : BitVec 32 := Scalar.muli v88 c1_i32_1333
  let v1070 : BitVec 32 := Scalar.addi c0_i32_1334 v1069
  v1070.toNat
def k0_dev51 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1368 : BitVec 32 := 1#32
  let v1090 : BitVec 32 := Scalar.muli v88 c1_i32_1368
  let v1091 : BitVec 32 := Scalar.addi c0_i32_1369 v1090
  v1091.toNat
def k0_dev52 (d0 : Dev nD) : Nat :=
  let c0_i32_1390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1389 : BitVec 32 := 1#32
  let v1108 : BitVec 32 := Scalar.muli v126 c1_i32_1389
  let v1109 : BitVec 32 := Scalar.addi c0_i32_1390 v1108
  v1109.toNat
def k0_dev53 (d0 : Dev nD) : Nat :=
  let c0_i32_1425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1424 : BitVec 32 := 1#32
  let v1129 : BitVec 32 := Scalar.muli v126 c1_i32_1424
  let v1130 : BitVec 32 := Scalar.addi c0_i32_1425 v1129
  v1130.toNat
def k0_dev54 (d0 : Dev nD) : Nat :=
  let c0_i32_1446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1445 : BitVec 32 := 1#32
  let v1147 : BitVec 32 := Scalar.muli v88 c1_i32_1445
  let v1148 : BitVec 32 := Scalar.addi c0_i32_1446 v1147
  v1148.toNat
def k0_dev55 (d0 : Dev nD) : Nat :=
  let c0_i32_1481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1480 : BitVec 32 := 1#32
  let v1168 : BitVec 32 := Scalar.muli v88 c1_i32_1480
  let v1169 : BitVec 32 := Scalar.addi c0_i32_1481 v1168
  v1169.toNat
def k0_dev56 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1501 : BitVec 32 := 1#32
  let v1186 : BitVec 32 := Scalar.muli v126 c1_i32_1501
  let v1187 : BitVec 32 := Scalar.addi c0_i32_1502 v1186
  v1187.toNat
def k0_dev57 (d0 : Dev nD) : Nat :=
  let c0_i32_1537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1536 : BitVec 32 := 1#32
  let v1207 : BitVec 32 := Scalar.muli v126 c1_i32_1536
  let v1208 : BitVec 32 := Scalar.addi c0_i32_1537 v1207
  v1208.toNat
def k0_dev58 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1557 : BitVec 32 := 1#32
  let v1225 : BitVec 32 := Scalar.muli v88 c1_i32_1557
  let v1226 : BitVec 32 := Scalar.addi c0_i32_1558 v1225
  v1226.toNat
def k0_dev59 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1609 : BitVec 32 := 1#32
  let v1267 : BitVec 32 := Scalar.muli v88 c1_i32_1609
  let v1268 : BitVec 32 := Scalar.addi c0_i32_1610 v1267
  v1268.toNat
def k0_dev60 (d0 : Dev nD) : Nat :=
  let c0_i32_1631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1630 : BitVec 32 := 1#32
  let v1285 : BitVec 32 := Scalar.muli v126 c1_i32_1630
  let v1286 : BitVec 32 := Scalar.addi c0_i32_1631 v1285
  v1286.toNat
def k0_dev61 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1665 : BitVec 32 := 1#32
  let v1306 : BitVec 32 := Scalar.muli v126 c1_i32_1665
  let v1307 : BitVec 32 := Scalar.addi c0_i32_1666 v1306
  v1307.toNat
def k0_dev62 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1686 : BitVec 32 := 1#32
  let v1324 : BitVec 32 := Scalar.muli v88 c1_i32_1686
  let v1325 : BitVec 32 := Scalar.addi c0_i32_1687 v1324
  v1325.toNat
def k0_dev63 (d0 : Dev nD) : Nat :=
  let c0_i32_1722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1721 : BitVec 32 := 1#32
  let v1345 : BitVec 32 := Scalar.muli v88 c1_i32_1721
  let v1346 : BitVec 32 := Scalar.addi c0_i32_1722 v1345
  v1346.toNat
def k0_dev64 (d0 : Dev nD) : Nat :=
  let c0_i32_1743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1742 : BitVec 32 := 1#32
  let v1363 : BitVec 32 := Scalar.muli v126 c1_i32_1742
  let v1364 : BitVec 32 := Scalar.addi c0_i32_1743 v1363
  v1364.toNat
def k0_dev65 (d0 : Dev nD) : Nat :=
  let c0_i32_1778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1777 : BitVec 32 := 1#32
  let v1384 : BitVec 32 := Scalar.muli v126 c1_i32_1777
  let v1385 : BitVec 32 := Scalar.addi c0_i32_1778 v1384
  v1385.toNat
def k0_dev66 (d0 : Dev nD) : Nat :=
  let c0_i32_1799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1798 : BitVec 32 := 1#32
  let v1402 : BitVec 32 := Scalar.muli v88 c1_i32_1798
  let v1403 : BitVec 32 := Scalar.addi c0_i32_1799 v1402
  v1403.toNat
def k0_dev67 (d0 : Dev nD) : Nat :=
  let c0_i32_1834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1833 : BitVec 32 := 1#32
  let v1423 : BitVec 32 := Scalar.muli v88 c1_i32_1833
  let v1424 : BitVec 32 := Scalar.addi c0_i32_1834 v1423
  v1424.toNat
def k0_dev68 (d0 : Dev nD) : Nat :=
  let c0_i32_1855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1854 : BitVec 32 := 1#32
  let v1441 : BitVec 32 := Scalar.muli v126 c1_i32_1854
  let v1442 : BitVec 32 := Scalar.addi c0_i32_1855 v1441
  v1442.toNat
def k0_dev69 (d0 : Dev nD) : Nat :=
  let c0_i32_1890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1889 : BitVec 32 := 1#32
  let v1462 : BitVec 32 := Scalar.muli v126 c1_i32_1889
  let v1463 : BitVec 32 := Scalar.addi c0_i32_1890 v1462
  v1463.toNat
def k0_dev70 (d0 : Dev nD) : Nat :=
  let c0_i32_1911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1910 : BitVec 32 := 1#32
  let v1480 : BitVec 32 := Scalar.muli v88 c1_i32_1910
  let v1481 : BitVec 32 := Scalar.addi c0_i32_1911 v1480
  v1481.toNat
def k0_dev71 (d0 : Dev nD) : Nat :=
  let c0_i32_1946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_1945 : BitVec 32 := 1#32
  let v1501 : BitVec 32 := Scalar.muli v88 c1_i32_1945
  let v1502 : BitVec 32 := Scalar.addi c0_i32_1946 v1501
  v1502.toNat
def k0_dev72 (d0 : Dev nD) : Nat :=
  let c0_i32_1967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_1966 : BitVec 32 := 1#32
  let v1519 : BitVec 32 := Scalar.muli v126 c1_i32_1966
  let v1520 : BitVec 32 := Scalar.addi c0_i32_1967 v1519
  v1520.toNat
def k0_dev73 (d0 : Dev nD) : Nat :=
  let c0_i32_2002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2001 : BitVec 32 := 1#32
  let v1540 : BitVec 32 := Scalar.muli v126 c1_i32_2001
  let v1541 : BitVec 32 := Scalar.addi c0_i32_2002 v1540
  v1541.toNat
def k0_dev74 (d0 : Dev nD) : Nat :=
  let c0_i32_2023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2022 : BitVec 32 := 1#32
  let v1558 : BitVec 32 := Scalar.muli v88 c1_i32_2022
  let v1559 : BitVec 32 := Scalar.addi c0_i32_2023 v1558
  v1559.toNat
def k0_dev75 (d0 : Dev nD) : Nat :=
  let c0_i32_2075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2074 : BitVec 32 := 1#32
  let v1600 : BitVec 32 := Scalar.muli v88 c1_i32_2074
  let v1601 : BitVec 32 := Scalar.addi c0_i32_2075 v1600
  v1601.toNat
def k0_dev76 (d0 : Dev nD) : Nat :=
  let c0_i32_2096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2095 : BitVec 32 := 1#32
  let v1618 : BitVec 32 := Scalar.muli v126 c1_i32_2095
  let v1619 : BitVec 32 := Scalar.addi c0_i32_2096 v1618
  v1619.toNat
def k0_dev77 (d0 : Dev nD) : Nat :=
  let c0_i32_2131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2130 : BitVec 32 := 1#32
  let v1639 : BitVec 32 := Scalar.muli v126 c1_i32_2130
  let v1640 : BitVec 32 := Scalar.addi c0_i32_2131 v1639
  v1640.toNat
def k0_dev78 (d0 : Dev nD) : Nat :=
  let c0_i32_2152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2151 : BitVec 32 := 1#32
  let v1657 : BitVec 32 := Scalar.muli v88 c1_i32_2151
  let v1658 : BitVec 32 := Scalar.addi c0_i32_2152 v1657
  v1658.toNat
def k0_dev79 (d0 : Dev nD) : Nat :=
  let c0_i32_2187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2186 : BitVec 32 := 1#32
  let v1678 : BitVec 32 := Scalar.muli v88 c1_i32_2186
  let v1679 : BitVec 32 := Scalar.addi c0_i32_2187 v1678
  v1679.toNat
def k0_dev80 (d0 : Dev nD) : Nat :=
  let c0_i32_2208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2207 : BitVec 32 := 1#32
  let v1696 : BitVec 32 := Scalar.muli v126 c1_i32_2207
  let v1697 : BitVec 32 := Scalar.addi c0_i32_2208 v1696
  v1697.toNat
def k0_dev81 (d0 : Dev nD) : Nat :=
  let c0_i32_2243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2242 : BitVec 32 := 1#32
  let v1717 : BitVec 32 := Scalar.muli v126 c1_i32_2242
  let v1718 : BitVec 32 := Scalar.addi c0_i32_2243 v1717
  v1718.toNat
def k0_dev82 (d0 : Dev nD) : Nat :=
  let c0_i32_2264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2263 : BitVec 32 := 1#32
  let v1735 : BitVec 32 := Scalar.muli v88 c1_i32_2263
  let v1736 : BitVec 32 := Scalar.addi c0_i32_2264 v1735
  v1736.toNat
def k0_dev83 (d0 : Dev nD) : Nat :=
  let c0_i32_2299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2298 : BitVec 32 := 1#32
  let v1756 : BitVec 32 := Scalar.muli v88 c1_i32_2298
  let v1757 : BitVec 32 := Scalar.addi c0_i32_2299 v1756
  v1757.toNat
def k0_dev84 (d0 : Dev nD) : Nat :=
  let c0_i32_2320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2319 : BitVec 32 := 1#32
  let v1774 : BitVec 32 := Scalar.muli v126 c1_i32_2319
  let v1775 : BitVec 32 := Scalar.addi c0_i32_2320 v1774
  v1775.toNat
def k0_dev85 (d0 : Dev nD) : Nat :=
  let c0_i32_2355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2354 : BitVec 32 := 1#32
  let v1795 : BitVec 32 := Scalar.muli v126 c1_i32_2354
  let v1796 : BitVec 32 := Scalar.addi c0_i32_2355 v1795
  v1796.toNat
def k0_dev86 (d0 : Dev nD) : Nat :=
  let c0_i32_2376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2375 : BitVec 32 := 1#32
  let v1813 : BitVec 32 := Scalar.muli v88 c1_i32_2375
  let v1814 : BitVec 32 := Scalar.addi c0_i32_2376 v1813
  v1814.toNat
def k0_dev87 (d0 : Dev nD) : Nat :=
  let c0_i32_2411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2410 : BitVec 32 := 1#32
  let v1834 : BitVec 32 := Scalar.muli v88 c1_i32_2410
  let v1835 : BitVec 32 := Scalar.addi c0_i32_2411 v1834
  v1835.toNat
def k0_dev88 (d0 : Dev nD) : Nat :=
  let c0_i32_2432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2431 : BitVec 32 := 1#32
  let v1852 : BitVec 32 := Scalar.muli v126 c1_i32_2431
  let v1853 : BitVec 32 := Scalar.addi c0_i32_2432 v1852
  v1853.toNat
def k0_dev89 (d0 : Dev nD) : Nat :=
  let c0_i32_2467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2466 : BitVec 32 := 1#32
  let v1873 : BitVec 32 := Scalar.muli v126 c1_i32_2466
  let v1874 : BitVec 32 := Scalar.addi c0_i32_2467 v1873
  v1874.toNat
def k0_dev90 (d0 : Dev nD) : Nat :=
  let c0_i32_2488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2487 : BitVec 32 := 1#32
  let v1891 : BitVec 32 := Scalar.muli v88 c1_i32_2487
  let v1892 : BitVec 32 := Scalar.addi c0_i32_2488 v1891
  v1892.toNat
def k0_dev91 (d0 : Dev nD) : Nat :=
  let c0_i32_2540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2539 : BitVec 32 := 1#32
  let v1933 : BitVec 32 := Scalar.muli v88 c1_i32_2539
  let v1934 : BitVec 32 := Scalar.addi c0_i32_2540 v1933
  v1934.toNat
def k0_dev92 (d0 : Dev nD) : Nat :=
  let c0_i32_2561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2560 : BitVec 32 := 1#32
  let v1951 : BitVec 32 := Scalar.muli v126 c1_i32_2560
  let v1952 : BitVec 32 := Scalar.addi c0_i32_2561 v1951
  v1952.toNat
def k0_dev93 (d0 : Dev nD) : Nat :=
  let c0_i32_2596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2595 : BitVec 32 := 1#32
  let v1972 : BitVec 32 := Scalar.muli v126 c1_i32_2595
  let v1973 : BitVec 32 := Scalar.addi c0_i32_2596 v1972
  v1973.toNat
def k0_dev94 (d0 : Dev nD) : Nat :=
  let c0_i32_2617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2616 : BitVec 32 := 1#32
  let v1990 : BitVec 32 := Scalar.muli v88 c1_i32_2616
  let v1991 : BitVec 32 := Scalar.addi c0_i32_2617 v1990
  v1991.toNat
def k0_dev95 (d0 : Dev nD) : Nat :=
  let c0_i32_2652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2651 : BitVec 32 := 1#32
  let v2011 : BitVec 32 := Scalar.muli v88 c1_i32_2651
  let v2012 : BitVec 32 := Scalar.addi c0_i32_2652 v2011
  v2012.toNat
def k0_dev96 (d0 : Dev nD) : Nat :=
  let c0_i32_2673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2672 : BitVec 32 := 1#32
  let v2029 : BitVec 32 := Scalar.muli v126 c1_i32_2672
  let v2030 : BitVec 32 := Scalar.addi c0_i32_2673 v2029
  v2030.toNat
def k0_dev97 (d0 : Dev nD) : Nat :=
  let c0_i32_2708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2707 : BitVec 32 := 1#32
  let v2050 : BitVec 32 := Scalar.muli v126 c1_i32_2707
  let v2051 : BitVec 32 := Scalar.addi c0_i32_2708 v2050
  v2051.toNat
def k0_dev98 (d0 : Dev nD) : Nat :=
  let c0_i32_2729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2728 : BitVec 32 := 1#32
  let v2068 : BitVec 32 := Scalar.muli v88 c1_i32_2728
  let v2069 : BitVec 32 := Scalar.addi c0_i32_2729 v2068
  v2069.toNat
def k0_dev99 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2763 : BitVec 32 := 1#32
  let v2089 : BitVec 32 := Scalar.muli v88 c1_i32_2763
  let v2090 : BitVec 32 := Scalar.addi c0_i32_2764 v2089
  v2090.toNat
def k0_dev100 (d0 : Dev nD) : Nat :=
  let c0_i32_2785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2784 : BitVec 32 := 1#32
  let v2107 : BitVec 32 := Scalar.muli v126 c1_i32_2784
  let v2108 : BitVec 32 := Scalar.addi c0_i32_2785 v2107
  v2108.toNat
def k0_dev101 (d0 : Dev nD) : Nat :=
  let c0_i32_2820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2819 : BitVec 32 := 1#32
  let v2128 : BitVec 32 := Scalar.muli v126 c1_i32_2819
  let v2129 : BitVec 32 := Scalar.addi c0_i32_2820 v2128
  v2129.toNat
def k0_dev102 (d0 : Dev nD) : Nat :=
  let c0_i32_2841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2840 : BitVec 32 := 1#32
  let v2146 : BitVec 32 := Scalar.muli v88 c1_i32_2840
  let v2147 : BitVec 32 := Scalar.addi c0_i32_2841 v2146
  v2147.toNat
def k0_dev103 (d0 : Dev nD) : Nat :=
  let c0_i32_2876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2875 : BitVec 32 := 1#32
  let v2167 : BitVec 32 := Scalar.muli v88 c1_i32_2875
  let v2168 : BitVec 32 := Scalar.addi c0_i32_2876 v2167
  v2168.toNat
def k0_dev104 (d0 : Dev nD) : Nat :=
  let c0_i32_2897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2896 : BitVec 32 := 1#32
  let v2185 : BitVec 32 := Scalar.muli v126 c1_i32_2896
  let v2186 : BitVec 32 := Scalar.addi c0_i32_2897 v2185
  v2186.toNat
def k0_dev105 (d0 : Dev nD) : Nat :=
  let c0_i32_2932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_2931 : BitVec 32 := 1#32
  let v2206 : BitVec 32 := Scalar.muli v126 c1_i32_2931
  let v2207 : BitVec 32 := Scalar.addi c0_i32_2932 v2206
  v2207.toNat
def k0_dev106 (d0 : Dev nD) : Nat :=
  let c0_i32_2953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_2952 : BitVec 32 := 1#32
  let v2224 : BitVec 32 := Scalar.muli v88 c1_i32_2952
  let v2225 : BitVec 32 := Scalar.addi c0_i32_2953 v2224
  v2225.toNat
def k0_dev107 (d0 : Dev nD) : Nat :=
  let c0_i32_3005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3004 : BitVec 32 := 1#32
  let v2266 : BitVec 32 := Scalar.muli v88 c1_i32_3004
  let v2267 : BitVec 32 := Scalar.addi c0_i32_3005 v2266
  v2267.toNat
def k0_dev108 (d0 : Dev nD) : Nat :=
  let c0_i32_3026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3025 : BitVec 32 := 1#32
  let v2284 : BitVec 32 := Scalar.muli v126 c1_i32_3025
  let v2285 : BitVec 32 := Scalar.addi c0_i32_3026 v2284
  v2285.toNat
def k0_dev109 (d0 : Dev nD) : Nat :=
  let c0_i32_3061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3060 : BitVec 32 := 1#32
  let v2305 : BitVec 32 := Scalar.muli v126 c1_i32_3060
  let v2306 : BitVec 32 := Scalar.addi c0_i32_3061 v2305
  v2306.toNat
def k0_dev110 (d0 : Dev nD) : Nat :=
  let c0_i32_3082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3081 : BitVec 32 := 1#32
  let v2323 : BitVec 32 := Scalar.muli v88 c1_i32_3081
  let v2324 : BitVec 32 := Scalar.addi c0_i32_3082 v2323
  v2324.toNat
def k0_dev111 (d0 : Dev nD) : Nat :=
  let c0_i32_3117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3116 : BitVec 32 := 1#32
  let v2344 : BitVec 32 := Scalar.muli v88 c1_i32_3116
  let v2345 : BitVec 32 := Scalar.addi c0_i32_3117 v2344
  v2345.toNat
def k0_dev112 (d0 : Dev nD) : Nat :=
  let c0_i32_3138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3137 : BitVec 32 := 1#32
  let v2362 : BitVec 32 := Scalar.muli v126 c1_i32_3137
  let v2363 : BitVec 32 := Scalar.addi c0_i32_3138 v2362
  v2363.toNat
def k0_dev113 (d0 : Dev nD) : Nat :=
  let c0_i32_3173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3172 : BitVec 32 := 1#32
  let v2383 : BitVec 32 := Scalar.muli v126 c1_i32_3172
  let v2384 : BitVec 32 := Scalar.addi c0_i32_3173 v2383
  v2384.toNat
def k0_dev114 (d0 : Dev nD) : Nat :=
  let c0_i32_3194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3193 : BitVec 32 := 1#32
  let v2401 : BitVec 32 := Scalar.muli v88 c1_i32_3193
  let v2402 : BitVec 32 := Scalar.addi c0_i32_3194 v2401
  v2402.toNat
def k0_dev115 (d0 : Dev nD) : Nat :=
  let c0_i32_3229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3228 : BitVec 32 := 1#32
  let v2422 : BitVec 32 := Scalar.muli v88 c1_i32_3228
  let v2423 : BitVec 32 := Scalar.addi c0_i32_3229 v2422
  v2423.toNat
def k0_dev116 (d0 : Dev nD) : Nat :=
  let c0_i32_3250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3249 : BitVec 32 := 1#32
  let v2440 : BitVec 32 := Scalar.muli v126 c1_i32_3249
  let v2441 : BitVec 32 := Scalar.addi c0_i32_3250 v2440
  v2441.toNat
def k0_dev117 (d0 : Dev nD) : Nat :=
  let c0_i32_3285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3284 : BitVec 32 := 1#32
  let v2461 : BitVec 32 := Scalar.muli v126 c1_i32_3284
  let v2462 : BitVec 32 := Scalar.addi c0_i32_3285 v2461
  v2462.toNat
def k0_dev118 (d0 : Dev nD) : Nat :=
  let c0_i32_3306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3305 : BitVec 32 := 1#32
  let v2479 : BitVec 32 := Scalar.muli v88 c1_i32_3305
  let v2480 : BitVec 32 := Scalar.addi c0_i32_3306 v2479
  v2480.toNat
def k0_dev119 (d0 : Dev nD) : Nat :=
  let c0_i32_3341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3340 : BitVec 32 := 1#32
  let v2500 : BitVec 32 := Scalar.muli v88 c1_i32_3340
  let v2501 : BitVec 32 := Scalar.addi c0_i32_3341 v2500
  v2501.toNat
def k0_dev120 (d0 : Dev nD) : Nat :=
  let c0_i32_3362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3361 : BitVec 32 := 1#32
  let v2518 : BitVec 32 := Scalar.muli v126 c1_i32_3361
  let v2519 : BitVec 32 := Scalar.addi c0_i32_3362 v2518
  v2519.toNat
def k0_dev121 (d0 : Dev nD) : Nat :=
  let c0_i32_3397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3396 : BitVec 32 := 1#32
  let v2539 : BitVec 32 := Scalar.muli v126 c1_i32_3396
  let v2540 : BitVec 32 := Scalar.addi c0_i32_3397 v2539
  v2540.toNat
def k0_dev122 (d0 : Dev nD) : Nat :=
  let c0_i32_3418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3417 : BitVec 32 := 1#32
  let v2557 : BitVec 32 := Scalar.muli v88 c1_i32_3417
  let v2558 : BitVec 32 := Scalar.addi c0_i32_3418 v2557
  v2558.toNat
def k0_dev123 (d0 : Dev nD) : Nat :=
  let c0_i32_3470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3469 : BitVec 32 := 1#32
  let v2599 : BitVec 32 := Scalar.muli v88 c1_i32_3469
  let v2600 : BitVec 32 := Scalar.addi c0_i32_3470 v2599
  v2600.toNat
def k0_dev124 (d0 : Dev nD) : Nat :=
  let c0_i32_3491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3490 : BitVec 32 := 1#32
  let v2617 : BitVec 32 := Scalar.muli v126 c1_i32_3490
  let v2618 : BitVec 32 := Scalar.addi c0_i32_3491 v2617
  v2618.toNat
def k0_dev125 (d0 : Dev nD) : Nat :=
  let c0_i32_3526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3525 : BitVec 32 := 1#32
  let v2638 : BitVec 32 := Scalar.muli v126 c1_i32_3525
  let v2639 : BitVec 32 := Scalar.addi c0_i32_3526 v2638
  v2639.toNat
def k0_dev126 (d0 : Dev nD) : Nat :=
  let c0_i32_3547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3546 : BitVec 32 := 1#32
  let v2656 : BitVec 32 := Scalar.muli v88 c1_i32_3546
  let v2657 : BitVec 32 := Scalar.addi c0_i32_3547 v2656
  v2657.toNat
def k0_dev127 (d0 : Dev nD) : Nat :=
  let c0_i32_3582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3581 : BitVec 32 := 1#32
  let v2677 : BitVec 32 := Scalar.muli v88 c1_i32_3581
  let v2678 : BitVec 32 := Scalar.addi c0_i32_3582 v2677
  v2678.toNat
def k0_dev128 (d0 : Dev nD) : Nat :=
  let c0_i32_3603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3602 : BitVec 32 := 1#32
  let v2695 : BitVec 32 := Scalar.muli v126 c1_i32_3602
  let v2696 : BitVec 32 := Scalar.addi c0_i32_3603 v2695
  v2696.toNat
def k0_dev129 (d0 : Dev nD) : Nat :=
  let c0_i32_3638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3637 : BitVec 32 := 1#32
  let v2716 : BitVec 32 := Scalar.muli v126 c1_i32_3637
  let v2717 : BitVec 32 := Scalar.addi c0_i32_3638 v2716
  v2717.toNat
def k0_dev130 (d0 : Dev nD) : Nat :=
  let c0_i32_3659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3658 : BitVec 32 := 1#32
  let v2734 : BitVec 32 := Scalar.muli v88 c1_i32_3658
  let v2735 : BitVec 32 := Scalar.addi c0_i32_3659 v2734
  v2735.toNat
def k0_dev131 (d0 : Dev nD) : Nat :=
  let c0_i32_3694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3693 : BitVec 32 := 1#32
  let v2755 : BitVec 32 := Scalar.muli v88 c1_i32_3693
  let v2756 : BitVec 32 := Scalar.addi c0_i32_3694 v2755
  v2756.toNat
def k0_dev132 (d0 : Dev nD) : Nat :=
  let c0_i32_3715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3714 : BitVec 32 := 1#32
  let v2773 : BitVec 32 := Scalar.muli v126 c1_i32_3714
  let v2774 : BitVec 32 := Scalar.addi c0_i32_3715 v2773
  v2774.toNat
def k0_dev133 (d0 : Dev nD) : Nat :=
  let c0_i32_3750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3749 : BitVec 32 := 1#32
  let v2794 : BitVec 32 := Scalar.muli v126 c1_i32_3749
  let v2795 : BitVec 32 := Scalar.addi c0_i32_3750 v2794
  v2795.toNat
def k0_dev134 (d0 : Dev nD) : Nat :=
  let c0_i32_3771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3770 : BitVec 32 := 1#32
  let v2812 : BitVec 32 := Scalar.muli v88 c1_i32_3770
  let v2813 : BitVec 32 := Scalar.addi c0_i32_3771 v2812
  v2813.toNat
def k0_dev135 (d0 : Dev nD) : Nat :=
  let c0_i32_3806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3805 : BitVec 32 := 1#32
  let v2833 : BitVec 32 := Scalar.muli v88 c1_i32_3805
  let v2834 : BitVec 32 := Scalar.addi c0_i32_3806 v2833
  v2834.toNat
def k0_dev136 (d0 : Dev nD) : Nat :=
  let c0_i32_3827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3826 : BitVec 32 := 1#32
  let v2851 : BitVec 32 := Scalar.muli v126 c1_i32_3826
  let v2852 : BitVec 32 := Scalar.addi c0_i32_3827 v2851
  v2852.toNat
def k0_dev137 (d0 : Dev nD) : Nat :=
  let c0_i32_3862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3861 : BitVec 32 := 1#32
  let v2872 : BitVec 32 := Scalar.muli v126 c1_i32_3861
  let v2873 : BitVec 32 := Scalar.addi c0_i32_3862 v2872
  v2873.toNat
def k0_dev138 (d0 : Dev nD) : Nat :=
  let c0_i32_3883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3882 : BitVec 32 := 1#32
  let v2890 : BitVec 32 := Scalar.muli v88 c1_i32_3882
  let v2891 : BitVec 32 := Scalar.addi c0_i32_3883 v2890
  v2891.toNat
def k0_dev139 (d0 : Dev nD) : Nat :=
  let c0_i32_3935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_3934 : BitVec 32 := 1#32
  let v2932 : BitVec 32 := Scalar.muli v88 c1_i32_3934
  let v2933 : BitVec 32 := Scalar.addi c0_i32_3935 v2932
  v2933.toNat
def k0_dev140 (d0 : Dev nD) : Nat :=
  let c0_i32_3956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3955 : BitVec 32 := 1#32
  let v2950 : BitVec 32 := Scalar.muli v126 c1_i32_3955
  let v2951 : BitVec 32 := Scalar.addi c0_i32_3956 v2950
  v2951.toNat
def k0_dev141 (d0 : Dev nD) : Nat :=
  let c0_i32_3991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_3990 : BitVec 32 := 1#32
  let v2971 : BitVec 32 := Scalar.muli v126 c1_i32_3990
  let v2972 : BitVec 32 := Scalar.addi c0_i32_3991 v2971
  v2972.toNat
def k0_dev142 (d0 : Dev nD) : Nat :=
  let c0_i32_4012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4011 : BitVec 32 := 1#32
  let v2989 : BitVec 32 := Scalar.muli v88 c1_i32_4011
  let v2990 : BitVec 32 := Scalar.addi c0_i32_4012 v2989
  v2990.toNat
def k0_dev143 (d0 : Dev nD) : Nat :=
  let c0_i32_4047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4046 : BitVec 32 := 1#32
  let v3010 : BitVec 32 := Scalar.muli v88 c1_i32_4046
  let v3011 : BitVec 32 := Scalar.addi c0_i32_4047 v3010
  v3011.toNat
def k0_dev144 (d0 : Dev nD) : Nat :=
  let c0_i32_4068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4067 : BitVec 32 := 1#32
  let v3028 : BitVec 32 := Scalar.muli v126 c1_i32_4067
  let v3029 : BitVec 32 := Scalar.addi c0_i32_4068 v3028
  v3029.toNat
def k0_dev145 (d0 : Dev nD) : Nat :=
  let c0_i32_4103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4102 : BitVec 32 := 1#32
  let v3049 : BitVec 32 := Scalar.muli v126 c1_i32_4102
  let v3050 : BitVec 32 := Scalar.addi c0_i32_4103 v3049
  v3050.toNat
def k0_dev146 (d0 : Dev nD) : Nat :=
  let c0_i32_4124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4123 : BitVec 32 := 1#32
  let v3067 : BitVec 32 := Scalar.muli v88 c1_i32_4123
  let v3068 : BitVec 32 := Scalar.addi c0_i32_4124 v3067
  v3068.toNat
def k0_dev147 (d0 : Dev nD) : Nat :=
  let c0_i32_4159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4158 : BitVec 32 := 1#32
  let v3088 : BitVec 32 := Scalar.muli v88 c1_i32_4158
  let v3089 : BitVec 32 := Scalar.addi c0_i32_4159 v3088
  v3089.toNat
def k0_dev148 (d0 : Dev nD) : Nat :=
  let c0_i32_4180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4179 : BitVec 32 := 1#32
  let v3106 : BitVec 32 := Scalar.muli v126 c1_i32_4179
  let v3107 : BitVec 32 := Scalar.addi c0_i32_4180 v3106
  v3107.toNat
def k0_dev149 (d0 : Dev nD) : Nat :=
  let c0_i32_4215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4214 : BitVec 32 := 1#32
  let v3127 : BitVec 32 := Scalar.muli v126 c1_i32_4214
  let v3128 : BitVec 32 := Scalar.addi c0_i32_4215 v3127
  v3128.toNat
def k0_dev150 (d0 : Dev nD) : Nat :=
  let c0_i32_4236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4235 : BitVec 32 := 1#32
  let v3145 : BitVec 32 := Scalar.muli v88 c1_i32_4235
  let v3146 : BitVec 32 := Scalar.addi c0_i32_4236 v3145
  v3146.toNat
def k0_dev151 (d0 : Dev nD) : Nat :=
  let c0_i32_4271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4270 : BitVec 32 := 1#32
  let v3166 : BitVec 32 := Scalar.muli v88 c1_i32_4270
  let v3167 : BitVec 32 := Scalar.addi c0_i32_4271 v3166
  v3167.toNat
def k0_dev152 (d0 : Dev nD) : Nat :=
  let c0_i32_4292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4291 : BitVec 32 := 1#32
  let v3184 : BitVec 32 := Scalar.muli v126 c1_i32_4291
  let v3185 : BitVec 32 := Scalar.addi c0_i32_4292 v3184
  v3185.toNat
def k0_dev153 (d0 : Dev nD) : Nat :=
  let c0_i32_4327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4326 : BitVec 32 := 1#32
  let v3205 : BitVec 32 := Scalar.muli v126 c1_i32_4326
  let v3206 : BitVec 32 := Scalar.addi c0_i32_4327 v3205
  v3206.toNat
def k0_dev154 (d0 : Dev nD) : Nat :=
  let c0_i32_4348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4347 : BitVec 32 := 1#32
  let v3223 : BitVec 32 := Scalar.muli v88 c1_i32_4347
  let v3224 : BitVec 32 := Scalar.addi c0_i32_4348 v3223
  v3224.toNat
def k0_dev155 (d0 : Dev nD) : Nat :=
  let c0_i32_4399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4398 : BitVec 32 := 1#32
  let v3265 : BitVec 32 := Scalar.muli v88 c1_i32_4398
  let v3266 : BitVec 32 := Scalar.addi c0_i32_4399 v3265
  v3266.toNat
def k0_dev156 (d0 : Dev nD) : Nat :=
  let c0_i32_4420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4419 : BitVec 32 := 1#32
  let v3283 : BitVec 32 := Scalar.muli v126 c1_i32_4419
  let v3284 : BitVec 32 := Scalar.addi c0_i32_4420 v3283
  v3284.toNat
def k0_dev157 (d0 : Dev nD) : Nat :=
  let c0_i32_4455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4454 : BitVec 32 := 1#32
  let v3304 : BitVec 32 := Scalar.muli v126 c1_i32_4454
  let v3305 : BitVec 32 := Scalar.addi c0_i32_4455 v3304
  v3305.toNat
def k0_dev158 (d0 : Dev nD) : Nat :=
  let c0_i32_4476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4475 : BitVec 32 := 1#32
  let v3322 : BitVec 32 := Scalar.muli v88 c1_i32_4475
  let v3323 : BitVec 32 := Scalar.addi c0_i32_4476 v3322
  v3323.toNat
def k0_dev159 (d0 : Dev nD) : Nat :=
  let c0_i32_4511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4510 : BitVec 32 := 1#32
  let v3343 : BitVec 32 := Scalar.muli v88 c1_i32_4510
  let v3344 : BitVec 32 := Scalar.addi c0_i32_4511 v3343
  v3344.toNat
def k0_dev160 (d0 : Dev nD) : Nat :=
  let c0_i32_4532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4531 : BitVec 32 := 1#32
  let v3361 : BitVec 32 := Scalar.muli v126 c1_i32_4531
  let v3362 : BitVec 32 := Scalar.addi c0_i32_4532 v3361
  v3362.toNat
def k0_dev161 (d0 : Dev nD) : Nat :=
  let c0_i32_4567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4566 : BitVec 32 := 1#32
  let v3382 : BitVec 32 := Scalar.muli v126 c1_i32_4566
  let v3383 : BitVec 32 := Scalar.addi c0_i32_4567 v3382
  v3383.toNat
def k0_dev162 (d0 : Dev nD) : Nat :=
  let c0_i32_4588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4587 : BitVec 32 := 1#32
  let v3400 : BitVec 32 := Scalar.muli v88 c1_i32_4587
  let v3401 : BitVec 32 := Scalar.addi c0_i32_4588 v3400
  v3401.toNat
def k0_dev163 (d0 : Dev nD) : Nat :=
  let c0_i32_4623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4622 : BitVec 32 := 1#32
  let v3421 : BitVec 32 := Scalar.muli v88 c1_i32_4622
  let v3422 : BitVec 32 := Scalar.addi c0_i32_4623 v3421
  v3422.toNat
def k0_dev164 (d0 : Dev nD) : Nat :=
  let c0_i32_4644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4643 : BitVec 32 := 1#32
  let v3439 : BitVec 32 := Scalar.muli v126 c1_i32_4643
  let v3440 : BitVec 32 := Scalar.addi c0_i32_4644 v3439
  v3440.toNat
def k0_dev165 (d0 : Dev nD) : Nat :=
  let c0_i32_4679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4678 : BitVec 32 := 1#32
  let v3460 : BitVec 32 := Scalar.muli v126 c1_i32_4678
  let v3461 : BitVec 32 := Scalar.addi c0_i32_4679 v3460
  v3461.toNat
def k0_dev166 (d0 : Dev nD) : Nat :=
  let c0_i32_4700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4699 : BitVec 32 := 1#32
  let v3478 : BitVec 32 := Scalar.muli v88 c1_i32_4699
  let v3479 : BitVec 32 := Scalar.addi c0_i32_4700 v3478
  v3479.toNat
def k0_dev167 (d0 : Dev nD) : Nat :=
  let c0_i32_4735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4734 : BitVec 32 := 1#32
  let v3499 : BitVec 32 := Scalar.muli v88 c1_i32_4734
  let v3500 : BitVec 32 := Scalar.addi c0_i32_4735 v3499
  v3500.toNat
def k0_dev168 (d0 : Dev nD) : Nat :=
  let c0_i32_4756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4755 : BitVec 32 := 1#32
  let v3517 : BitVec 32 := Scalar.muli v126 c1_i32_4755
  let v3518 : BitVec 32 := Scalar.addi c0_i32_4756 v3517
  v3518.toNat
def k0_dev169 (d0 : Dev nD) : Nat :=
  let c0_i32_4791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4790 : BitVec 32 := 1#32
  let v3538 : BitVec 32 := Scalar.muli v126 c1_i32_4790
  let v3539 : BitVec 32 := Scalar.addi c0_i32_4791 v3538
  v3539.toNat
def k0_dev170 (d0 : Dev nD) : Nat :=
  let c0_i32_4812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4811 : BitVec 32 := 1#32
  let v3556 : BitVec 32 := Scalar.muli v88 c1_i32_4811
  let v3557 : BitVec 32 := Scalar.addi c0_i32_4812 v3556
  v3557.toNat
def k0_dev171 (d0 : Dev nD) : Nat :=
  let c0_i32_4863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4862 : BitVec 32 := 1#32
  let v3598 : BitVec 32 := Scalar.muli v88 c1_i32_4862
  let v3599 : BitVec 32 := Scalar.addi c0_i32_4863 v3598
  v3599.toNat
def k0_dev172 (d0 : Dev nD) : Nat :=
  let c0_i32_4884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4883 : BitVec 32 := 1#32
  let v3616 : BitVec 32 := Scalar.muli v126 c1_i32_4883
  let v3617 : BitVec 32 := Scalar.addi c0_i32_4884 v3616
  v3617.toNat
def k0_dev173 (d0 : Dev nD) : Nat :=
  let c0_i32_4919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4918 : BitVec 32 := 1#32
  let v3637 : BitVec 32 := Scalar.muli v126 c1_i32_4918
  let v3638 : BitVec 32 := Scalar.addi c0_i32_4919 v3637
  v3638.toNat
def k0_dev174 (d0 : Dev nD) : Nat :=
  let c0_i32_4940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4939 : BitVec 32 := 1#32
  let v3655 : BitVec 32 := Scalar.muli v88 c1_i32_4939
  let v3656 : BitVec 32 := Scalar.addi c0_i32_4940 v3655
  v3656.toNat
def k0_dev175 (d0 : Dev nD) : Nat :=
  let c0_i32_4975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_4974 : BitVec 32 := 1#32
  let v3676 : BitVec 32 := Scalar.muli v88 c1_i32_4974
  let v3677 : BitVec 32 := Scalar.addi c0_i32_4975 v3676
  v3677.toNat
def k0_dev176 (d0 : Dev nD) : Nat :=
  let c0_i32_4996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_4995 : BitVec 32 := 1#32
  let v3694 : BitVec 32 := Scalar.muli v126 c1_i32_4995
  let v3695 : BitVec 32 := Scalar.addi c0_i32_4996 v3694
  v3695.toNat
def k0_dev177 (d0 : Dev nD) : Nat :=
  let c0_i32_5031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5030 : BitVec 32 := 1#32
  let v3715 : BitVec 32 := Scalar.muli v126 c1_i32_5030
  let v3716 : BitVec 32 := Scalar.addi c0_i32_5031 v3715
  v3716.toNat
def k0_dev178 (d0 : Dev nD) : Nat :=
  let c0_i32_5052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5051 : BitVec 32 := 1#32
  let v3733 : BitVec 32 := Scalar.muli v88 c1_i32_5051
  let v3734 : BitVec 32 := Scalar.addi c0_i32_5052 v3733
  v3734.toNat
def k0_dev179 (d0 : Dev nD) : Nat :=
  let c0_i32_5087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5086 : BitVec 32 := 1#32
  let v3754 : BitVec 32 := Scalar.muli v88 c1_i32_5086
  let v3755 : BitVec 32 := Scalar.addi c0_i32_5087 v3754
  v3755.toNat
def k0_dev180 (d0 : Dev nD) : Nat :=
  let c0_i32_5108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5107 : BitVec 32 := 1#32
  let v3772 : BitVec 32 := Scalar.muli v126 c1_i32_5107
  let v3773 : BitVec 32 := Scalar.addi c0_i32_5108 v3772
  v3773.toNat
def k0_dev181 (d0 : Dev nD) : Nat :=
  let c0_i32_5143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5142 : BitVec 32 := 1#32
  let v3793 : BitVec 32 := Scalar.muli v126 c1_i32_5142
  let v3794 : BitVec 32 := Scalar.addi c0_i32_5143 v3793
  v3794.toNat
def k0_dev182 (d0 : Dev nD) : Nat :=
  let c0_i32_5164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5163 : BitVec 32 := 1#32
  let v3811 : BitVec 32 := Scalar.muli v88 c1_i32_5163
  let v3812 : BitVec 32 := Scalar.addi c0_i32_5164 v3811
  v3812.toNat
def k0_dev183 (d0 : Dev nD) : Nat :=
  let c0_i32_5199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5198 : BitVec 32 := 1#32
  let v3832 : BitVec 32 := Scalar.muli v88 c1_i32_5198
  let v3833 : BitVec 32 := Scalar.addi c0_i32_5199 v3832
  v3833.toNat
def k0_dev184 (d0 : Dev nD) : Nat :=
  let c0_i32_5220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5219 : BitVec 32 := 1#32
  let v3850 : BitVec 32 := Scalar.muli v126 c1_i32_5219
  let v3851 : BitVec 32 := Scalar.addi c0_i32_5220 v3850
  v3851.toNat
def k0_dev185 (d0 : Dev nD) : Nat :=
  let c0_i32_5255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5254 : BitVec 32 := 1#32
  let v3871 : BitVec 32 := Scalar.muli v126 c1_i32_5254
  let v3872 : BitVec 32 := Scalar.addi c0_i32_5255 v3871
  v3872.toNat
def k0_dev186 (d0 : Dev nD) : Nat :=
  let c0_i32_5276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5275 : BitVec 32 := 1#32
  let v3889 : BitVec 32 := Scalar.muli v88 c1_i32_5275
  let v3890 : BitVec 32 := Scalar.addi c0_i32_5276 v3889
  v3890.toNat
def k0_dev187 (d0 : Dev nD) : Nat :=
  let c0_i32_5327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5326 : BitVec 32 := 1#32
  let v3931 : BitVec 32 := Scalar.muli v88 c1_i32_5326
  let v3932 : BitVec 32 := Scalar.addi c0_i32_5327 v3931
  v3932.toNat
def k0_dev188 (d0 : Dev nD) : Nat :=
  let c0_i32_5348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5347 : BitVec 32 := 1#32
  let v3949 : BitVec 32 := Scalar.muli v126 c1_i32_5347
  let v3950 : BitVec 32 := Scalar.addi c0_i32_5348 v3949
  v3950.toNat
def k0_dev189 (d0 : Dev nD) : Nat :=
  let c0_i32_5383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5382 : BitVec 32 := 1#32
  let v3970 : BitVec 32 := Scalar.muli v126 c1_i32_5382
  let v3971 : BitVec 32 := Scalar.addi c0_i32_5383 v3970
  v3971.toNat
def k0_dev190 (d0 : Dev nD) : Nat :=
  let c0_i32_5404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5403 : BitVec 32 := 1#32
  let v3988 : BitVec 32 := Scalar.muli v88 c1_i32_5403
  let v3989 : BitVec 32 := Scalar.addi c0_i32_5404 v3988
  v3989.toNat
def k0_dev191 (d0 : Dev nD) : Nat :=
  let c0_i32_5439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5438 : BitVec 32 := 1#32
  let v4009 : BitVec 32 := Scalar.muli v88 c1_i32_5438
  let v4010 : BitVec 32 := Scalar.addi c0_i32_5439 v4009
  v4010.toNat
def k0_dev192 (d0 : Dev nD) : Nat :=
  let c0_i32_5460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5459 : BitVec 32 := 1#32
  let v4027 : BitVec 32 := Scalar.muli v126 c1_i32_5459
  let v4028 : BitVec 32 := Scalar.addi c0_i32_5460 v4027
  v4028.toNat
def k0_dev193 (d0 : Dev nD) : Nat :=
  let c0_i32_5495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5494 : BitVec 32 := 1#32
  let v4048 : BitVec 32 := Scalar.muli v126 c1_i32_5494
  let v4049 : BitVec 32 := Scalar.addi c0_i32_5495 v4048
  v4049.toNat
def k0_dev194 (d0 : Dev nD) : Nat :=
  let c0_i32_5516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5515 : BitVec 32 := 1#32
  let v4066 : BitVec 32 := Scalar.muli v88 c1_i32_5515
  let v4067 : BitVec 32 := Scalar.addi c0_i32_5516 v4066
  v4067.toNat
def k0_dev195 (d0 : Dev nD) : Nat :=
  let c0_i32_5551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5550 : BitVec 32 := 1#32
  let v4087 : BitVec 32 := Scalar.muli v88 c1_i32_5550
  let v4088 : BitVec 32 := Scalar.addi c0_i32_5551 v4087
  v4088.toNat
def k0_dev196 (d0 : Dev nD) : Nat :=
  let c0_i32_5572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5571 : BitVec 32 := 1#32
  let v4105 : BitVec 32 := Scalar.muli v126 c1_i32_5571
  let v4106 : BitVec 32 := Scalar.addi c0_i32_5572 v4105
  v4106.toNat
def k0_dev197 (d0 : Dev nD) : Nat :=
  let c0_i32_5607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5606 : BitVec 32 := 1#32
  let v4126 : BitVec 32 := Scalar.muli v126 c1_i32_5606
  let v4127 : BitVec 32 := Scalar.addi c0_i32_5607 v4126
  v4127.toNat
def k0_dev198 (d0 : Dev nD) : Nat :=
  let c0_i32_5628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5627 : BitVec 32 := 1#32
  let v4144 : BitVec 32 := Scalar.muli v88 c1_i32_5627
  let v4145 : BitVec 32 := Scalar.addi c0_i32_5628 v4144
  v4145.toNat
def k0_dev199 (d0 : Dev nD) : Nat :=
  let c0_i32_5663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5662 : BitVec 32 := 1#32
  let v4165 : BitVec 32 := Scalar.muli v88 c1_i32_5662
  let v4166 : BitVec 32 := Scalar.addi c0_i32_5663 v4165
  v4166.toNat
def k0_dev200 (d0 : Dev nD) : Nat :=
  let c0_i32_5684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5683 : BitVec 32 := 1#32
  let v4183 : BitVec 32 := Scalar.muli v126 c1_i32_5683
  let v4184 : BitVec 32 := Scalar.addi c0_i32_5684 v4183
  v4184.toNat
def k0_dev201 (d0 : Dev nD) : Nat :=
  let c0_i32_5719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5718 : BitVec 32 := 1#32
  let v4204 : BitVec 32 := Scalar.muli v126 c1_i32_5718
  let v4205 : BitVec 32 := Scalar.addi c0_i32_5719 v4204
  v4205.toNat
def k0_dev202 (d0 : Dev nD) : Nat :=
  let c0_i32_5740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5739 : BitVec 32 := 1#32
  let v4222 : BitVec 32 := Scalar.muli v88 c1_i32_5739
  let v4223 : BitVec 32 := Scalar.addi c0_i32_5740 v4222
  v4223.toNat
def k0_dev203 (d0 : Dev nD) : Nat :=
  let c0_i32_5791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5790 : BitVec 32 := 1#32
  let v4264 : BitVec 32 := Scalar.muli v88 c1_i32_5790
  let v4265 : BitVec 32 := Scalar.addi c0_i32_5791 v4264
  v4265.toNat
def k0_dev204 (d0 : Dev nD) : Nat :=
  let c0_i32_5812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5811 : BitVec 32 := 1#32
  let v4282 : BitVec 32 := Scalar.muli v126 c1_i32_5811
  let v4283 : BitVec 32 := Scalar.addi c0_i32_5812 v4282
  v4283.toNat
def k0_dev205 (d0 : Dev nD) : Nat :=
  let c0_i32_5847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5846 : BitVec 32 := 1#32
  let v4303 : BitVec 32 := Scalar.muli v126 c1_i32_5846
  let v4304 : BitVec 32 := Scalar.addi c0_i32_5847 v4303
  v4304.toNat
def k0_dev206 (d0 : Dev nD) : Nat :=
  let c0_i32_5868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5867 : BitVec 32 := 1#32
  let v4321 : BitVec 32 := Scalar.muli v88 c1_i32_5867
  let v4322 : BitVec 32 := Scalar.addi c0_i32_5868 v4321
  v4322.toNat
def k0_dev207 (d0 : Dev nD) : Nat :=
  let c0_i32_5903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5902 : BitVec 32 := 1#32
  let v4342 : BitVec 32 := Scalar.muli v88 c1_i32_5902
  let v4343 : BitVec 32 := Scalar.addi c0_i32_5903 v4342
  v4343.toNat
def k0_dev208 (d0 : Dev nD) : Nat :=
  let c0_i32_5924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5923 : BitVec 32 := 1#32
  let v4360 : BitVec 32 := Scalar.muli v126 c1_i32_5923
  let v4361 : BitVec 32 := Scalar.addi c0_i32_5924 v4360
  v4361.toNat
def k0_dev209 (d0 : Dev nD) : Nat :=
  let c0_i32_5959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_5958 : BitVec 32 := 1#32
  let v4381 : BitVec 32 := Scalar.muli v126 c1_i32_5958
  let v4382 : BitVec 32 := Scalar.addi c0_i32_5959 v4381
  v4382.toNat
def k0_dev210 (d0 : Dev nD) : Nat :=
  let c0_i32_5980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_5979 : BitVec 32 := 1#32
  let v4399 : BitVec 32 := Scalar.muli v88 c1_i32_5979
  let v4400 : BitVec 32 := Scalar.addi c0_i32_5980 v4399
  v4400.toNat
def k0_dev211 (d0 : Dev nD) : Nat :=
  let c0_i32_6015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6014 : BitVec 32 := 1#32
  let v4420 : BitVec 32 := Scalar.muli v88 c1_i32_6014
  let v4421 : BitVec 32 := Scalar.addi c0_i32_6015 v4420
  v4421.toNat
def k0_dev212 (d0 : Dev nD) : Nat :=
  let c0_i32_6036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6035 : BitVec 32 := 1#32
  let v4438 : BitVec 32 := Scalar.muli v126 c1_i32_6035
  let v4439 : BitVec 32 := Scalar.addi c0_i32_6036 v4438
  v4439.toNat
def k0_dev213 (d0 : Dev nD) : Nat :=
  let c0_i32_6071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6070 : BitVec 32 := 1#32
  let v4459 : BitVec 32 := Scalar.muli v126 c1_i32_6070
  let v4460 : BitVec 32 := Scalar.addi c0_i32_6071 v4459
  v4460.toNat
def k0_dev214 (d0 : Dev nD) : Nat :=
  let c0_i32_6092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6091 : BitVec 32 := 1#32
  let v4477 : BitVec 32 := Scalar.muli v88 c1_i32_6091
  let v4478 : BitVec 32 := Scalar.addi c0_i32_6092 v4477
  v4478.toNat
def k0_dev215 (d0 : Dev nD) : Nat :=
  let c0_i32_6127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6126 : BitVec 32 := 1#32
  let v4498 : BitVec 32 := Scalar.muli v88 c1_i32_6126
  let v4499 : BitVec 32 := Scalar.addi c0_i32_6127 v4498
  v4499.toNat
def k0_dev216 (d0 : Dev nD) : Nat :=
  let c0_i32_6148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6147 : BitVec 32 := 1#32
  let v4516 : BitVec 32 := Scalar.muli v126 c1_i32_6147
  let v4517 : BitVec 32 := Scalar.addi c0_i32_6148 v4516
  v4517.toNat
def k0_dev217 (d0 : Dev nD) : Nat :=
  let c0_i32_6183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6182 : BitVec 32 := 1#32
  let v4537 : BitVec 32 := Scalar.muli v126 c1_i32_6182
  let v4538 : BitVec 32 := Scalar.addi c0_i32_6183 v4537
  v4538.toNat
def k0_dev218 (d0 : Dev nD) : Nat :=
  let c0_i32_6204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6203 : BitVec 32 := 1#32
  let v4555 : BitVec 32 := Scalar.muli v88 c1_i32_6203
  let v4556 : BitVec 32 := Scalar.addi c0_i32_6204 v4555
  v4556.toNat
def k0_dev219 (d0 : Dev nD) : Nat :=
  let c0_i32_6255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6254 : BitVec 32 := 1#32
  let v4597 : BitVec 32 := Scalar.muli v88 c1_i32_6254
  let v4598 : BitVec 32 := Scalar.addi c0_i32_6255 v4597
  v4598.toNat
def k0_dev220 (d0 : Dev nD) : Nat :=
  let c0_i32_6276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6275 : BitVec 32 := 1#32
  let v4615 : BitVec 32 := Scalar.muli v126 c1_i32_6275
  let v4616 : BitVec 32 := Scalar.addi c0_i32_6276 v4615
  v4616.toNat
def k0_dev221 (d0 : Dev nD) : Nat :=
  let c0_i32_6311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6310 : BitVec 32 := 1#32
  let v4636 : BitVec 32 := Scalar.muli v126 c1_i32_6310
  let v4637 : BitVec 32 := Scalar.addi c0_i32_6311 v4636
  v4637.toNat
def k0_dev222 (d0 : Dev nD) : Nat :=
  let c0_i32_6332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6331 : BitVec 32 := 1#32
  let v4654 : BitVec 32 := Scalar.muli v88 c1_i32_6331
  let v4655 : BitVec 32 := Scalar.addi c0_i32_6332 v4654
  v4655.toNat
def k0_dev223 (d0 : Dev nD) : Nat :=
  let c0_i32_6367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6366 : BitVec 32 := 1#32
  let v4675 : BitVec 32 := Scalar.muli v88 c1_i32_6366
  let v4676 : BitVec 32 := Scalar.addi c0_i32_6367 v4675
  v4676.toNat
def k0_dev224 (d0 : Dev nD) : Nat :=
  let c0_i32_6388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6387 : BitVec 32 := 1#32
  let v4693 : BitVec 32 := Scalar.muli v126 c1_i32_6387
  let v4694 : BitVec 32 := Scalar.addi c0_i32_6388 v4693
  v4694.toNat
def k0_dev225 (d0 : Dev nD) : Nat :=
  let c0_i32_6423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6422 : BitVec 32 := 1#32
  let v4714 : BitVec 32 := Scalar.muli v126 c1_i32_6422
  let v4715 : BitVec 32 := Scalar.addi c0_i32_6423 v4714
  v4715.toNat
def k0_dev226 (d0 : Dev nD) : Nat :=
  let c0_i32_6444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6443 : BitVec 32 := 1#32
  let v4732 : BitVec 32 := Scalar.muli v88 c1_i32_6443
  let v4733 : BitVec 32 := Scalar.addi c0_i32_6444 v4732
  v4733.toNat
def k0_dev227 (d0 : Dev nD) : Nat :=
  let c0_i32_6479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6478 : BitVec 32 := 1#32
  let v4753 : BitVec 32 := Scalar.muli v88 c1_i32_6478
  let v4754 : BitVec 32 := Scalar.addi c0_i32_6479 v4753
  v4754.toNat
def k0_dev228 (d0 : Dev nD) : Nat :=
  let c0_i32_6500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6499 : BitVec 32 := 1#32
  let v4771 : BitVec 32 := Scalar.muli v126 c1_i32_6499
  let v4772 : BitVec 32 := Scalar.addi c0_i32_6500 v4771
  v4772.toNat
def k0_dev229 (d0 : Dev nD) : Nat :=
  let c0_i32_6535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6534 : BitVec 32 := 1#32
  let v4792 : BitVec 32 := Scalar.muli v126 c1_i32_6534
  let v4793 : BitVec 32 := Scalar.addi c0_i32_6535 v4792
  v4793.toNat
def k0_dev230 (d0 : Dev nD) : Nat :=
  let c0_i32_6556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6555 : BitVec 32 := 1#32
  let v4810 : BitVec 32 := Scalar.muli v88 c1_i32_6555
  let v4811 : BitVec 32 := Scalar.addi c0_i32_6556 v4810
  v4811.toNat
def k0_dev231 (d0 : Dev nD) : Nat :=
  let c0_i32_6591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6590 : BitVec 32 := 1#32
  let v4831 : BitVec 32 := Scalar.muli v88 c1_i32_6590
  let v4832 : BitVec 32 := Scalar.addi c0_i32_6591 v4831
  v4832.toNat
def k0_dev232 (d0 : Dev nD) : Nat :=
  let c0_i32_6612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6611 : BitVec 32 := 1#32
  let v4849 : BitVec 32 := Scalar.muli v126 c1_i32_6611
  let v4850 : BitVec 32 := Scalar.addi c0_i32_6612 v4849
  v4850.toNat
def k0_dev233 (d0 : Dev nD) : Nat :=
  let c0_i32_6647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6646 : BitVec 32 := 1#32
  let v4870 : BitVec 32 := Scalar.muli v126 c1_i32_6646
  let v4871 : BitVec 32 := Scalar.addi c0_i32_6647 v4870
  v4871.toNat
def k0_dev234 (d0 : Dev nD) : Nat :=
  let c0_i32_6668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6667 : BitVec 32 := 1#32
  let v4888 : BitVec 32 := Scalar.muli v88 c1_i32_6667
  let v4889 : BitVec 32 := Scalar.addi c0_i32_6668 v4888
  v4889.toNat
def k0_dev235 (d0 : Dev nD) : Nat :=
  let c0_i32_6719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6718 : BitVec 32 := 1#32
  let v4930 : BitVec 32 := Scalar.muli v88 c1_i32_6718
  let v4931 : BitVec 32 := Scalar.addi c0_i32_6719 v4930
  v4931.toNat
def k0_dev236 (d0 : Dev nD) : Nat :=
  let c0_i32_6740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6739 : BitVec 32 := 1#32
  let v4948 : BitVec 32 := Scalar.muli v126 c1_i32_6739
  let v4949 : BitVec 32 := Scalar.addi c0_i32_6740 v4948
  v4949.toNat
def k0_dev237 (d0 : Dev nD) : Nat :=
  let c0_i32_6775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6774 : BitVec 32 := 1#32
  let v4969 : BitVec 32 := Scalar.muli v126 c1_i32_6774
  let v4970 : BitVec 32 := Scalar.addi c0_i32_6775 v4969
  v4970.toNat
def k0_dev238 (d0 : Dev nD) : Nat :=
  let c0_i32_6796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6795 : BitVec 32 := 1#32
  let v4987 : BitVec 32 := Scalar.muli v88 c1_i32_6795
  let v4988 : BitVec 32 := Scalar.addi c0_i32_6796 v4987
  v4988.toNat
def k0_dev239 (d0 : Dev nD) : Nat :=
  let c0_i32_6831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6830 : BitVec 32 := 1#32
  let v5008 : BitVec 32 := Scalar.muli v88 c1_i32_6830
  let v5009 : BitVec 32 := Scalar.addi c0_i32_6831 v5008
  v5009.toNat
def k0_dev240 (d0 : Dev nD) : Nat :=
  let c0_i32_6852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6851 : BitVec 32 := 1#32
  let v5026 : BitVec 32 := Scalar.muli v126 c1_i32_6851
  let v5027 : BitVec 32 := Scalar.addi c0_i32_6852 v5026
  v5027.toNat
def k0_dev241 (d0 : Dev nD) : Nat :=
  let c0_i32_6887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6886 : BitVec 32 := 1#32
  let v5047 : BitVec 32 := Scalar.muli v126 c1_i32_6886
  let v5048 : BitVec 32 := Scalar.addi c0_i32_6887 v5047
  v5048.toNat
def k0_dev242 (d0 : Dev nD) : Nat :=
  let c0_i32_6908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6907 : BitVec 32 := 1#32
  let v5065 : BitVec 32 := Scalar.muli v88 c1_i32_6907
  let v5066 : BitVec 32 := Scalar.addi c0_i32_6908 v5065
  v5066.toNat
def k0_dev243 (d0 : Dev nD) : Nat :=
  let c0_i32_6943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_6942 : BitVec 32 := 1#32
  let v5086 : BitVec 32 := Scalar.muli v88 c1_i32_6942
  let v5087 : BitVec 32 := Scalar.addi c0_i32_6943 v5086
  v5087.toNat
def k0_dev244 (d0 : Dev nD) : Nat :=
  let c0_i32_6964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6963 : BitVec 32 := 1#32
  let v5104 : BitVec 32 := Scalar.muli v126 c1_i32_6963
  let v5105 : BitVec 32 := Scalar.addi c0_i32_6964 v5104
  v5105.toNat
def k0_dev245 (d0 : Dev nD) : Nat :=
  let c0_i32_6999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_6998 : BitVec 32 := 1#32
  let v5125 : BitVec 32 := Scalar.muli v126 c1_i32_6998
  let v5126 : BitVec 32 := Scalar.addi c0_i32_6999 v5125
  v5126.toNat
def k0_dev246 (d0 : Dev nD) : Nat :=
  let c0_i32_7020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7019 : BitVec 32 := 1#32
  let v5143 : BitVec 32 := Scalar.muli v88 c1_i32_7019
  let v5144 : BitVec 32 := Scalar.addi c0_i32_7020 v5143
  v5144.toNat
def k0_dev247 (d0 : Dev nD) : Nat :=
  let c0_i32_7055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7054 : BitVec 32 := 1#32
  let v5164 : BitVec 32 := Scalar.muli v88 c1_i32_7054
  let v5165 : BitVec 32 := Scalar.addi c0_i32_7055 v5164
  v5165.toNat
def k0_dev248 (d0 : Dev nD) : Nat :=
  let c0_i32_7076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7075 : BitVec 32 := 1#32
  let v5182 : BitVec 32 := Scalar.muli v126 c1_i32_7075
  let v5183 : BitVec 32 := Scalar.addi c0_i32_7076 v5182
  v5183.toNat
def k0_dev249 (d0 : Dev nD) : Nat :=
  let c0_i32_7111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7110 : BitVec 32 := 1#32
  let v5203 : BitVec 32 := Scalar.muli v126 c1_i32_7110
  let v5204 : BitVec 32 := Scalar.addi c0_i32_7111 v5203
  v5204.toNat
def k0_dev250 (d0 : Dev nD) : Nat :=
  let c0_i32_7132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7131 : BitVec 32 := 1#32
  let v5221 : BitVec 32 := Scalar.muli v88 c1_i32_7131
  let v5222 : BitVec 32 := Scalar.addi c0_i32_7132 v5221
  v5222.toNat
def k0_dev251 (d0 : Dev nD) : Nat :=
  let c0_i32_7183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7182 : BitVec 32 := 1#32
  let v5263 : BitVec 32 := Scalar.muli v88 c1_i32_7182
  let v5264 : BitVec 32 := Scalar.addi c0_i32_7183 v5263
  v5264.toNat
def k0_dev252 (d0 : Dev nD) : Nat :=
  let c0_i32_7204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7203 : BitVec 32 := 1#32
  let v5281 : BitVec 32 := Scalar.muli v126 c1_i32_7203
  let v5282 : BitVec 32 := Scalar.addi c0_i32_7204 v5281
  v5282.toNat
def k0_dev253 (d0 : Dev nD) : Nat :=
  let c0_i32_7239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7238 : BitVec 32 := 1#32
  let v5302 : BitVec 32 := Scalar.muli v126 c1_i32_7238
  let v5303 : BitVec 32 := Scalar.addi c0_i32_7239 v5302
  v5303.toNat
def k0_dev254 (d0 : Dev nD) : Nat :=
  let c0_i32_7260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7259 : BitVec 32 := 1#32
  let v5320 : BitVec 32 := Scalar.muli v88 c1_i32_7259
  let v5321 : BitVec 32 := Scalar.addi c0_i32_7260 v5320
  v5321.toNat
def k0_dev255 (d0 : Dev nD) : Nat :=
  let c0_i32_7295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7294 : BitVec 32 := 1#32
  let v5341 : BitVec 32 := Scalar.muli v88 c1_i32_7294
  let v5342 : BitVec 32 := Scalar.addi c0_i32_7295 v5341
  v5342.toNat
def k0_dev256 (d0 : Dev nD) : Nat :=
  let c0_i32_7316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7315 : BitVec 32 := 1#32
  let v5359 : BitVec 32 := Scalar.muli v126 c1_i32_7315
  let v5360 : BitVec 32 := Scalar.addi c0_i32_7316 v5359
  v5360.toNat
def k0_dev257 (d0 : Dev nD) : Nat :=
  let c0_i32_7351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7350 : BitVec 32 := 1#32
  let v5380 : BitVec 32 := Scalar.muli v126 c1_i32_7350
  let v5381 : BitVec 32 := Scalar.addi c0_i32_7351 v5380
  v5381.toNat
def k0_dev258 (d0 : Dev nD) : Nat :=
  let c0_i32_7372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7371 : BitVec 32 := 1#32
  let v5398 : BitVec 32 := Scalar.muli v88 c1_i32_7371
  let v5399 : BitVec 32 := Scalar.addi c0_i32_7372 v5398
  v5399.toNat
def k0_dev259 (d0 : Dev nD) : Nat :=
  let c0_i32_7407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7406 : BitVec 32 := 1#32
  let v5419 : BitVec 32 := Scalar.muli v88 c1_i32_7406
  let v5420 : BitVec 32 := Scalar.addi c0_i32_7407 v5419
  v5420.toNat
def k0_dev260 (d0 : Dev nD) : Nat :=
  let c0_i32_7428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7427 : BitVec 32 := 1#32
  let v5437 : BitVec 32 := Scalar.muli v126 c1_i32_7427
  let v5438 : BitVec 32 := Scalar.addi c0_i32_7428 v5437
  v5438.toNat
def k0_dev261 (d0 : Dev nD) : Nat :=
  let c0_i32_7463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7462 : BitVec 32 := 1#32
  let v5458 : BitVec 32 := Scalar.muli v126 c1_i32_7462
  let v5459 : BitVec 32 := Scalar.addi c0_i32_7463 v5458
  v5459.toNat
def k0_dev262 (d0 : Dev nD) : Nat :=
  let c0_i32_7484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7483 : BitVec 32 := 1#32
  let v5476 : BitVec 32 := Scalar.muli v88 c1_i32_7483
  let v5477 : BitVec 32 := Scalar.addi c0_i32_7484 v5476
  v5477.toNat
def k0_dev263 (d0 : Dev nD) : Nat :=
  let c0_i32_7519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7518 : BitVec 32 := 1#32
  let v5497 : BitVec 32 := Scalar.muli v88 c1_i32_7518
  let v5498 : BitVec 32 := Scalar.addi c0_i32_7519 v5497
  v5498.toNat
def k0_dev264 (d0 : Dev nD) : Nat :=
  let c0_i32_7540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7539 : BitVec 32 := 1#32
  let v5515 : BitVec 32 := Scalar.muli v126 c1_i32_7539
  let v5516 : BitVec 32 := Scalar.addi c0_i32_7540 v5515
  v5516.toNat
def k0_dev265 (d0 : Dev nD) : Nat :=
  let c0_i32_7575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7574 : BitVec 32 := 1#32
  let v5536 : BitVec 32 := Scalar.muli v126 c1_i32_7574
  let v5537 : BitVec 32 := Scalar.addi c0_i32_7575 v5536
  v5537.toNat
def k0_dev266 (d0 : Dev nD) : Nat :=
  let c0_i32_7596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7595 : BitVec 32 := 1#32
  let v5554 : BitVec 32 := Scalar.muli v88 c1_i32_7595
  let v5555 : BitVec 32 := Scalar.addi c0_i32_7596 v5554
  v5555.toNat
def k0_dev267 (d0 : Dev nD) : Nat :=
  let c0_i32_7648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7647 : BitVec 32 := 1#32
  let v5596 : BitVec 32 := Scalar.muli v88 c1_i32_7647
  let v5597 : BitVec 32 := Scalar.addi c0_i32_7648 v5596
  v5597.toNat
def k0_dev268 (d0 : Dev nD) : Nat :=
  let c0_i32_7669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7668 : BitVec 32 := 1#32
  let v5614 : BitVec 32 := Scalar.muli v126 c1_i32_7668
  let v5615 : BitVec 32 := Scalar.addi c0_i32_7669 v5614
  v5615.toNat
def k0_dev269 (d0 : Dev nD) : Nat :=
  let c0_i32_7704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7703 : BitVec 32 := 1#32
  let v5635 : BitVec 32 := Scalar.muli v126 c1_i32_7703
  let v5636 : BitVec 32 := Scalar.addi c0_i32_7704 v5635
  v5636.toNat
def k0_dev270 (d0 : Dev nD) : Nat :=
  let c0_i32_7725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7724 : BitVec 32 := 1#32
  let v5653 : BitVec 32 := Scalar.muli v88 c1_i32_7724
  let v5654 : BitVec 32 := Scalar.addi c0_i32_7725 v5653
  v5654.toNat
def k0_dev271 (d0 : Dev nD) : Nat :=
  let c0_i32_7760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7759 : BitVec 32 := 1#32
  let v5674 : BitVec 32 := Scalar.muli v88 c1_i32_7759
  let v5675 : BitVec 32 := Scalar.addi c0_i32_7760 v5674
  v5675.toNat
def k0_dev272 (d0 : Dev nD) : Nat :=
  let c0_i32_7781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7780 : BitVec 32 := 1#32
  let v5692 : BitVec 32 := Scalar.muli v126 c1_i32_7780
  let v5693 : BitVec 32 := Scalar.addi c0_i32_7781 v5692
  v5693.toNat
def k0_dev273 (d0 : Dev nD) : Nat :=
  let c0_i32_7816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7815 : BitVec 32 := 1#32
  let v5713 : BitVec 32 := Scalar.muli v126 c1_i32_7815
  let v5714 : BitVec 32 := Scalar.addi c0_i32_7816 v5713
  v5714.toNat
def k0_dev274 (d0 : Dev nD) : Nat :=
  let c0_i32_7837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7836 : BitVec 32 := 1#32
  let v5731 : BitVec 32 := Scalar.muli v88 c1_i32_7836
  let v5732 : BitVec 32 := Scalar.addi c0_i32_7837 v5731
  v5732.toNat
def k0_dev275 (d0 : Dev nD) : Nat :=
  let c0_i32_7872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7871 : BitVec 32 := 1#32
  let v5752 : BitVec 32 := Scalar.muli v88 c1_i32_7871
  let v5753 : BitVec 32 := Scalar.addi c0_i32_7872 v5752
  v5753.toNat
def k0_dev276 (d0 : Dev nD) : Nat :=
  let c0_i32_7893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7892 : BitVec 32 := 1#32
  let v5770 : BitVec 32 := Scalar.muli v126 c1_i32_7892
  let v5771 : BitVec 32 := Scalar.addi c0_i32_7893 v5770
  v5771.toNat
def k0_dev277 (d0 : Dev nD) : Nat :=
  let c0_i32_7928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_7927 : BitVec 32 := 1#32
  let v5791 : BitVec 32 := Scalar.muli v126 c1_i32_7927
  let v5792 : BitVec 32 := Scalar.addi c0_i32_7928 v5791
  v5792.toNat
def k0_dev278 (d0 : Dev nD) : Nat :=
  let c0_i32_7949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7948 : BitVec 32 := 1#32
  let v5809 : BitVec 32 := Scalar.muli v88 c1_i32_7948
  let v5810 : BitVec 32 := Scalar.addi c0_i32_7949 v5809
  v5810.toNat
def k0_dev279 (d0 : Dev nD) : Nat :=
  let c0_i32_7984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_7983 : BitVec 32 := 1#32
  let v5830 : BitVec 32 := Scalar.muli v88 c1_i32_7983
  let v5831 : BitVec 32 := Scalar.addi c0_i32_7984 v5830
  v5831.toNat
def k0_dev280 (d0 : Dev nD) : Nat :=
  let c0_i32_8005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8004 : BitVec 32 := 1#32
  let v5848 : BitVec 32 := Scalar.muli v126 c1_i32_8004
  let v5849 : BitVec 32 := Scalar.addi c0_i32_8005 v5848
  v5849.toNat
def k0_dev281 (d0 : Dev nD) : Nat :=
  let c0_i32_8040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8039 : BitVec 32 := 1#32
  let v5869 : BitVec 32 := Scalar.muli v126 c1_i32_8039
  let v5870 : BitVec 32 := Scalar.addi c0_i32_8040 v5869
  v5870.toNat
def k0_dev282 (d0 : Dev nD) : Nat :=
  let c0_i32_8061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8060 : BitVec 32 := 1#32
  let v5887 : BitVec 32 := Scalar.muli v88 c1_i32_8060
  let v5888 : BitVec 32 := Scalar.addi c0_i32_8061 v5887
  v5888.toNat
def k0_dev283 (d0 : Dev nD) : Nat :=
  let c0_i32_8112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8111 : BitVec 32 := 1#32
  let v5929 : BitVec 32 := Scalar.muli v88 c1_i32_8111
  let v5930 : BitVec 32 := Scalar.addi c0_i32_8112 v5929
  v5930.toNat
def k0_dev284 (d0 : Dev nD) : Nat :=
  let c0_i32_8133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8132 : BitVec 32 := 1#32
  let v5947 : BitVec 32 := Scalar.muli v126 c1_i32_8132
  let v5948 : BitVec 32 := Scalar.addi c0_i32_8133 v5947
  v5948.toNat
def k0_dev285 (d0 : Dev nD) : Nat :=
  let c0_i32_8168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8167 : BitVec 32 := 1#32
  let v5968 : BitVec 32 := Scalar.muli v126 c1_i32_8167
  let v5969 : BitVec 32 := Scalar.addi c0_i32_8168 v5968
  v5969.toNat
def k0_dev286 (d0 : Dev nD) : Nat :=
  let c0_i32_8189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8188 : BitVec 32 := 1#32
  let v5986 : BitVec 32 := Scalar.muli v88 c1_i32_8188
  let v5987 : BitVec 32 := Scalar.addi c0_i32_8189 v5986
  v5987.toNat
def k0_dev287 (d0 : Dev nD) : Nat :=
  let c0_i32_8224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8223 : BitVec 32 := 1#32
  let v6007 : BitVec 32 := Scalar.muli v88 c1_i32_8223
  let v6008 : BitVec 32 := Scalar.addi c0_i32_8224 v6007
  v6008.toNat
def k0_dev288 (d0 : Dev nD) : Nat :=
  let c0_i32_8245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8244 : BitVec 32 := 1#32
  let v6025 : BitVec 32 := Scalar.muli v126 c1_i32_8244
  let v6026 : BitVec 32 := Scalar.addi c0_i32_8245 v6025
  v6026.toNat
def k0_dev289 (d0 : Dev nD) : Nat :=
  let c0_i32_8280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8279 : BitVec 32 := 1#32
  let v6046 : BitVec 32 := Scalar.muli v126 c1_i32_8279
  let v6047 : BitVec 32 := Scalar.addi c0_i32_8280 v6046
  v6047.toNat
def k0_dev290 (d0 : Dev nD) : Nat :=
  let c0_i32_8301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8300 : BitVec 32 := 1#32
  let v6064 : BitVec 32 := Scalar.muli v88 c1_i32_8300
  let v6065 : BitVec 32 := Scalar.addi c0_i32_8301 v6064
  v6065.toNat
def k0_dev291 (d0 : Dev nD) : Nat :=
  let c0_i32_8336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8335 : BitVec 32 := 1#32
  let v6085 : BitVec 32 := Scalar.muli v88 c1_i32_8335
  let v6086 : BitVec 32 := Scalar.addi c0_i32_8336 v6085
  v6086.toNat
def k0_dev292 (d0 : Dev nD) : Nat :=
  let c0_i32_8357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8356 : BitVec 32 := 1#32
  let v6103 : BitVec 32 := Scalar.muli v126 c1_i32_8356
  let v6104 : BitVec 32 := Scalar.addi c0_i32_8357 v6103
  v6104.toNat
def k0_dev293 (d0 : Dev nD) : Nat :=
  let c0_i32_8392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8391 : BitVec 32 := 1#32
  let v6124 : BitVec 32 := Scalar.muli v126 c1_i32_8391
  let v6125 : BitVec 32 := Scalar.addi c0_i32_8392 v6124
  v6125.toNat
def k0_dev294 (d0 : Dev nD) : Nat :=
  let c0_i32_8413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8412 : BitVec 32 := 1#32
  let v6142 : BitVec 32 := Scalar.muli v88 c1_i32_8412
  let v6143 : BitVec 32 := Scalar.addi c0_i32_8413 v6142
  v6143.toNat
def k0_dev295 (d0 : Dev nD) : Nat :=
  let c0_i32_8448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8447 : BitVec 32 := 1#32
  let v6163 : BitVec 32 := Scalar.muli v88 c1_i32_8447
  let v6164 : BitVec 32 := Scalar.addi c0_i32_8448 v6163
  v6164.toNat
def k0_dev296 (d0 : Dev nD) : Nat :=
  let c0_i32_8469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8468 : BitVec 32 := 1#32
  let v6181 : BitVec 32 := Scalar.muli v126 c1_i32_8468
  let v6182 : BitVec 32 := Scalar.addi c0_i32_8469 v6181
  v6182.toNat
def k0_dev297 (d0 : Dev nD) : Nat :=
  let c0_i32_8504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8503 : BitVec 32 := 1#32
  let v6202 : BitVec 32 := Scalar.muli v126 c1_i32_8503
  let v6203 : BitVec 32 := Scalar.addi c0_i32_8504 v6202
  v6203.toNat
def k0_dev298 (d0 : Dev nD) : Nat :=
  let c0_i32_8525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8524 : BitVec 32 := 1#32
  let v6220 : BitVec 32 := Scalar.muli v88 c1_i32_8524
  let v6221 : BitVec 32 := Scalar.addi c0_i32_8525 v6220
  v6221.toNat
def k0_dev299 (d0 : Dev nD) : Nat :=
  let c0_i32_8576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8575 : BitVec 32 := 1#32
  let v6262 : BitVec 32 := Scalar.muli v88 c1_i32_8575
  let v6263 : BitVec 32 := Scalar.addi c0_i32_8576 v6262
  v6263.toNat

variable {F : FTy → Type} [FloatOps F]

def k0_dev300 (d0 : Dev nD) : Nat :=
  let c0_i32_8597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8596 : BitVec 32 := 1#32
  let v6280 : BitVec 32 := Scalar.muli v126 c1_i32_8596
  let v6281 : BitVec 32 := Scalar.addi c0_i32_8597 v6280
  v6281.toNat
def k0_dev301 (d0 : Dev nD) : Nat :=
  let c0_i32_8632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8631 : BitVec 32 := 1#32
  let v6301 : BitVec 32 := Scalar.muli v126 c1_i32_8631
  let v6302 : BitVec 32 := Scalar.addi c0_i32_8632 v6301
  v6302.toNat
def k0_dev302 (d0 : Dev nD) : Nat :=
  let c0_i32_8653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8652 : BitVec 32 := 1#32
  let v6319 : BitVec 32 := Scalar.muli v88 c1_i32_8652
  let v6320 : BitVec 32 := Scalar.addi c0_i32_8653 v6319
  v6320.toNat
def k0_dev303 (d0 : Dev nD) : Nat :=
  let c0_i32_8688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8687 : BitVec 32 := 1#32
  let v6340 : BitVec 32 := Scalar.muli v88 c1_i32_8687
  let v6341 : BitVec 32 := Scalar.addi c0_i32_8688 v6340
  v6341.toNat
def k0_dev304 (d0 : Dev nD) : Nat :=
  let c0_i32_8709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8708 : BitVec 32 := 1#32
  let v6358 : BitVec 32 := Scalar.muli v126 c1_i32_8708
  let v6359 : BitVec 32 := Scalar.addi c0_i32_8709 v6358
  v6359.toNat
def k0_dev305 (d0 : Dev nD) : Nat :=
  let c0_i32_8744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8743 : BitVec 32 := 1#32
  let v6379 : BitVec 32 := Scalar.muli v126 c1_i32_8743
  let v6380 : BitVec 32 := Scalar.addi c0_i32_8744 v6379
  v6380.toNat
def k0_dev306 (d0 : Dev nD) : Nat :=
  let c0_i32_8765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8764 : BitVec 32 := 1#32
  let v6397 : BitVec 32 := Scalar.muli v88 c1_i32_8764
  let v6398 : BitVec 32 := Scalar.addi c0_i32_8765 v6397
  v6398.toNat
def k0_dev307 (d0 : Dev nD) : Nat :=
  let c0_i32_8800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8799 : BitVec 32 := 1#32
  let v6418 : BitVec 32 := Scalar.muli v88 c1_i32_8799
  let v6419 : BitVec 32 := Scalar.addi c0_i32_8800 v6418
  v6419.toNat
def k0_dev308 (d0 : Dev nD) : Nat :=
  let c0_i32_8821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8820 : BitVec 32 := 1#32
  let v6436 : BitVec 32 := Scalar.muli v126 c1_i32_8820
  let v6437 : BitVec 32 := Scalar.addi c0_i32_8821 v6436
  v6437.toNat
def k0_dev309 (d0 : Dev nD) : Nat :=
  let c0_i32_8856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8855 : BitVec 32 := 1#32
  let v6457 : BitVec 32 := Scalar.muli v126 c1_i32_8855
  let v6458 : BitVec 32 := Scalar.addi c0_i32_8856 v6457
  v6458.toNat
def k0_dev310 (d0 : Dev nD) : Nat :=
  let c0_i32_8877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8876 : BitVec 32 := 1#32
  let v6475 : BitVec 32 := Scalar.muli v88 c1_i32_8876
  let v6476 : BitVec 32 := Scalar.addi c0_i32_8877 v6475
  v6476.toNat
def k0_dev311 (d0 : Dev nD) : Nat :=
  let c0_i32_8912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8911 : BitVec 32 := 1#32
  let v6496 : BitVec 32 := Scalar.muli v88 c1_i32_8911
  let v6497 : BitVec 32 := Scalar.addi c0_i32_8912 v6496
  v6497.toNat
def k0_dev312 (d0 : Dev nD) : Nat :=
  let c0_i32_8933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8932 : BitVec 32 := 1#32
  let v6514 : BitVec 32 := Scalar.muli v126 c1_i32_8932
  let v6515 : BitVec 32 := Scalar.addi c0_i32_8933 v6514
  v6515.toNat
def k0_dev313 (d0 : Dev nD) : Nat :=
  let c0_i32_8968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_8967 : BitVec 32 := 1#32
  let v6535 : BitVec 32 := Scalar.muli v126 c1_i32_8967
  let v6536 : BitVec 32 := Scalar.addi c0_i32_8968 v6535
  v6536.toNat
def k0_dev314 (d0 : Dev nD) : Nat :=
  let c0_i32_8989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_8988 : BitVec 32 := 1#32
  let v6553 : BitVec 32 := Scalar.muli v88 c1_i32_8988
  let v6554 : BitVec 32 := Scalar.addi c0_i32_8989 v6553
  v6554.toNat
def k0_dev315 (d0 : Dev nD) : Nat :=
  let c0_i32_9040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9039 : BitVec 32 := 1#32
  let v6595 : BitVec 32 := Scalar.muli v88 c1_i32_9039
  let v6596 : BitVec 32 := Scalar.addi c0_i32_9040 v6595
  v6596.toNat
def k0_dev316 (d0 : Dev nD) : Nat :=
  let c0_i32_9061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9060 : BitVec 32 := 1#32
  let v6613 : BitVec 32 := Scalar.muli v126 c1_i32_9060
  let v6614 : BitVec 32 := Scalar.addi c0_i32_9061 v6613
  v6614.toNat
def k0_dev317 (d0 : Dev nD) : Nat :=
  let c0_i32_9096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9095 : BitVec 32 := 1#32
  let v6634 : BitVec 32 := Scalar.muli v126 c1_i32_9095
  let v6635 : BitVec 32 := Scalar.addi c0_i32_9096 v6634
  v6635.toNat
def k0_dev318 (d0 : Dev nD) : Nat :=
  let c0_i32_9117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9116 : BitVec 32 := 1#32
  let v6652 : BitVec 32 := Scalar.muli v88 c1_i32_9116
  let v6653 : BitVec 32 := Scalar.addi c0_i32_9117 v6652
  v6653.toNat
def k0_dev319 (d0 : Dev nD) : Nat :=
  let c0_i32_9152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9151 : BitVec 32 := 1#32
  let v6673 : BitVec 32 := Scalar.muli v88 c1_i32_9151
  let v6674 : BitVec 32 := Scalar.addi c0_i32_9152 v6673
  v6674.toNat
def k0_dev320 (d0 : Dev nD) : Nat :=
  let c0_i32_9173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9172 : BitVec 32 := 1#32
  let v6691 : BitVec 32 := Scalar.muli v126 c1_i32_9172
  let v6692 : BitVec 32 := Scalar.addi c0_i32_9173 v6691
  v6692.toNat
def k0_dev321 (d0 : Dev nD) : Nat :=
  let c0_i32_9208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9207 : BitVec 32 := 1#32
  let v6712 : BitVec 32 := Scalar.muli v126 c1_i32_9207
  let v6713 : BitVec 32 := Scalar.addi c0_i32_9208 v6712
  v6713.toNat
def k0_dev322 (d0 : Dev nD) : Nat :=
  let c0_i32_9229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9228 : BitVec 32 := 1#32
  let v6730 : BitVec 32 := Scalar.muli v88 c1_i32_9228
  let v6731 : BitVec 32 := Scalar.addi c0_i32_9229 v6730
  v6731.toNat
def k0_dev323 (d0 : Dev nD) : Nat :=
  let c0_i32_9264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9263 : BitVec 32 := 1#32
  let v6751 : BitVec 32 := Scalar.muli v88 c1_i32_9263
  let v6752 : BitVec 32 := Scalar.addi c0_i32_9264 v6751
  v6752.toNat
def k0_dev324 (d0 : Dev nD) : Nat :=
  let c0_i32_9285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9284 : BitVec 32 := 1#32
  let v6769 : BitVec 32 := Scalar.muli v126 c1_i32_9284
  let v6770 : BitVec 32 := Scalar.addi c0_i32_9285 v6769
  v6770.toNat
def k0_dev325 (d0 : Dev nD) : Nat :=
  let c0_i32_9320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9319 : BitVec 32 := 1#32
  let v6790 : BitVec 32 := Scalar.muli v126 c1_i32_9319
  let v6791 : BitVec 32 := Scalar.addi c0_i32_9320 v6790
  v6791.toNat
def k0_dev326 (d0 : Dev nD) : Nat :=
  let c0_i32_9341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9340 : BitVec 32 := 1#32
  let v6808 : BitVec 32 := Scalar.muli v88 c1_i32_9340
  let v6809 : BitVec 32 := Scalar.addi c0_i32_9341 v6808
  v6809.toNat
def k0_dev327 (d0 : Dev nD) : Nat :=
  let c0_i32_9376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9375 : BitVec 32 := 1#32
  let v6829 : BitVec 32 := Scalar.muli v88 c1_i32_9375
  let v6830 : BitVec 32 := Scalar.addi c0_i32_9376 v6829
  v6830.toNat
def k0_dev328 (d0 : Dev nD) : Nat :=
  let c0_i32_9397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9396 : BitVec 32 := 1#32
  let v6847 : BitVec 32 := Scalar.muli v126 c1_i32_9396
  let v6848 : BitVec 32 := Scalar.addi c0_i32_9397 v6847
  v6848.toNat
def k0_dev329 (d0 : Dev nD) : Nat :=
  let c0_i32_9432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9431 : BitVec 32 := 1#32
  let v6868 : BitVec 32 := Scalar.muli v126 c1_i32_9431
  let v6869 : BitVec 32 := Scalar.addi c0_i32_9432 v6868
  v6869.toNat
def k0_dev330 (d0 : Dev nD) : Nat :=
  let c0_i32_9453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9452 : BitVec 32 := 1#32
  let v6886 : BitVec 32 := Scalar.muli v88 c1_i32_9452
  let v6887 : BitVec 32 := Scalar.addi c0_i32_9453 v6886
  v6887.toNat
def k0_dev331 (d0 : Dev nD) : Nat :=
  let c0_i32_9504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9503 : BitVec 32 := 1#32
  let v6928 : BitVec 32 := Scalar.muli v88 c1_i32_9503
  let v6929 : BitVec 32 := Scalar.addi c0_i32_9504 v6928
  v6929.toNat
def k0_dev332 (d0 : Dev nD) : Nat :=
  let c0_i32_9525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9524 : BitVec 32 := 1#32
  let v6946 : BitVec 32 := Scalar.muli v126 c1_i32_9524
  let v6947 : BitVec 32 := Scalar.addi c0_i32_9525 v6946
  v6947.toNat
def k0_dev333 (d0 : Dev nD) : Nat :=
  let c0_i32_9560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9559 : BitVec 32 := 1#32
  let v6967 : BitVec 32 := Scalar.muli v126 c1_i32_9559
  let v6968 : BitVec 32 := Scalar.addi c0_i32_9560 v6967
  v6968.toNat
def k0_dev334 (d0 : Dev nD) : Nat :=
  let c0_i32_9581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9580 : BitVec 32 := 1#32
  let v6985 : BitVec 32 := Scalar.muli v88 c1_i32_9580
  let v6986 : BitVec 32 := Scalar.addi c0_i32_9581 v6985
  v6986.toNat
def k0_dev335 (d0 : Dev nD) : Nat :=
  let c0_i32_9616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9615 : BitVec 32 := 1#32
  let v7006 : BitVec 32 := Scalar.muli v88 c1_i32_9615
  let v7007 : BitVec 32 := Scalar.addi c0_i32_9616 v7006
  v7007.toNat
def k0_dev336 (d0 : Dev nD) : Nat :=
  let c0_i32_9637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9636 : BitVec 32 := 1#32
  let v7024 : BitVec 32 := Scalar.muli v126 c1_i32_9636
  let v7025 : BitVec 32 := Scalar.addi c0_i32_9637 v7024
  v7025.toNat
def k0_dev337 (d0 : Dev nD) : Nat :=
  let c0_i32_9672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9671 : BitVec 32 := 1#32
  let v7045 : BitVec 32 := Scalar.muli v126 c1_i32_9671
  let v7046 : BitVec 32 := Scalar.addi c0_i32_9672 v7045
  v7046.toNat
def k0_dev338 (d0 : Dev nD) : Nat :=
  let c0_i32_9693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9692 : BitVec 32 := 1#32
  let v7063 : BitVec 32 := Scalar.muli v88 c1_i32_9692
  let v7064 : BitVec 32 := Scalar.addi c0_i32_9693 v7063
  v7064.toNat
def k0_dev339 (d0 : Dev nD) : Nat :=
  let c0_i32_9728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9727 : BitVec 32 := 1#32
  let v7084 : BitVec 32 := Scalar.muli v88 c1_i32_9727
  let v7085 : BitVec 32 := Scalar.addi c0_i32_9728 v7084
  v7085.toNat
def k0_dev340 (d0 : Dev nD) : Nat :=
  let c0_i32_9749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9748 : BitVec 32 := 1#32
  let v7102 : BitVec 32 := Scalar.muli v126 c1_i32_9748
  let v7103 : BitVec 32 := Scalar.addi c0_i32_9749 v7102
  v7103.toNat
def k0_dev341 (d0 : Dev nD) : Nat :=
  let c0_i32_9784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9783 : BitVec 32 := 1#32
  let v7123 : BitVec 32 := Scalar.muli v126 c1_i32_9783
  let v7124 : BitVec 32 := Scalar.addi c0_i32_9784 v7123
  v7124.toNat
def k0_dev342 (d0 : Dev nD) : Nat :=
  let c0_i32_9805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9804 : BitVec 32 := 1#32
  let v7141 : BitVec 32 := Scalar.muli v88 c1_i32_9804
  let v7142 : BitVec 32 := Scalar.addi c0_i32_9805 v7141
  v7142.toNat
def k0_dev343 (d0 : Dev nD) : Nat :=
  let c0_i32_9840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9839 : BitVec 32 := 1#32
  let v7162 : BitVec 32 := Scalar.muli v88 c1_i32_9839
  let v7163 : BitVec 32 := Scalar.addi c0_i32_9840 v7162
  v7163.toNat
def k0_dev344 (d0 : Dev nD) : Nat :=
  let c0_i32_9861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9860 : BitVec 32 := 1#32
  let v7180 : BitVec 32 := Scalar.muli v126 c1_i32_9860
  let v7181 : BitVec 32 := Scalar.addi c0_i32_9861 v7180
  v7181.toNat
def k0_dev345 (d0 : Dev nD) : Nat :=
  let c0_i32_9896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9895 : BitVec 32 := 1#32
  let v7201 : BitVec 32 := Scalar.muli v126 c1_i32_9895
  let v7202 : BitVec 32 := Scalar.addi c0_i32_9896 v7201
  v7202.toNat
def k0_dev346 (d0 : Dev nD) : Nat :=
  let c0_i32_9917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9916 : BitVec 32 := 1#32
  let v7219 : BitVec 32 := Scalar.muli v88 c1_i32_9916
  let v7220 : BitVec 32 := Scalar.addi c0_i32_9917 v7219
  v7220.toNat
def k0_dev347 (d0 : Dev nD) : Nat :=
  let c0_i32_9968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_9967 : BitVec 32 := 1#32
  let v7261 : BitVec 32 := Scalar.muli v88 c1_i32_9967
  let v7262 : BitVec 32 := Scalar.addi c0_i32_9968 v7261
  v7262.toNat
def k0_dev348 (d0 : Dev nD) : Nat :=
  let c0_i32_9989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_9988 : BitVec 32 := 1#32
  let v7279 : BitVec 32 := Scalar.muli v126 c1_i32_9988
  let v7280 : BitVec 32 := Scalar.addi c0_i32_9989 v7279
  v7280.toNat
def k0_dev349 (d0 : Dev nD) : Nat :=
  let c0_i32_10024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10023 : BitVec 32 := 1#32
  let v7300 : BitVec 32 := Scalar.muli v126 c1_i32_10023
  let v7301 : BitVec 32 := Scalar.addi c0_i32_10024 v7300
  v7301.toNat
def k0_dev350 (d0 : Dev nD) : Nat :=
  let c0_i32_10045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10044 : BitVec 32 := 1#32
  let v7318 : BitVec 32 := Scalar.muli v88 c1_i32_10044
  let v7319 : BitVec 32 := Scalar.addi c0_i32_10045 v7318
  v7319.toNat
def k0_dev351 (d0 : Dev nD) : Nat :=
  let c0_i32_10080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10079 : BitVec 32 := 1#32
  let v7339 : BitVec 32 := Scalar.muli v88 c1_i32_10079
  let v7340 : BitVec 32 := Scalar.addi c0_i32_10080 v7339
  v7340.toNat
def k0_dev352 (d0 : Dev nD) : Nat :=
  let c0_i32_10101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10100 : BitVec 32 := 1#32
  let v7357 : BitVec 32 := Scalar.muli v126 c1_i32_10100
  let v7358 : BitVec 32 := Scalar.addi c0_i32_10101 v7357
  v7358.toNat
def k0_dev353 (d0 : Dev nD) : Nat :=
  let c0_i32_10136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10135 : BitVec 32 := 1#32
  let v7378 : BitVec 32 := Scalar.muli v126 c1_i32_10135
  let v7379 : BitVec 32 := Scalar.addi c0_i32_10136 v7378
  v7379.toNat
def k0_dev354 (d0 : Dev nD) : Nat :=
  let c0_i32_10157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10156 : BitVec 32 := 1#32
  let v7396 : BitVec 32 := Scalar.muli v88 c1_i32_10156
  let v7397 : BitVec 32 := Scalar.addi c0_i32_10157 v7396
  v7397.toNat
def k0_dev355 (d0 : Dev nD) : Nat :=
  let c0_i32_10192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10191 : BitVec 32 := 1#32
  let v7417 : BitVec 32 := Scalar.muli v88 c1_i32_10191
  let v7418 : BitVec 32 := Scalar.addi c0_i32_10192 v7417
  v7418.toNat
def k0_dev356 (d0 : Dev nD) : Nat :=
  let c0_i32_10213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10212 : BitVec 32 := 1#32
  let v7435 : BitVec 32 := Scalar.muli v126 c1_i32_10212
  let v7436 : BitVec 32 := Scalar.addi c0_i32_10213 v7435
  v7436.toNat
def k0_dev357 (d0 : Dev nD) : Nat :=
  let c0_i32_10248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10247 : BitVec 32 := 1#32
  let v7456 : BitVec 32 := Scalar.muli v126 c1_i32_10247
  let v7457 : BitVec 32 := Scalar.addi c0_i32_10248 v7456
  v7457.toNat
def k0_dev358 (d0 : Dev nD) : Nat :=
  let c0_i32_10269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10268 : BitVec 32 := 1#32
  let v7474 : BitVec 32 := Scalar.muli v88 c1_i32_10268
  let v7475 : BitVec 32 := Scalar.addi c0_i32_10269 v7474
  v7475.toNat
def k0_dev359 (d0 : Dev nD) : Nat :=
  let c0_i32_10304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10303 : BitVec 32 := 1#32
  let v7495 : BitVec 32 := Scalar.muli v88 c1_i32_10303
  let v7496 : BitVec 32 := Scalar.addi c0_i32_10304 v7495
  v7496.toNat
def k0_dev360 (d0 : Dev nD) : Nat :=
  let c0_i32_10325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10324 : BitVec 32 := 1#32
  let v7513 : BitVec 32 := Scalar.muli v126 c1_i32_10324
  let v7514 : BitVec 32 := Scalar.addi c0_i32_10325 v7513
  v7514.toNat
def k0_dev361 (d0 : Dev nD) : Nat :=
  let c0_i32_10360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10359 : BitVec 32 := 1#32
  let v7534 : BitVec 32 := Scalar.muli v126 c1_i32_10359
  let v7535 : BitVec 32 := Scalar.addi c0_i32_10360 v7534
  v7535.toNat
def k0_dev362 (d0 : Dev nD) : Nat :=
  let c0_i32_10381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10380 : BitVec 32 := 1#32
  let v7552 : BitVec 32 := Scalar.muli v88 c1_i32_10380
  let v7553 : BitVec 32 := Scalar.addi c0_i32_10381 v7552
  v7553.toNat
def k0_dev363 (d0 : Dev nD) : Nat :=
  let c0_i32_10432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10431 : BitVec 32 := 1#32
  let v7594 : BitVec 32 := Scalar.muli v88 c1_i32_10431
  let v7595 : BitVec 32 := Scalar.addi c0_i32_10432 v7594
  v7595.toNat
def k0_dev364 (d0 : Dev nD) : Nat :=
  let c0_i32_10453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10452 : BitVec 32 := 1#32
  let v7612 : BitVec 32 := Scalar.muli v126 c1_i32_10452
  let v7613 : BitVec 32 := Scalar.addi c0_i32_10453 v7612
  v7613.toNat
def k0_dev365 (d0 : Dev nD) : Nat :=
  let c0_i32_10488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10487 : BitVec 32 := 1#32
  let v7633 : BitVec 32 := Scalar.muli v126 c1_i32_10487
  let v7634 : BitVec 32 := Scalar.addi c0_i32_10488 v7633
  v7634.toNat
def k0_dev366 (d0 : Dev nD) : Nat :=
  let c0_i32_10509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10508 : BitVec 32 := 1#32
  let v7651 : BitVec 32 := Scalar.muli v88 c1_i32_10508
  let v7652 : BitVec 32 := Scalar.addi c0_i32_10509 v7651
  v7652.toNat
def k0_dev367 (d0 : Dev nD) : Nat :=
  let c0_i32_10544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10543 : BitVec 32 := 1#32
  let v7672 : BitVec 32 := Scalar.muli v88 c1_i32_10543
  let v7673 : BitVec 32 := Scalar.addi c0_i32_10544 v7672
  v7673.toNat
def k0_dev368 (d0 : Dev nD) : Nat :=
  let c0_i32_10565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10564 : BitVec 32 := 1#32
  let v7690 : BitVec 32 := Scalar.muli v126 c1_i32_10564
  let v7691 : BitVec 32 := Scalar.addi c0_i32_10565 v7690
  v7691.toNat
def k0_dev369 (d0 : Dev nD) : Nat :=
  let c0_i32_10600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10599 : BitVec 32 := 1#32
  let v7711 : BitVec 32 := Scalar.muli v126 c1_i32_10599
  let v7712 : BitVec 32 := Scalar.addi c0_i32_10600 v7711
  v7712.toNat
def k0_dev370 (d0 : Dev nD) : Nat :=
  let c0_i32_10621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10620 : BitVec 32 := 1#32
  let v7729 : BitVec 32 := Scalar.muli v88 c1_i32_10620
  let v7730 : BitVec 32 := Scalar.addi c0_i32_10621 v7729
  v7730.toNat
def k0_dev371 (d0 : Dev nD) : Nat :=
  let c0_i32_10656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10655 : BitVec 32 := 1#32
  let v7750 : BitVec 32 := Scalar.muli v88 c1_i32_10655
  let v7751 : BitVec 32 := Scalar.addi c0_i32_10656 v7750
  v7751.toNat
def k0_dev372 (d0 : Dev nD) : Nat :=
  let c0_i32_10677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10676 : BitVec 32 := 1#32
  let v7768 : BitVec 32 := Scalar.muli v126 c1_i32_10676
  let v7769 : BitVec 32 := Scalar.addi c0_i32_10677 v7768
  v7769.toNat
def k0_dev373 (d0 : Dev nD) : Nat :=
  let c0_i32_10712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10711 : BitVec 32 := 1#32
  let v7789 : BitVec 32 := Scalar.muli v126 c1_i32_10711
  let v7790 : BitVec 32 := Scalar.addi c0_i32_10712 v7789
  v7790.toNat
def k0_dev374 (d0 : Dev nD) : Nat :=
  let c0_i32_10733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10732 : BitVec 32 := 1#32
  let v7807 : BitVec 32 := Scalar.muli v88 c1_i32_10732
  let v7808 : BitVec 32 := Scalar.addi c0_i32_10733 v7807
  v7808.toNat
def k0_dev375 (d0 : Dev nD) : Nat :=
  let c0_i32_10768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10767 : BitVec 32 := 1#32
  let v7828 : BitVec 32 := Scalar.muli v88 c1_i32_10767
  let v7829 : BitVec 32 := Scalar.addi c0_i32_10768 v7828
  v7829.toNat
def k0_dev376 (d0 : Dev nD) : Nat :=
  let c0_i32_10789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10788 : BitVec 32 := 1#32
  let v7846 : BitVec 32 := Scalar.muli v126 c1_i32_10788
  let v7847 : BitVec 32 := Scalar.addi c0_i32_10789 v7846
  v7847.toNat
def k0_dev377 (d0 : Dev nD) : Nat :=
  let c0_i32_10824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10823 : BitVec 32 := 1#32
  let v7867 : BitVec 32 := Scalar.muli v126 c1_i32_10823
  let v7868 : BitVec 32 := Scalar.addi c0_i32_10824 v7867
  v7868.toNat
def k0_dev378 (d0 : Dev nD) : Nat :=
  let c0_i32_10845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10844 : BitVec 32 := 1#32
  let v7885 : BitVec 32 := Scalar.muli v88 c1_i32_10844
  let v7886 : BitVec 32 := Scalar.addi c0_i32_10845 v7885
  v7886.toNat
def k0_dev379 (d0 : Dev nD) : Nat :=
  let c0_i32_10896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10895 : BitVec 32 := 1#32
  let v7927 : BitVec 32 := Scalar.muli v88 c1_i32_10895
  let v7928 : BitVec 32 := Scalar.addi c0_i32_10896 v7927
  v7928.toNat
def k0_dev380 (d0 : Dev nD) : Nat :=
  let c0_i32_10917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10916 : BitVec 32 := 1#32
  let v7945 : BitVec 32 := Scalar.muli v126 c1_i32_10916
  let v7946 : BitVec 32 := Scalar.addi c0_i32_10917 v7945
  v7946.toNat
def k0_dev381 (d0 : Dev nD) : Nat :=
  let c0_i32_10952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_10951 : BitVec 32 := 1#32
  let v7966 : BitVec 32 := Scalar.muli v126 c1_i32_10951
  let v7967 : BitVec 32 := Scalar.addi c0_i32_10952 v7966
  v7967.toNat
def k0_dev382 (d0 : Dev nD) : Nat :=
  let c0_i32_10973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_10972 : BitVec 32 := 1#32
  let v7984 : BitVec 32 := Scalar.muli v88 c1_i32_10972
  let v7985 : BitVec 32 := Scalar.addi c0_i32_10973 v7984
  v7985.toNat
def k0_dev383 (d0 : Dev nD) : Nat :=
  let c0_i32_11008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11007 : BitVec 32 := 1#32
  let v8005 : BitVec 32 := Scalar.muli v88 c1_i32_11007
  let v8006 : BitVec 32 := Scalar.addi c0_i32_11008 v8005
  v8006.toNat
def k0_dev384 (d0 : Dev nD) : Nat :=
  let c0_i32_11029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11028 : BitVec 32 := 1#32
  let v8023 : BitVec 32 := Scalar.muli v126 c1_i32_11028
  let v8024 : BitVec 32 := Scalar.addi c0_i32_11029 v8023
  v8024.toNat
def k0_dev385 (d0 : Dev nD) : Nat :=
  let c0_i32_11064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11063 : BitVec 32 := 1#32
  let v8044 : BitVec 32 := Scalar.muli v126 c1_i32_11063
  let v8045 : BitVec 32 := Scalar.addi c0_i32_11064 v8044
  v8045.toNat
def k0_dev386 (d0 : Dev nD) : Nat :=
  let c0_i32_11085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11084 : BitVec 32 := 1#32
  let v8062 : BitVec 32 := Scalar.muli v88 c1_i32_11084
  let v8063 : BitVec 32 := Scalar.addi c0_i32_11085 v8062
  v8063.toNat
def k0_dev387 (d0 : Dev nD) : Nat :=
  let c0_i32_11120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11119 : BitVec 32 := 1#32
  let v8083 : BitVec 32 := Scalar.muli v88 c1_i32_11119
  let v8084 : BitVec 32 := Scalar.addi c0_i32_11120 v8083
  v8084.toNat
def k0_dev388 (d0 : Dev nD) : Nat :=
  let c0_i32_11141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11140 : BitVec 32 := 1#32
  let v8101 : BitVec 32 := Scalar.muli v126 c1_i32_11140
  let v8102 : BitVec 32 := Scalar.addi c0_i32_11141 v8101
  v8102.toNat
def k0_dev389 (d0 : Dev nD) : Nat :=
  let c0_i32_11176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11175 : BitVec 32 := 1#32
  let v8122 : BitVec 32 := Scalar.muli v126 c1_i32_11175
  let v8123 : BitVec 32 := Scalar.addi c0_i32_11176 v8122
  v8123.toNat
def k0_dev390 (d0 : Dev nD) : Nat :=
  let c0_i32_11197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11196 : BitVec 32 := 1#32
  let v8140 : BitVec 32 := Scalar.muli v88 c1_i32_11196
  let v8141 : BitVec 32 := Scalar.addi c0_i32_11197 v8140
  v8141.toNat
def k0_dev391 (d0 : Dev nD) : Nat :=
  let c0_i32_11232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11231 : BitVec 32 := 1#32
  let v8161 : BitVec 32 := Scalar.muli v88 c1_i32_11231
  let v8162 : BitVec 32 := Scalar.addi c0_i32_11232 v8161
  v8162.toNat
def k0_dev392 (d0 : Dev nD) : Nat :=
  let c0_i32_11253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11252 : BitVec 32 := 1#32
  let v8179 : BitVec 32 := Scalar.muli v126 c1_i32_11252
  let v8180 : BitVec 32 := Scalar.addi c0_i32_11253 v8179
  v8180.toNat
def k0_dev393 (d0 : Dev nD) : Nat :=
  let c0_i32_11288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11287 : BitVec 32 := 1#32
  let v8200 : BitVec 32 := Scalar.muli v126 c1_i32_11287
  let v8201 : BitVec 32 := Scalar.addi c0_i32_11288 v8200
  v8201.toNat
def k0_dev394 (d0 : Dev nD) : Nat :=
  let c0_i32_11309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11308 : BitVec 32 := 1#32
  let v8218 : BitVec 32 := Scalar.muli v88 c1_i32_11308
  let v8219 : BitVec 32 := Scalar.addi c0_i32_11309 v8218
  v8219.toNat
def k0_dev395 (d0 : Dev nD) : Nat :=
  let c0_i32_11360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11359 : BitVec 32 := 1#32
  let v8260 : BitVec 32 := Scalar.muli v88 c1_i32_11359
  let v8261 : BitVec 32 := Scalar.addi c0_i32_11360 v8260
  v8261.toNat
def k0_dev396 (d0 : Dev nD) : Nat :=
  let c0_i32_11381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11380 : BitVec 32 := 1#32
  let v8278 : BitVec 32 := Scalar.muli v126 c1_i32_11380
  let v8279 : BitVec 32 := Scalar.addi c0_i32_11381 v8278
  v8279.toNat
def k0_dev397 (d0 : Dev nD) : Nat :=
  let c0_i32_11416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11415 : BitVec 32 := 1#32
  let v8299 : BitVec 32 := Scalar.muli v126 c1_i32_11415
  let v8300 : BitVec 32 := Scalar.addi c0_i32_11416 v8299
  v8300.toNat
def k0_dev398 (d0 : Dev nD) : Nat :=
  let c0_i32_11437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11436 : BitVec 32 := 1#32
  let v8317 : BitVec 32 := Scalar.muli v88 c1_i32_11436
  let v8318 : BitVec 32 := Scalar.addi c0_i32_11437 v8317
  v8318.toNat
def k0_dev399 (d0 : Dev nD) : Nat :=
  let c0_i32_11472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11471 : BitVec 32 := 1#32
  let v8338 : BitVec 32 := Scalar.muli v88 c1_i32_11471
  let v8339 : BitVec 32 := Scalar.addi c0_i32_11472 v8338
  v8339.toNat
def k0_dev400 (d0 : Dev nD) : Nat :=
  let c0_i32_11493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11492 : BitVec 32 := 1#32
  let v8356 : BitVec 32 := Scalar.muli v126 c1_i32_11492
  let v8357 : BitVec 32 := Scalar.addi c0_i32_11493 v8356
  v8357.toNat
def k0_dev401 (d0 : Dev nD) : Nat :=
  let c0_i32_11528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11527 : BitVec 32 := 1#32
  let v8377 : BitVec 32 := Scalar.muli v126 c1_i32_11527
  let v8378 : BitVec 32 := Scalar.addi c0_i32_11528 v8377
  v8378.toNat
def k0_dev402 (d0 : Dev nD) : Nat :=
  let c0_i32_11549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11548 : BitVec 32 := 1#32
  let v8395 : BitVec 32 := Scalar.muli v88 c1_i32_11548
  let v8396 : BitVec 32 := Scalar.addi c0_i32_11549 v8395
  v8396.toNat
def k0_dev403 (d0 : Dev nD) : Nat :=
  let c0_i32_11584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11583 : BitVec 32 := 1#32
  let v8416 : BitVec 32 := Scalar.muli v88 c1_i32_11583
  let v8417 : BitVec 32 := Scalar.addi c0_i32_11584 v8416
  v8417.toNat
def k0_dev404 (d0 : Dev nD) : Nat :=
  let c0_i32_11605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11604 : BitVec 32 := 1#32
  let v8434 : BitVec 32 := Scalar.muli v126 c1_i32_11604
  let v8435 : BitVec 32 := Scalar.addi c0_i32_11605 v8434
  v8435.toNat
def k0_dev405 (d0 : Dev nD) : Nat :=
  let c0_i32_11640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11639 : BitVec 32 := 1#32
  let v8455 : BitVec 32 := Scalar.muli v126 c1_i32_11639
  let v8456 : BitVec 32 := Scalar.addi c0_i32_11640 v8455
  v8456.toNat
def k0_dev406 (d0 : Dev nD) : Nat :=
  let c0_i32_11661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11660 : BitVec 32 := 1#32
  let v8473 : BitVec 32 := Scalar.muli v88 c1_i32_11660
  let v8474 : BitVec 32 := Scalar.addi c0_i32_11661 v8473
  v8474.toNat
def k0_dev407 (d0 : Dev nD) : Nat :=
  let c0_i32_11696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11695 : BitVec 32 := 1#32
  let v8494 : BitVec 32 := Scalar.muli v88 c1_i32_11695
  let v8495 : BitVec 32 := Scalar.addi c0_i32_11696 v8494
  v8495.toNat
def k0_dev408 (d0 : Dev nD) : Nat :=
  let c0_i32_11717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11716 : BitVec 32 := 1#32
  let v8512 : BitVec 32 := Scalar.muli v126 c1_i32_11716
  let v8513 : BitVec 32 := Scalar.addi c0_i32_11717 v8512
  v8513.toNat
def k0_dev409 (d0 : Dev nD) : Nat :=
  let c0_i32_11752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11751 : BitVec 32 := 1#32
  let v8533 : BitVec 32 := Scalar.muli v126 c1_i32_11751
  let v8534 : BitVec 32 := Scalar.addi c0_i32_11752 v8533
  v8534.toNat
def k0_dev410 (d0 : Dev nD) : Nat :=
  let c0_i32_11773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11772 : BitVec 32 := 1#32
  let v8551 : BitVec 32 := Scalar.muli v88 c1_i32_11772
  let v8552 : BitVec 32 := Scalar.addi c0_i32_11773 v8551
  v8552.toNat
def k0_dev411 (d0 : Dev nD) : Nat :=
  let c0_i32_11824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11823 : BitVec 32 := 1#32
  let v8593 : BitVec 32 := Scalar.muli v88 c1_i32_11823
  let v8594 : BitVec 32 := Scalar.addi c0_i32_11824 v8593
  v8594.toNat
def k0_dev412 (d0 : Dev nD) : Nat :=
  let c0_i32_11845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11844 : BitVec 32 := 1#32
  let v8611 : BitVec 32 := Scalar.muli v126 c1_i32_11844
  let v8612 : BitVec 32 := Scalar.addi c0_i32_11845 v8611
  v8612.toNat
def k0_dev413 (d0 : Dev nD) : Nat :=
  let c0_i32_11880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11879 : BitVec 32 := 1#32
  let v8632 : BitVec 32 := Scalar.muli v126 c1_i32_11879
  let v8633 : BitVec 32 := Scalar.addi c0_i32_11880 v8632
  v8633.toNat
def k0_dev414 (d0 : Dev nD) : Nat :=
  let c0_i32_11901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11900 : BitVec 32 := 1#32
  let v8650 : BitVec 32 := Scalar.muli v88 c1_i32_11900
  let v8651 : BitVec 32 := Scalar.addi c0_i32_11901 v8650
  v8651.toNat
def k0_dev415 (d0 : Dev nD) : Nat :=
  let c0_i32_11936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_11935 : BitVec 32 := 1#32
  let v8671 : BitVec 32 := Scalar.muli v88 c1_i32_11935
  let v8672 : BitVec 32 := Scalar.addi c0_i32_11936 v8671
  v8672.toNat
def k0_dev416 (d0 : Dev nD) : Nat :=
  let c0_i32_11957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11956 : BitVec 32 := 1#32
  let v8689 : BitVec 32 := Scalar.muli v126 c1_i32_11956
  let v8690 : BitVec 32 := Scalar.addi c0_i32_11957 v8689
  v8690.toNat
def k0_dev417 (d0 : Dev nD) : Nat :=
  let c0_i32_11992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_11991 : BitVec 32 := 1#32
  let v8710 : BitVec 32 := Scalar.muli v126 c1_i32_11991
  let v8711 : BitVec 32 := Scalar.addi c0_i32_11992 v8710
  v8711.toNat
def k0_dev418 (d0 : Dev nD) : Nat :=
  let c0_i32_12013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12012 : BitVec 32 := 1#32
  let v8728 : BitVec 32 := Scalar.muli v88 c1_i32_12012
  let v8729 : BitVec 32 := Scalar.addi c0_i32_12013 v8728
  v8729.toNat
def k0_dev419 (d0 : Dev nD) : Nat :=
  let c0_i32_12048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12047 : BitVec 32 := 1#32
  let v8749 : BitVec 32 := Scalar.muli v88 c1_i32_12047
  let v8750 : BitVec 32 := Scalar.addi c0_i32_12048 v8749
  v8750.toNat
def k0_dev420 (d0 : Dev nD) : Nat :=
  let c0_i32_12069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12068 : BitVec 32 := 1#32
  let v8767 : BitVec 32 := Scalar.muli v126 c1_i32_12068
  let v8768 : BitVec 32 := Scalar.addi c0_i32_12069 v8767
  v8768.toNat
def k0_dev421 (d0 : Dev nD) : Nat :=
  let c0_i32_12104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12103 : BitVec 32 := 1#32
  let v8788 : BitVec 32 := Scalar.muli v126 c1_i32_12103
  let v8789 : BitVec 32 := Scalar.addi c0_i32_12104 v8788
  v8789.toNat
def k0_dev422 (d0 : Dev nD) : Nat :=
  let c0_i32_12125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12124 : BitVec 32 := 1#32
  let v8806 : BitVec 32 := Scalar.muli v88 c1_i32_12124
  let v8807 : BitVec 32 := Scalar.addi c0_i32_12125 v8806
  v8807.toNat
def k0_dev423 (d0 : Dev nD) : Nat :=
  let c0_i32_12160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12159 : BitVec 32 := 1#32
  let v8827 : BitVec 32 := Scalar.muli v88 c1_i32_12159
  let v8828 : BitVec 32 := Scalar.addi c0_i32_12160 v8827
  v8828.toNat
def k0_dev424 (d0 : Dev nD) : Nat :=
  let c0_i32_12181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12180 : BitVec 32 := 1#32
  let v8845 : BitVec 32 := Scalar.muli v126 c1_i32_12180
  let v8846 : BitVec 32 := Scalar.addi c0_i32_12181 v8845
  v8846.toNat
def k0_dev425 (d0 : Dev nD) : Nat :=
  let c0_i32_12216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12215 : BitVec 32 := 1#32
  let v8866 : BitVec 32 := Scalar.muli v126 c1_i32_12215
  let v8867 : BitVec 32 := Scalar.addi c0_i32_12216 v8866
  v8867.toNat
def k0_dev426 (d0 : Dev nD) : Nat :=
  let c0_i32_12237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12236 : BitVec 32 := 1#32
  let v8884 : BitVec 32 := Scalar.muli v88 c1_i32_12236
  let v8885 : BitVec 32 := Scalar.addi c0_i32_12237 v8884
  v8885.toNat
def k0_dev427 (d0 : Dev nD) : Nat :=
  let c0_i32_12288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12287 : BitVec 32 := 1#32
  let v8926 : BitVec 32 := Scalar.muli v88 c1_i32_12287
  let v8927 : BitVec 32 := Scalar.addi c0_i32_12288 v8926
  v8927.toNat
def k0_dev428 (d0 : Dev nD) : Nat :=
  let c0_i32_12309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12308 : BitVec 32 := 1#32
  let v8944 : BitVec 32 := Scalar.muli v126 c1_i32_12308
  let v8945 : BitVec 32 := Scalar.addi c0_i32_12309 v8944
  v8945.toNat
def k0_dev429 (d0 : Dev nD) : Nat :=
  let c0_i32_12344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12343 : BitVec 32 := 1#32
  let v8965 : BitVec 32 := Scalar.muli v126 c1_i32_12343
  let v8966 : BitVec 32 := Scalar.addi c0_i32_12344 v8965
  v8966.toNat
def k0_dev430 (d0 : Dev nD) : Nat :=
  let c0_i32_12365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12364 : BitVec 32 := 1#32
  let v8983 : BitVec 32 := Scalar.muli v88 c1_i32_12364
  let v8984 : BitVec 32 := Scalar.addi c0_i32_12365 v8983
  v8984.toNat
def k0_dev431 (d0 : Dev nD) : Nat :=
  let c0_i32_12400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12399 : BitVec 32 := 1#32
  let v9004 : BitVec 32 := Scalar.muli v88 c1_i32_12399
  let v9005 : BitVec 32 := Scalar.addi c0_i32_12400 v9004
  v9005.toNat
def k0_dev432 (d0 : Dev nD) : Nat :=
  let c0_i32_12421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12420 : BitVec 32 := 1#32
  let v9022 : BitVec 32 := Scalar.muli v126 c1_i32_12420
  let v9023 : BitVec 32 := Scalar.addi c0_i32_12421 v9022
  v9023.toNat
def k0_dev433 (d0 : Dev nD) : Nat :=
  let c0_i32_12456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12455 : BitVec 32 := 1#32
  let v9043 : BitVec 32 := Scalar.muli v126 c1_i32_12455
  let v9044 : BitVec 32 := Scalar.addi c0_i32_12456 v9043
  v9044.toNat
def k0_dev434 (d0 : Dev nD) : Nat :=
  let c0_i32_12477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12476 : BitVec 32 := 1#32
  let v9061 : BitVec 32 := Scalar.muli v88 c1_i32_12476
  let v9062 : BitVec 32 := Scalar.addi c0_i32_12477 v9061
  v9062.toNat
def k0_dev435 (d0 : Dev nD) : Nat :=
  let c0_i32_12512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12511 : BitVec 32 := 1#32
  let v9082 : BitVec 32 := Scalar.muli v88 c1_i32_12511
  let v9083 : BitVec 32 := Scalar.addi c0_i32_12512 v9082
  v9083.toNat
def k0_dev436 (d0 : Dev nD) : Nat :=
  let c0_i32_12533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12532 : BitVec 32 := 1#32
  let v9100 : BitVec 32 := Scalar.muli v126 c1_i32_12532
  let v9101 : BitVec 32 := Scalar.addi c0_i32_12533 v9100
  v9101.toNat
def k0_dev437 (d0 : Dev nD) : Nat :=
  let c0_i32_12568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12567 : BitVec 32 := 1#32
  let v9121 : BitVec 32 := Scalar.muli v126 c1_i32_12567
  let v9122 : BitVec 32 := Scalar.addi c0_i32_12568 v9121
  v9122.toNat
def k0_dev438 (d0 : Dev nD) : Nat :=
  let c0_i32_12589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12588 : BitVec 32 := 1#32
  let v9139 : BitVec 32 := Scalar.muli v88 c1_i32_12588
  let v9140 : BitVec 32 := Scalar.addi c0_i32_12589 v9139
  v9140.toNat
def k0_dev439 (d0 : Dev nD) : Nat :=
  let c0_i32_12624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12623 : BitVec 32 := 1#32
  let v9160 : BitVec 32 := Scalar.muli v88 c1_i32_12623
  let v9161 : BitVec 32 := Scalar.addi c0_i32_12624 v9160
  v9161.toNat
def k0_dev440 (d0 : Dev nD) : Nat :=
  let c0_i32_12645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12644 : BitVec 32 := 1#32
  let v9178 : BitVec 32 := Scalar.muli v126 c1_i32_12644
  let v9179 : BitVec 32 := Scalar.addi c0_i32_12645 v9178
  v9179.toNat
def k0_dev441 (d0 : Dev nD) : Nat :=
  let c0_i32_12680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12679 : BitVec 32 := 1#32
  let v9199 : BitVec 32 := Scalar.muli v126 c1_i32_12679
  let v9200 : BitVec 32 := Scalar.addi c0_i32_12680 v9199
  v9200.toNat
def k0_dev442 (d0 : Dev nD) : Nat :=
  let c0_i32_12701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12700 : BitVec 32 := 1#32
  let v9217 : BitVec 32 := Scalar.muli v88 c1_i32_12700
  let v9218 : BitVec 32 := Scalar.addi c0_i32_12701 v9217
  v9218.toNat
def k0_dev443 (d0 : Dev nD) : Nat :=
  let c0_i32_12752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12751 : BitVec 32 := 1#32
  let v9259 : BitVec 32 := Scalar.muli v88 c1_i32_12751
  let v9260 : BitVec 32 := Scalar.addi c0_i32_12752 v9259
  v9260.toNat
def k0_dev444 (d0 : Dev nD) : Nat :=
  let c0_i32_12773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12772 : BitVec 32 := 1#32
  let v9277 : BitVec 32 := Scalar.muli v126 c1_i32_12772
  let v9278 : BitVec 32 := Scalar.addi c0_i32_12773 v9277
  v9278.toNat
def k0_dev445 (d0 : Dev nD) : Nat :=
  let c0_i32_12808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12807 : BitVec 32 := 1#32
  let v9298 : BitVec 32 := Scalar.muli v126 c1_i32_12807
  let v9299 : BitVec 32 := Scalar.addi c0_i32_12808 v9298
  v9299.toNat
def k0_dev446 (d0 : Dev nD) : Nat :=
  let c0_i32_12829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12828 : BitVec 32 := 1#32
  let v9316 : BitVec 32 := Scalar.muli v88 c1_i32_12828
  let v9317 : BitVec 32 := Scalar.addi c0_i32_12829 v9316
  v9317.toNat
def k0_dev447 (d0 : Dev nD) : Nat :=
  let c0_i32_12864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12863 : BitVec 32 := 1#32
  let v9337 : BitVec 32 := Scalar.muli v88 c1_i32_12863
  let v9338 : BitVec 32 := Scalar.addi c0_i32_12864 v9337
  v9338.toNat
def k0_dev448 (d0 : Dev nD) : Nat :=
  let c0_i32_12885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12884 : BitVec 32 := 1#32
  let v9355 : BitVec 32 := Scalar.muli v126 c1_i32_12884
  let v9356 : BitVec 32 := Scalar.addi c0_i32_12885 v9355
  v9356.toNat
def k0_dev449 (d0 : Dev nD) : Nat :=
  let c0_i32_12920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12919 : BitVec 32 := 1#32
  let v9376 : BitVec 32 := Scalar.muli v126 c1_i32_12919
  let v9377 : BitVec 32 := Scalar.addi c0_i32_12920 v9376
  v9377.toNat
def k0_dev450 (d0 : Dev nD) : Nat :=
  let c0_i32_12941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12940 : BitVec 32 := 1#32
  let v9394 : BitVec 32 := Scalar.muli v88 c1_i32_12940
  let v9395 : BitVec 32 := Scalar.addi c0_i32_12941 v9394
  v9395.toNat
def k0_dev451 (d0 : Dev nD) : Nat :=
  let c0_i32_12976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_12975 : BitVec 32 := 1#32
  let v9415 : BitVec 32 := Scalar.muli v88 c1_i32_12975
  let v9416 : BitVec 32 := Scalar.addi c0_i32_12976 v9415
  v9416.toNat
def k0_dev452 (d0 : Dev nD) : Nat :=
  let c0_i32_12997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_12996 : BitVec 32 := 1#32
  let v9433 : BitVec 32 := Scalar.muli v126 c1_i32_12996
  let v9434 : BitVec 32 := Scalar.addi c0_i32_12997 v9433
  v9434.toNat
def k0_dev453 (d0 : Dev nD) : Nat :=
  let c0_i32_13032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13031 : BitVec 32 := 1#32
  let v9454 : BitVec 32 := Scalar.muli v126 c1_i32_13031
  let v9455 : BitVec 32 := Scalar.addi c0_i32_13032 v9454
  v9455.toNat
def k0_dev454 (d0 : Dev nD) : Nat :=
  let c0_i32_13053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13052 : BitVec 32 := 1#32
  let v9472 : BitVec 32 := Scalar.muli v88 c1_i32_13052
  let v9473 : BitVec 32 := Scalar.addi c0_i32_13053 v9472
  v9473.toNat
def k0_dev455 (d0 : Dev nD) : Nat :=
  let c0_i32_13088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13087 : BitVec 32 := 1#32
  let v9493 : BitVec 32 := Scalar.muli v88 c1_i32_13087
  let v9494 : BitVec 32 := Scalar.addi c0_i32_13088 v9493
  v9494.toNat
def k0_dev456 (d0 : Dev nD) : Nat :=
  let c0_i32_13109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13108 : BitVec 32 := 1#32
  let v9511 : BitVec 32 := Scalar.muli v126 c1_i32_13108
  let v9512 : BitVec 32 := Scalar.addi c0_i32_13109 v9511
  v9512.toNat
def k0_dev457 (d0 : Dev nD) : Nat :=
  let c0_i32_13144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13143 : BitVec 32 := 1#32
  let v9532 : BitVec 32 := Scalar.muli v126 c1_i32_13143
  let v9533 : BitVec 32 := Scalar.addi c0_i32_13144 v9532
  v9533.toNat
def k0_dev458 (d0 : Dev nD) : Nat :=
  let c0_i32_13165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13164 : BitVec 32 := 1#32
  let v9550 : BitVec 32 := Scalar.muli v88 c1_i32_13164
  let v9551 : BitVec 32 := Scalar.addi c0_i32_13165 v9550
  v9551.toNat
def k0_dev459 (d0 : Dev nD) : Nat :=
  let c0_i32_13216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13215 : BitVec 32 := 1#32
  let v9592 : BitVec 32 := Scalar.muli v88 c1_i32_13215
  let v9593 : BitVec 32 := Scalar.addi c0_i32_13216 v9592
  v9593.toNat
def k0_dev460 (d0 : Dev nD) : Nat :=
  let c0_i32_13237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13236 : BitVec 32 := 1#32
  let v9610 : BitVec 32 := Scalar.muli v126 c1_i32_13236
  let v9611 : BitVec 32 := Scalar.addi c0_i32_13237 v9610
  v9611.toNat
def k0_dev461 (d0 : Dev nD) : Nat :=
  let c0_i32_13272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13271 : BitVec 32 := 1#32
  let v9631 : BitVec 32 := Scalar.muli v126 c1_i32_13271
  let v9632 : BitVec 32 := Scalar.addi c0_i32_13272 v9631
  v9632.toNat
def k0_dev462 (d0 : Dev nD) : Nat :=
  let c0_i32_13293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13292 : BitVec 32 := 1#32
  let v9649 : BitVec 32 := Scalar.muli v88 c1_i32_13292
  let v9650 : BitVec 32 := Scalar.addi c0_i32_13293 v9649
  v9650.toNat
def k0_dev463 (d0 : Dev nD) : Nat :=
  let c0_i32_13328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13327 : BitVec 32 := 1#32
  let v9670 : BitVec 32 := Scalar.muli v88 c1_i32_13327
  let v9671 : BitVec 32 := Scalar.addi c0_i32_13328 v9670
  v9671.toNat
def k0_dev464 (d0 : Dev nD) : Nat :=
  let c0_i32_13349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13348 : BitVec 32 := 1#32
  let v9688 : BitVec 32 := Scalar.muli v126 c1_i32_13348
  let v9689 : BitVec 32 := Scalar.addi c0_i32_13349 v9688
  v9689.toNat
def k0_dev465 (d0 : Dev nD) : Nat :=
  let c0_i32_13384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13383 : BitVec 32 := 1#32
  let v9709 : BitVec 32 := Scalar.muli v126 c1_i32_13383
  let v9710 : BitVec 32 := Scalar.addi c0_i32_13384 v9709
  v9710.toNat
def k0_dev466 (d0 : Dev nD) : Nat :=
  let c0_i32_13405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13404 : BitVec 32 := 1#32
  let v9727 : BitVec 32 := Scalar.muli v88 c1_i32_13404
  let v9728 : BitVec 32 := Scalar.addi c0_i32_13405 v9727
  v9728.toNat
def k0_dev467 (d0 : Dev nD) : Nat :=
  let c0_i32_13440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13439 : BitVec 32 := 1#32
  let v9748 : BitVec 32 := Scalar.muli v88 c1_i32_13439
  let v9749 : BitVec 32 := Scalar.addi c0_i32_13440 v9748
  v9749.toNat
def k0_dev468 (d0 : Dev nD) : Nat :=
  let c0_i32_13461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13460 : BitVec 32 := 1#32
  let v9766 : BitVec 32 := Scalar.muli v126 c1_i32_13460
  let v9767 : BitVec 32 := Scalar.addi c0_i32_13461 v9766
  v9767.toNat
def k0_dev469 (d0 : Dev nD) : Nat :=
  let c0_i32_13496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13495 : BitVec 32 := 1#32
  let v9787 : BitVec 32 := Scalar.muli v126 c1_i32_13495
  let v9788 : BitVec 32 := Scalar.addi c0_i32_13496 v9787
  v9788.toNat
def k0_dev470 (d0 : Dev nD) : Nat :=
  let c0_i32_13517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13516 : BitVec 32 := 1#32
  let v9805 : BitVec 32 := Scalar.muli v88 c1_i32_13516
  let v9806 : BitVec 32 := Scalar.addi c0_i32_13517 v9805
  v9806.toNat
def k0_dev471 (d0 : Dev nD) : Nat :=
  let c0_i32_13552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13551 : BitVec 32 := 1#32
  let v9826 : BitVec 32 := Scalar.muli v88 c1_i32_13551
  let v9827 : BitVec 32 := Scalar.addi c0_i32_13552 v9826
  v9827.toNat
def k0_dev472 (d0 : Dev nD) : Nat :=
  let c0_i32_13573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13572 : BitVec 32 := 1#32
  let v9844 : BitVec 32 := Scalar.muli v126 c1_i32_13572
  let v9845 : BitVec 32 := Scalar.addi c0_i32_13573 v9844
  v9845.toNat
def k0_dev473 (d0 : Dev nD) : Nat :=
  let c0_i32_13608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13607 : BitVec 32 := 1#32
  let v9865 : BitVec 32 := Scalar.muli v126 c1_i32_13607
  let v9866 : BitVec 32 := Scalar.addi c0_i32_13608 v9865
  v9866.toNat
def k0_dev474 (d0 : Dev nD) : Nat :=
  let c0_i32_13629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13628 : BitVec 32 := 1#32
  let v9883 : BitVec 32 := Scalar.muli v88 c1_i32_13628
  let v9884 : BitVec 32 := Scalar.addi c0_i32_13629 v9883
  v9884.toNat
def k0_dev475 (d0 : Dev nD) : Nat :=
  let c0_i32_13680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13679 : BitVec 32 := 1#32
  let v9925 : BitVec 32 := Scalar.muli v88 c1_i32_13679
  let v9926 : BitVec 32 := Scalar.addi c0_i32_13680 v9925
  v9926.toNat
def k0_dev476 (d0 : Dev nD) : Nat :=
  let c0_i32_13701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13700 : BitVec 32 := 1#32
  let v9943 : BitVec 32 := Scalar.muli v126 c1_i32_13700
  let v9944 : BitVec 32 := Scalar.addi c0_i32_13701 v9943
  v9944.toNat
def k0_dev477 (d0 : Dev nD) : Nat :=
  let c0_i32_13736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13735 : BitVec 32 := 1#32
  let v9964 : BitVec 32 := Scalar.muli v126 c1_i32_13735
  let v9965 : BitVec 32 := Scalar.addi c0_i32_13736 v9964
  v9965.toNat
def k0_dev478 (d0 : Dev nD) : Nat :=
  let c0_i32_13757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13756 : BitVec 32 := 1#32
  let v9982 : BitVec 32 := Scalar.muli v88 c1_i32_13756
  let v9983 : BitVec 32 := Scalar.addi c0_i32_13757 v9982
  v9983.toNat
def k0_dev479 (d0 : Dev nD) : Nat :=
  let c0_i32_13792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13791 : BitVec 32 := 1#32
  let v10003 : BitVec 32 := Scalar.muli v88 c1_i32_13791
  let v10004 : BitVec 32 := Scalar.addi c0_i32_13792 v10003
  v10004.toNat
def k0_dev480 (d0 : Dev nD) : Nat :=
  let c0_i32_13813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13812 : BitVec 32 := 1#32
  let v10021 : BitVec 32 := Scalar.muli v126 c1_i32_13812
  let v10022 : BitVec 32 := Scalar.addi c0_i32_13813 v10021
  v10022.toNat
def k0_dev481 (d0 : Dev nD) : Nat :=
  let c0_i32_13848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13847 : BitVec 32 := 1#32
  let v10042 : BitVec 32 := Scalar.muli v126 c1_i32_13847
  let v10043 : BitVec 32 := Scalar.addi c0_i32_13848 v10042
  v10043.toNat
def k0_dev482 (d0 : Dev nD) : Nat :=
  let c0_i32_13869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13868 : BitVec 32 := 1#32
  let v10060 : BitVec 32 := Scalar.muli v88 c1_i32_13868
  let v10061 : BitVec 32 := Scalar.addi c0_i32_13869 v10060
  v10061.toNat
def k0_dev483 (d0 : Dev nD) : Nat :=
  let c0_i32_13904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13903 : BitVec 32 := 1#32
  let v10081 : BitVec 32 := Scalar.muli v88 c1_i32_13903
  let v10082 : BitVec 32 := Scalar.addi c0_i32_13904 v10081
  v10082.toNat
def k0_dev484 (d0 : Dev nD) : Nat :=
  let c0_i32_13925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13924 : BitVec 32 := 1#32
  let v10099 : BitVec 32 := Scalar.muli v126 c1_i32_13924
  let v10100 : BitVec 32 := Scalar.addi c0_i32_13925 v10099
  v10100.toNat
def k0_dev485 (d0 : Dev nD) : Nat :=
  let c0_i32_13960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_13959 : BitVec 32 := 1#32
  let v10120 : BitVec 32 := Scalar.muli v126 c1_i32_13959
  let v10121 : BitVec 32 := Scalar.addi c0_i32_13960 v10120
  v10121.toNat
def k0_dev486 (d0 : Dev nD) : Nat :=
  let c0_i32_13981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_13980 : BitVec 32 := 1#32
  let v10138 : BitVec 32 := Scalar.muli v88 c1_i32_13980
  let v10139 : BitVec 32 := Scalar.addi c0_i32_13981 v10138
  v10139.toNat
def k0_dev487 (d0 : Dev nD) : Nat :=
  let c0_i32_14016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14015 : BitVec 32 := 1#32
  let v10159 : BitVec 32 := Scalar.muli v88 c1_i32_14015
  let v10160 : BitVec 32 := Scalar.addi c0_i32_14016 v10159
  v10160.toNat
def k0_dev488 (d0 : Dev nD) : Nat :=
  let c0_i32_14037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14036 : BitVec 32 := 1#32
  let v10177 : BitVec 32 := Scalar.muli v126 c1_i32_14036
  let v10178 : BitVec 32 := Scalar.addi c0_i32_14037 v10177
  v10178.toNat
def k0_dev489 (d0 : Dev nD) : Nat :=
  let c0_i32_14072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14071 : BitVec 32 := 1#32
  let v10198 : BitVec 32 := Scalar.muli v126 c1_i32_14071
  let v10199 : BitVec 32 := Scalar.addi c0_i32_14072 v10198
  v10199.toNat
def k0_dev490 (d0 : Dev nD) : Nat :=
  let c0_i32_14093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14092 : BitVec 32 := 1#32
  let v10216 : BitVec 32 := Scalar.muli v88 c1_i32_14092
  let v10217 : BitVec 32 := Scalar.addi c0_i32_14093 v10216
  v10217.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_14136 : BitVec 32 := 1#32
  let v10269 : BitVec 32 := Scalar.addi v51 c1_i32_14136
  let c32_i32_14137 : BitVec 32 := 32#32
  let v10270 : BitVec 32 := Scalar.remsi v10269 c32_i32_14137
  let c128_i32_14138 : BitVec 32 := 128#32
  let v10271 : BitVec 32 := Scalar.muli v10270 c128_i32_14138
  let v10272 : Index := Scalar.indexCast v10271
  let c0_14139 : Index := 0#32
  ![v10272.toNat, 0]
def k0_dev491 (d0 : Dev nD) : Nat :=
  let c0_i32_14152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14151 : BitVec 32 := 1#32
  let v10276 : BitVec 32 := Scalar.muli v88 c1_i32_14151
  let v10277 : BitVec 32 := Scalar.addi c0_i32_14152 v10276
  v10277.toNat
def k0_dev492 (d0 : Dev nD) : Nat :=
  let c0_i32_14173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14172 : BitVec 32 := 1#32
  let v10294 : BitVec 32 := Scalar.muli v126 c1_i32_14172
  let v10295 : BitVec 32 := Scalar.addi c0_i32_14173 v10294
  v10295.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14200 : BitVec 32 := 32#32
  let v10326 : BitVec 32 := Scalar.addi v51 c32_i32_14200
  let c1_i32_14201 : BitVec 32 := 1#32
  let v10327 : BitVec 32 := Scalar.subi v10326 c1_i32_14201
  let c32_i32_14202 : BitVec 32 := 32#32
  let v10328 : BitVec 32 := Scalar.remsi v10327 c32_i32_14202
  let c128_i32_14203 : BitVec 32 := 128#32
  let v10329 : BitVec 32 := Scalar.muli v10328 c128_i32_14203
  let v10330 : Index := Scalar.indexCast v10329
  let c1024_14204 : Index := 1024#32
  ![v10330.toNat, 1024]
def k0_dev493 (d0 : Dev nD) : Nat :=
  let c0_i32_14217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14216 : BitVec 32 := 1#32
  let v10334 : BitVec 32 := Scalar.muli v126 c1_i32_14216
  let v10335 : BitVec 32 := Scalar.addi c0_i32_14217 v10334
  v10335.toNat
def k0_dev494 (d0 : Dev nD) : Nat :=
  let c0_i32_14238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14237 : BitVec 32 := 1#32
  let v10352 : BitVec 32 := Scalar.muli v88 c1_i32_14237
  let v10353 : BitVec 32 := Scalar.addi c0_i32_14238 v10352
  v10353.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_14265 : BitVec 32 := 1#32
  let v10384 : BitVec 32 := Scalar.addi v51 c1_i32_14265
  let c32_i32_14266 : BitVec 32 := 32#32
  let v10385 : BitVec 32 := Scalar.remsi v10384 c32_i32_14266
  let c128_i32_14267 : BitVec 32 := 128#32
  let v10386 : BitVec 32 := Scalar.muli v10385 c128_i32_14267
  let v10387 : Index := Scalar.indexCast v10386
  let c256 : Index := 256#32
  ![v10387.toNat, 256]
def k0_dev495 (d0 : Dev nD) : Nat :=
  let c0_i32_14280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14279 : BitVec 32 := 1#32
  let v10391 : BitVec 32 := Scalar.muli v88 c1_i32_14279
  let v10392 : BitVec 32 := Scalar.addi c0_i32_14280 v10391
  v10392.toNat
def k0_dev496 (d0 : Dev nD) : Nat :=
  let c0_i32_14301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14300 : BitVec 32 := 1#32
  let v10409 : BitVec 32 := Scalar.muli v126 c1_i32_14300
  let v10410 : BitVec 32 := Scalar.addi c0_i32_14301 v10409
  v10410.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14328 : BitVec 32 := 32#32
  let v10441 : BitVec 32 := Scalar.addi v51 c32_i32_14328
  let c1_i32_14329 : BitVec 32 := 1#32
  let v10442 : BitVec 32 := Scalar.subi v10441 c1_i32_14329
  let c32_i32_14330 : BitVec 32 := 32#32
  let v10443 : BitVec 32 := Scalar.remsi v10442 c32_i32_14330
  let c128_i32_14331 : BitVec 32 := 128#32
  let v10444 : BitVec 32 := Scalar.muli v10443 c128_i32_14331
  let v10445 : Index := Scalar.indexCast v10444
  let c1280 : Index := 1280#32
  ![v10445.toNat, 1280]
def k0_dev497 (d0 : Dev nD) : Nat :=
  let c0_i32_14344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14343 : BitVec 32 := 1#32
  let v10449 : BitVec 32 := Scalar.muli v126 c1_i32_14343
  let v10450 : BitVec 32 := Scalar.addi c0_i32_14344 v10449
  v10450.toNat
def k0_dev498 (d0 : Dev nD) : Nat :=
  let c0_i32_14365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14364 : BitVec 32 := 1#32
  let v10467 : BitVec 32 := Scalar.muli v88 c1_i32_14364
  let v10468 : BitVec 32 := Scalar.addi c0_i32_14365 v10467
  v10468.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_14392 : BitVec 32 := 1#32
  let v10499 : BitVec 32 := Scalar.addi v51 c1_i32_14392
  let c32_i32_14393 : BitVec 32 := 32#32
  let v10500 : BitVec 32 := Scalar.remsi v10499 c32_i32_14393
  let c128_i32_14394 : BitVec 32 := 128#32
  let v10501 : BitVec 32 := Scalar.muli v10500 c128_i32_14394
  let v10502 : Index := Scalar.indexCast v10501
  let c512 : Index := 512#32
  ![v10502.toNat, 512]
def k0_dev499 (d0 : Dev nD) : Nat :=
  let c0_i32_14407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14406 : BitVec 32 := 1#32
  let v10506 : BitVec 32 := Scalar.muli v88 c1_i32_14406
  let v10507 : BitVec 32 := Scalar.addi c0_i32_14407 v10506
  v10507.toNat
def k0_dev500 (d0 : Dev nD) : Nat :=
  let c0_i32_14428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14427 : BitVec 32 := 1#32
  let v10524 : BitVec 32 := Scalar.muli v126 c1_i32_14427
  let v10525 : BitVec 32 := Scalar.addi c0_i32_14428 v10524
  v10525.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14455 : BitVec 32 := 32#32
  let v10556 : BitVec 32 := Scalar.addi v51 c32_i32_14455
  let c1_i32_14456 : BitVec 32 := 1#32
  let v10557 : BitVec 32 := Scalar.subi v10556 c1_i32_14456
  let c32_i32_14457 : BitVec 32 := 32#32
  let v10558 : BitVec 32 := Scalar.remsi v10557 c32_i32_14457
  let c128_i32_14458 : BitVec 32 := 128#32
  let v10559 : BitVec 32 := Scalar.muli v10558 c128_i32_14458
  let v10560 : Index := Scalar.indexCast v10559
  let c1536 : Index := 1536#32
  ![v10560.toNat, 1536]
def k0_dev501 (d0 : Dev nD) : Nat :=
  let c0_i32_14471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14470 : BitVec 32 := 1#32
  let v10564 : BitVec 32 := Scalar.muli v126 c1_i32_14470
  let v10565 : BitVec 32 := Scalar.addi c0_i32_14471 v10564
  v10565.toNat
def k0_dev502 (d0 : Dev nD) : Nat :=
  let c0_i32_14492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14491 : BitVec 32 := 1#32
  let v10582 : BitVec 32 := Scalar.muli v88 c1_i32_14491
  let v10583 : BitVec 32 := Scalar.addi c0_i32_14492 v10582
  v10583.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_14519 : BitVec 32 := 1#32
  let v10614 : BitVec 32 := Scalar.addi v51 c1_i32_14519
  let c32_i32_14520 : BitVec 32 := 32#32
  let v10615 : BitVec 32 := Scalar.remsi v10614 c32_i32_14520
  let c128_i32_14521 : BitVec 32 := 128#32
  let v10616 : BitVec 32 := Scalar.muli v10615 c128_i32_14521
  let v10617 : Index := Scalar.indexCast v10616
  let c768 : Index := 768#32
  ![v10617.toNat, 768]
def k0_dev503 (d0 : Dev nD) : Nat :=
  let c0_i32_14534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14533 : BitVec 32 := 1#32
  let v10621 : BitVec 32 := Scalar.muli v88 c1_i32_14533
  let v10622 : BitVec 32 := Scalar.addi c0_i32_14534 v10621
  v10622.toNat
def k0_dev504 (d0 : Dev nD) : Nat :=
  let c0_i32_14555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14554 : BitVec 32 := 1#32
  let v10639 : BitVec 32 := Scalar.muli v126 c1_i32_14554
  let v10640 : BitVec 32 := Scalar.addi c0_i32_14555 v10639
  v10640.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14582 : BitVec 32 := 32#32
  let v10671 : BitVec 32 := Scalar.addi v51 c32_i32_14582
  let c1_i32_14583 : BitVec 32 := 1#32
  let v10672 : BitVec 32 := Scalar.subi v10671 c1_i32_14583
  let c32_i32_14584 : BitVec 32 := 32#32
  let v10673 : BitVec 32 := Scalar.remsi v10672 c32_i32_14584
  let c128_i32_14585 : BitVec 32 := 128#32
  let v10674 : BitVec 32 := Scalar.muli v10673 c128_i32_14585
  let v10675 : Index := Scalar.indexCast v10674
  let c1792 : Index := 1792#32
  ![v10675.toNat, 1792]
def k0_dev505 (d0 : Dev nD) : Nat :=
  let c0_i32_14598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14597 : BitVec 32 := 1#32
  let v10679 : BitVec 32 := Scalar.muli v126 c1_i32_14597
  let v10680 : BitVec 32 := Scalar.addi c0_i32_14598 v10679
  v10680.toNat
def k0_dev506 (d0 : Dev nD) : Nat :=
  let c0_i32_14619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14618 : BitVec 32 := 1#32
  let v10697 : BitVec 32 := Scalar.muli v88 c1_i32_14618
  let v10698 : BitVec 32 := Scalar.addi c0_i32_14619 v10697
  v10698.toNat
def k0_dev507 (d0 : Dev nD) : Nat :=
  let c0_i32_14646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14645 : BitVec 32 := 1#32
  let v10709 : BitVec 32 := Scalar.muli v88 c1_i32_14645
  let v10710 : BitVec 32 := Scalar.addi c0_i32_14646 v10709
  v10710.toNat
def k0_off12 (d0 : Dev nD) (c0_i32_14652 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14651 : BitVec 32 := 32#32
  let v10719 : BitVec 32 := Scalar.addi v51 c32_i32_14651
  let v10720 : BitVec 32 := Scalar.subi v10719 c0_i32_14652
  let c32_i32_14653 : BitVec 32 := 32#32
  let v10721 : BitVec 32 := Scalar.remsi v10720 c32_i32_14653
  let c128_i32_14658 : BitVec 32 := 128#32
  let v10724 : BitVec 32 := Scalar.muli v10721 c128_i32_14658
  let v10725 : Index := Scalar.indexCast v10724
  let c0_14659 : Index := 0#32
  ![v10725.toNat, 0]
def k0_dev508 (d0 : Dev nD) : Nat :=
  let c0_i32_14676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14675 : BitVec 32 := 1#32
  let v10735 : BitVec 32 := Scalar.muli v126 c1_i32_14675
  let v10736 : BitVec 32 := Scalar.addi c0_i32_14676 v10735
  v10736.toNat
def k0_dev509 (d0 : Dev nD) : Nat :=
  let c0_i32_14703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14702 : BitVec 32 := 1#32
  let v10747 : BitVec 32 := Scalar.muli v126 c1_i32_14702
  let v10748 : BitVec 32 := Scalar.addi c0_i32_14703 v10747
  v10748.toNat
def k0_off13 (d0 : Dev nD) (c0_i32_14708 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let v10757 : BitVec 32 := Scalar.addi v51 c0_i32_14708
  let c32_i32_14709 : BitVec 32 := 32#32
  let v10758 : BitVec 32 := Scalar.remsi v10757 c32_i32_14709
  let c128_i32_14714 : BitVec 32 := 128#32
  let v10761 : BitVec 32 := Scalar.muli v10758 c128_i32_14714
  let v10762 : Index := Scalar.indexCast v10761
  let c1024_14715 : Index := 1024#32
  ![v10762.toNat, 1024]
def k0_dev510 (d0 : Dev nD) : Nat :=
  let c0_i32_14732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14731 : BitVec 32 := 1#32
  let v10772 : BitVec 32 := Scalar.muli v88 c1_i32_14731
  let v10773 : BitVec 32 := Scalar.addi c0_i32_14732 v10772
  v10773.toNat
def k0_dev511 (d0 : Dev nD) : Nat :=
  let c0_i32_14759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14758 : BitVec 32 := 1#32
  let v10784 : BitVec 32 := Scalar.muli v88 c1_i32_14758
  let v10785 : BitVec 32 := Scalar.addi c0_i32_14759 v10784
  v10785.toNat
def k0_off14 (d0 : Dev nD) (c0_i32_14765 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14764 : BitVec 32 := 32#32
  let v10794 : BitVec 32 := Scalar.addi v51 c32_i32_14764
  let v10795 : BitVec 32 := Scalar.subi v10794 c0_i32_14765
  let c32_i32_14766 : BitVec 32 := 32#32
  let v10796 : BitVec 32 := Scalar.remsi v10795 c32_i32_14766
  let c128_i32_14771 : BitVec 32 := 128#32
  let v10799 : BitVec 32 := Scalar.muli v10796 c128_i32_14771
  let v10800 : Index := Scalar.indexCast v10799
  let c256_14772 : Index := 256#32
  ![v10800.toNat, 256]
def k0_dev512 (d0 : Dev nD) : Nat :=
  let c0_i32_14789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14788 : BitVec 32 := 1#32
  let v10810 : BitVec 32 := Scalar.muli v126 c1_i32_14788
  let v10811 : BitVec 32 := Scalar.addi c0_i32_14789 v10810
  v10811.toNat
def k0_dev513 (d0 : Dev nD) : Nat :=
  let c0_i32_14816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14815 : BitVec 32 := 1#32
  let v10822 : BitVec 32 := Scalar.muli v126 c1_i32_14815
  let v10823 : BitVec 32 := Scalar.addi c0_i32_14816 v10822
  v10823.toNat
def k0_off15 (d0 : Dev nD) (c0_i32_14821 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let v10832 : BitVec 32 := Scalar.addi v51 c0_i32_14821
  let c32_i32_14822 : BitVec 32 := 32#32
  let v10833 : BitVec 32 := Scalar.remsi v10832 c32_i32_14822
  let c128_i32_14827 : BitVec 32 := 128#32
  let v10836 : BitVec 32 := Scalar.muli v10833 c128_i32_14827
  let v10837 : Index := Scalar.indexCast v10836
  let c1280_14828 : Index := 1280#32
  ![v10837.toNat, 1280]
def k0_dev514 (d0 : Dev nD) : Nat :=
  let c0_i32_14845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14844 : BitVec 32 := 1#32
  let v10847 : BitVec 32 := Scalar.muli v88 c1_i32_14844
  let v10848 : BitVec 32 := Scalar.addi c0_i32_14845 v10847
  v10848.toNat
def k0_dev515 (d0 : Dev nD) : Nat :=
  let c0_i32_14872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14871 : BitVec 32 := 1#32
  let v10859 : BitVec 32 := Scalar.muli v88 c1_i32_14871
  let v10860 : BitVec 32 := Scalar.addi c0_i32_14872 v10859
  v10860.toNat
def k0_off16 (d0 : Dev nD) (c0_i32_14878 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14877 : BitVec 32 := 32#32
  let v10869 : BitVec 32 := Scalar.addi v51 c32_i32_14877
  let v10870 : BitVec 32 := Scalar.subi v10869 c0_i32_14878
  let c32_i32_14879 : BitVec 32 := 32#32
  let v10871 : BitVec 32 := Scalar.remsi v10870 c32_i32_14879
  let c128_i32_14884 : BitVec 32 := 128#32
  let v10874 : BitVec 32 := Scalar.muli v10871 c128_i32_14884
  let v10875 : Index := Scalar.indexCast v10874
  let c512_14885 : Index := 512#32
  ![v10875.toNat, 512]
def k0_dev516 (d0 : Dev nD) : Nat :=
  let c0_i32_14902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14901 : BitVec 32 := 1#32
  let v10885 : BitVec 32 := Scalar.muli v126 c1_i32_14901
  let v10886 : BitVec 32 := Scalar.addi c0_i32_14902 v10885
  v10886.toNat
def k0_dev517 (d0 : Dev nD) : Nat :=
  let c0_i32_14929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_14928 : BitVec 32 := 1#32
  let v10897 : BitVec 32 := Scalar.muli v126 c1_i32_14928
  let v10898 : BitVec 32 := Scalar.addi c0_i32_14929 v10897
  v10898.toNat
def k0_off17 (d0 : Dev nD) (c0_i32_14934 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let v10907 : BitVec 32 := Scalar.addi v51 c0_i32_14934
  let c32_i32_14935 : BitVec 32 := 32#32
  let v10908 : BitVec 32 := Scalar.remsi v10907 c32_i32_14935
  let c128_i32_14940 : BitVec 32 := 128#32
  let v10911 : BitVec 32 := Scalar.muli v10908 c128_i32_14940
  let v10912 : Index := Scalar.indexCast v10911
  let c1536_14941 : Index := 1536#32
  ![v10912.toNat, 1536]
def k0_dev518 (d0 : Dev nD) : Nat :=
  let c0_i32_14958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14957 : BitVec 32 := 1#32
  let v10922 : BitVec 32 := Scalar.muli v88 c1_i32_14957
  let v10923 : BitVec 32 := Scalar.addi c0_i32_14958 v10922
  v10923.toNat
def k0_dev519 (d0 : Dev nD) : Nat :=
  let c0_i32_14985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_14984 : BitVec 32 := 1#32
  let v10934 : BitVec 32 := Scalar.muli v88 c1_i32_14984
  let v10935 : BitVec 32 := Scalar.addi c0_i32_14985 v10934
  v10935.toNat
def k0_off18 (d0 : Dev nD) (c0_i32_14991 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_14990 : BitVec 32 := 32#32
  let v10944 : BitVec 32 := Scalar.addi v51 c32_i32_14990
  let v10945 : BitVec 32 := Scalar.subi v10944 c0_i32_14991
  let c32_i32_14992 : BitVec 32 := 32#32
  let v10946 : BitVec 32 := Scalar.remsi v10945 c32_i32_14992
  let c128_i32_14997 : BitVec 32 := 128#32
  let v10949 : BitVec 32 := Scalar.muli v10946 c128_i32_14997
  let v10950 : Index := Scalar.indexCast v10949
  let c768_14998 : Index := 768#32
  ![v10950.toNat, 768]
def k0_dev520 (d0 : Dev nD) : Nat :=
  let c0_i32_15015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15014 : BitVec 32 := 1#32
  let v10960 : BitVec 32 := Scalar.muli v126 c1_i32_15014
  let v10961 : BitVec 32 := Scalar.addi c0_i32_15015 v10960
  v10961.toNat
def k0_dev521 (d0 : Dev nD) : Nat :=
  let c0_i32_15042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15041 : BitVec 32 := 1#32
  let v10972 : BitVec 32 := Scalar.muli v126 c1_i32_15041
  let v10973 : BitVec 32 := Scalar.addi c0_i32_15042 v10972
  v10973.toNat
def k0_off19 (d0 : Dev nD) (c0_i32_15047 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let v10982 : BitVec 32 := Scalar.addi v51 c0_i32_15047
  let c32_i32_15048 : BitVec 32 := 32#32
  let v10983 : BitVec 32 := Scalar.remsi v10982 c32_i32_15048
  let c128_i32_15053 : BitVec 32 := 128#32
  let v10986 : BitVec 32 := Scalar.muli v10983 c128_i32_15053
  let v10987 : Index := Scalar.indexCast v10986
  let c1792_15054 : Index := 1792#32
  ![v10987.toNat, 1792]
def k0_dev522 (d0 : Dev nD) : Nat :=
  let c0_i32_15071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15070 : BitVec 32 := 1#32
  let v10997 : BitVec 32 := Scalar.muli v88 c1_i32_15070
  let v10998 : BitVec 32 := Scalar.addi c0_i32_15071 v10997
  v10998.toNat
def k0_dev523 (d0 : Dev nD) : Nat :=
  let c0_i32_15098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15097 : BitVec 32 := 1#32
  let v11009 : BitVec 32 := Scalar.muli v88 c1_i32_15097
  let v11010 : BitVec 32 := Scalar.addi c0_i32_15098 v11009
  v11010.toNat
def k0_dev524 (d0 : Dev nD) : Nat :=
  let c0_i32_15128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15127 : BitVec 32 := 1#32
  let v11035 : BitVec 32 := Scalar.muli v126 c1_i32_15127
  let v11036 : BitVec 32 := Scalar.addi c0_i32_15128 v11035
  v11036.toNat
def k0_dev525 (d0 : Dev nD) : Nat :=
  let c0_i32_15155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15154 : BitVec 32 := 1#32
  let v11047 : BitVec 32 := Scalar.muli v126 c1_i32_15154
  let v11048 : BitVec 32 := Scalar.addi c0_i32_15155 v11047
  v11048.toNat
def k0_dev526 (d0 : Dev nD) : Nat :=
  let c0_i32_15184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15183 : BitVec 32 := 1#32
  let v11072 : BitVec 32 := Scalar.muli v88 c1_i32_15183
  let v11073 : BitVec 32 := Scalar.addi c0_i32_15184 v11072
  v11073.toNat
def k0_dev527 (d0 : Dev nD) : Nat :=
  let c0_i32_15211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15210 : BitVec 32 := 1#32
  let v11084 : BitVec 32 := Scalar.muli v88 c1_i32_15210
  let v11085 : BitVec 32 := Scalar.addi c0_i32_15211 v11084
  v11085.toNat
def k0_dev528 (d0 : Dev nD) : Nat :=
  let c0_i32_15241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15240 : BitVec 32 := 1#32
  let v11110 : BitVec 32 := Scalar.muli v126 c1_i32_15240
  let v11111 : BitVec 32 := Scalar.addi c0_i32_15241 v11110
  v11111.toNat
def k0_dev529 (d0 : Dev nD) : Nat :=
  let c0_i32_15268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15267 : BitVec 32 := 1#32
  let v11122 : BitVec 32 := Scalar.muli v126 c1_i32_15267
  let v11123 : BitVec 32 := Scalar.addi c0_i32_15268 v11122
  v11123.toNat
def k0_dev530 (d0 : Dev nD) : Nat :=
  let c0_i32_15297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15296 : BitVec 32 := 1#32
  let v11147 : BitVec 32 := Scalar.muli v88 c1_i32_15296
  let v11148 : BitVec 32 := Scalar.addi c0_i32_15297 v11147
  v11148.toNat
def k0_dev531 (d0 : Dev nD) : Nat :=
  let c0_i32_15324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15323 : BitVec 32 := 1#32
  let v11159 : BitVec 32 := Scalar.muli v88 c1_i32_15323
  let v11160 : BitVec 32 := Scalar.addi c0_i32_15324 v11159
  v11160.toNat
def k0_dev532 (d0 : Dev nD) : Nat :=
  let c0_i32_15354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15353 : BitVec 32 := 1#32
  let v11185 : BitVec 32 := Scalar.muli v126 c1_i32_15353
  let v11186 : BitVec 32 := Scalar.addi c0_i32_15354 v11185
  v11186.toNat
def k0_dev533 (d0 : Dev nD) : Nat :=
  let c0_i32_15381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15380 : BitVec 32 := 1#32
  let v11197 : BitVec 32 := Scalar.muli v126 c1_i32_15380
  let v11198 : BitVec 32 := Scalar.addi c0_i32_15381 v11197
  v11198.toNat
def k0_dev534 (d0 : Dev nD) : Nat :=
  let c0_i32_15410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15409 : BitVec 32 := 1#32
  let v11222 : BitVec 32 := Scalar.muli v88 c1_i32_15409
  let v11223 : BitVec 32 := Scalar.addi c0_i32_15410 v11222
  v11223.toNat
def k0_dev535 (d0 : Dev nD) : Nat :=
  let c0_i32_15437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15436 : BitVec 32 := 1#32
  let v11234 : BitVec 32 := Scalar.muli v88 c1_i32_15436
  let v11235 : BitVec 32 := Scalar.addi c0_i32_15437 v11234
  v11235.toNat
def k0_dev536 (d0 : Dev nD) : Nat :=
  let c0_i32_15467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15466 : BitVec 32 := 1#32
  let v11260 : BitVec 32 := Scalar.muli v126 c1_i32_15466
  let v11261 : BitVec 32 := Scalar.addi c0_i32_15467 v11260
  v11261.toNat
def k0_dev537 (d0 : Dev nD) : Nat :=
  let c0_i32_15494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15493 : BitVec 32 := 1#32
  let v11272 : BitVec 32 := Scalar.muli v126 c1_i32_15493
  let v11273 : BitVec 32 := Scalar.addi c0_i32_15494 v11272
  v11273.toNat
def k0_dev538 (d0 : Dev nD) : Nat :=
  let c0_i32_15523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15522 : BitVec 32 := 1#32
  let v11297 : BitVec 32 := Scalar.muli v88 c1_i32_15522
  let v11298 : BitVec 32 := Scalar.addi c0_i32_15523 v11297
  v11298.toNat
def k0_dev539 (d0 : Dev nD) : Nat :=
  let c0_i32_15550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15549 : BitVec 32 := 1#32
  let v11309 : BitVec 32 := Scalar.muli v88 c1_i32_15549
  let v11310 : BitVec 32 := Scalar.addi c0_i32_15550 v11309
  v11310.toNat
def k0_dev540 (d0 : Dev nD) : Nat :=
  let c0_i32_15580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15579 : BitVec 32 := 1#32
  let v11335 : BitVec 32 := Scalar.muli v126 c1_i32_15579
  let v11336 : BitVec 32 := Scalar.addi c0_i32_15580 v11335
  v11336.toNat
def k0_dev541 (d0 : Dev nD) : Nat :=
  let c0_i32_15607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15606 : BitVec 32 := 1#32
  let v11347 : BitVec 32 := Scalar.muli v126 c1_i32_15606
  let v11348 : BitVec 32 := Scalar.addi c0_i32_15607 v11347
  v11348.toNat
def k0_dev542 (d0 : Dev nD) : Nat :=
  let c0_i32_15636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15635 : BitVec 32 := 1#32
  let v11372 : BitVec 32 := Scalar.muli v88 c1_i32_15635
  let v11373 : BitVec 32 := Scalar.addi c0_i32_15636 v11372
  v11373.toNat
def k0_dev543 (d0 : Dev nD) : Nat :=
  let c0_i32_15663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15662 : BitVec 32 := 1#32
  let v11384 : BitVec 32 := Scalar.muli v88 c1_i32_15662
  let v11385 : BitVec 32 := Scalar.addi c0_i32_15663 v11384
  v11385.toNat
def k0_dev544 (d0 : Dev nD) : Nat :=
  let c0_i32_15693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15692 : BitVec 32 := 1#32
  let v11410 : BitVec 32 := Scalar.muli v126 c1_i32_15692
  let v11411 : BitVec 32 := Scalar.addi c0_i32_15693 v11410
  v11411.toNat
def k0_dev545 (d0 : Dev nD) : Nat :=
  let c0_i32_15720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15719 : BitVec 32 := 1#32
  let v11422 : BitVec 32 := Scalar.muli v126 c1_i32_15719
  let v11423 : BitVec 32 := Scalar.addi c0_i32_15720 v11422
  v11423.toNat
def k0_dev546 (d0 : Dev nD) : Nat :=
  let c0_i32_15749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15748 : BitVec 32 := 1#32
  let v11447 : BitVec 32 := Scalar.muli v88 c1_i32_15748
  let v11448 : BitVec 32 := Scalar.addi c0_i32_15749 v11447
  v11448.toNat
def k0_dev547 (d0 : Dev nD) : Nat :=
  let c0_i32_15776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15775 : BitVec 32 := 1#32
  let v11459 : BitVec 32 := Scalar.muli v88 c1_i32_15775
  let v11460 : BitVec 32 := Scalar.addi c0_i32_15776 v11459
  v11460.toNat
def k0_dev548 (d0 : Dev nD) : Nat :=
  let c0_i32_15806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15805 : BitVec 32 := 1#32
  let v11485 : BitVec 32 := Scalar.muli v126 c1_i32_15805
  let v11486 : BitVec 32 := Scalar.addi c0_i32_15806 v11485
  v11486.toNat
def k0_dev549 (d0 : Dev nD) : Nat :=
  let c0_i32_15833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15832 : BitVec 32 := 1#32
  let v11497 : BitVec 32 := Scalar.muli v126 c1_i32_15832
  let v11498 : BitVec 32 := Scalar.addi c0_i32_15833 v11497
  v11498.toNat
def k0_dev550 (d0 : Dev nD) : Nat :=
  let c0_i32_15862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15861 : BitVec 32 := 1#32
  let v11522 : BitVec 32 := Scalar.muli v88 c1_i32_15861
  let v11523 : BitVec 32 := Scalar.addi c0_i32_15862 v11522
  v11523.toNat
def k0_dev551 (d0 : Dev nD) : Nat :=
  let c0_i32_15889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15888 : BitVec 32 := 1#32
  let v11534 : BitVec 32 := Scalar.muli v88 c1_i32_15888
  let v11535 : BitVec 32 := Scalar.addi c0_i32_15889 v11534
  v11535.toNat
def k0_dev552 (d0 : Dev nD) : Nat :=
  let c0_i32_15919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15918 : BitVec 32 := 1#32
  let v11560 : BitVec 32 := Scalar.muli v126 c1_i32_15918
  let v11561 : BitVec 32 := Scalar.addi c0_i32_15919 v11560
  v11561.toNat
def k0_dev553 (d0 : Dev nD) : Nat :=
  let c0_i32_15946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_15945 : BitVec 32 := 1#32
  let v11572 : BitVec 32 := Scalar.muli v126 c1_i32_15945
  let v11573 : BitVec 32 := Scalar.addi c0_i32_15946 v11572
  v11573.toNat
def k0_dev554 (d0 : Dev nD) : Nat :=
  let c0_i32_15975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_15974 : BitVec 32 := 1#32
  let v11597 : BitVec 32 := Scalar.muli v88 c1_i32_15974
  let v11598 : BitVec 32 := Scalar.addi c0_i32_15975 v11597
  v11598.toNat
def k0_dev555 (d0 : Dev nD) : Nat :=
  let c0_i32_16002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16001 : BitVec 32 := 1#32
  let v11609 : BitVec 32 := Scalar.muli v88 c1_i32_16001
  let v11610 : BitVec 32 := Scalar.addi c0_i32_16002 v11609
  v11610.toNat
def k0_dev556 (d0 : Dev nD) : Nat :=
  let c0_i32_16032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16031 : BitVec 32 := 1#32
  let v11635 : BitVec 32 := Scalar.muli v126 c1_i32_16031
  let v11636 : BitVec 32 := Scalar.addi c0_i32_16032 v11635
  v11636.toNat
def k0_dev557 (d0 : Dev nD) : Nat :=
  let c0_i32_16059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16058 : BitVec 32 := 1#32
  let v11647 : BitVec 32 := Scalar.muli v126 c1_i32_16058
  let v11648 : BitVec 32 := Scalar.addi c0_i32_16059 v11647
  v11648.toNat
def k0_dev558 (d0 : Dev nD) : Nat :=
  let c0_i32_16088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16087 : BitVec 32 := 1#32
  let v11672 : BitVec 32 := Scalar.muli v88 c1_i32_16087
  let v11673 : BitVec 32 := Scalar.addi c0_i32_16088 v11672
  v11673.toNat
def k0_dev559 (d0 : Dev nD) : Nat :=
  let c0_i32_16115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16114 : BitVec 32 := 1#32
  let v11684 : BitVec 32 := Scalar.muli v88 c1_i32_16114
  let v11685 : BitVec 32 := Scalar.addi c0_i32_16115 v11684
  v11685.toNat
def k0_dev560 (d0 : Dev nD) : Nat :=
  let c0_i32_16145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16144 : BitVec 32 := 1#32
  let v11710 : BitVec 32 := Scalar.muli v126 c1_i32_16144
  let v11711 : BitVec 32 := Scalar.addi c0_i32_16145 v11710
  v11711.toNat
def k0_dev561 (d0 : Dev nD) : Nat :=
  let c0_i32_16172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16171 : BitVec 32 := 1#32
  let v11722 : BitVec 32 := Scalar.muli v126 c1_i32_16171
  let v11723 : BitVec 32 := Scalar.addi c0_i32_16172 v11722
  v11723.toNat
def k0_dev562 (d0 : Dev nD) : Nat :=
  let c0_i32_16201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16200 : BitVec 32 := 1#32
  let v11747 : BitVec 32 := Scalar.muli v88 c1_i32_16200
  let v11748 : BitVec 32 := Scalar.addi c0_i32_16201 v11747
  v11748.toNat
def k0_dev563 (d0 : Dev nD) : Nat :=
  let c0_i32_16228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16227 : BitVec 32 := 1#32
  let v11759 : BitVec 32 := Scalar.muli v88 c1_i32_16227
  let v11760 : BitVec 32 := Scalar.addi c0_i32_16228 v11759
  v11760.toNat
def k0_dev564 (d0 : Dev nD) : Nat :=
  let c0_i32_16258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16257 : BitVec 32 := 1#32
  let v11785 : BitVec 32 := Scalar.muli v126 c1_i32_16257
  let v11786 : BitVec 32 := Scalar.addi c0_i32_16258 v11785
  v11786.toNat
def k0_dev565 (d0 : Dev nD) : Nat :=
  let c0_i32_16285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16284 : BitVec 32 := 1#32
  let v11797 : BitVec 32 := Scalar.muli v126 c1_i32_16284
  let v11798 : BitVec 32 := Scalar.addi c0_i32_16285 v11797
  v11798.toNat
def k0_dev566 (d0 : Dev nD) : Nat :=
  let c0_i32_16314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16313 : BitVec 32 := 1#32
  let v11822 : BitVec 32 := Scalar.muli v88 c1_i32_16313
  let v11823 : BitVec 32 := Scalar.addi c0_i32_16314 v11822
  v11823.toNat
def k0_dev567 (d0 : Dev nD) : Nat :=
  let c0_i32_16341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16340 : BitVec 32 := 1#32
  let v11834 : BitVec 32 := Scalar.muli v88 c1_i32_16340
  let v11835 : BitVec 32 := Scalar.addi c0_i32_16341 v11834
  v11835.toNat
def k0_dev568 (d0 : Dev nD) : Nat :=
  let c0_i32_16371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16370 : BitVec 32 := 1#32
  let v11860 : BitVec 32 := Scalar.muli v126 c1_i32_16370
  let v11861 : BitVec 32 := Scalar.addi c0_i32_16371 v11860
  v11861.toNat
def k0_dev569 (d0 : Dev nD) : Nat :=
  let c0_i32_16398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16397 : BitVec 32 := 1#32
  let v11872 : BitVec 32 := Scalar.muli v126 c1_i32_16397
  let v11873 : BitVec 32 := Scalar.addi c0_i32_16398 v11872
  v11873.toNat
def k0_dev570 (d0 : Dev nD) : Nat :=
  let c0_i32_16427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16426 : BitVec 32 := 1#32
  let v11897 : BitVec 32 := Scalar.muli v88 c1_i32_16426
  let v11898 : BitVec 32 := Scalar.addi c0_i32_16427 v11897
  v11898.toNat
def k0_dev571 (d0 : Dev nD) : Nat :=
  let c0_i32_16454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16453 : BitVec 32 := 1#32
  let v11909 : BitVec 32 := Scalar.muli v88 c1_i32_16453
  let v11910 : BitVec 32 := Scalar.addi c0_i32_16454 v11909
  v11910.toNat
def k0_dev572 (d0 : Dev nD) : Nat :=
  let c0_i32_16484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16483 : BitVec 32 := 1#32
  let v11935 : BitVec 32 := Scalar.muli v126 c1_i32_16483
  let v11936 : BitVec 32 := Scalar.addi c0_i32_16484 v11935
  v11936.toNat
def k0_dev573 (d0 : Dev nD) : Nat :=
  let c0_i32_16511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16510 : BitVec 32 := 1#32
  let v11947 : BitVec 32 := Scalar.muli v126 c1_i32_16510
  let v11948 : BitVec 32 := Scalar.addi c0_i32_16511 v11947
  v11948.toNat
def k0_dev574 (d0 : Dev nD) : Nat :=
  let c0_i32_16540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16539 : BitVec 32 := 1#32
  let v11972 : BitVec 32 := Scalar.muli v88 c1_i32_16539
  let v11973 : BitVec 32 := Scalar.addi c0_i32_16540 v11972
  v11973.toNat
def k0_dev575 (d0 : Dev nD) : Nat :=
  let c0_i32_16567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16566 : BitVec 32 := 1#32
  let v11984 : BitVec 32 := Scalar.muli v88 c1_i32_16566
  let v11985 : BitVec 32 := Scalar.addi c0_i32_16567 v11984
  v11985.toNat
def k0_dev576 (d0 : Dev nD) : Nat :=
  let c0_i32_16597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16596 : BitVec 32 := 1#32
  let v12010 : BitVec 32 := Scalar.muli v126 c1_i32_16596
  let v12011 : BitVec 32 := Scalar.addi c0_i32_16597 v12010
  v12011.toNat
def k0_dev577 (d0 : Dev nD) : Nat :=
  let c0_i32_16624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16623 : BitVec 32 := 1#32
  let v12022 : BitVec 32 := Scalar.muli v126 c1_i32_16623
  let v12023 : BitVec 32 := Scalar.addi c0_i32_16624 v12022
  v12023.toNat
def k0_dev578 (d0 : Dev nD) : Nat :=
  let c0_i32_16653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16652 : BitVec 32 := 1#32
  let v12047 : BitVec 32 := Scalar.muli v88 c1_i32_16652
  let v12048 : BitVec 32 := Scalar.addi c0_i32_16653 v12047
  v12048.toNat
def k0_dev579 (d0 : Dev nD) : Nat :=
  let c0_i32_16680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16679 : BitVec 32 := 1#32
  let v12059 : BitVec 32 := Scalar.muli v88 c1_i32_16679
  let v12060 : BitVec 32 := Scalar.addi c0_i32_16680 v12059
  v12060.toNat
def k0_dev580 (d0 : Dev nD) : Nat :=
  let c0_i32_16710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16709 : BitVec 32 := 1#32
  let v12085 : BitVec 32 := Scalar.muli v126 c1_i32_16709
  let v12086 : BitVec 32 := Scalar.addi c0_i32_16710 v12085
  v12086.toNat
def k0_dev581 (d0 : Dev nD) : Nat :=
  let c0_i32_16737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16736 : BitVec 32 := 1#32
  let v12097 : BitVec 32 := Scalar.muli v126 c1_i32_16736
  let v12098 : BitVec 32 := Scalar.addi c0_i32_16737 v12097
  v12098.toNat
def k0_dev582 (d0 : Dev nD) : Nat :=
  let c0_i32_16766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16765 : BitVec 32 := 1#32
  let v12122 : BitVec 32 := Scalar.muli v88 c1_i32_16765
  let v12123 : BitVec 32 := Scalar.addi c0_i32_16766 v12122
  v12123.toNat
def k0_dev583 (d0 : Dev nD) : Nat :=
  let c0_i32_16793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16792 : BitVec 32 := 1#32
  let v12134 : BitVec 32 := Scalar.muli v88 c1_i32_16792
  let v12135 : BitVec 32 := Scalar.addi c0_i32_16793 v12134
  v12135.toNat
def k0_dev584 (d0 : Dev nD) : Nat :=
  let c0_i32_16823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16822 : BitVec 32 := 1#32
  let v12160 : BitVec 32 := Scalar.muli v126 c1_i32_16822
  let v12161 : BitVec 32 := Scalar.addi c0_i32_16823 v12160
  v12161.toNat
def k0_dev585 (d0 : Dev nD) : Nat :=
  let c0_i32_16850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16849 : BitVec 32 := 1#32
  let v12172 : BitVec 32 := Scalar.muli v126 c1_i32_16849
  let v12173 : BitVec 32 := Scalar.addi c0_i32_16850 v12172
  v12173.toNat
def k0_dev586 (d0 : Dev nD) : Nat :=
  let c0_i32_16879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16878 : BitVec 32 := 1#32
  let v12197 : BitVec 32 := Scalar.muli v88 c1_i32_16878
  let v12198 : BitVec 32 := Scalar.addi c0_i32_16879 v12197
  v12198.toNat
def k0_dev587 (d0 : Dev nD) : Nat :=
  let c0_i32_16906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16905 : BitVec 32 := 1#32
  let v12209 : BitVec 32 := Scalar.muli v88 c1_i32_16905
  let v12210 : BitVec 32 := Scalar.addi c0_i32_16906 v12209
  v12210.toNat
def k0_dev588 (d0 : Dev nD) : Nat :=
  let c0_i32_16936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16935 : BitVec 32 := 1#32
  let v12235 : BitVec 32 := Scalar.muli v126 c1_i32_16935
  let v12236 : BitVec 32 := Scalar.addi c0_i32_16936 v12235
  v12236.toNat
def k0_dev589 (d0 : Dev nD) : Nat :=
  let c0_i32_16963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_16962 : BitVec 32 := 1#32
  let v12247 : BitVec 32 := Scalar.muli v126 c1_i32_16962
  let v12248 : BitVec 32 := Scalar.addi c0_i32_16963 v12247
  v12248.toNat
def k0_dev590 (d0 : Dev nD) : Nat :=
  let c0_i32_16992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_16991 : BitVec 32 := 1#32
  let v12272 : BitVec 32 := Scalar.muli v88 c1_i32_16991
  let v12273 : BitVec 32 := Scalar.addi c0_i32_16992 v12272
  v12273.toNat

variable {F : FTy → Type} [FloatOps F]

def k0_dev591 (d0 : Dev nD) : Nat :=
  let c0_i32_17019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17018 : BitVec 32 := 1#32
  let v12284 : BitVec 32 := Scalar.muli v88 c1_i32_17018
  let v12285 : BitVec 32 := Scalar.addi c0_i32_17019 v12284
  v12285.toNat
def k0_dev592 (d0 : Dev nD) : Nat :=
  let c0_i32_17049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17048 : BitVec 32 := 1#32
  let v12310 : BitVec 32 := Scalar.muli v126 c1_i32_17048
  let v12311 : BitVec 32 := Scalar.addi c0_i32_17049 v12310
  v12311.toNat
def k0_dev593 (d0 : Dev nD) : Nat :=
  let c0_i32_17076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17075 : BitVec 32 := 1#32
  let v12322 : BitVec 32 := Scalar.muli v126 c1_i32_17075
  let v12323 : BitVec 32 := Scalar.addi c0_i32_17076 v12322
  v12323.toNat
def k0_dev594 (d0 : Dev nD) : Nat :=
  let c0_i32_17105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17104 : BitVec 32 := 1#32
  let v12347 : BitVec 32 := Scalar.muli v88 c1_i32_17104
  let v12348 : BitVec 32 := Scalar.addi c0_i32_17105 v12347
  v12348.toNat
def k0_dev595 (d0 : Dev nD) : Nat :=
  let c0_i32_17132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17131 : BitVec 32 := 1#32
  let v12359 : BitVec 32 := Scalar.muli v88 c1_i32_17131
  let v12360 : BitVec 32 := Scalar.addi c0_i32_17132 v12359
  v12360.toNat
def k0_dev596 (d0 : Dev nD) : Nat :=
  let c0_i32_17162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17161 : BitVec 32 := 1#32
  let v12385 : BitVec 32 := Scalar.muli v126 c1_i32_17161
  let v12386 : BitVec 32 := Scalar.addi c0_i32_17162 v12385
  v12386.toNat
def k0_dev597 (d0 : Dev nD) : Nat :=
  let c0_i32_17189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17188 : BitVec 32 := 1#32
  let v12397 : BitVec 32 := Scalar.muli v126 c1_i32_17188
  let v12398 : BitVec 32 := Scalar.addi c0_i32_17189 v12397
  v12398.toNat
def k0_dev598 (d0 : Dev nD) : Nat :=
  let c0_i32_17218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17217 : BitVec 32 := 1#32
  let v12422 : BitVec 32 := Scalar.muli v88 c1_i32_17217
  let v12423 : BitVec 32 := Scalar.addi c0_i32_17218 v12422
  v12423.toNat
def k0_dev599 (d0 : Dev nD) : Nat :=
  let c0_i32_17245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17244 : BitVec 32 := 1#32
  let v12434 : BitVec 32 := Scalar.muli v88 c1_i32_17244
  let v12435 : BitVec 32 := Scalar.addi c0_i32_17245 v12434
  v12435.toNat
def k0_dev600 (d0 : Dev nD) : Nat :=
  let c0_i32_17275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17274 : BitVec 32 := 1#32
  let v12460 : BitVec 32 := Scalar.muli v126 c1_i32_17274
  let v12461 : BitVec 32 := Scalar.addi c0_i32_17275 v12460
  v12461.toNat
def k0_dev601 (d0 : Dev nD) : Nat :=
  let c0_i32_17302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17301 : BitVec 32 := 1#32
  let v12472 : BitVec 32 := Scalar.muli v126 c1_i32_17301
  let v12473 : BitVec 32 := Scalar.addi c0_i32_17302 v12472
  v12473.toNat
def k0_dev602 (d0 : Dev nD) : Nat :=
  let c0_i32_17331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17330 : BitVec 32 := 1#32
  let v12497 : BitVec 32 := Scalar.muli v88 c1_i32_17330
  let v12498 : BitVec 32 := Scalar.addi c0_i32_17331 v12497
  v12498.toNat
def k0_dev603 (d0 : Dev nD) : Nat :=
  let c0_i32_17358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17357 : BitVec 32 := 1#32
  let v12509 : BitVec 32 := Scalar.muli v88 c1_i32_17357
  let v12510 : BitVec 32 := Scalar.addi c0_i32_17358 v12509
  v12510.toNat
def k0_dev604 (d0 : Dev nD) : Nat :=
  let c0_i32_17388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17387 : BitVec 32 := 1#32
  let v12535 : BitVec 32 := Scalar.muli v126 c1_i32_17387
  let v12536 : BitVec 32 := Scalar.addi c0_i32_17388 v12535
  v12536.toNat
def k0_dev605 (d0 : Dev nD) : Nat :=
  let c0_i32_17415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17414 : BitVec 32 := 1#32
  let v12547 : BitVec 32 := Scalar.muli v126 c1_i32_17414
  let v12548 : BitVec 32 := Scalar.addi c0_i32_17415 v12547
  v12548.toNat
def k0_dev606 (d0 : Dev nD) : Nat :=
  let c0_i32_17444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17443 : BitVec 32 := 1#32
  let v12572 : BitVec 32 := Scalar.muli v88 c1_i32_17443
  let v12573 : BitVec 32 := Scalar.addi c0_i32_17444 v12572
  v12573.toNat
def k0_dev607 (d0 : Dev nD) : Nat :=
  let c0_i32_17471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17470 : BitVec 32 := 1#32
  let v12584 : BitVec 32 := Scalar.muli v88 c1_i32_17470
  let v12585 : BitVec 32 := Scalar.addi c0_i32_17471 v12584
  v12585.toNat
def k0_dev608 (d0 : Dev nD) : Nat :=
  let c0_i32_17501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17500 : BitVec 32 := 1#32
  let v12610 : BitVec 32 := Scalar.muli v126 c1_i32_17500
  let v12611 : BitVec 32 := Scalar.addi c0_i32_17501 v12610
  v12611.toNat
def k0_dev609 (d0 : Dev nD) : Nat :=
  let c0_i32_17528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17527 : BitVec 32 := 1#32
  let v12622 : BitVec 32 := Scalar.muli v126 c1_i32_17527
  let v12623 : BitVec 32 := Scalar.addi c0_i32_17528 v12622
  v12623.toNat
def k0_dev610 (d0 : Dev nD) : Nat :=
  let c0_i32_17557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17556 : BitVec 32 := 1#32
  let v12647 : BitVec 32 := Scalar.muli v88 c1_i32_17556
  let v12648 : BitVec 32 := Scalar.addi c0_i32_17557 v12647
  v12648.toNat
def k0_dev611 (d0 : Dev nD) : Nat :=
  let c0_i32_17584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17583 : BitVec 32 := 1#32
  let v12659 : BitVec 32 := Scalar.muli v88 c1_i32_17583
  let v12660 : BitVec 32 := Scalar.addi c0_i32_17584 v12659
  v12660.toNat
def k0_dev612 (d0 : Dev nD) : Nat :=
  let c0_i32_17614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17613 : BitVec 32 := 1#32
  let v12685 : BitVec 32 := Scalar.muli v126 c1_i32_17613
  let v12686 : BitVec 32 := Scalar.addi c0_i32_17614 v12685
  v12686.toNat
def k0_dev613 (d0 : Dev nD) : Nat :=
  let c0_i32_17641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17640 : BitVec 32 := 1#32
  let v12697 : BitVec 32 := Scalar.muli v126 c1_i32_17640
  let v12698 : BitVec 32 := Scalar.addi c0_i32_17641 v12697
  v12698.toNat
def k0_dev614 (d0 : Dev nD) : Nat :=
  let c0_i32_17670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17669 : BitVec 32 := 1#32
  let v12722 : BitVec 32 := Scalar.muli v88 c1_i32_17669
  let v12723 : BitVec 32 := Scalar.addi c0_i32_17670 v12722
  v12723.toNat
def k0_dev615 (d0 : Dev nD) : Nat :=
  let c0_i32_17697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17696 : BitVec 32 := 1#32
  let v12734 : BitVec 32 := Scalar.muli v88 c1_i32_17696
  let v12735 : BitVec 32 := Scalar.addi c0_i32_17697 v12734
  v12735.toNat
def k0_dev616 (d0 : Dev nD) : Nat :=
  let c0_i32_17727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17726 : BitVec 32 := 1#32
  let v12760 : BitVec 32 := Scalar.muli v126 c1_i32_17726
  let v12761 : BitVec 32 := Scalar.addi c0_i32_17727 v12760
  v12761.toNat
def k0_dev617 (d0 : Dev nD) : Nat :=
  let c0_i32_17754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17753 : BitVec 32 := 1#32
  let v12772 : BitVec 32 := Scalar.muli v126 c1_i32_17753
  let v12773 : BitVec 32 := Scalar.addi c0_i32_17754 v12772
  v12773.toNat
def k0_dev618 (d0 : Dev nD) : Nat :=
  let c0_i32_17783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17782 : BitVec 32 := 1#32
  let v12797 : BitVec 32 := Scalar.muli v88 c1_i32_17782
  let v12798 : BitVec 32 := Scalar.addi c0_i32_17783 v12797
  v12798.toNat
def k0_dev619 (d0 : Dev nD) : Nat :=
  let c0_i32_17810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17809 : BitVec 32 := 1#32
  let v12809 : BitVec 32 := Scalar.muli v88 c1_i32_17809
  let v12810 : BitVec 32 := Scalar.addi c0_i32_17810 v12809
  v12810.toNat
def k0_dev620 (d0 : Dev nD) : Nat :=
  let c0_i32_17840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17839 : BitVec 32 := 1#32
  let v12835 : BitVec 32 := Scalar.muli v126 c1_i32_17839
  let v12836 : BitVec 32 := Scalar.addi c0_i32_17840 v12835
  v12836.toNat
def k0_dev621 (d0 : Dev nD) : Nat :=
  let c0_i32_17867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17866 : BitVec 32 := 1#32
  let v12847 : BitVec 32 := Scalar.muli v126 c1_i32_17866
  let v12848 : BitVec 32 := Scalar.addi c0_i32_17867 v12847
  v12848.toNat
def k0_dev622 (d0 : Dev nD) : Nat :=
  let c0_i32_17896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17895 : BitVec 32 := 1#32
  let v12872 : BitVec 32 := Scalar.muli v88 c1_i32_17895
  let v12873 : BitVec 32 := Scalar.addi c0_i32_17896 v12872
  v12873.toNat
def k0_dev623 (d0 : Dev nD) : Nat :=
  let c0_i32_17923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_17922 : BitVec 32 := 1#32
  let v12884 : BitVec 32 := Scalar.muli v88 c1_i32_17922
  let v12885 : BitVec 32 := Scalar.addi c0_i32_17923 v12884
  v12885.toNat
def k0_dev624 (d0 : Dev nD) : Nat :=
  let c0_i32_17953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17952 : BitVec 32 := 1#32
  let v12910 : BitVec 32 := Scalar.muli v126 c1_i32_17952
  let v12911 : BitVec 32 := Scalar.addi c0_i32_17953 v12910
  v12911.toNat
def k0_dev625 (d0 : Dev nD) : Nat :=
  let c0_i32_17980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_17979 : BitVec 32 := 1#32
  let v12922 : BitVec 32 := Scalar.muli v126 c1_i32_17979
  let v12923 : BitVec 32 := Scalar.addi c0_i32_17980 v12922
  v12923.toNat
def k0_dev626 (d0 : Dev nD) : Nat :=
  let c0_i32_18009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18008 : BitVec 32 := 1#32
  let v12947 : BitVec 32 := Scalar.muli v88 c1_i32_18008
  let v12948 : BitVec 32 := Scalar.addi c0_i32_18009 v12947
  v12948.toNat
def k0_dev627 (d0 : Dev nD) : Nat :=
  let c0_i32_18036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18035 : BitVec 32 := 1#32
  let v12959 : BitVec 32 := Scalar.muli v88 c1_i32_18035
  let v12960 : BitVec 32 := Scalar.addi c0_i32_18036 v12959
  v12960.toNat
def k0_dev628 (d0 : Dev nD) : Nat :=
  let c0_i32_18066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18065 : BitVec 32 := 1#32
  let v12985 : BitVec 32 := Scalar.muli v126 c1_i32_18065
  let v12986 : BitVec 32 := Scalar.addi c0_i32_18066 v12985
  v12986.toNat
def k0_dev629 (d0 : Dev nD) : Nat :=
  let c0_i32_18093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18092 : BitVec 32 := 1#32
  let v12997 : BitVec 32 := Scalar.muli v126 c1_i32_18092
  let v12998 : BitVec 32 := Scalar.addi c0_i32_18093 v12997
  v12998.toNat
def k0_dev630 (d0 : Dev nD) : Nat :=
  let c0_i32_18122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18121 : BitVec 32 := 1#32
  let v13022 : BitVec 32 := Scalar.muli v88 c1_i32_18121
  let v13023 : BitVec 32 := Scalar.addi c0_i32_18122 v13022
  v13023.toNat
def k0_dev631 (d0 : Dev nD) : Nat :=
  let c0_i32_18149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18148 : BitVec 32 := 1#32
  let v13034 : BitVec 32 := Scalar.muli v88 c1_i32_18148
  let v13035 : BitVec 32 := Scalar.addi c0_i32_18149 v13034
  v13035.toNat
def k0_dev632 (d0 : Dev nD) : Nat :=
  let c0_i32_18179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18178 : BitVec 32 := 1#32
  let v13060 : BitVec 32 := Scalar.muli v126 c1_i32_18178
  let v13061 : BitVec 32 := Scalar.addi c0_i32_18179 v13060
  v13061.toNat
def k0_dev633 (d0 : Dev nD) : Nat :=
  let c0_i32_18206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18205 : BitVec 32 := 1#32
  let v13072 : BitVec 32 := Scalar.muli v126 c1_i32_18205
  let v13073 : BitVec 32 := Scalar.addi c0_i32_18206 v13072
  v13073.toNat
def k0_dev634 (d0 : Dev nD) : Nat :=
  let c0_i32_18235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18234 : BitVec 32 := 1#32
  let v13097 : BitVec 32 := Scalar.muli v88 c1_i32_18234
  let v13098 : BitVec 32 := Scalar.addi c0_i32_18235 v13097
  v13098.toNat
def k0_dev635 (d0 : Dev nD) : Nat :=
  let c0_i32_18262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18261 : BitVec 32 := 1#32
  let v13109 : BitVec 32 := Scalar.muli v88 c1_i32_18261
  let v13110 : BitVec 32 := Scalar.addi c0_i32_18262 v13109
  v13110.toNat
def k0_dev636 (d0 : Dev nD) : Nat :=
  let c0_i32_18292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18291 : BitVec 32 := 1#32
  let v13135 : BitVec 32 := Scalar.muli v126 c1_i32_18291
  let v13136 : BitVec 32 := Scalar.addi c0_i32_18292 v13135
  v13136.toNat
def k0_dev637 (d0 : Dev nD) : Nat :=
  let c0_i32_18319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18318 : BitVec 32 := 1#32
  let v13147 : BitVec 32 := Scalar.muli v126 c1_i32_18318
  let v13148 : BitVec 32 := Scalar.addi c0_i32_18319 v13147
  v13148.toNat
def k0_dev638 (d0 : Dev nD) : Nat :=
  let c0_i32_18348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18347 : BitVec 32 := 1#32
  let v13172 : BitVec 32 := Scalar.muli v88 c1_i32_18347
  let v13173 : BitVec 32 := Scalar.addi c0_i32_18348 v13172
  v13173.toNat
def k0_dev639 (d0 : Dev nD) : Nat :=
  let c0_i32_18375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18374 : BitVec 32 := 1#32
  let v13184 : BitVec 32 := Scalar.muli v88 c1_i32_18374
  let v13185 : BitVec 32 := Scalar.addi c0_i32_18375 v13184
  v13185.toNat
def k0_dev640 (d0 : Dev nD) : Nat :=
  let c0_i32_18405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18404 : BitVec 32 := 1#32
  let v13210 : BitVec 32 := Scalar.muli v126 c1_i32_18404
  let v13211 : BitVec 32 := Scalar.addi c0_i32_18405 v13210
  v13211.toNat
def k0_dev641 (d0 : Dev nD) : Nat :=
  let c0_i32_18432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18431 : BitVec 32 := 1#32
  let v13222 : BitVec 32 := Scalar.muli v126 c1_i32_18431
  let v13223 : BitVec 32 := Scalar.addi c0_i32_18432 v13222
  v13223.toNat
def k0_dev642 (d0 : Dev nD) : Nat :=
  let c0_i32_18461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18460 : BitVec 32 := 1#32
  let v13247 : BitVec 32 := Scalar.muli v88 c1_i32_18460
  let v13248 : BitVec 32 := Scalar.addi c0_i32_18461 v13247
  v13248.toNat
def k0_dev643 (d0 : Dev nD) : Nat :=
  let c0_i32_18488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18487 : BitVec 32 := 1#32
  let v13259 : BitVec 32 := Scalar.muli v88 c1_i32_18487
  let v13260 : BitVec 32 := Scalar.addi c0_i32_18488 v13259
  v13260.toNat
def k0_dev644 (d0 : Dev nD) : Nat :=
  let c0_i32_18518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18517 : BitVec 32 := 1#32
  let v13285 : BitVec 32 := Scalar.muli v126 c1_i32_18517
  let v13286 : BitVec 32 := Scalar.addi c0_i32_18518 v13285
  v13286.toNat
def k0_dev645 (d0 : Dev nD) : Nat :=
  let c0_i32_18545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18544 : BitVec 32 := 1#32
  let v13297 : BitVec 32 := Scalar.muli v126 c1_i32_18544
  let v13298 : BitVec 32 := Scalar.addi c0_i32_18545 v13297
  v13298.toNat
def k0_dev646 (d0 : Dev nD) : Nat :=
  let c0_i32_18574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18573 : BitVec 32 := 1#32
  let v13322 : BitVec 32 := Scalar.muli v88 c1_i32_18573
  let v13323 : BitVec 32 := Scalar.addi c0_i32_18574 v13322
  v13323.toNat
def k0_dev647 (d0 : Dev nD) : Nat :=
  let c0_i32_18601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18600 : BitVec 32 := 1#32
  let v13334 : BitVec 32 := Scalar.muli v88 c1_i32_18600
  let v13335 : BitVec 32 := Scalar.addi c0_i32_18601 v13334
  v13335.toNat
def k0_dev648 (d0 : Dev nD) : Nat :=
  let c0_i32_18631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18630 : BitVec 32 := 1#32
  let v13360 : BitVec 32 := Scalar.muli v126 c1_i32_18630
  let v13361 : BitVec 32 := Scalar.addi c0_i32_18631 v13360
  v13361.toNat
def k0_dev649 (d0 : Dev nD) : Nat :=
  let c0_i32_18658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18657 : BitVec 32 := 1#32
  let v13372 : BitVec 32 := Scalar.muli v126 c1_i32_18657
  let v13373 : BitVec 32 := Scalar.addi c0_i32_18658 v13372
  v13373.toNat
def k0_dev650 (d0 : Dev nD) : Nat :=
  let c0_i32_18687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18686 : BitVec 32 := 1#32
  let v13397 : BitVec 32 := Scalar.muli v88 c1_i32_18686
  let v13398 : BitVec 32 := Scalar.addi c0_i32_18687 v13397
  v13398.toNat
def k0_dev651 (d0 : Dev nD) : Nat :=
  let c0_i32_18714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18713 : BitVec 32 := 1#32
  let v13409 : BitVec 32 := Scalar.muli v88 c1_i32_18713
  let v13410 : BitVec 32 := Scalar.addi c0_i32_18714 v13409
  v13410.toNat
def k0_dev652 (d0 : Dev nD) : Nat :=
  let c0_i32_18744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18743 : BitVec 32 := 1#32
  let v13435 : BitVec 32 := Scalar.muli v126 c1_i32_18743
  let v13436 : BitVec 32 := Scalar.addi c0_i32_18744 v13435
  v13436.toNat
def k0_dev653 (d0 : Dev nD) : Nat :=
  let c0_i32_18771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18770 : BitVec 32 := 1#32
  let v13447 : BitVec 32 := Scalar.muli v126 c1_i32_18770
  let v13448 : BitVec 32 := Scalar.addi c0_i32_18771 v13447
  v13448.toNat
def k0_dev654 (d0 : Dev nD) : Nat :=
  let c0_i32_18800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18799 : BitVec 32 := 1#32
  let v13472 : BitVec 32 := Scalar.muli v88 c1_i32_18799
  let v13473 : BitVec 32 := Scalar.addi c0_i32_18800 v13472
  v13473.toNat
def k0_dev655 (d0 : Dev nD) : Nat :=
  let c0_i32_18827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18826 : BitVec 32 := 1#32
  let v13484 : BitVec 32 := Scalar.muli v88 c1_i32_18826
  let v13485 : BitVec 32 := Scalar.addi c0_i32_18827 v13484
  v13485.toNat
def k0_dev656 (d0 : Dev nD) : Nat :=
  let c0_i32_18857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18856 : BitVec 32 := 1#32
  let v13510 : BitVec 32 := Scalar.muli v126 c1_i32_18856
  let v13511 : BitVec 32 := Scalar.addi c0_i32_18857 v13510
  v13511.toNat
def k0_dev657 (d0 : Dev nD) : Nat :=
  let c0_i32_18884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18883 : BitVec 32 := 1#32
  let v13522 : BitVec 32 := Scalar.muli v126 c1_i32_18883
  let v13523 : BitVec 32 := Scalar.addi c0_i32_18884 v13522
  v13523.toNat
def k0_dev658 (d0 : Dev nD) : Nat :=
  let c0_i32_18913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18912 : BitVec 32 := 1#32
  let v13547 : BitVec 32 := Scalar.muli v88 c1_i32_18912
  let v13548 : BitVec 32 := Scalar.addi c0_i32_18913 v13547
  v13548.toNat
def k0_dev659 (d0 : Dev nD) : Nat :=
  let c0_i32_18940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_18939 : BitVec 32 := 1#32
  let v13559 : BitVec 32 := Scalar.muli v88 c1_i32_18939
  let v13560 : BitVec 32 := Scalar.addi c0_i32_18940 v13559
  v13560.toNat
def k0_dev660 (d0 : Dev nD) : Nat :=
  let c0_i32_18970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18969 : BitVec 32 := 1#32
  let v13585 : BitVec 32 := Scalar.muli v126 c1_i32_18969
  let v13586 : BitVec 32 := Scalar.addi c0_i32_18970 v13585
  v13586.toNat
def k0_dev661 (d0 : Dev nD) : Nat :=
  let c0_i32_18997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_18996 : BitVec 32 := 1#32
  let v13597 : BitVec 32 := Scalar.muli v126 c1_i32_18996
  let v13598 : BitVec 32 := Scalar.addi c0_i32_18997 v13597
  v13598.toNat
def k0_dev662 (d0 : Dev nD) : Nat :=
  let c0_i32_19026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19025 : BitVec 32 := 1#32
  let v13622 : BitVec 32 := Scalar.muli v88 c1_i32_19025
  let v13623 : BitVec 32 := Scalar.addi c0_i32_19026 v13622
  v13623.toNat
def k0_dev663 (d0 : Dev nD) : Nat :=
  let c0_i32_19053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19052 : BitVec 32 := 1#32
  let v13634 : BitVec 32 := Scalar.muli v88 c1_i32_19052
  let v13635 : BitVec 32 := Scalar.addi c0_i32_19053 v13634
  v13635.toNat
def k0_dev664 (d0 : Dev nD) : Nat :=
  let c0_i32_19083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19082 : BitVec 32 := 1#32
  let v13660 : BitVec 32 := Scalar.muli v126 c1_i32_19082
  let v13661 : BitVec 32 := Scalar.addi c0_i32_19083 v13660
  v13661.toNat
def k0_dev665 (d0 : Dev nD) : Nat :=
  let c0_i32_19110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19109 : BitVec 32 := 1#32
  let v13672 : BitVec 32 := Scalar.muli v126 c1_i32_19109
  let v13673 : BitVec 32 := Scalar.addi c0_i32_19110 v13672
  v13673.toNat
def k0_dev666 (d0 : Dev nD) : Nat :=
  let c0_i32_19139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19138 : BitVec 32 := 1#32
  let v13697 : BitVec 32 := Scalar.muli v88 c1_i32_19138
  let v13698 : BitVec 32 := Scalar.addi c0_i32_19139 v13697
  v13698.toNat
def k0_dev667 (d0 : Dev nD) : Nat :=
  let c0_i32_19166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19165 : BitVec 32 := 1#32
  let v13709 : BitVec 32 := Scalar.muli v88 c1_i32_19165
  let v13710 : BitVec 32 := Scalar.addi c0_i32_19166 v13709
  v13710.toNat
def k0_dev668 (d0 : Dev nD) : Nat :=
  let c0_i32_19196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19195 : BitVec 32 := 1#32
  let v13735 : BitVec 32 := Scalar.muli v126 c1_i32_19195
  let v13736 : BitVec 32 := Scalar.addi c0_i32_19196 v13735
  v13736.toNat
def k0_dev669 (d0 : Dev nD) : Nat :=
  let c0_i32_19223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19222 : BitVec 32 := 1#32
  let v13747 : BitVec 32 := Scalar.muli v126 c1_i32_19222
  let v13748 : BitVec 32 := Scalar.addi c0_i32_19223 v13747
  v13748.toNat
def k0_dev670 (d0 : Dev nD) : Nat :=
  let c0_i32_19252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19251 : BitVec 32 := 1#32
  let v13772 : BitVec 32 := Scalar.muli v88 c1_i32_19251
  let v13773 : BitVec 32 := Scalar.addi c0_i32_19252 v13772
  v13773.toNat
def k0_dev671 (d0 : Dev nD) : Nat :=
  let c0_i32_19279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19278 : BitVec 32 := 1#32
  let v13784 : BitVec 32 := Scalar.muli v88 c1_i32_19278
  let v13785 : BitVec 32 := Scalar.addi c0_i32_19279 v13784
  v13785.toNat
def k0_dev672 (d0 : Dev nD) : Nat :=
  let c0_i32_19309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19308 : BitVec 32 := 1#32
  let v13810 : BitVec 32 := Scalar.muli v126 c1_i32_19308
  let v13811 : BitVec 32 := Scalar.addi c0_i32_19309 v13810
  v13811.toNat
def k0_dev673 (d0 : Dev nD) : Nat :=
  let c0_i32_19336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19335 : BitVec 32 := 1#32
  let v13822 : BitVec 32 := Scalar.muli v126 c1_i32_19335
  let v13823 : BitVec 32 := Scalar.addi c0_i32_19336 v13822
  v13823.toNat
def k0_dev674 (d0 : Dev nD) : Nat :=
  let c0_i32_19365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19364 : BitVec 32 := 1#32
  let v13847 : BitVec 32 := Scalar.muli v88 c1_i32_19364
  let v13848 : BitVec 32 := Scalar.addi c0_i32_19365 v13847
  v13848.toNat
def k0_dev675 (d0 : Dev nD) : Nat :=
  let c0_i32_19392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19391 : BitVec 32 := 1#32
  let v13859 : BitVec 32 := Scalar.muli v88 c1_i32_19391
  let v13860 : BitVec 32 := Scalar.addi c0_i32_19392 v13859
  v13860.toNat
def k0_dev676 (d0 : Dev nD) : Nat :=
  let c0_i32_19422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19421 : BitVec 32 := 1#32
  let v13885 : BitVec 32 := Scalar.muli v126 c1_i32_19421
  let v13886 : BitVec 32 := Scalar.addi c0_i32_19422 v13885
  v13886.toNat
def k0_dev677 (d0 : Dev nD) : Nat :=
  let c0_i32_19449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19448 : BitVec 32 := 1#32
  let v13897 : BitVec 32 := Scalar.muli v126 c1_i32_19448
  let v13898 : BitVec 32 := Scalar.addi c0_i32_19449 v13897
  v13898.toNat
def k0_dev678 (d0 : Dev nD) : Nat :=
  let c0_i32_19478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19477 : BitVec 32 := 1#32
  let v13922 : BitVec 32 := Scalar.muli v88 c1_i32_19477
  let v13923 : BitVec 32 := Scalar.addi c0_i32_19478 v13922
  v13923.toNat
def k0_dev679 (d0 : Dev nD) : Nat :=
  let c0_i32_19505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19504 : BitVec 32 := 1#32
  let v13934 : BitVec 32 := Scalar.muli v88 c1_i32_19504
  let v13935 : BitVec 32 := Scalar.addi c0_i32_19505 v13934
  v13935.toNat
def k0_dev680 (d0 : Dev nD) : Nat :=
  let c0_i32_19535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19534 : BitVec 32 := 1#32
  let v13960 : BitVec 32 := Scalar.muli v126 c1_i32_19534
  let v13961 : BitVec 32 := Scalar.addi c0_i32_19535 v13960
  v13961.toNat
def k0_dev681 (d0 : Dev nD) : Nat :=
  let c0_i32_19562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19561 : BitVec 32 := 1#32
  let v13972 : BitVec 32 := Scalar.muli v126 c1_i32_19561
  let v13973 : BitVec 32 := Scalar.addi c0_i32_19562 v13972
  v13973.toNat
def k0_dev682 (d0 : Dev nD) : Nat :=
  let c0_i32_19591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19590 : BitVec 32 := 1#32
  let v13997 : BitVec 32 := Scalar.muli v88 c1_i32_19590
  let v13998 : BitVec 32 := Scalar.addi c0_i32_19591 v13997
  v13998.toNat
def k0_dev683 (d0 : Dev nD) : Nat :=
  let c0_i32_19618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19617 : BitVec 32 := 1#32
  let v14009 : BitVec 32 := Scalar.muli v88 c1_i32_19617
  let v14010 : BitVec 32 := Scalar.addi c0_i32_19618 v14009
  v14010.toNat
def k0_dev684 (d0 : Dev nD) : Nat :=
  let c0_i32_19648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19647 : BitVec 32 := 1#32
  let v14035 : BitVec 32 := Scalar.muli v126 c1_i32_19647
  let v14036 : BitVec 32 := Scalar.addi c0_i32_19648 v14035
  v14036.toNat
def k0_dev685 (d0 : Dev nD) : Nat :=
  let c0_i32_19675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19674 : BitVec 32 := 1#32
  let v14047 : BitVec 32 := Scalar.muli v126 c1_i32_19674
  let v14048 : BitVec 32 := Scalar.addi c0_i32_19675 v14047
  v14048.toNat
def k0_dev686 (d0 : Dev nD) : Nat :=
  let c0_i32_19704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19703 : BitVec 32 := 1#32
  let v14072 : BitVec 32 := Scalar.muli v88 c1_i32_19703
  let v14073 : BitVec 32 := Scalar.addi c0_i32_19704 v14072
  v14073.toNat
def k0_dev687 (d0 : Dev nD) : Nat :=
  let c0_i32_19731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19730 : BitVec 32 := 1#32
  let v14084 : BitVec 32 := Scalar.muli v88 c1_i32_19730
  let v14085 : BitVec 32 := Scalar.addi c0_i32_19731 v14084
  v14085.toNat
def k0_dev688 (d0 : Dev nD) : Nat :=
  let c0_i32_19761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19760 : BitVec 32 := 1#32
  let v14110 : BitVec 32 := Scalar.muli v126 c1_i32_19760
  let v14111 : BitVec 32 := Scalar.addi c0_i32_19761 v14110
  v14111.toNat
def k0_dev689 (d0 : Dev nD) : Nat :=
  let c0_i32_19788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19787 : BitVec 32 := 1#32
  let v14122 : BitVec 32 := Scalar.muli v126 c1_i32_19787
  let v14123 : BitVec 32 := Scalar.addi c0_i32_19788 v14122
  v14123.toNat
def k0_dev690 (d0 : Dev nD) : Nat :=
  let c0_i32_19817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19816 : BitVec 32 := 1#32
  let v14147 : BitVec 32 := Scalar.muli v88 c1_i32_19816
  let v14148 : BitVec 32 := Scalar.addi c0_i32_19817 v14147
  v14148.toNat
def k0_dev691 (d0 : Dev nD) : Nat :=
  let c0_i32_19844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19843 : BitVec 32 := 1#32
  let v14159 : BitVec 32 := Scalar.muli v88 c1_i32_19843
  let v14160 : BitVec 32 := Scalar.addi c0_i32_19844 v14159
  v14160.toNat
def k0_dev692 (d0 : Dev nD) : Nat :=
  let c0_i32_19874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19873 : BitVec 32 := 1#32
  let v14185 : BitVec 32 := Scalar.muli v126 c1_i32_19873
  let v14186 : BitVec 32 := Scalar.addi c0_i32_19874 v14185
  v14186.toNat
def k0_dev693 (d0 : Dev nD) : Nat :=
  let c0_i32_19901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19900 : BitVec 32 := 1#32
  let v14197 : BitVec 32 := Scalar.muli v126 c1_i32_19900
  let v14198 : BitVec 32 := Scalar.addi c0_i32_19901 v14197
  v14198.toNat
def k0_dev694 (d0 : Dev nD) : Nat :=
  let c0_i32_19930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19929 : BitVec 32 := 1#32
  let v14222 : BitVec 32 := Scalar.muli v88 c1_i32_19929
  let v14223 : BitVec 32 := Scalar.addi c0_i32_19930 v14222
  v14223.toNat
def k0_dev695 (d0 : Dev nD) : Nat :=
  let c0_i32_19957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_19956 : BitVec 32 := 1#32
  let v14234 : BitVec 32 := Scalar.muli v88 c1_i32_19956
  let v14235 : BitVec 32 := Scalar.addi c0_i32_19957 v14234
  v14235.toNat
def k0_dev696 (d0 : Dev nD) : Nat :=
  let c0_i32_19987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_19986 : BitVec 32 := 1#32
  let v14260 : BitVec 32 := Scalar.muli v126 c1_i32_19986
  let v14261 : BitVec 32 := Scalar.addi c0_i32_19987 v14260
  v14261.toNat
def k0_dev697 (d0 : Dev nD) : Nat :=
  let c0_i32_20014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20013 : BitVec 32 := 1#32
  let v14272 : BitVec 32 := Scalar.muli v126 c1_i32_20013
  let v14273 : BitVec 32 := Scalar.addi c0_i32_20014 v14272
  v14273.toNat
def k0_dev698 (d0 : Dev nD) : Nat :=
  let c0_i32_20043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20042 : BitVec 32 := 1#32
  let v14297 : BitVec 32 := Scalar.muli v88 c1_i32_20042
  let v14298 : BitVec 32 := Scalar.addi c0_i32_20043 v14297
  v14298.toNat
def k0_dev699 (d0 : Dev nD) : Nat :=
  let c0_i32_20070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20069 : BitVec 32 := 1#32
  let v14309 : BitVec 32 := Scalar.muli v88 c1_i32_20069
  let v14310 : BitVec 32 := Scalar.addi c0_i32_20070 v14309
  v14310.toNat
def k0_dev700 (d0 : Dev nD) : Nat :=
  let c0_i32_20100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20099 : BitVec 32 := 1#32
  let v14335 : BitVec 32 := Scalar.muli v126 c1_i32_20099
  let v14336 : BitVec 32 := Scalar.addi c0_i32_20100 v14335
  v14336.toNat
def k0_dev701 (d0 : Dev nD) : Nat :=
  let c0_i32_20127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20126 : BitVec 32 := 1#32
  let v14347 : BitVec 32 := Scalar.muli v126 c1_i32_20126
  let v14348 : BitVec 32 := Scalar.addi c0_i32_20127 v14347
  v14348.toNat
def k0_dev702 (d0 : Dev nD) : Nat :=
  let c0_i32_20156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20155 : BitVec 32 := 1#32
  let v14372 : BitVec 32 := Scalar.muli v88 c1_i32_20155
  let v14373 : BitVec 32 := Scalar.addi c0_i32_20156 v14372
  v14373.toNat
def k0_dev703 (d0 : Dev nD) : Nat :=
  let c0_i32_20183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20182 : BitVec 32 := 1#32
  let v14384 : BitVec 32 := Scalar.muli v88 c1_i32_20182
  let v14385 : BitVec 32 := Scalar.addi c0_i32_20183 v14384
  v14385.toNat
def k0_dev704 (d0 : Dev nD) : Nat :=
  let c0_i32_20213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20212 : BitVec 32 := 1#32
  let v14410 : BitVec 32 := Scalar.muli v126 c1_i32_20212
  let v14411 : BitVec 32 := Scalar.addi c0_i32_20213 v14410
  v14411.toNat
def k0_dev705 (d0 : Dev nD) : Nat :=
  let c0_i32_20240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20239 : BitVec 32 := 1#32
  let v14422 : BitVec 32 := Scalar.muli v126 c1_i32_20239
  let v14423 : BitVec 32 := Scalar.addi c0_i32_20240 v14422
  v14423.toNat
def k0_dev706 (d0 : Dev nD) : Nat :=
  let c0_i32_20269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20268 : BitVec 32 := 1#32
  let v14447 : BitVec 32 := Scalar.muli v88 c1_i32_20268
  let v14448 : BitVec 32 := Scalar.addi c0_i32_20269 v14447
  v14448.toNat
def k0_dev707 (d0 : Dev nD) : Nat :=
  let c0_i32_20296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20295 : BitVec 32 := 1#32
  let v14459 : BitVec 32 := Scalar.muli v88 c1_i32_20295
  let v14460 : BitVec 32 := Scalar.addi c0_i32_20296 v14459
  v14460.toNat
def k0_dev708 (d0 : Dev nD) : Nat :=
  let c0_i32_20326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20325 : BitVec 32 := 1#32
  let v14485 : BitVec 32 := Scalar.muli v126 c1_i32_20325
  let v14486 : BitVec 32 := Scalar.addi c0_i32_20326 v14485
  v14486.toNat
def k0_dev709 (d0 : Dev nD) : Nat :=
  let c0_i32_20353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20352 : BitVec 32 := 1#32
  let v14497 : BitVec 32 := Scalar.muli v126 c1_i32_20352
  let v14498 : BitVec 32 := Scalar.addi c0_i32_20353 v14497
  v14498.toNat
def k0_dev710 (d0 : Dev nD) : Nat :=
  let c0_i32_20382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20381 : BitVec 32 := 1#32
  let v14522 : BitVec 32 := Scalar.muli v88 c1_i32_20381
  let v14523 : BitVec 32 := Scalar.addi c0_i32_20382 v14522
  v14523.toNat
def k0_dev711 (d0 : Dev nD) : Nat :=
  let c0_i32_20409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20408 : BitVec 32 := 1#32
  let v14534 : BitVec 32 := Scalar.muli v88 c1_i32_20408
  let v14535 : BitVec 32 := Scalar.addi c0_i32_20409 v14534
  v14535.toNat
def k0_dev712 (d0 : Dev nD) : Nat :=
  let c0_i32_20439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20438 : BitVec 32 := 1#32
  let v14560 : BitVec 32 := Scalar.muli v126 c1_i32_20438
  let v14561 : BitVec 32 := Scalar.addi c0_i32_20439 v14560
  v14561.toNat
def k0_dev713 (d0 : Dev nD) : Nat :=
  let c0_i32_20466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20465 : BitVec 32 := 1#32
  let v14572 : BitVec 32 := Scalar.muli v126 c1_i32_20465
  let v14573 : BitVec 32 := Scalar.addi c0_i32_20466 v14572
  v14573.toNat
def k0_dev714 (d0 : Dev nD) : Nat :=
  let c0_i32_20495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20494 : BitVec 32 := 1#32
  let v14597 : BitVec 32 := Scalar.muli v88 c1_i32_20494
  let v14598 : BitVec 32 := Scalar.addi c0_i32_20495 v14597
  v14598.toNat
def k0_dev715 (d0 : Dev nD) : Nat :=
  let c0_i32_20522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20521 : BitVec 32 := 1#32
  let v14609 : BitVec 32 := Scalar.muli v88 c1_i32_20521
  let v14610 : BitVec 32 := Scalar.addi c0_i32_20522 v14609
  v14610.toNat
def k0_dev716 (d0 : Dev nD) : Nat :=
  let c0_i32_20552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20551 : BitVec 32 := 1#32
  let v14635 : BitVec 32 := Scalar.muli v126 c1_i32_20551
  let v14636 : BitVec 32 := Scalar.addi c0_i32_20552 v14635
  v14636.toNat
def k0_dev717 (d0 : Dev nD) : Nat :=
  let c0_i32_20579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20578 : BitVec 32 := 1#32
  let v14647 : BitVec 32 := Scalar.muli v126 c1_i32_20578
  let v14648 : BitVec 32 := Scalar.addi c0_i32_20579 v14647
  v14648.toNat
def k0_dev718 (d0 : Dev nD) : Nat :=
  let c0_i32_20608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20607 : BitVec 32 := 1#32
  let v14672 : BitVec 32 := Scalar.muli v88 c1_i32_20607
  let v14673 : BitVec 32 := Scalar.addi c0_i32_20608 v14672
  v14673.toNat
def k0_dev719 (d0 : Dev nD) : Nat :=
  let c0_i32_20635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20634 : BitVec 32 := 1#32
  let v14684 : BitVec 32 := Scalar.muli v88 c1_i32_20634
  let v14685 : BitVec 32 := Scalar.addi c0_i32_20635 v14684
  v14685.toNat
def k0_dev720 (d0 : Dev nD) : Nat :=
  let c0_i32_20665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20664 : BitVec 32 := 1#32
  let v14710 : BitVec 32 := Scalar.muli v126 c1_i32_20664
  let v14711 : BitVec 32 := Scalar.addi c0_i32_20665 v14710
  v14711.toNat
def k0_dev721 (d0 : Dev nD) : Nat :=
  let c0_i32_20692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20691 : BitVec 32 := 1#32
  let v14722 : BitVec 32 := Scalar.muli v126 c1_i32_20691
  let v14723 : BitVec 32 := Scalar.addi c0_i32_20692 v14722
  v14723.toNat
def k0_dev722 (d0 : Dev nD) : Nat :=
  let c0_i32_20721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20720 : BitVec 32 := 1#32
  let v14747 : BitVec 32 := Scalar.muli v88 c1_i32_20720
  let v14748 : BitVec 32 := Scalar.addi c0_i32_20721 v14747
  v14748.toNat
def k0_dev723 (d0 : Dev nD) : Nat :=
  let c0_i32_20748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20747 : BitVec 32 := 1#32
  let v14759 : BitVec 32 := Scalar.muli v88 c1_i32_20747
  let v14760 : BitVec 32 := Scalar.addi c0_i32_20748 v14759
  v14760.toNat
def k0_dev724 (d0 : Dev nD) : Nat :=
  let c0_i32_20778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20777 : BitVec 32 := 1#32
  let v14785 : BitVec 32 := Scalar.muli v126 c1_i32_20777
  let v14786 : BitVec 32 := Scalar.addi c0_i32_20778 v14785
  v14786.toNat
def k0_dev725 (d0 : Dev nD) : Nat :=
  let c0_i32_20805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20804 : BitVec 32 := 1#32
  let v14797 : BitVec 32 := Scalar.muli v126 c1_i32_20804
  let v14798 : BitVec 32 := Scalar.addi c0_i32_20805 v14797
  v14798.toNat
def k0_dev726 (d0 : Dev nD) : Nat :=
  let c0_i32_20834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20833 : BitVec 32 := 1#32
  let v14822 : BitVec 32 := Scalar.muli v88 c1_i32_20833
  let v14823 : BitVec 32 := Scalar.addi c0_i32_20834 v14822
  v14823.toNat
def k0_dev727 (d0 : Dev nD) : Nat :=
  let c0_i32_20861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20860 : BitVec 32 := 1#32
  let v14834 : BitVec 32 := Scalar.muli v88 c1_i32_20860
  let v14835 : BitVec 32 := Scalar.addi c0_i32_20861 v14834
  v14835.toNat
def k0_dev728 (d0 : Dev nD) : Nat :=
  let c0_i32_20891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20890 : BitVec 32 := 1#32
  let v14860 : BitVec 32 := Scalar.muli v126 c1_i32_20890
  let v14861 : BitVec 32 := Scalar.addi c0_i32_20891 v14860
  v14861.toNat
def k0_dev729 (d0 : Dev nD) : Nat :=
  let c0_i32_20918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_20917 : BitVec 32 := 1#32
  let v14872 : BitVec 32 := Scalar.muli v126 c1_i32_20917
  let v14873 : BitVec 32 := Scalar.addi c0_i32_20918 v14872
  v14873.toNat
def k0_dev730 (d0 : Dev nD) : Nat :=
  let c0_i32_20947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20946 : BitVec 32 := 1#32
  let v14897 : BitVec 32 := Scalar.muli v88 c1_i32_20946
  let v14898 : BitVec 32 := Scalar.addi c0_i32_20947 v14897
  v14898.toNat
def k0_dev731 (d0 : Dev nD) : Nat :=
  let c0_i32_20974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_20973 : BitVec 32 := 1#32
  let v14909 : BitVec 32 := Scalar.muli v88 c1_i32_20973
  let v14910 : BitVec 32 := Scalar.addi c0_i32_20974 v14909
  v14910.toNat
def k0_dev732 (d0 : Dev nD) : Nat :=
  let c0_i32_21004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21003 : BitVec 32 := 1#32
  let v14935 : BitVec 32 := Scalar.muli v126 c1_i32_21003
  let v14936 : BitVec 32 := Scalar.addi c0_i32_21004 v14935
  v14936.toNat
def k0_dev733 (d0 : Dev nD) : Nat :=
  let c0_i32_21031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21030 : BitVec 32 := 1#32
  let v14947 : BitVec 32 := Scalar.muli v126 c1_i32_21030
  let v14948 : BitVec 32 := Scalar.addi c0_i32_21031 v14947
  v14948.toNat
def k0_dev734 (d0 : Dev nD) : Nat :=
  let c0_i32_21060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21059 : BitVec 32 := 1#32
  let v14972 : BitVec 32 := Scalar.muli v88 c1_i32_21059
  let v14973 : BitVec 32 := Scalar.addi c0_i32_21060 v14972
  v14973.toNat
def k0_dev735 (d0 : Dev nD) : Nat :=
  let c0_i32_21087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21086 : BitVec 32 := 1#32
  let v14984 : BitVec 32 := Scalar.muli v88 c1_i32_21086
  let v14985 : BitVec 32 := Scalar.addi c0_i32_21087 v14984
  v14985.toNat
def k0_dev736 (d0 : Dev nD) : Nat :=
  let c0_i32_21117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21116 : BitVec 32 := 1#32
  let v15010 : BitVec 32 := Scalar.muli v126 c1_i32_21116
  let v15011 : BitVec 32 := Scalar.addi c0_i32_21117 v15010
  v15011.toNat
def k0_dev737 (d0 : Dev nD) : Nat :=
  let c0_i32_21144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21143 : BitVec 32 := 1#32
  let v15022 : BitVec 32 := Scalar.muli v126 c1_i32_21143
  let v15023 : BitVec 32 := Scalar.addi c0_i32_21144 v15022
  v15023.toNat
def k0_dev738 (d0 : Dev nD) : Nat :=
  let c0_i32_21173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21172 : BitVec 32 := 1#32
  let v15047 : BitVec 32 := Scalar.muli v88 c1_i32_21172
  let v15048 : BitVec 32 := Scalar.addi c0_i32_21173 v15047
  v15048.toNat
def k0_dev739 (d0 : Dev nD) : Nat :=
  let c0_i32_21200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21199 : BitVec 32 := 1#32
  let v15059 : BitVec 32 := Scalar.muli v88 c1_i32_21199
  let v15060 : BitVec 32 := Scalar.addi c0_i32_21200 v15059
  v15060.toNat
def k0_dev740 (d0 : Dev nD) : Nat :=
  let c0_i32_21230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21229 : BitVec 32 := 1#32
  let v15085 : BitVec 32 := Scalar.muli v126 c1_i32_21229
  let v15086 : BitVec 32 := Scalar.addi c0_i32_21230 v15085
  v15086.toNat
def k0_dev741 (d0 : Dev nD) : Nat :=
  let c0_i32_21257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21256 : BitVec 32 := 1#32
  let v15097 : BitVec 32 := Scalar.muli v126 c1_i32_21256
  let v15098 : BitVec 32 := Scalar.addi c0_i32_21257 v15097
  v15098.toNat
def k0_dev742 (d0 : Dev nD) : Nat :=
  let c0_i32_21286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21285 : BitVec 32 := 1#32
  let v15122 : BitVec 32 := Scalar.muli v88 c1_i32_21285
  let v15123 : BitVec 32 := Scalar.addi c0_i32_21286 v15122
  v15123.toNat
def k0_dev743 (d0 : Dev nD) : Nat :=
  let c0_i32_21313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21312 : BitVec 32 := 1#32
  let v15134 : BitVec 32 := Scalar.muli v88 c1_i32_21312
  let v15135 : BitVec 32 := Scalar.addi c0_i32_21313 v15134
  v15135.toNat
def k0_dev744 (d0 : Dev nD) : Nat :=
  let c0_i32_21343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21342 : BitVec 32 := 1#32
  let v15160 : BitVec 32 := Scalar.muli v126 c1_i32_21342
  let v15161 : BitVec 32 := Scalar.addi c0_i32_21343 v15160
  v15161.toNat
def k0_dev745 (d0 : Dev nD) : Nat :=
  let c0_i32_21370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21369 : BitVec 32 := 1#32
  let v15172 : BitVec 32 := Scalar.muli v126 c1_i32_21369
  let v15173 : BitVec 32 := Scalar.addi c0_i32_21370 v15172
  v15173.toNat
def k0_dev746 (d0 : Dev nD) : Nat :=
  let c0_i32_21399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21398 : BitVec 32 := 1#32
  let v15197 : BitVec 32 := Scalar.muli v88 c1_i32_21398
  let v15198 : BitVec 32 := Scalar.addi c0_i32_21399 v15197
  v15198.toNat
def k0_dev747 (d0 : Dev nD) : Nat :=
  let c0_i32_21426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21425 : BitVec 32 := 1#32
  let v15209 : BitVec 32 := Scalar.muli v88 c1_i32_21425
  let v15210 : BitVec 32 := Scalar.addi c0_i32_21426 v15209
  v15210.toNat
def k0_dev748 (d0 : Dev nD) : Nat :=
  let c0_i32_21456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21455 : BitVec 32 := 1#32
  let v15235 : BitVec 32 := Scalar.muli v126 c1_i32_21455
  let v15236 : BitVec 32 := Scalar.addi c0_i32_21456 v15235
  v15236.toNat
def k0_dev749 (d0 : Dev nD) : Nat :=
  let c0_i32_21483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21482 : BitVec 32 := 1#32
  let v15247 : BitVec 32 := Scalar.muli v126 c1_i32_21482
  let v15248 : BitVec 32 := Scalar.addi c0_i32_21483 v15247
  v15248.toNat
def k0_dev750 (d0 : Dev nD) : Nat :=
  let c0_i32_21512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21511 : BitVec 32 := 1#32
  let v15272 : BitVec 32 := Scalar.muli v88 c1_i32_21511
  let v15273 : BitVec 32 := Scalar.addi c0_i32_21512 v15272
  v15273.toNat
def k0_dev751 (d0 : Dev nD) : Nat :=
  let c0_i32_21539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21538 : BitVec 32 := 1#32
  let v15284 : BitVec 32 := Scalar.muli v88 c1_i32_21538
  let v15285 : BitVec 32 := Scalar.addi c0_i32_21539 v15284
  v15285.toNat
def k0_dev752 (d0 : Dev nD) : Nat :=
  let c0_i32_21569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21568 : BitVec 32 := 1#32
  let v15310 : BitVec 32 := Scalar.muli v126 c1_i32_21568
  let v15311 : BitVec 32 := Scalar.addi c0_i32_21569 v15310
  v15311.toNat
def k0_dev753 (d0 : Dev nD) : Nat :=
  let c0_i32_21596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21595 : BitVec 32 := 1#32
  let v15322 : BitVec 32 := Scalar.muli v126 c1_i32_21595
  let v15323 : BitVec 32 := Scalar.addi c0_i32_21596 v15322
  v15323.toNat
def k0_dev754 (d0 : Dev nD) : Nat :=
  let c0_i32_21625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21624 : BitVec 32 := 1#32
  let v15347 : BitVec 32 := Scalar.muli v88 c1_i32_21624
  let v15348 : BitVec 32 := Scalar.addi c0_i32_21625 v15347
  v15348.toNat
def k0_dev755 (d0 : Dev nD) : Nat :=
  let c0_i32_21652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21651 : BitVec 32 := 1#32
  let v15359 : BitVec 32 := Scalar.muli v88 c1_i32_21651
  let v15360 : BitVec 32 := Scalar.addi c0_i32_21652 v15359
  v15360.toNat
def k0_dev756 (d0 : Dev nD) : Nat :=
  let c0_i32_21682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21681 : BitVec 32 := 1#32
  let v15385 : BitVec 32 := Scalar.muli v126 c1_i32_21681
  let v15386 : BitVec 32 := Scalar.addi c0_i32_21682 v15385
  v15386.toNat
def k0_dev757 (d0 : Dev nD) : Nat :=
  let c0_i32_21709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21708 : BitVec 32 := 1#32
  let v15397 : BitVec 32 := Scalar.muli v126 c1_i32_21708
  let v15398 : BitVec 32 := Scalar.addi c0_i32_21709 v15397
  v15398.toNat
def k0_dev758 (d0 : Dev nD) : Nat :=
  let c0_i32_21738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21737 : BitVec 32 := 1#32
  let v15422 : BitVec 32 := Scalar.muli v88 c1_i32_21737
  let v15423 : BitVec 32 := Scalar.addi c0_i32_21738 v15422
  v15423.toNat
def k0_dev759 (d0 : Dev nD) : Nat :=
  let c0_i32_21765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21764 : BitVec 32 := 1#32
  let v15434 : BitVec 32 := Scalar.muli v88 c1_i32_21764
  let v15435 : BitVec 32 := Scalar.addi c0_i32_21765 v15434
  v15435.toNat
def k0_dev760 (d0 : Dev nD) : Nat :=
  let c0_i32_21795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21794 : BitVec 32 := 1#32
  let v15460 : BitVec 32 := Scalar.muli v126 c1_i32_21794
  let v15461 : BitVec 32 := Scalar.addi c0_i32_21795 v15460
  v15461.toNat
def k0_dev761 (d0 : Dev nD) : Nat :=
  let c0_i32_21822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21821 : BitVec 32 := 1#32
  let v15472 : BitVec 32 := Scalar.muli v126 c1_i32_21821
  let v15473 : BitVec 32 := Scalar.addi c0_i32_21822 v15472
  v15473.toNat
def k0_dev762 (d0 : Dev nD) : Nat :=
  let c0_i32_21851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21850 : BitVec 32 := 1#32
  let v15497 : BitVec 32 := Scalar.muli v88 c1_i32_21850
  let v15498 : BitVec 32 := Scalar.addi c0_i32_21851 v15497
  v15498.toNat
def k0_dev763 (d0 : Dev nD) : Nat :=
  let c0_i32_21878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21877 : BitVec 32 := 1#32
  let v15509 : BitVec 32 := Scalar.muli v88 c1_i32_21877
  let v15510 : BitVec 32 := Scalar.addi c0_i32_21878 v15509
  v15510.toNat
def k0_dev764 (d0 : Dev nD) : Nat :=
  let c0_i32_21908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21907 : BitVec 32 := 1#32
  let v15535 : BitVec 32 := Scalar.muli v126 c1_i32_21907
  let v15536 : BitVec 32 := Scalar.addi c0_i32_21908 v15535
  v15536.toNat
def k0_dev765 (d0 : Dev nD) : Nat :=
  let c0_i32_21935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_21934 : BitVec 32 := 1#32
  let v15547 : BitVec 32 := Scalar.muli v126 c1_i32_21934
  let v15548 : BitVec 32 := Scalar.addi c0_i32_21935 v15547
  v15548.toNat
def k0_dev766 (d0 : Dev nD) : Nat :=
  let c0_i32_21964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21963 : BitVec 32 := 1#32
  let v15572 : BitVec 32 := Scalar.muli v88 c1_i32_21963
  let v15573 : BitVec 32 := Scalar.addi c0_i32_21964 v15572
  v15573.toNat
def k0_dev767 (d0 : Dev nD) : Nat :=
  let c0_i32_21991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_21990 : BitVec 32 := 1#32
  let v15584 : BitVec 32 := Scalar.muli v88 c1_i32_21990
  let v15585 : BitVec 32 := Scalar.addi c0_i32_21991 v15584
  v15585.toNat
def k0_dev768 (d0 : Dev nD) : Nat :=
  let c0_i32_22021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22020 : BitVec 32 := 1#32
  let v15610 : BitVec 32 := Scalar.muli v126 c1_i32_22020
  let v15611 : BitVec 32 := Scalar.addi c0_i32_22021 v15610
  v15611.toNat
def k0_dev769 (d0 : Dev nD) : Nat :=
  let c0_i32_22048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22047 : BitVec 32 := 1#32
  let v15622 : BitVec 32 := Scalar.muli v126 c1_i32_22047
  let v15623 : BitVec 32 := Scalar.addi c0_i32_22048 v15622
  v15623.toNat
def k0_dev770 (d0 : Dev nD) : Nat :=
  let c0_i32_22077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22076 : BitVec 32 := 1#32
  let v15647 : BitVec 32 := Scalar.muli v88 c1_i32_22076
  let v15648 : BitVec 32 := Scalar.addi c0_i32_22077 v15647
  v15648.toNat
def k0_dev771 (d0 : Dev nD) : Nat :=
  let c0_i32_22104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22103 : BitVec 32 := 1#32
  let v15659 : BitVec 32 := Scalar.muli v88 c1_i32_22103
  let v15660 : BitVec 32 := Scalar.addi c0_i32_22104 v15659
  v15660.toNat
def k0_dev772 (d0 : Dev nD) : Nat :=
  let c0_i32_22134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22133 : BitVec 32 := 1#32
  let v15685 : BitVec 32 := Scalar.muli v126 c1_i32_22133
  let v15686 : BitVec 32 := Scalar.addi c0_i32_22134 v15685
  v15686.toNat
def k0_dev773 (d0 : Dev nD) : Nat :=
  let c0_i32_22161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22160 : BitVec 32 := 1#32
  let v15697 : BitVec 32 := Scalar.muli v126 c1_i32_22160
  let v15698 : BitVec 32 := Scalar.addi c0_i32_22161 v15697
  v15698.toNat
def k0_dev774 (d0 : Dev nD) : Nat :=
  let c0_i32_22190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22189 : BitVec 32 := 1#32
  let v15722 : BitVec 32 := Scalar.muli v88 c1_i32_22189
  let v15723 : BitVec 32 := Scalar.addi c0_i32_22190 v15722
  v15723.toNat
def k0_dev775 (d0 : Dev nD) : Nat :=
  let c0_i32_22217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22216 : BitVec 32 := 1#32
  let v15734 : BitVec 32 := Scalar.muli v88 c1_i32_22216
  let v15735 : BitVec 32 := Scalar.addi c0_i32_22217 v15734
  v15735.toNat
def k0_dev776 (d0 : Dev nD) : Nat :=
  let c0_i32_22247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22246 : BitVec 32 := 1#32
  let v15760 : BitVec 32 := Scalar.muli v126 c1_i32_22246
  let v15761 : BitVec 32 := Scalar.addi c0_i32_22247 v15760
  v15761.toNat
def k0_dev777 (d0 : Dev nD) : Nat :=
  let c0_i32_22274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22273 : BitVec 32 := 1#32
  let v15772 : BitVec 32 := Scalar.muli v126 c1_i32_22273
  let v15773 : BitVec 32 := Scalar.addi c0_i32_22274 v15772
  v15773.toNat
def k0_dev778 (d0 : Dev nD) : Nat :=
  let c0_i32_22303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22302 : BitVec 32 := 1#32
  let v15797 : BitVec 32 := Scalar.muli v88 c1_i32_22302
  let v15798 : BitVec 32 := Scalar.addi c0_i32_22303 v15797
  v15798.toNat
def k0_dev779 (d0 : Dev nD) : Nat :=
  let c0_i32_22330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22329 : BitVec 32 := 1#32
  let v15809 : BitVec 32 := Scalar.muli v88 c1_i32_22329
  let v15810 : BitVec 32 := Scalar.addi c0_i32_22330 v15809
  v15810.toNat
def k0_dev780 (d0 : Dev nD) : Nat :=
  let c0_i32_22360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22359 : BitVec 32 := 1#32
  let v15835 : BitVec 32 := Scalar.muli v126 c1_i32_22359
  let v15836 : BitVec 32 := Scalar.addi c0_i32_22360 v15835
  v15836.toNat
def k0_dev781 (d0 : Dev nD) : Nat :=
  let c0_i32_22387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22386 : BitVec 32 := 1#32
  let v15847 : BitVec 32 := Scalar.muli v126 c1_i32_22386
  let v15848 : BitVec 32 := Scalar.addi c0_i32_22387 v15847
  v15848.toNat
def k0_dev782 (d0 : Dev nD) : Nat :=
  let c0_i32_22416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22415 : BitVec 32 := 1#32
  let v15872 : BitVec 32 := Scalar.muli v88 c1_i32_22415
  let v15873 : BitVec 32 := Scalar.addi c0_i32_22416 v15872
  v15873.toNat
def k0_dev783 (d0 : Dev nD) : Nat :=
  let c0_i32_22443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22442 : BitVec 32 := 1#32
  let v15884 : BitVec 32 := Scalar.muli v88 c1_i32_22442
  let v15885 : BitVec 32 := Scalar.addi c0_i32_22443 v15884
  v15885.toNat
def k0_dev784 (d0 : Dev nD) : Nat :=
  let c0_i32_22473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22472 : BitVec 32 := 1#32
  let v15910 : BitVec 32 := Scalar.muli v126 c1_i32_22472
  let v15911 : BitVec 32 := Scalar.addi c0_i32_22473 v15910
  v15911.toNat
def k0_dev785 (d0 : Dev nD) : Nat :=
  let c0_i32_22500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22499 : BitVec 32 := 1#32
  let v15922 : BitVec 32 := Scalar.muli v126 c1_i32_22499
  let v15923 : BitVec 32 := Scalar.addi c0_i32_22500 v15922
  v15923.toNat
def k0_dev786 (d0 : Dev nD) : Nat :=
  let c0_i32_22529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22528 : BitVec 32 := 1#32
  let v15947 : BitVec 32 := Scalar.muli v88 c1_i32_22528
  let v15948 : BitVec 32 := Scalar.addi c0_i32_22529 v15947
  v15948.toNat
def k0_dev787 (d0 : Dev nD) : Nat :=
  let c0_i32_22556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22555 : BitVec 32 := 1#32
  let v15959 : BitVec 32 := Scalar.muli v88 c1_i32_22555
  let v15960 : BitVec 32 := Scalar.addi c0_i32_22556 v15959
  v15960.toNat
def k0_dev788 (d0 : Dev nD) : Nat :=
  let c0_i32_22586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22585 : BitVec 32 := 1#32
  let v15985 : BitVec 32 := Scalar.muli v126 c1_i32_22585
  let v15986 : BitVec 32 := Scalar.addi c0_i32_22586 v15985
  v15986.toNat
def k0_dev789 (d0 : Dev nD) : Nat :=
  let c0_i32_22613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22612 : BitVec 32 := 1#32
  let v15997 : BitVec 32 := Scalar.muli v126 c1_i32_22612
  let v15998 : BitVec 32 := Scalar.addi c0_i32_22613 v15997
  v15998.toNat
def k0_dev790 (d0 : Dev nD) : Nat :=
  let c0_i32_22642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22641 : BitVec 32 := 1#32
  let v16022 : BitVec 32 := Scalar.muli v88 c1_i32_22641
  let v16023 : BitVec 32 := Scalar.addi c0_i32_22642 v16022
  v16023.toNat
def k0_dev791 (d0 : Dev nD) : Nat :=
  let c0_i32_22669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22668 : BitVec 32 := 1#32
  let v16034 : BitVec 32 := Scalar.muli v88 c1_i32_22668
  let v16035 : BitVec 32 := Scalar.addi c0_i32_22669 v16034
  v16035.toNat
def k0_dev792 (d0 : Dev nD) : Nat :=
  let c0_i32_22699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22698 : BitVec 32 := 1#32
  let v16060 : BitVec 32 := Scalar.muli v126 c1_i32_22698
  let v16061 : BitVec 32 := Scalar.addi c0_i32_22699 v16060
  v16061.toNat
def k0_dev793 (d0 : Dev nD) : Nat :=
  let c0_i32_22726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22725 : BitVec 32 := 1#32
  let v16072 : BitVec 32 := Scalar.muli v126 c1_i32_22725
  let v16073 : BitVec 32 := Scalar.addi c0_i32_22726 v16072
  v16073.toNat
def k0_dev794 (d0 : Dev nD) : Nat :=
  let c0_i32_22755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22754 : BitVec 32 := 1#32
  let v16097 : BitVec 32 := Scalar.muli v88 c1_i32_22754
  let v16098 : BitVec 32 := Scalar.addi c0_i32_22755 v16097
  v16098.toNat
def k0_dev795 (d0 : Dev nD) : Nat :=
  let c0_i32_22782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22781 : BitVec 32 := 1#32
  let v16109 : BitVec 32 := Scalar.muli v88 c1_i32_22781
  let v16110 : BitVec 32 := Scalar.addi c0_i32_22782 v16109
  v16110.toNat
def k0_dev796 (d0 : Dev nD) : Nat :=
  let c0_i32_22812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22811 : BitVec 32 := 1#32
  let v16135 : BitVec 32 := Scalar.muli v126 c1_i32_22811
  let v16136 : BitVec 32 := Scalar.addi c0_i32_22812 v16135
  v16136.toNat
def k0_dev797 (d0 : Dev nD) : Nat :=
  let c0_i32_22839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22838 : BitVec 32 := 1#32
  let v16147 : BitVec 32 := Scalar.muli v126 c1_i32_22838
  let v16148 : BitVec 32 := Scalar.addi c0_i32_22839 v16147
  v16148.toNat
def k0_dev798 (d0 : Dev nD) : Nat :=
  let c0_i32_22868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22867 : BitVec 32 := 1#32
  let v16172 : BitVec 32 := Scalar.muli v88 c1_i32_22867
  let v16173 : BitVec 32 := Scalar.addi c0_i32_22868 v16172
  v16173.toNat
def k0_dev799 (d0 : Dev nD) : Nat :=
  let c0_i32_22895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22894 : BitVec 32 := 1#32
  let v16184 : BitVec 32 := Scalar.muli v88 c1_i32_22894
  let v16185 : BitVec 32 := Scalar.addi c0_i32_22895 v16184
  v16185.toNat
def k0_dev800 (d0 : Dev nD) : Nat :=
  let c0_i32_22925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22924 : BitVec 32 := 1#32
  let v16210 : BitVec 32 := Scalar.muli v126 c1_i32_22924
  let v16211 : BitVec 32 := Scalar.addi c0_i32_22925 v16210
  v16211.toNat
def k0_dev801 (d0 : Dev nD) : Nat :=
  let c0_i32_22952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_22951 : BitVec 32 := 1#32
  let v16222 : BitVec 32 := Scalar.muli v126 c1_i32_22951
  let v16223 : BitVec 32 := Scalar.addi c0_i32_22952 v16222
  v16223.toNat
def k0_dev802 (d0 : Dev nD) : Nat :=
  let c0_i32_22981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_22980 : BitVec 32 := 1#32
  let v16247 : BitVec 32 := Scalar.muli v88 c1_i32_22980
  let v16248 : BitVec 32 := Scalar.addi c0_i32_22981 v16247
  v16248.toNat
def k0_dev803 (d0 : Dev nD) : Nat :=
  let c0_i32_23008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23007 : BitVec 32 := 1#32
  let v16259 : BitVec 32 := Scalar.muli v88 c1_i32_23007
  let v16260 : BitVec 32 := Scalar.addi c0_i32_23008 v16259
  v16260.toNat
def k0_dev804 (d0 : Dev nD) : Nat :=
  let c0_i32_23038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23037 : BitVec 32 := 1#32
  let v16285 : BitVec 32 := Scalar.muli v126 c1_i32_23037
  let v16286 : BitVec 32 := Scalar.addi c0_i32_23038 v16285
  v16286.toNat
def k0_dev805 (d0 : Dev nD) : Nat :=
  let c0_i32_23065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23064 : BitVec 32 := 1#32
  let v16297 : BitVec 32 := Scalar.muli v126 c1_i32_23064
  let v16298 : BitVec 32 := Scalar.addi c0_i32_23065 v16297
  v16298.toNat
def k0_dev806 (d0 : Dev nD) : Nat :=
  let c0_i32_23094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23093 : BitVec 32 := 1#32
  let v16322 : BitVec 32 := Scalar.muli v88 c1_i32_23093
  let v16323 : BitVec 32 := Scalar.addi c0_i32_23094 v16322
  v16323.toNat
def k0_dev807 (d0 : Dev nD) : Nat :=
  let c0_i32_23121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23120 : BitVec 32 := 1#32
  let v16334 : BitVec 32 := Scalar.muli v88 c1_i32_23120
  let v16335 : BitVec 32 := Scalar.addi c0_i32_23121 v16334
  v16335.toNat
def k0_dev808 (d0 : Dev nD) : Nat :=
  let c0_i32_23151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23150 : BitVec 32 := 1#32
  let v16360 : BitVec 32 := Scalar.muli v126 c1_i32_23150
  let v16361 : BitVec 32 := Scalar.addi c0_i32_23151 v16360
  v16361.toNat
def k0_dev809 (d0 : Dev nD) : Nat :=
  let c0_i32_23178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23177 : BitVec 32 := 1#32
  let v16372 : BitVec 32 := Scalar.muli v126 c1_i32_23177
  let v16373 : BitVec 32 := Scalar.addi c0_i32_23178 v16372
  v16373.toNat
def k0_dev810 (d0 : Dev nD) : Nat :=
  let c0_i32_23207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23206 : BitVec 32 := 1#32
  let v16397 : BitVec 32 := Scalar.muli v88 c1_i32_23206
  let v16398 : BitVec 32 := Scalar.addi c0_i32_23207 v16397
  v16398.toNat
def k0_dev811 (d0 : Dev nD) : Nat :=
  let c0_i32_23234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23233 : BitVec 32 := 1#32
  let v16409 : BitVec 32 := Scalar.muli v88 c1_i32_23233
  let v16410 : BitVec 32 := Scalar.addi c0_i32_23234 v16409
  v16410.toNat
def k0_dev812 (d0 : Dev nD) : Nat :=
  let c0_i32_23264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23263 : BitVec 32 := 1#32
  let v16435 : BitVec 32 := Scalar.muli v126 c1_i32_23263
  let v16436 : BitVec 32 := Scalar.addi c0_i32_23264 v16435
  v16436.toNat
def k0_dev813 (d0 : Dev nD) : Nat :=
  let c0_i32_23291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23290 : BitVec 32 := 1#32
  let v16447 : BitVec 32 := Scalar.muli v126 c1_i32_23290
  let v16448 : BitVec 32 := Scalar.addi c0_i32_23291 v16447
  v16448.toNat
def k0_dev814 (d0 : Dev nD) : Nat :=
  let c0_i32_23320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23319 : BitVec 32 := 1#32
  let v16472 : BitVec 32 := Scalar.muli v88 c1_i32_23319
  let v16473 : BitVec 32 := Scalar.addi c0_i32_23320 v16472
  v16473.toNat
def k0_dev815 (d0 : Dev nD) : Nat :=
  let c0_i32_23347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23346 : BitVec 32 := 1#32
  let v16484 : BitVec 32 := Scalar.muli v88 c1_i32_23346
  let v16485 : BitVec 32 := Scalar.addi c0_i32_23347 v16484
  v16485.toNat
def k0_dev816 (d0 : Dev nD) : Nat :=
  let c0_i32_23377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23376 : BitVec 32 := 1#32
  let v16510 : BitVec 32 := Scalar.muli v126 c1_i32_23376
  let v16511 : BitVec 32 := Scalar.addi c0_i32_23377 v16510
  v16511.toNat
def k0_dev817 (d0 : Dev nD) : Nat :=
  let c0_i32_23404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23403 : BitVec 32 := 1#32
  let v16522 : BitVec 32 := Scalar.muli v126 c1_i32_23403
  let v16523 : BitVec 32 := Scalar.addi c0_i32_23404 v16522
  v16523.toNat
def k0_dev818 (d0 : Dev nD) : Nat :=
  let c0_i32_23433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23432 : BitVec 32 := 1#32
  let v16547 : BitVec 32 := Scalar.muli v88 c1_i32_23432
  let v16548 : BitVec 32 := Scalar.addi c0_i32_23433 v16547
  v16548.toNat
def k0_dev819 (d0 : Dev nD) : Nat :=
  let c0_i32_23460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23459 : BitVec 32 := 1#32
  let v16559 : BitVec 32 := Scalar.muli v88 c1_i32_23459
  let v16560 : BitVec 32 := Scalar.addi c0_i32_23460 v16559
  v16560.toNat
def k0_dev820 (d0 : Dev nD) : Nat :=
  let c0_i32_23490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23489 : BitVec 32 := 1#32
  let v16585 : BitVec 32 := Scalar.muli v126 c1_i32_23489
  let v16586 : BitVec 32 := Scalar.addi c0_i32_23490 v16585
  v16586.toNat
def k0_dev821 (d0 : Dev nD) : Nat :=
  let c0_i32_23517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23516 : BitVec 32 := 1#32
  let v16597 : BitVec 32 := Scalar.muli v126 c1_i32_23516
  let v16598 : BitVec 32 := Scalar.addi c0_i32_23517 v16597
  v16598.toNat
def k0_dev822 (d0 : Dev nD) : Nat :=
  let c0_i32_23546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23545 : BitVec 32 := 1#32
  let v16622 : BitVec 32 := Scalar.muli v88 c1_i32_23545
  let v16623 : BitVec 32 := Scalar.addi c0_i32_23546 v16622
  v16623.toNat
def k0_dev823 (d0 : Dev nD) : Nat :=
  let c0_i32_23573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23572 : BitVec 32 := 1#32
  let v16634 : BitVec 32 := Scalar.muli v88 c1_i32_23572
  let v16635 : BitVec 32 := Scalar.addi c0_i32_23573 v16634
  v16635.toNat
def k0_dev824 (d0 : Dev nD) : Nat :=
  let c0_i32_23603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23602 : BitVec 32 := 1#32
  let v16660 : BitVec 32 := Scalar.muli v126 c1_i32_23602
  let v16661 : BitVec 32 := Scalar.addi c0_i32_23603 v16660
  v16661.toNat
def k0_dev825 (d0 : Dev nD) : Nat :=
  let c0_i32_23630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23629 : BitVec 32 := 1#32
  let v16672 : BitVec 32 := Scalar.muli v126 c1_i32_23629
  let v16673 : BitVec 32 := Scalar.addi c0_i32_23630 v16672
  v16673.toNat
def k0_dev826 (d0 : Dev nD) : Nat :=
  let c0_i32_23659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23658 : BitVec 32 := 1#32
  let v16697 : BitVec 32 := Scalar.muli v88 c1_i32_23658
  let v16698 : BitVec 32 := Scalar.addi c0_i32_23659 v16697
  v16698.toNat
def k0_dev827 (d0 : Dev nD) : Nat :=
  let c0_i32_23686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23685 : BitVec 32 := 1#32
  let v16709 : BitVec 32 := Scalar.muli v88 c1_i32_23685
  let v16710 : BitVec 32 := Scalar.addi c0_i32_23686 v16709
  v16710.toNat
def k0_dev828 (d0 : Dev nD) : Nat :=
  let c0_i32_23716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23715 : BitVec 32 := 1#32
  let v16735 : BitVec 32 := Scalar.muli v126 c1_i32_23715
  let v16736 : BitVec 32 := Scalar.addi c0_i32_23716 v16735
  v16736.toNat
def k0_dev829 (d0 : Dev nD) : Nat :=
  let c0_i32_23743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23742 : BitVec 32 := 1#32
  let v16747 : BitVec 32 := Scalar.muli v126 c1_i32_23742
  let v16748 : BitVec 32 := Scalar.addi c0_i32_23743 v16747
  v16748.toNat
def k0_dev830 (d0 : Dev nD) : Nat :=
  let c0_i32_23772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23771 : BitVec 32 := 1#32
  let v16772 : BitVec 32 := Scalar.muli v88 c1_i32_23771
  let v16773 : BitVec 32 := Scalar.addi c0_i32_23772 v16772
  v16773.toNat
def k0_dev831 (d0 : Dev nD) : Nat :=
  let c0_i32_23799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23798 : BitVec 32 := 1#32
  let v16784 : BitVec 32 := Scalar.muli v88 c1_i32_23798
  let v16785 : BitVec 32 := Scalar.addi c0_i32_23799 v16784
  v16785.toNat
def k0_dev832 (d0 : Dev nD) : Nat :=
  let c0_i32_23829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23828 : BitVec 32 := 1#32
  let v16810 : BitVec 32 := Scalar.muli v126 c1_i32_23828
  let v16811 : BitVec 32 := Scalar.addi c0_i32_23829 v16810
  v16811.toNat
def k0_dev833 (d0 : Dev nD) : Nat :=
  let c0_i32_23856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23855 : BitVec 32 := 1#32
  let v16822 : BitVec 32 := Scalar.muli v126 c1_i32_23855
  let v16823 : BitVec 32 := Scalar.addi c0_i32_23856 v16822
  v16823.toNat
def k0_dev834 (d0 : Dev nD) : Nat :=
  let c0_i32_23885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23884 : BitVec 32 := 1#32
  let v16847 : BitVec 32 := Scalar.muli v88 c1_i32_23884
  let v16848 : BitVec 32 := Scalar.addi c0_i32_23885 v16847
  v16848.toNat
def k0_dev835 (d0 : Dev nD) : Nat :=
  let c0_i32_23912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23911 : BitVec 32 := 1#32
  let v16859 : BitVec 32 := Scalar.muli v88 c1_i32_23911
  let v16860 : BitVec 32 := Scalar.addi c0_i32_23912 v16859
  v16860.toNat
def k0_dev836 (d0 : Dev nD) : Nat :=
  let c0_i32_23942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23941 : BitVec 32 := 1#32
  let v16885 : BitVec 32 := Scalar.muli v126 c1_i32_23941
  let v16886 : BitVec 32 := Scalar.addi c0_i32_23942 v16885
  v16886.toNat
def k0_dev837 (d0 : Dev nD) : Nat :=
  let c0_i32_23969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_23968 : BitVec 32 := 1#32
  let v16897 : BitVec 32 := Scalar.muli v126 c1_i32_23968
  let v16898 : BitVec 32 := Scalar.addi c0_i32_23969 v16897
  v16898.toNat
def k0_dev838 (d0 : Dev nD) : Nat :=
  let c0_i32_23998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_23997 : BitVec 32 := 1#32
  let v16922 : BitVec 32 := Scalar.muli v88 c1_i32_23997
  let v16923 : BitVec 32 := Scalar.addi c0_i32_23998 v16922
  v16923.toNat
def k0_dev839 (d0 : Dev nD) : Nat :=
  let c0_i32_24025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24024 : BitVec 32 := 1#32
  let v16934 : BitVec 32 := Scalar.muli v88 c1_i32_24024
  let v16935 : BitVec 32 := Scalar.addi c0_i32_24025 v16934
  v16935.toNat
def k0_dev840 (d0 : Dev nD) : Nat :=
  let c0_i32_24055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24054 : BitVec 32 := 1#32
  let v16960 : BitVec 32 := Scalar.muli v126 c1_i32_24054
  let v16961 : BitVec 32 := Scalar.addi c0_i32_24055 v16960
  v16961.toNat
def k0_dev841 (d0 : Dev nD) : Nat :=
  let c0_i32_24082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24081 : BitVec 32 := 1#32
  let v16972 : BitVec 32 := Scalar.muli v126 c1_i32_24081
  let v16973 : BitVec 32 := Scalar.addi c0_i32_24082 v16972
  v16973.toNat
def k0_dev842 (d0 : Dev nD) : Nat :=
  let c0_i32_24111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24110 : BitVec 32 := 1#32
  let v16997 : BitVec 32 := Scalar.muli v88 c1_i32_24110
  let v16998 : BitVec 32 := Scalar.addi c0_i32_24111 v16997
  v16998.toNat
def k0_dev843 (d0 : Dev nD) : Nat :=
  let c0_i32_24138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24137 : BitVec 32 := 1#32
  let v17009 : BitVec 32 := Scalar.muli v88 c1_i32_24137
  let v17010 : BitVec 32 := Scalar.addi c0_i32_24138 v17009
  v17010.toNat
def k0_dev844 (d0 : Dev nD) : Nat :=
  let c0_i32_24168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24167 : BitVec 32 := 1#32
  let v17035 : BitVec 32 := Scalar.muli v126 c1_i32_24167
  let v17036 : BitVec 32 := Scalar.addi c0_i32_24168 v17035
  v17036.toNat
def k0_dev845 (d0 : Dev nD) : Nat :=
  let c0_i32_24195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24194 : BitVec 32 := 1#32
  let v17047 : BitVec 32 := Scalar.muli v126 c1_i32_24194
  let v17048 : BitVec 32 := Scalar.addi c0_i32_24195 v17047
  v17048.toNat
def k0_dev846 (d0 : Dev nD) : Nat :=
  let c0_i32_24224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24223 : BitVec 32 := 1#32
  let v17072 : BitVec 32 := Scalar.muli v88 c1_i32_24223
  let v17073 : BitVec 32 := Scalar.addi c0_i32_24224 v17072
  v17073.toNat
def k0_dev847 (d0 : Dev nD) : Nat :=
  let c0_i32_24251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24250 : BitVec 32 := 1#32
  let v17084 : BitVec 32 := Scalar.muli v88 c1_i32_24250
  let v17085 : BitVec 32 := Scalar.addi c0_i32_24251 v17084
  v17085.toNat
def k0_dev848 (d0 : Dev nD) : Nat :=
  let c0_i32_24281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24280 : BitVec 32 := 1#32
  let v17110 : BitVec 32 := Scalar.muli v126 c1_i32_24280
  let v17111 : BitVec 32 := Scalar.addi c0_i32_24281 v17110
  v17111.toNat
def k0_dev849 (d0 : Dev nD) : Nat :=
  let c0_i32_24308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24307 : BitVec 32 := 1#32
  let v17122 : BitVec 32 := Scalar.muli v126 c1_i32_24307
  let v17123 : BitVec 32 := Scalar.addi c0_i32_24308 v17122
  v17123.toNat
def k0_dev850 (d0 : Dev nD) : Nat :=
  let c0_i32_24337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24336 : BitVec 32 := 1#32
  let v17147 : BitVec 32 := Scalar.muli v88 c1_i32_24336
  let v17148 : BitVec 32 := Scalar.addi c0_i32_24337 v17147
  v17148.toNat
def k0_dev851 (d0 : Dev nD) : Nat :=
  let c0_i32_24364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24363 : BitVec 32 := 1#32
  let v17159 : BitVec 32 := Scalar.muli v88 c1_i32_24363
  let v17160 : BitVec 32 := Scalar.addi c0_i32_24364 v17159
  v17160.toNat
def k0_dev852 (d0 : Dev nD) : Nat :=
  let c0_i32_24394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24393 : BitVec 32 := 1#32
  let v17185 : BitVec 32 := Scalar.muli v126 c1_i32_24393
  let v17186 : BitVec 32 := Scalar.addi c0_i32_24394 v17185
  v17186.toNat
def k0_dev853 (d0 : Dev nD) : Nat :=
  let c0_i32_24421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24420 : BitVec 32 := 1#32
  let v17197 : BitVec 32 := Scalar.muli v126 c1_i32_24420
  let v17198 : BitVec 32 := Scalar.addi c0_i32_24421 v17197
  v17198.toNat
def k0_dev854 (d0 : Dev nD) : Nat :=
  let c0_i32_24450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24449 : BitVec 32 := 1#32
  let v17222 : BitVec 32 := Scalar.muli v88 c1_i32_24449
  let v17223 : BitVec 32 := Scalar.addi c0_i32_24450 v17222
  v17223.toNat
def k0_dev855 (d0 : Dev nD) : Nat :=
  let c0_i32_24477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24476 : BitVec 32 := 1#32
  let v17234 : BitVec 32 := Scalar.muli v88 c1_i32_24476
  let v17235 : BitVec 32 := Scalar.addi c0_i32_24477 v17234
  v17235.toNat
def k0_dev856 (d0 : Dev nD) : Nat :=
  let c0_i32_24507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24506 : BitVec 32 := 1#32
  let v17260 : BitVec 32 := Scalar.muli v126 c1_i32_24506
  let v17261 : BitVec 32 := Scalar.addi c0_i32_24507 v17260
  v17261.toNat
def k0_dev857 (d0 : Dev nD) : Nat :=
  let c0_i32_24534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24533 : BitVec 32 := 1#32
  let v17272 : BitVec 32 := Scalar.muli v126 c1_i32_24533
  let v17273 : BitVec 32 := Scalar.addi c0_i32_24534 v17272
  v17273.toNat
def k0_dev858 (d0 : Dev nD) : Nat :=
  let c0_i32_24563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24562 : BitVec 32 := 1#32
  let v17297 : BitVec 32 := Scalar.muli v88 c1_i32_24562
  let v17298 : BitVec 32 := Scalar.addi c0_i32_24563 v17297
  v17298.toNat
def k0_dev859 (d0 : Dev nD) : Nat :=
  let c0_i32_24590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24589 : BitVec 32 := 1#32
  let v17309 : BitVec 32 := Scalar.muli v88 c1_i32_24589
  let v17310 : BitVec 32 := Scalar.addi c0_i32_24590 v17309
  v17310.toNat
def k0_dev860 (d0 : Dev nD) : Nat :=
  let c0_i32_24620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24619 : BitVec 32 := 1#32
  let v17335 : BitVec 32 := Scalar.muli v126 c1_i32_24619
  let v17336 : BitVec 32 := Scalar.addi c0_i32_24620 v17335
  v17336.toNat
def k0_dev861 (d0 : Dev nD) : Nat :=
  let c0_i32_24647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24646 : BitVec 32 := 1#32
  let v17347 : BitVec 32 := Scalar.muli v126 c1_i32_24646
  let v17348 : BitVec 32 := Scalar.addi c0_i32_24647 v17347
  v17348.toNat
def k0_dev862 (d0 : Dev nD) : Nat :=
  let c0_i32_24676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24675 : BitVec 32 := 1#32
  let v17372 : BitVec 32 := Scalar.muli v88 c1_i32_24675
  let v17373 : BitVec 32 := Scalar.addi c0_i32_24676 v17372
  v17373.toNat
def k0_dev863 (d0 : Dev nD) : Nat :=
  let c0_i32_24703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24702 : BitVec 32 := 1#32
  let v17384 : BitVec 32 := Scalar.muli v88 c1_i32_24702
  let v17385 : BitVec 32 := Scalar.addi c0_i32_24703 v17384
  v17385.toNat
def k0_dev864 (d0 : Dev nD) : Nat :=
  let c0_i32_24733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24732 : BitVec 32 := 1#32
  let v17410 : BitVec 32 := Scalar.muli v126 c1_i32_24732
  let v17411 : BitVec 32 := Scalar.addi c0_i32_24733 v17410
  v17411.toNat
def k0_dev865 (d0 : Dev nD) : Nat :=
  let c0_i32_24760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24759 : BitVec 32 := 1#32
  let v17422 : BitVec 32 := Scalar.muli v126 c1_i32_24759
  let v17423 : BitVec 32 := Scalar.addi c0_i32_24760 v17422
  v17423.toNat
def k0_dev866 (d0 : Dev nD) : Nat :=
  let c0_i32_24789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24788 : BitVec 32 := 1#32
  let v17447 : BitVec 32 := Scalar.muli v88 c1_i32_24788
  let v17448 : BitVec 32 := Scalar.addi c0_i32_24789 v17447
  v17448.toNat
def k0_dev867 (d0 : Dev nD) : Nat :=
  let c0_i32_24816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24815 : BitVec 32 := 1#32
  let v17459 : BitVec 32 := Scalar.muli v88 c1_i32_24815
  let v17460 : BitVec 32 := Scalar.addi c0_i32_24816 v17459
  v17460.toNat
def k0_dev868 (d0 : Dev nD) : Nat :=
  let c0_i32_24846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24845 : BitVec 32 := 1#32
  let v17485 : BitVec 32 := Scalar.muli v126 c1_i32_24845
  let v17486 : BitVec 32 := Scalar.addi c0_i32_24846 v17485
  v17486.toNat
def k0_dev869 (d0 : Dev nD) : Nat :=
  let c0_i32_24873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24872 : BitVec 32 := 1#32
  let v17497 : BitVec 32 := Scalar.muli v126 c1_i32_24872
  let v17498 : BitVec 32 := Scalar.addi c0_i32_24873 v17497
  v17498.toNat
def k0_dev870 (d0 : Dev nD) : Nat :=
  let c0_i32_24902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24901 : BitVec 32 := 1#32
  let v17522 : BitVec 32 := Scalar.muli v88 c1_i32_24901
  let v17523 : BitVec 32 := Scalar.addi c0_i32_24902 v17522
  v17523.toNat
def k0_dev871 (d0 : Dev nD) : Nat :=
  let c0_i32_24929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_24928 : BitVec 32 := 1#32
  let v17534 : BitVec 32 := Scalar.muli v88 c1_i32_24928
  let v17535 : BitVec 32 := Scalar.addi c0_i32_24929 v17534
  v17535.toNat
def k0_dev872 (d0 : Dev nD) : Nat :=
  let c0_i32_24959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24958 : BitVec 32 := 1#32
  let v17560 : BitVec 32 := Scalar.muli v126 c1_i32_24958
  let v17561 : BitVec 32 := Scalar.addi c0_i32_24959 v17560
  v17561.toNat
def k0_dev873 (d0 : Dev nD) : Nat :=
  let c0_i32_24986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_24985 : BitVec 32 := 1#32
  let v17572 : BitVec 32 := Scalar.muli v126 c1_i32_24985
  let v17573 : BitVec 32 := Scalar.addi c0_i32_24986 v17572
  v17573.toNat
def k0_dev874 (d0 : Dev nD) : Nat :=
  let c0_i32_25015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25014 : BitVec 32 := 1#32
  let v17597 : BitVec 32 := Scalar.muli v88 c1_i32_25014
  let v17598 : BitVec 32 := Scalar.addi c0_i32_25015 v17597
  v17598.toNat
def k0_dev875 (d0 : Dev nD) : Nat :=
  let c0_i32_25042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25041 : BitVec 32 := 1#32
  let v17609 : BitVec 32 := Scalar.muli v88 c1_i32_25041
  let v17610 : BitVec 32 := Scalar.addi c0_i32_25042 v17609
  v17610.toNat
def k0_dev876 (d0 : Dev nD) : Nat :=
  let c0_i32_25072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25071 : BitVec 32 := 1#32
  let v17635 : BitVec 32 := Scalar.muli v126 c1_i32_25071
  let v17636 : BitVec 32 := Scalar.addi c0_i32_25072 v17635
  v17636.toNat
def k0_dev877 (d0 : Dev nD) : Nat :=
  let c0_i32_25099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25098 : BitVec 32 := 1#32
  let v17647 : BitVec 32 := Scalar.muli v126 c1_i32_25098
  let v17648 : BitVec 32 := Scalar.addi c0_i32_25099 v17647
  v17648.toNat
def k0_dev878 (d0 : Dev nD) : Nat :=
  let c0_i32_25128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25127 : BitVec 32 := 1#32
  let v17672 : BitVec 32 := Scalar.muli v88 c1_i32_25127
  let v17673 : BitVec 32 := Scalar.addi c0_i32_25128 v17672
  v17673.toNat
def k0_dev879 (d0 : Dev nD) : Nat :=
  let c0_i32_25155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25154 : BitVec 32 := 1#32
  let v17684 : BitVec 32 := Scalar.muli v88 c1_i32_25154
  let v17685 : BitVec 32 := Scalar.addi c0_i32_25155 v17684
  v17685.toNat
def k0_dev880 (d0 : Dev nD) : Nat :=
  let c0_i32_25185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25184 : BitVec 32 := 1#32
  let v17710 : BitVec 32 := Scalar.muli v126 c1_i32_25184
  let v17711 : BitVec 32 := Scalar.addi c0_i32_25185 v17710
  v17711.toNat
def k0_dev881 (d0 : Dev nD) : Nat :=
  let c0_i32_25212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25211 : BitVec 32 := 1#32
  let v17722 : BitVec 32 := Scalar.muli v126 c1_i32_25211
  let v17723 : BitVec 32 := Scalar.addi c0_i32_25212 v17722
  v17723.toNat
def k0_dev882 (d0 : Dev nD) : Nat :=
  let c0_i32_25241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25240 : BitVec 32 := 1#32
  let v17747 : BitVec 32 := Scalar.muli v88 c1_i32_25240
  let v17748 : BitVec 32 := Scalar.addi c0_i32_25241 v17747
  v17748.toNat
def k0_dev883 (d0 : Dev nD) : Nat :=
  let c0_i32_25268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25267 : BitVec 32 := 1#32
  let v17759 : BitVec 32 := Scalar.muli v88 c1_i32_25267
  let v17760 : BitVec 32 := Scalar.addi c0_i32_25268 v17759
  v17760.toNat
def k0_dev884 (d0 : Dev nD) : Nat :=
  let c0_i32_25298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25297 : BitVec 32 := 1#32
  let v17785 : BitVec 32 := Scalar.muli v126 c1_i32_25297
  let v17786 : BitVec 32 := Scalar.addi c0_i32_25298 v17785
  v17786.toNat
def k0_dev885 (d0 : Dev nD) : Nat :=
  let c0_i32_25325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25324 : BitVec 32 := 1#32
  let v17797 : BitVec 32 := Scalar.muli v126 c1_i32_25324
  let v17798 : BitVec 32 := Scalar.addi c0_i32_25325 v17797
  v17798.toNat
def k0_dev886 (d0 : Dev nD) : Nat :=
  let c0_i32_25354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25353 : BitVec 32 := 1#32
  let v17822 : BitVec 32 := Scalar.muli v88 c1_i32_25353
  let v17823 : BitVec 32 := Scalar.addi c0_i32_25354 v17822
  v17823.toNat
def k0_dev887 (d0 : Dev nD) : Nat :=
  let c0_i32_25381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25380 : BitVec 32 := 1#32
  let v17834 : BitVec 32 := Scalar.muli v88 c1_i32_25380
  let v17835 : BitVec 32 := Scalar.addi c0_i32_25381 v17834
  v17835.toNat
def k0_dev888 (d0 : Dev nD) : Nat :=
  let c0_i32_25411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25410 : BitVec 32 := 1#32
  let v17860 : BitVec 32 := Scalar.muli v126 c1_i32_25410
  let v17861 : BitVec 32 := Scalar.addi c0_i32_25411 v17860
  v17861.toNat
def k0_dev889 (d0 : Dev nD) : Nat :=
  let c0_i32_25438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25437 : BitVec 32 := 1#32
  let v17872 : BitVec 32 := Scalar.muli v126 c1_i32_25437
  let v17873 : BitVec 32 := Scalar.addi c0_i32_25438 v17872
  v17873.toNat
def k0_dev890 (d0 : Dev nD) : Nat :=
  let c0_i32_25467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25466 : BitVec 32 := 1#32
  let v17897 : BitVec 32 := Scalar.muli v88 c1_i32_25466
  let v17898 : BitVec 32 := Scalar.addi c0_i32_25467 v17897
  v17898.toNat
def k0_dev891 (d0 : Dev nD) : Nat :=
  let c0_i32_25494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25493 : BitVec 32 := 1#32
  let v17909 : BitVec 32 := Scalar.muli v88 c1_i32_25493
  let v17910 : BitVec 32 := Scalar.addi c0_i32_25494 v17909
  v17910.toNat
def k0_dev892 (d0 : Dev nD) : Nat :=
  let c0_i32_25524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25523 : BitVec 32 := 1#32
  let v17935 : BitVec 32 := Scalar.muli v126 c1_i32_25523
  let v17936 : BitVec 32 := Scalar.addi c0_i32_25524 v17935
  v17936.toNat
def k0_dev893 (d0 : Dev nD) : Nat :=
  let c0_i32_25551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25550 : BitVec 32 := 1#32
  let v17947 : BitVec 32 := Scalar.muli v126 c1_i32_25550
  let v17948 : BitVec 32 := Scalar.addi c0_i32_25551 v17947
  v17948.toNat
def k0_dev894 (d0 : Dev nD) : Nat :=
  let c0_i32_25580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25579 : BitVec 32 := 1#32
  let v17972 : BitVec 32 := Scalar.muli v88 c1_i32_25579
  let v17973 : BitVec 32 := Scalar.addi c0_i32_25580 v17972
  v17973.toNat

variable {F : FTy → Type} [FloatOps F]

def k0_dev895 (d0 : Dev nD) : Nat :=
  let c0_i32_25607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25606 : BitVec 32 := 1#32
  let v17984 : BitVec 32 := Scalar.muli v88 c1_i32_25606
  let v17985 : BitVec 32 := Scalar.addi c0_i32_25607 v17984
  v17985.toNat
def k0_dev896 (d0 : Dev nD) : Nat :=
  let c0_i32_25637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25636 : BitVec 32 := 1#32
  let v18010 : BitVec 32 := Scalar.muli v126 c1_i32_25636
  let v18011 : BitVec 32 := Scalar.addi c0_i32_25637 v18010
  v18011.toNat
def k0_dev897 (d0 : Dev nD) : Nat :=
  let c0_i32_25664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25663 : BitVec 32 := 1#32
  let v18022 : BitVec 32 := Scalar.muli v126 c1_i32_25663
  let v18023 : BitVec 32 := Scalar.addi c0_i32_25664 v18022
  v18023.toNat
def k0_dev898 (d0 : Dev nD) : Nat :=
  let c0_i32_25693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25692 : BitVec 32 := 1#32
  let v18047 : BitVec 32 := Scalar.muli v88 c1_i32_25692
  let v18048 : BitVec 32 := Scalar.addi c0_i32_25693 v18047
  v18048.toNat
def k0_dev899 (d0 : Dev nD) : Nat :=
  let c0_i32_25720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25719 : BitVec 32 := 1#32
  let v18059 : BitVec 32 := Scalar.muli v88 c1_i32_25719
  let v18060 : BitVec 32 := Scalar.addi c0_i32_25720 v18059
  v18060.toNat
def k0_dev900 (d0 : Dev nD) : Nat :=
  let c0_i32_25750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25749 : BitVec 32 := 1#32
  let v18085 : BitVec 32 := Scalar.muli v126 c1_i32_25749
  let v18086 : BitVec 32 := Scalar.addi c0_i32_25750 v18085
  v18086.toNat
def k0_dev901 (d0 : Dev nD) : Nat :=
  let c0_i32_25777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25776 : BitVec 32 := 1#32
  let v18097 : BitVec 32 := Scalar.muli v126 c1_i32_25776
  let v18098 : BitVec 32 := Scalar.addi c0_i32_25777 v18097
  v18098.toNat
def k0_dev902 (d0 : Dev nD) : Nat :=
  let c0_i32_25806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25805 : BitVec 32 := 1#32
  let v18122 : BitVec 32 := Scalar.muli v88 c1_i32_25805
  let v18123 : BitVec 32 := Scalar.addi c0_i32_25806 v18122
  v18123.toNat
def k0_dev903 (d0 : Dev nD) : Nat :=
  let c0_i32_25833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25832 : BitVec 32 := 1#32
  let v18134 : BitVec 32 := Scalar.muli v88 c1_i32_25832
  let v18135 : BitVec 32 := Scalar.addi c0_i32_25833 v18134
  v18135.toNat
def k0_dev904 (d0 : Dev nD) : Nat :=
  let c0_i32_25863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25862 : BitVec 32 := 1#32
  let v18160 : BitVec 32 := Scalar.muli v126 c1_i32_25862
  let v18161 : BitVec 32 := Scalar.addi c0_i32_25863 v18160
  v18161.toNat
def k0_dev905 (d0 : Dev nD) : Nat :=
  let c0_i32_25890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25889 : BitVec 32 := 1#32
  let v18172 : BitVec 32 := Scalar.muli v126 c1_i32_25889
  let v18173 : BitVec 32 := Scalar.addi c0_i32_25890 v18172
  v18173.toNat
def k0_dev906 (d0 : Dev nD) : Nat :=
  let c0_i32_25919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25918 : BitVec 32 := 1#32
  let v18197 : BitVec 32 := Scalar.muli v88 c1_i32_25918
  let v18198 : BitVec 32 := Scalar.addi c0_i32_25919 v18197
  v18198.toNat
def k0_dev907 (d0 : Dev nD) : Nat :=
  let c0_i32_25946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_25945 : BitVec 32 := 1#32
  let v18209 : BitVec 32 := Scalar.muli v88 c1_i32_25945
  let v18210 : BitVec 32 := Scalar.addi c0_i32_25946 v18209
  v18210.toNat
def k0_dev908 (d0 : Dev nD) : Nat :=
  let c0_i32_25976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_25975 : BitVec 32 := 1#32
  let v18235 : BitVec 32 := Scalar.muli v126 c1_i32_25975
  let v18236 : BitVec 32 := Scalar.addi c0_i32_25976 v18235
  v18236.toNat
def k0_dev909 (d0 : Dev nD) : Nat :=
  let c0_i32_26003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26002 : BitVec 32 := 1#32
  let v18247 : BitVec 32 := Scalar.muli v126 c1_i32_26002
  let v18248 : BitVec 32 := Scalar.addi c0_i32_26003 v18247
  v18248.toNat
def k0_dev910 (d0 : Dev nD) : Nat :=
  let c0_i32_26032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26031 : BitVec 32 := 1#32
  let v18272 : BitVec 32 := Scalar.muli v88 c1_i32_26031
  let v18273 : BitVec 32 := Scalar.addi c0_i32_26032 v18272
  v18273.toNat
def k0_dev911 (d0 : Dev nD) : Nat :=
  let c0_i32_26059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26058 : BitVec 32 := 1#32
  let v18284 : BitVec 32 := Scalar.muli v88 c1_i32_26058
  let v18285 : BitVec 32 := Scalar.addi c0_i32_26059 v18284
  v18285.toNat
def k0_dev912 (d0 : Dev nD) : Nat :=
  let c0_i32_26089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26088 : BitVec 32 := 1#32
  let v18310 : BitVec 32 := Scalar.muli v126 c1_i32_26088
  let v18311 : BitVec 32 := Scalar.addi c0_i32_26089 v18310
  v18311.toNat
def k0_dev913 (d0 : Dev nD) : Nat :=
  let c0_i32_26116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26115 : BitVec 32 := 1#32
  let v18322 : BitVec 32 := Scalar.muli v126 c1_i32_26115
  let v18323 : BitVec 32 := Scalar.addi c0_i32_26116 v18322
  v18323.toNat
def k0_dev914 (d0 : Dev nD) : Nat :=
  let c0_i32_26145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26144 : BitVec 32 := 1#32
  let v18347 : BitVec 32 := Scalar.muli v88 c1_i32_26144
  let v18348 : BitVec 32 := Scalar.addi c0_i32_26145 v18347
  v18348.toNat
def k0_dev915 (d0 : Dev nD) : Nat :=
  let c0_i32_26172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26171 : BitVec 32 := 1#32
  let v18359 : BitVec 32 := Scalar.muli v88 c1_i32_26171
  let v18360 : BitVec 32 := Scalar.addi c0_i32_26172 v18359
  v18360.toNat
def k0_dev916 (d0 : Dev nD) : Nat :=
  let c0_i32_26202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26201 : BitVec 32 := 1#32
  let v18385 : BitVec 32 := Scalar.muli v126 c1_i32_26201
  let v18386 : BitVec 32 := Scalar.addi c0_i32_26202 v18385
  v18386.toNat
def k0_dev917 (d0 : Dev nD) : Nat :=
  let c0_i32_26229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26228 : BitVec 32 := 1#32
  let v18397 : BitVec 32 := Scalar.muli v126 c1_i32_26228
  let v18398 : BitVec 32 := Scalar.addi c0_i32_26229 v18397
  v18398.toNat
def k0_dev918 (d0 : Dev nD) : Nat :=
  let c0_i32_26258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26257 : BitVec 32 := 1#32
  let v18422 : BitVec 32 := Scalar.muli v88 c1_i32_26257
  let v18423 : BitVec 32 := Scalar.addi c0_i32_26258 v18422
  v18423.toNat
def k0_dev919 (d0 : Dev nD) : Nat :=
  let c0_i32_26285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26284 : BitVec 32 := 1#32
  let v18434 : BitVec 32 := Scalar.muli v88 c1_i32_26284
  let v18435 : BitVec 32 := Scalar.addi c0_i32_26285 v18434
  v18435.toNat
def k0_dev920 (d0 : Dev nD) : Nat :=
  let c0_i32_26315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26314 : BitVec 32 := 1#32
  let v18460 : BitVec 32 := Scalar.muli v126 c1_i32_26314
  let v18461 : BitVec 32 := Scalar.addi c0_i32_26315 v18460
  v18461.toNat
def k0_dev921 (d0 : Dev nD) : Nat :=
  let c0_i32_26342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26341 : BitVec 32 := 1#32
  let v18472 : BitVec 32 := Scalar.muli v126 c1_i32_26341
  let v18473 : BitVec 32 := Scalar.addi c0_i32_26342 v18472
  v18473.toNat
def k0_dev922 (d0 : Dev nD) : Nat :=
  let c0_i32_26371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26370 : BitVec 32 := 1#32
  let v18497 : BitVec 32 := Scalar.muli v88 c1_i32_26370
  let v18498 : BitVec 32 := Scalar.addi c0_i32_26371 v18497
  v18498.toNat
def k0_dev923 (d0 : Dev nD) : Nat :=
  let c0_i32_26398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26397 : BitVec 32 := 1#32
  let v18509 : BitVec 32 := Scalar.muli v88 c1_i32_26397
  let v18510 : BitVec 32 := Scalar.addi c0_i32_26398 v18509
  v18510.toNat
def k0_dev924 (d0 : Dev nD) : Nat :=
  let c0_i32_26428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26427 : BitVec 32 := 1#32
  let v18535 : BitVec 32 := Scalar.muli v126 c1_i32_26427
  let v18536 : BitVec 32 := Scalar.addi c0_i32_26428 v18535
  v18536.toNat
def k0_dev925 (d0 : Dev nD) : Nat :=
  let c0_i32_26455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26454 : BitVec 32 := 1#32
  let v18547 : BitVec 32 := Scalar.muli v126 c1_i32_26454
  let v18548 : BitVec 32 := Scalar.addi c0_i32_26455 v18547
  v18548.toNat
def k0_dev926 (d0 : Dev nD) : Nat :=
  let c0_i32_26484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26483 : BitVec 32 := 1#32
  let v18572 : BitVec 32 := Scalar.muli v88 c1_i32_26483
  let v18573 : BitVec 32 := Scalar.addi c0_i32_26484 v18572
  v18573.toNat
def k0_dev927 (d0 : Dev nD) : Nat :=
  let c0_i32_26511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26510 : BitVec 32 := 1#32
  let v18584 : BitVec 32 := Scalar.muli v88 c1_i32_26510
  let v18585 : BitVec 32 := Scalar.addi c0_i32_26511 v18584
  v18585.toNat
def k0_dev928 (d0 : Dev nD) : Nat :=
  let c0_i32_26541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26540 : BitVec 32 := 1#32
  let v18610 : BitVec 32 := Scalar.muli v126 c1_i32_26540
  let v18611 : BitVec 32 := Scalar.addi c0_i32_26541 v18610
  v18611.toNat
def k0_dev929 (d0 : Dev nD) : Nat :=
  let c0_i32_26568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26567 : BitVec 32 := 1#32
  let v18622 : BitVec 32 := Scalar.muli v126 c1_i32_26567
  let v18623 : BitVec 32 := Scalar.addi c0_i32_26568 v18622
  v18623.toNat
def k0_dev930 (d0 : Dev nD) : Nat :=
  let c0_i32_26597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26596 : BitVec 32 := 1#32
  let v18647 : BitVec 32 := Scalar.muli v88 c1_i32_26596
  let v18648 : BitVec 32 := Scalar.addi c0_i32_26597 v18647
  v18648.toNat
def k0_dev931 (d0 : Dev nD) : Nat :=
  let c0_i32_26624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26623 : BitVec 32 := 1#32
  let v18659 : BitVec 32 := Scalar.muli v88 c1_i32_26623
  let v18660 : BitVec 32 := Scalar.addi c0_i32_26624 v18659
  v18660.toNat
def k0_dev932 (d0 : Dev nD) : Nat :=
  let c0_i32_26654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26653 : BitVec 32 := 1#32
  let v18685 : BitVec 32 := Scalar.muli v126 c1_i32_26653
  let v18686 : BitVec 32 := Scalar.addi c0_i32_26654 v18685
  v18686.toNat
def k0_dev933 (d0 : Dev nD) : Nat :=
  let c0_i32_26681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26680 : BitVec 32 := 1#32
  let v18697 : BitVec 32 := Scalar.muli v126 c1_i32_26680
  let v18698 : BitVec 32 := Scalar.addi c0_i32_26681 v18697
  v18698.toNat
def k0_dev934 (d0 : Dev nD) : Nat :=
  let c0_i32_26710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26709 : BitVec 32 := 1#32
  let v18722 : BitVec 32 := Scalar.muli v88 c1_i32_26709
  let v18723 : BitVec 32 := Scalar.addi c0_i32_26710 v18722
  v18723.toNat
def k0_dev935 (d0 : Dev nD) : Nat :=
  let c0_i32_26737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26736 : BitVec 32 := 1#32
  let v18734 : BitVec 32 := Scalar.muli v88 c1_i32_26736
  let v18735 : BitVec 32 := Scalar.addi c0_i32_26737 v18734
  v18735.toNat
def k0_dev936 (d0 : Dev nD) : Nat :=
  let c0_i32_26767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26766 : BitVec 32 := 1#32
  let v18760 : BitVec 32 := Scalar.muli v126 c1_i32_26766
  let v18761 : BitVec 32 := Scalar.addi c0_i32_26767 v18760
  v18761.toNat
def k0_dev937 (d0 : Dev nD) : Nat :=
  let c0_i32_26794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26793 : BitVec 32 := 1#32
  let v18772 : BitVec 32 := Scalar.muli v126 c1_i32_26793
  let v18773 : BitVec 32 := Scalar.addi c0_i32_26794 v18772
  v18773.toNat
def k0_dev938 (d0 : Dev nD) : Nat :=
  let c0_i32_26823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26822 : BitVec 32 := 1#32
  let v18797 : BitVec 32 := Scalar.muli v88 c1_i32_26822
  let v18798 : BitVec 32 := Scalar.addi c0_i32_26823 v18797
  v18798.toNat
def k0_dev939 (d0 : Dev nD) : Nat :=
  let c0_i32_26850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26849 : BitVec 32 := 1#32
  let v18809 : BitVec 32 := Scalar.muli v88 c1_i32_26849
  let v18810 : BitVec 32 := Scalar.addi c0_i32_26850 v18809
  v18810.toNat
def k0_dev940 (d0 : Dev nD) : Nat :=
  let c0_i32_26880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26879 : BitVec 32 := 1#32
  let v18835 : BitVec 32 := Scalar.muli v126 c1_i32_26879
  let v18836 : BitVec 32 := Scalar.addi c0_i32_26880 v18835
  v18836.toNat
def k0_dev941 (d0 : Dev nD) : Nat :=
  let c0_i32_26907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26906 : BitVec 32 := 1#32
  let v18847 : BitVec 32 := Scalar.muli v126 c1_i32_26906
  let v18848 : BitVec 32 := Scalar.addi c0_i32_26907 v18847
  v18848.toNat
def k0_dev942 (d0 : Dev nD) : Nat :=
  let c0_i32_26936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26935 : BitVec 32 := 1#32
  let v18872 : BitVec 32 := Scalar.muli v88 c1_i32_26935
  let v18873 : BitVec 32 := Scalar.addi c0_i32_26936 v18872
  v18873.toNat
def k0_dev943 (d0 : Dev nD) : Nat :=
  let c0_i32_26963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_26962 : BitVec 32 := 1#32
  let v18884 : BitVec 32 := Scalar.muli v88 c1_i32_26962
  let v18885 : BitVec 32 := Scalar.addi c0_i32_26963 v18884
  v18885.toNat
def k0_dev944 (d0 : Dev nD) : Nat :=
  let c0_i32_26993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_26992 : BitVec 32 := 1#32
  let v18910 : BitVec 32 := Scalar.muli v126 c1_i32_26992
  let v18911 : BitVec 32 := Scalar.addi c0_i32_26993 v18910
  v18911.toNat
def k0_dev945 (d0 : Dev nD) : Nat :=
  let c0_i32_27020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27019 : BitVec 32 := 1#32
  let v18922 : BitVec 32 := Scalar.muli v126 c1_i32_27019
  let v18923 : BitVec 32 := Scalar.addi c0_i32_27020 v18922
  v18923.toNat
def k0_dev946 (d0 : Dev nD) : Nat :=
  let c0_i32_27049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27048 : BitVec 32 := 1#32
  let v18947 : BitVec 32 := Scalar.muli v88 c1_i32_27048
  let v18948 : BitVec 32 := Scalar.addi c0_i32_27049 v18947
  v18948.toNat
def k0_dev947 (d0 : Dev nD) : Nat :=
  let c0_i32_27076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27075 : BitVec 32 := 1#32
  let v18959 : BitVec 32 := Scalar.muli v88 c1_i32_27075
  let v18960 : BitVec 32 := Scalar.addi c0_i32_27076 v18959
  v18960.toNat
def k0_dev948 (d0 : Dev nD) : Nat :=
  let c0_i32_27106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27105 : BitVec 32 := 1#32
  let v18985 : BitVec 32 := Scalar.muli v126 c1_i32_27105
  let v18986 : BitVec 32 := Scalar.addi c0_i32_27106 v18985
  v18986.toNat
def k0_dev949 (d0 : Dev nD) : Nat :=
  let c0_i32_27133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27132 : BitVec 32 := 1#32
  let v18997 : BitVec 32 := Scalar.muli v126 c1_i32_27132
  let v18998 : BitVec 32 := Scalar.addi c0_i32_27133 v18997
  v18998.toNat
def k0_dev950 (d0 : Dev nD) : Nat :=
  let c0_i32_27162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27161 : BitVec 32 := 1#32
  let v19022 : BitVec 32 := Scalar.muli v88 c1_i32_27161
  let v19023 : BitVec 32 := Scalar.addi c0_i32_27162 v19022
  v19023.toNat
def k0_dev951 (d0 : Dev nD) : Nat :=
  let c0_i32_27189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27188 : BitVec 32 := 1#32
  let v19034 : BitVec 32 := Scalar.muli v88 c1_i32_27188
  let v19035 : BitVec 32 := Scalar.addi c0_i32_27189 v19034
  v19035.toNat
def k0_dev952 (d0 : Dev nD) : Nat :=
  let c0_i32_27219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27218 : BitVec 32 := 1#32
  let v19060 : BitVec 32 := Scalar.muli v126 c1_i32_27218
  let v19061 : BitVec 32 := Scalar.addi c0_i32_27219 v19060
  v19061.toNat
def k0_dev953 (d0 : Dev nD) : Nat :=
  let c0_i32_27246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27245 : BitVec 32 := 1#32
  let v19072 : BitVec 32 := Scalar.muli v126 c1_i32_27245
  let v19073 : BitVec 32 := Scalar.addi c0_i32_27246 v19072
  v19073.toNat
def k0_dev954 (d0 : Dev nD) : Nat :=
  let c0_i32_27275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27274 : BitVec 32 := 1#32
  let v19097 : BitVec 32 := Scalar.muli v88 c1_i32_27274
  let v19098 : BitVec 32 := Scalar.addi c0_i32_27275 v19097
  v19098.toNat
def k0_dev955 (d0 : Dev nD) : Nat :=
  let c0_i32_27302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27301 : BitVec 32 := 1#32
  let v19109 : BitVec 32 := Scalar.muli v88 c1_i32_27301
  let v19110 : BitVec 32 := Scalar.addi c0_i32_27302 v19109
  v19110.toNat
def k0_dev956 (d0 : Dev nD) : Nat :=
  let c0_i32_27355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27354 : BitVec 32 := 1#32
  let v19143 : BitVec 32 := Scalar.muli v126 c1_i32_27354
  let v19144 : BitVec 32 := Scalar.addi c0_i32_27355 v19143
  v19144.toNat
def k0_dev957 (d0 : Dev nD) : Nat :=
  let c0_i32_27407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27406 : BitVec 32 := 1#32
  let v19176 : BitVec 32 := Scalar.muli v88 c1_i32_27406
  let v19177 : BitVec 32 := Scalar.addi c0_i32_27407 v19176
  v19177.toNat
def k0_dev958 (d0 : Dev nD) : Nat :=
  let c0_i32_27460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27459 : BitVec 32 := 1#32
  let v19210 : BitVec 32 := Scalar.muli v126 c1_i32_27459
  let v19211 : BitVec 32 := Scalar.addi c0_i32_27460 v19210
  v19211.toNat
def k0_dev959 (d0 : Dev nD) : Nat :=
  let c0_i32_27512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27511 : BitVec 32 := 1#32
  let v19243 : BitVec 32 := Scalar.muli v88 c1_i32_27511
  let v19244 : BitVec 32 := Scalar.addi c0_i32_27512 v19243
  v19244.toNat
def k0_dev960 (d0 : Dev nD) : Nat :=
  let c0_i32_27565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27564 : BitVec 32 := 1#32
  let v19277 : BitVec 32 := Scalar.muli v126 c1_i32_27564
  let v19278 : BitVec 32 := Scalar.addi c0_i32_27565 v19277
  v19278.toNat
def k0_dev961 (d0 : Dev nD) : Nat :=
  let c0_i32_27617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27616 : BitVec 32 := 1#32
  let v19310 : BitVec 32 := Scalar.muli v88 c1_i32_27616
  let v19311 : BitVec 32 := Scalar.addi c0_i32_27617 v19310
  v19311.toNat
def k0_dev962 (d0 : Dev nD) : Nat :=
  let c0_i32_27670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27669 : BitVec 32 := 1#32
  let v19344 : BitVec 32 := Scalar.muli v126 c1_i32_27669
  let v19345 : BitVec 32 := Scalar.addi c0_i32_27670 v19344
  v19345.toNat
def k0_dev963 (d0 : Dev nD) : Nat :=
  let c0_i32_27722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27721 : BitVec 32 := 1#32
  let v19377 : BitVec 32 := Scalar.muli v88 c1_i32_27721
  let v19378 : BitVec 32 := Scalar.addi c0_i32_27722 v19377
  v19378.toNat
def k0_dev964 (d0 : Dev nD) : Nat :=
  let c0_i32_27775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27774 : BitVec 32 := 1#32
  let v19411 : BitVec 32 := Scalar.muli v126 c1_i32_27774
  let v19412 : BitVec 32 := Scalar.addi c0_i32_27775 v19411
  v19412.toNat
def k0_dev965 (d0 : Dev nD) : Nat :=
  let c0_i32_27827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27826 : BitVec 32 := 1#32
  let v19444 : BitVec 32 := Scalar.muli v88 c1_i32_27826
  let v19445 : BitVec 32 := Scalar.addi c0_i32_27827 v19444
  v19445.toNat
def k0_dev966 (d0 : Dev nD) : Nat :=
  let c0_i32_27880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27879 : BitVec 32 := 1#32
  let v19478 : BitVec 32 := Scalar.muli v126 c1_i32_27879
  let v19479 : BitVec 32 := Scalar.addi c0_i32_27880 v19478
  v19479.toNat
def k0_dev967 (d0 : Dev nD) : Nat :=
  let c0_i32_27932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_27931 : BitVec 32 := 1#32
  let v19511 : BitVec 32 := Scalar.muli v88 c1_i32_27931
  let v19512 : BitVec 32 := Scalar.addi c0_i32_27932 v19511
  v19512.toNat
def k0_dev968 (d0 : Dev nD) : Nat :=
  let c0_i32_27985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_27984 : BitVec 32 := 1#32
  let v19545 : BitVec 32 := Scalar.muli v126 c1_i32_27984
  let v19546 : BitVec 32 := Scalar.addi c0_i32_27985 v19545
  v19546.toNat
def k0_dev969 (d0 : Dev nD) : Nat :=
  let c0_i32_28037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c1_i32_19 : BitVec 32 := 1#32
  let v52 : BitVec 32 := Scalar.addi v51 c1_i32_19
  let c32_i32_20 : BitVec 32 := 32#32
  let v53 : BitVec 32 := Scalar.remsi v52 c32_i32_20
  let c16_i32 : BitVec 32 := 16#32
  let v54 : BitVec 1 := Scalar.cmpi .slt v53 c16_i32
  let c31_i32_21 : BitVec 32 := 31#32
  let v55 : BitVec 32 := Scalar.subi c31_i32_21 v53
  let v56 : BitVec 32 := Scalar.select v54 v53 v55
  let c0_i32_26 : BitVec 32 := 0#32
  let v60 : BitVec 1 := Scalar.cmpi .sgt v56 c0_i32_26
  let v61 : BitVec 32 := Scalar.extui v60
  let c0_i32_27 : BitVec 32 := 0#32
  let v62 : BitVec 1 := Scalar.cmpi .slt v56 c0_i32_27
  let v63 : BitVec 32 := Scalar.extui v62
  let v64 : BitVec 32 := Scalar.subi v61 v63
  let c4_i32_25 : BitVec 32 := 4#32
  let c0_i32_28 : BitVec 32 := 0#32
  let v65 : BitVec 1 := Scalar.cmpi .sgt c4_i32_25 c0_i32_28
  let v66 : BitVec 32 := Scalar.extui v65
  let c0_i32_29 : BitVec 32 := 0#32
  let v67 : BitVec 1 := Scalar.cmpi .slt c4_i32_25 c0_i32_29
  let v68 : BitVec 32 := Scalar.extui v67
  let v69 : BitVec 32 := Scalar.subi v66 v68
  let v70 : BitVec 1 := Scalar.cmpi .ne v64 v69
  let v71 : BitVec 32 := Scalar.remsi v56 c4_i32_25
  let c0_i32_30 : BitVec 32 := 0#32
  let v72 : BitVec 1 := Scalar.cmpi .ne v71 c0_i32_30
  let v73 : BitVec 1 := Scalar.andi v70 v72
  let v59 : BitVec 32 := Scalar.divsi v56 c4_i32_25
  let c1_i32_31 : BitVec 32 := 1#32
  let v74 : BitVec 32 := Scalar.subi v59 c1_i32_31
  let v75 : BitVec 32 := Scalar.select v73 v74 v59
  let c8_i32_36 : BitVec 32 := 8#32
  let v81 : BitVec 32 := Scalar.muli v75 c8_i32_36
  let c2_i32_33 : BitVec 32 := 2#32
  let v77 : BitVec 32 := Scalar.remsi v75 c2_i32_33
  let c0_i32_34 : BitVec 32 := 0#32
  let v78 : BitVec 1 := Scalar.cmpi .eq v77 c0_i32_34
  let c4_i32_32 : BitVec 32 := 4#32
  let v76 : BitVec 32 := Scalar.remsi v56 c4_i32_32
  let c3_i32_35 : BitVec 32 := 3#32
  let v79 : BitVec 32 := Scalar.subi c3_i32_35 v76
  let v80 : BitVec 32 := Scalar.select v78 v76 v79
  let c2_i32_37 : BitVec 32 := 2#32
  let v82 : BitVec 32 := Scalar.muli v80 c2_i32_37
  let v83 : BitVec 32 := Scalar.addi v81 v82
  let c2_i32_38 : BitVec 32 := 2#32
  let v84 : BitVec 32 := Scalar.remsi v80 c2_i32_38
  let c0_i32_39 : BitVec 32 := 0#32
  let v85 : BitVec 1 := Scalar.cmpi .eq v84 c0_i32_39
  let c16_i32_22 : BitVec 32 := 16#32
  let v57 : BitVec 1 := Scalar.cmpi .slt v53 c16_i32_22
  let c0_i32_23 : BitVec 32 := 0#32
  let c1_i32_24 : BitVec 32 := 1#32
  let v58 : BitVec 32 := Scalar.select v57 c0_i32_23 c1_i32_24
  let c1_i32_40 : BitVec 32 := 1#32
  let v86 : BitVec 32 := Scalar.subi c1_i32_40 v58
  let v87 : BitVec 32 := Scalar.select v85 v58 v86
  let v88 : BitVec 32 := Scalar.addi v83 v87
  let c1_i32_28036 : BitVec 32 := 1#32
  let v19578 : BitVec 32 := Scalar.muli v88 c1_i32_28036
  let v19579 : BitVec 32 := Scalar.addi c0_i32_28037 v19578
  v19579.toNat
def k0_dev970 (d0 : Dev nD) : Nat :=
  let c0_i32_28090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_18 : BitVec 32 := 0#32
  let v49 : BitVec 1 := Scalar.cmpi .eq v42 c0_i32_18
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v47 : BitVec 32 := Scalar.muli v19 c4_i32
  let c2_i32_16 : BitVec 32 := 2#32
  let v43 : BitVec 32 := Scalar.remsi v19 c2_i32_16
  let c0_i32_17 : BitVec 32 := 0#32
  let v44 : BitVec 1 := Scalar.cmpi .eq v43 c0_i32_17
  let c3_i32 : BitVec 32 := 3#32
  let v45 : BitVec 32 := Scalar.subi c3_i32 v37
  let v46 : BitVec 32 := Scalar.select v44 v37 v45
  let v48 : BitVec 32 := Scalar.addi v47 v46
  let c31_i32 : BitVec 32 := 31#32
  let v50 : BitVec 32 := Scalar.subi c31_i32 v48
  let v51 : BitVec 32 := Scalar.select v49 v48 v50
  let c32_i32_41 : BitVec 32 := 32#32
  let v89 : BitVec 32 := Scalar.addi v51 c32_i32_41
  let c1_i32_42 : BitVec 32 := 1#32
  let v90 : BitVec 32 := Scalar.subi v89 c1_i32_42
  let c32_i32_43 : BitVec 32 := 32#32
  let v91 : BitVec 32 := Scalar.remsi v90 c32_i32_43
  let c16_i32_44 : BitVec 32 := 16#32
  let v92 : BitVec 1 := Scalar.cmpi .slt v91 c16_i32_44
  let c31_i32_45 : BitVec 32 := 31#32
  let v93 : BitVec 32 := Scalar.subi c31_i32_45 v91
  let v94 : BitVec 32 := Scalar.select v92 v91 v93
  let c0_i32_50 : BitVec 32 := 0#32
  let v98 : BitVec 1 := Scalar.cmpi .sgt v94 c0_i32_50
  let v99 : BitVec 32 := Scalar.extui v98
  let c0_i32_51 : BitVec 32 := 0#32
  let v100 : BitVec 1 := Scalar.cmpi .slt v94 c0_i32_51
  let v101 : BitVec 32 := Scalar.extui v100
  let v102 : BitVec 32 := Scalar.subi v99 v101
  let c4_i32_49 : BitVec 32 := 4#32
  let c0_i32_52 : BitVec 32 := 0#32
  let v103 : BitVec 1 := Scalar.cmpi .sgt c4_i32_49 c0_i32_52
  let v104 : BitVec 32 := Scalar.extui v103
  let c0_i32_53 : BitVec 32 := 0#32
  let v105 : BitVec 1 := Scalar.cmpi .slt c4_i32_49 c0_i32_53
  let v106 : BitVec 32 := Scalar.extui v105
  let v107 : BitVec 32 := Scalar.subi v104 v106
  let v108 : BitVec 1 := Scalar.cmpi .ne v102 v107
  let v109 : BitVec 32 := Scalar.remsi v94 c4_i32_49
  let c0_i32_54 : BitVec 32 := 0#32
  let v110 : BitVec 1 := Scalar.cmpi .ne v109 c0_i32_54
  let v111 : BitVec 1 := Scalar.andi v108 v110
  let v97 : BitVec 32 := Scalar.divsi v94 c4_i32_49
  let c1_i32_55 : BitVec 32 := 1#32
  let v112 : BitVec 32 := Scalar.subi v97 c1_i32_55
  let v113 : BitVec 32 := Scalar.select v111 v112 v97
  let c8_i32_60 : BitVec 32 := 8#32
  let v119 : BitVec 32 := Scalar.muli v113 c8_i32_60
  let c2_i32_57 : BitVec 32 := 2#32
  let v115 : BitVec 32 := Scalar.remsi v113 c2_i32_57
  let c0_i32_58 : BitVec 32 := 0#32
  let v116 : BitVec 1 := Scalar.cmpi .eq v115 c0_i32_58
  let c4_i32_56 : BitVec 32 := 4#32
  let v114 : BitVec 32 := Scalar.remsi v94 c4_i32_56
  let c3_i32_59 : BitVec 32 := 3#32
  let v117 : BitVec 32 := Scalar.subi c3_i32_59 v114
  let v118 : BitVec 32 := Scalar.select v116 v114 v117
  let c2_i32_61 : BitVec 32 := 2#32
  let v120 : BitVec 32 := Scalar.muli v118 c2_i32_61
  let v121 : BitVec 32 := Scalar.addi v119 v120
  let c2_i32_62 : BitVec 32 := 2#32
  let v122 : BitVec 32 := Scalar.remsi v118 c2_i32_62
  let c0_i32_63 : BitVec 32 := 0#32
  let v123 : BitVec 1 := Scalar.cmpi .eq v122 c0_i32_63
  let c16_i32_46 : BitVec 32 := 16#32
  let v95 : BitVec 1 := Scalar.cmpi .slt v91 c16_i32_46
  let c0_i32_47 : BitVec 32 := 0#32
  let c1_i32_48 : BitVec 32 := 1#32
  let v96 : BitVec 32 := Scalar.select v95 c0_i32_47 c1_i32_48
  let c1_i32_64 : BitVec 32 := 1#32
  let v124 : BitVec 32 := Scalar.subi c1_i32_64 v96
  let v125 : BitVec 32 := Scalar.select v123 v96 v124
  let v126 : BitVec 32 := Scalar.addi v121 v125
  let c1_i32_28089 : BitVec 32 := 1#32
  let v19612 : BitVec 32 := Scalar.muli v126 c1_i32_28089
  let v19613 : BitVec 32 := Scalar.addi c0_i32_28090 v19612
  v19613.toNat
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Steps.lean ====
/-
  The body of the kernel as a list of short commands, one for each effect, listed step by step and ring by ring.
-/
module

public import proofs.«01_k».proof.KernelIdeal

@[expose] public section

noncomputable section

namespace Cert.KernelIdeal.Steps

open Idealize.ShloMosaic Idealize.SL.Sem
open Cert.KernelIdeal Shapes1.Facts₀ K0.R1.Facts₀ K0.R2.Facts₀

variable {F : FTy → Type} [FloatOps F]

/-! ### The operands -/

/-- The staging buffers of `x`, of `w` and of the result; the ring slots. -/
abbrev xM : Memref sig .tc .vmem S4096x128 .bf16 := Memref.whole cc0_stg0_0
abbrev wM : Memref sig .tc .vmem S128x2048 .bf16 := Memref.whole cc0_stg1_0
abbrev oM : Memref sig .tc .vmem S4096x2048 .bf16 := Memref.whole cc0_stg2_0
abbrev cM : Memref sig .tc .vmem S8x4x128x256 .bf16 := Memref.whole cc0_scratch0
theorem hcM : (cM).IsWhole := Memref.isWhole_whole _
theorem hoM : (oM).IsWhole := Memref.isWhole_whole _

/-! ### Slots, semaphores, devices, rectangles -/

theorem slot_inb (i h : Nat) : ∀ a, (![i % 8, h % 4, 0, 0] : Fin 4 → Nat) a + S1x1x128x256.size a ≤ S8x4x128x256.size a := by
  have h1 : i % 8 < 8 := Nat.mod_lt _ (by decide)
  have h2 : h % 4 < 4 := Nat.mod_lt _ (by decide)
  intro a; fin_cases a
  · exact h1
  · exact h2
  · exact Nat.le_refl _
  · exact Nat.le_refl _

theorem cell_inb (i h : Nat) : ∀ a, (![i % 8, h % 4] : Fin 2 → Nat) a + S1x1.size a ≤ S8x4.size a := by
  have h1 : i % 8 < 8 := Nat.mod_lt _ (by decide)
  have h2 : h % 4 < 4 := Nat.mod_lt _ (by decide)
  intro a; fin_cases a
  · exact h1
  · exact h2

theorem ring_inb (i : Nat) : ∀ a, (![i % 8] : Fin 1 → Nat) a + S1.size a ≤ S8.size a := by
  have h1 : i % 8 < 8 := Nat.mod_lt _ (by decide)
  intro a; fin_cases a
  exact h1

/-- The rectangle of slot `h` of ring `i`. -/
abbrev sRect (i h : Nat) : Rect S8x4x128x256 := Rect.unit (s := S8x4x128x256) ![i % 8, h % 4, 0, 0] S1x1x128x256.size (slot_inb i h)

theorem sRect_words (i h : Nat) : (sRect i h).WholeWords (EltTy.packing .bf16) := by
  have : ∀ (i : Fin 8) (h : Fin 4), (sRect i h).WholeWords (EltTy.packing .bf16) := by decide +kernel
  have h3 := this ⟨i % 8, Nat.mod_lt _ (by decide)⟩ ⟨h % 4, Nat.mod_lt _ (by decide)⟩
  simpa [sRect] using h3

theorem sRect_packed (i h : Nat) : (sRect i h).PackedRows (EltTy.packing .bf16) := by
  have : ∀ (i : Fin 8) (h : Fin 4), (sRect i h).PackedRows (EltTy.packing .bf16) := by decide +kernel
  have h3 := this ⟨i % 8, Nat.mod_lt _ (by decide)⟩ ⟨h % 4, Nat.mod_lt _ (by decide)⟩
  simpa [sRect] using h3

variable [Facts]

/-- Slot `h` of ring `i`. -/
abbrev slotM (i h : Nat) : Memref sig .tc .vmem S128x256 .bf16 :=
  (cM.slice (sRect i h) (fun _ => rfl)).squeeze S128x256 squeezes_S1x1x128x256_S128x256

/-- The semaphore a transfer out of slot `h` of ring `i` counts on, the one a transfer into it counts on, and ring `i`'s credits. -/
abbrev ssemC (i h : Nat) : DmaSem sig :=
  ((cc0_scratch1.slice (Rect.unit (s := S8x4) ![i % 8, h % 4] S1x1.size (cell_inb i h))).squeeze S_ squeezes_S1x1_S_).sem
abbrev rsemC (i h : Nat) : DmaSem sig :=
  ((cc0_scratch2.slice (Rect.unit (s := S8x4) ![i % 8, h % 4] S1x1.size (cell_inb i h))).squeeze S_ squeezes_S1x1_S_).sem
abbrev credC (i : Nat) : Sem sig :=
  ((cc0_scratch3.slice (Rect.unit (s := S8) ![i % 8] S1.size (ring_inb i))).squeeze S_ squeezes_S1_S_).sem
abbrev barC : Sem sig := (SemArray.scalar (sig.barrier 2 rfl) : Sems sig S_).sem

/-- The neighbours on the ring. -/
abbrev leftD (d : Dev nD) : Dev nD := ⟨k0_dev1 d, k0_dev1_lt d⟩
abbrev rightD (d : Dev nD) : Dev nD := ⟨k0_dev2 d, k0_dev2_lt d⟩

/-- Ring `i`'s downstream neighbour: to the right in the even rings, to the left in the odd ones. -/
abbrev downD (d : Dev nD) (i : Nat) : Dev nD := match i % 2 with | 0 => rightD d | _ => leftD d
/-- and its upstream neighbour. -/
abbrev upD (d : Dev nD) (i : Nat) : Dev nD := match i % 2 with | 0 => leftD d | _ => rightD d

abbrev f31 (h : Nat) : Fin 31 := ⟨h % 31, Nat.mod_lt _ (by decide)⟩

/-- Where ring `i`'s finished chunk goes in the result, on the device that finished it. -/
abbrev ownOff (d : Dev nD) (i : Nat) : Fin 2 → Nat :=
  match i with
  | 0 => k0_off4 d | 1 => k0_off5 d | 2 => k0_off6 d | 3 => k0_off7 d
  | 4 => k0_off8 d | 5 => k0_off9 d | 6 => k0_off10 d | _ => k0_off11 d

theorem ownOff_inb (d : Dev nD) (i : Nat) : ∀ a, ownOff d i a + S128x256.size a ≤ S4096x2048.size a := by
  match i with
  | 0 => exact k0_off4_inb d
  | 1 => exact k0_off5_inb d
  | 2 => exact k0_off6_inb d
  | 3 => exact k0_off7_inb d
  | 4 => exact k0_off8_inb d
  | 5 => exact k0_off9_inb d
  | 6 => exact k0_off10_inb d
  | _ + 7 => exact k0_off11_inb d

abbrev ownRect (d : Dev nD) (i : Nat) : Rect S4096x2048 := Rect.unit (s := S4096x2048) (ownOff d i) S128x256.size (ownOff_inb d i)

theorem ownRect_packed (d : Dev nD) (i : Nat) : (ownRect d i).PackedRows (EltTy.packing .bf16) := by
  match i with
  | 0 => exact k0_off4_packedbf16 d
  | 1 => exact k0_off5_packedbf16 d
  | 2 => exact k0_off6_packedbf16 d
  | 3 => exact k0_off7_packedbf16 d
  | 4 => exact k0_off8_packedbf16 d
  | 5 => exact k0_off9_packedbf16 d
  | 6 => exact k0_off10_packedbf16 d
  | _ + 7 => exact k0_off11_packedbf16 d

/-- Where ring `i`'s chunk received `h + 1` hops after the start goes, `h ≥ 31`. -/
abbrev gotOff (d : Dev nD) (i h : Nat) : Fin 2 → Nat :=
  match i with
  | 0 => k0_off12 d (BitVec.ofNat 32 (f31 h).val) | 1 => k0_off13 d (BitVec.ofNat 32 (f31 h).val)
  | 2 => k0_off14 d (BitVec.ofNat 32 (f31 h).val) | 3 => k0_off15 d (BitVec.ofNat 32 (f31 h).val)
  | 4 => k0_off16 d (BitVec.ofNat 32 (f31 h).val) | 5 => k0_off17 d (BitVec.ofNat 32 (f31 h).val)
  | 6 => k0_off18 d (BitVec.ofNat 32 (f31 h).val) | _ => k0_off19 d (BitVec.ofNat 32 (f31 h).val)

theorem gotOff_inb (d : Dev nD) (i h : Nat) : ∀ a, gotOff d i h a + S128x256.size a ≤ S4096x2048.size a := by
  match i with
  | 0 => exact k0_off12_inb d _
  | 1 => exact k0_off13_inb d _
  | 2 => exact k0_off14_inb d _
  | 3 => exact k0_off15_inb d _
  | 4 => exact k0_off16_inb d _
  | 5 => exact k0_off17_inb d _
  | 6 => exact k0_off18_inb d _
  | _ + 7 => exact k0_off19_inb d _

abbrev gotRect (d : Dev nD) (i h : Nat) : Rect S4096x2048 := Rect.unit (s := S4096x2048) (gotOff d i h) S128x256.size (gotOff_inb d i h)

theorem gotRect_packed (d : Dev nD) (i h : Nat) : (gotRect d i h).PackedRows (EltTy.packing .bf16) := by
  match i with
  | 0 => exact k0_off12_packedbf16 d _
  | 1 => exact k0_off13_packedbf16 d _
  | 2 => exact k0_off14_packedbf16 d _
  | 3 => exact k0_off15_packedbf16 d _
  | 4 => exact k0_off16_packedbf16 d _
  | 5 => exact k0_off17_packedbf16 d _
  | 6 => exact k0_off18_packedbf16 d _
  | _ + 7 => exact k0_off19_packedbf16 d _

/-! ### Values -/

/-- The values loaded last: the rows of `x` and the columns of `w` of the even rings, those of the odd ones, and a slot's contents. -/
structure St (F : FTy → Type) where
  xa : Vec F S128x128 .bf16
  wa : Vec F S128x1024 .bf16
  xb : Vec F S128x128 .bf16
  wb : Vec F S128x1024 .bf16
  ld : Vec F S1x1x128x256 .bf16

/-- A block of rows of `x` times half the columns of `w`. -/
def prod (x : Vec F S128x128 .bf16) (w : Vec F S128x1024 .bf16) : FVec F S128x1024 .f32 :=
  matmul dot_S128x128_S128x1024_S128x1024_1_0_0_1_n_n none (shapeCast S128x128 x shapeCasts_S128x128_S128x128)
    (shapeCast S128x1024 w shapeCasts_S128x1024_S128x1024) (constant S128x1024 .f32 0x00000000#32)

/-- The product ring `i` takes its columns of. -/
def St.prod (st : St F) (i : Nat) : FVec F S128x1024 .f32 :=
  match i % 2 with | 0 => Steps.prod st.xa st.wa | _ => Steps.prod st.xb st.wb

theorem cols_slices (i : Nat) : S128x1024.Slices ![0, i / 2 % 4 * 256] S128x256 := by
  have hi : i / 2 % 4 < 4 := Nat.mod_lt _ (by decide)
  generalize i / 2 % 4 = j at hi
  match j, hi with
  | 0, _ => exact slices_S128x1024_o0_0_S128x256
  | 1, _ => exact slices_S128x1024_o0_256_S128x256
  | 2, _ => exact slices_S128x1024_o0_512_S128x256
  | 3, _ => exact slices_S128x1024_o0_768_S128x256
  | n + 4, hi => omega

/-- Ring `i`'s columns. -/
def cols {φ : FTy} (i : Nat) (v : FVec F S128x1024 φ) : FVec F S128x256 φ := extractStridedSlice S128x256 ![0, i / 2 % 4 * 256] v (cols_slices i)

def toSlot (v : FVec F S128x256 .bf16) : FVec F S1x1x128x256 .bf16 := shapeCast S1x1x128x256 v shapeCasts_S128x256_S1x1x128x256
def ofSlot (v : FVec F S1x1x128x256 .bf16) : FVec F S128x256 .bf16 := shapeCast S128x256 v shapeCasts_S1x1x128x256_S128x256

/-- What a ring starts from, -/
def first (i : Nat) (P : FVec F S128x1024 .f32) : FVec F S128x256 .bf16 := cols i (truncf .bf16 P bitsLt_bf16_f32)

/-- the sum a device adds its own product to, -/
def total (i : Nat) (P : FVec F S128x1024 .f32) (v : FVec F S1x1x128x256 .bf16) : FVec F S128x256 .f32 :=
  addf (extf .f32 (ofSlot v) bitsLt_bf16_f32) (cols i P)

/-- that sum as it is passed on, -/
def accum (i : Nat) (P : FVec F S128x1024 .f32) (v : FVec F S1x1x128x256 .bf16) : FVec F S128x256 .bf16 :=
  truncf .bf16 (total i P v) bitsLt_bf16_f32

/-- and the activation. -/
def gelu (s : FVec F S128x256 .f32) : FVec F S128x256 .bf16 :=
  truncf .bf16
    (mulf (mulf (broadcast S128x256 (Scalar.ofBits .f32 0x3F000000#32)) s)
      (addf (broadcast S128x256 (Scalar.ofBits .f32 0x3F800000#32))
        (tanh (mulf (broadcast S128x256 (Scalar.ofBits .f32 0x3F4C422A#32))
          (addf s (mulf (mulf (mulf (broadcast S128x256 (Scalar.ofBits .f32 0x3D372713#32)) s) s) s))))))
    bitsLt_bf16_f32

/-! ### Commands -/

abbrev Pg (F : FTy → Type) [FloatOps F] [Facts] : Type _ := Prog (TpuEff nD τ sig (Elt F) Λ₀ .tc) PUnit
abbrev Cmd (F : FTy → Type) [FloatOps F] [Facts] : Type _ := St F → (St F → Pg F) → Pg F

/-- A list of commands, then the rest. -/
def run : List (Cmd F) → St F → (St F → Pg F) → Pg F
  | [], st, K => K st
  | c :: cs, st, K => c st (fun st' => run cs st' K)

def loadXa (off : Fin 2 → Nat) (h : ∀ a, off a + S128x128.size a ≤ S4096x128.size a) : Cmd F := fun st K =>
  .op (.load xM (Rect.unit (s := S4096x128) off S128x128.size h).toLoadRect (View.loadsAt_vmem h_S128x128)) fun v => K { st with xa := v }
def loadXb (off : Fin 2 → Nat) (h : ∀ a, off a + S128x128.size a ≤ S4096x128.size a) : Cmd F := fun st K =>
  .op (.load xM (Rect.unit (s := S4096x128) off S128x128.size h).toLoadRect (View.loadsAt_vmem h_S128x128)) fun v => K { st with xb := v }
def loadWa : Cmd F := fun st K =>
  .op (.load wM (Rect.unit (s := S128x2048) ![0, 0] S128x1024.size inb_S128x2048_S128x1024_0_0).toLoadRect (View.loadsAt_vmem h_S128x1024)) fun v => K { st with wa := v }
def loadWb : Cmd F := fun st K =>
  .op (.load wM (Rect.unit (s := S128x2048) ![0, 1024] S128x1024.size inb_S128x2048_S128x1024_0_1024).toLoadRect (View.loadsAt_vmem h_S128x1024)) fun v => K { st with wb := v }
/-- Load slot `s` of ring `i`. -/
def loadC (i s : Nat) : Cmd F := fun st K =>
  .op (.load cM (sRect i s).toLoadRect (View.loadsAt_vmem h_S1x1x128x256)) fun v => K { st with ld := v }
/-- Load it and forget it. -/
def peekC (i s : Nat) : Cmd F := fun st K =>
  .op (.load cM (sRect i s).toLoadRect (View.loadsAt_vmem h_S1x1x128x256)) fun _ => K st
def storeC (i s : Nat) (v : St F → FVec F S128x256 .bf16) : Cmd F := fun st K =>
  .op (.store cM (sRect i s) (toSlot (v st)) Finset.univ (View.stores_vmem h_S1x1x128x256 (hcM.storeExact_slice rfl _ (sRect_packed i s)) (fun _ => rfl)) (.inl rfl))
    fun _ => K st
def peekO (off : Fin 2 → Nat) (h : ∀ a, off a + S128x256.size a ≤ S4096x2048.size a) : Cmd F := fun st K =>
  .op (.load oM (Rect.unit (s := S4096x2048) off S128x256.size h).toLoadRect (View.loadsAt_vmem h_S128x256)) fun _ => K st
def storeO (off : Fin 2 → Nat) (h : ∀ a, off a + S128x256.size a ≤ S4096x2048.size a)
    (hp : (Rect.unit (s := S4096x2048) off S128x256.size h).PackedRows (EltTy.packing .bf16)) (v : St F → FVec F S128x256 .bf16) : Cmd F := fun st K =>
  .op (.store oM (Rect.unit (s := S4096x2048) off S128x256.size h) (v st) Finset.univ
    (View.stores_vmem h_S128x256 (hoM.storeExact_slice rfl _ hp) (fun _ => rfl)) (.inl rfl)) fun _ => K st
/-- Send ring `i`'s slot `k` to the downstream neighbour's slot `k + 1`. -/
def send (d : Dev nD) (i k : Nat) : Cmd F := fun st K =>
  .op (.enqueueDma (slotM i k) (.remote (Dev.tc (downD d i)) (slotM i (k + 1)) (.dma (ssemC i k))) (.dma (rsemC i (k + 1)))
    ((hcM.wordExact_slice rfl _ (sRect_words i k)).reshape _ _) ((hcM.wordExact_slice rfl _ (sRect_words i (k + 1))).reshape _ _) ⟨⟨rfl, Or.inl rfl⟩, trivial⟩)
    fun _ => K st
def waitRecv (i h : Nat) : Cmd F := fun st K =>
  .op (.waitDma2 (rsemC i (h + 1)) (slotM i h) (slotM i (h + 1))
    ((hcM.wordExact_slice rfl _ (sRect_words i h)).reshape _ _) ((hcM.wordExact_slice rfl _ (sRect_words i (h + 1))).reshape _ _)) fun _ => K st
def waitSend (i h : Nat) : Cmd F := fun st K =>
  .op (.waitDma2 (ssemC i h) (slotM i (h + 1)) (slotM i h)
    ((hcM.wordExact_slice rfl _ (sRect_words i (h + 1))).reshape _ _) ((hcM.wordExact_slice rfl _ (sRect_words i h)).reshape _ _)) fun _ => K st
/-- Give the upstream neighbour a credit; take one. -/
def sigCredit (d : Dev nD) (i : Nat) : Cmd F := fun st K => .op (.semSignal (Dev.tc (upD d i)) (credC i) (1#32).toInt) fun _ => K st
def waitCredit (i : Nat) : Cmd F := fun st K => .op (.semWait (credC i) (1#32).toInt) fun _ => K st
def sigBar (d : Dev nD) : Cmd F := fun st K => .op (.semSignal (Dev.tc d) barC (1#32).toInt) fun _ => K st
def waitBar : Cmd F := fun st K => .op (.semWait barC (2#32).toInt) fun _ => K st

/-! ### The program -/

/-- What ring `i` does with slot `h + 1`, received, at step `h`. -/
def useCmds (d : Dev nD) (h i : Nat) : List (Cmd F) :=
  if h < 30 then [loadC i (h + 1), peekC i (h + 1), storeC i (h + 1) fun st => accum i (st.prod i) st.ld]
  else if h = 30 then [loadC i (h + 1), peekC i (h + 1), storeC i (h + 1) fun st => gelu (total i (st.prod i) st.ld),
    peekO (ownOff d i) (ownOff_inb d i), storeO (ownOff d i) (ownOff_inb d i) (ownRect_packed d i) fun st => gelu (total i (st.prod i) st.ld)]
  else []

/-- passing it on, -/
def passCmds (d : Dev nD) (h i : Nat) : List (Cmd F) :=
  if h < 61 then (if 3 ≤ h + 1 then [waitCredit i, send d i (h + 1)] else [send d i (h + 1)]) else []

/-- copying a finished chunk into the result, -/
def copyCmds (d : Dev nD) (h i : Nat) : List (Cmd F) :=
  if 30 < h then [loadC i (h + 1), peekO (gotOff d i h) (gotOff_inb d i h), storeO (gotOff d i h) (gotOff_inb d i h) (gotRect_packed d i h) fun st => ofSlot st.ld]
  else []

/-- and letting the slot sent go. -/
def doneCmds (d : Dev nD) (h i : Nat) : List (Cmd F) := if h ≤ 58 then [waitSend i h, sigCredit d i] else [waitSend i h]

def ringCmds (d : Dev nD) (h i : Nat) : List (Cmd F) :=
  waitRecv i h :: (useCmds d h i ++ (passCmds d h i ++ (copyCmds d h i ++ doneCmds d h i)))

/-- Rings `i`, `i + 1`, … of step `h`, `n` of them. -/
def ringsCmds (d : Dev nD) (h : Nat) : Nat → Nat → List (Cmd F)
  | _, 0 => []
  | i, n + 1 => ringCmds d h i ++ ringsCmds d h (i + 1) n

def prodCmds (d : Dev nD) (h : Nat) : List (Cmd F) :=
  if h ≤ 30 then [loadXa (k0_off2 d (BitVec.ofNat 32 (f31 h).val)) (k0_off2_inb d (f31 h)), loadWa,
    loadXb (k0_off3 d (BitVec.ofNat 32 (f31 h).val)) (k0_off3_inb d (f31 h)), loadWb] else []

def stepCmds (d : Dev nD) (h : Nat) : List (Cmd F) := prodCmds d h ++ ringsCmds d h 0 8

/-- Steps `h`, `h + 1`, …, `n` of them. -/
def stepsCmds (d : Dev nD) : Nat → Nat → List (Cmd F)
  | _, 0 => []
  | h, n + 1 => stepCmds d h ++ stepsCmds d (h + 1) n

def startCmds (d : Dev nD) (i : Nat) : List (Cmd F) := [peekC i 0, storeC i 0 fun st => first i (st.prod i), send d i 0]

/-- Starting rings `i`, `i + 1`, …, `n` of them. -/
def startsCmds (d : Dev nD) : Nat → Nat → List (Cmd F)
  | _, 0 => []
  | i, n + 1 => startCmds d i ++ startsCmds d (i + 1) n

def preCmds (d : Dev nD) : List (Cmd F) :=
  [sigBar (leftD d), sigBar (rightD d), waitBar, loadXa (k0_off1 d) (k0_off1_inb d), loadWa, loadXb (k0_off1 d) (k0_off1_inb d), loadWb]

def prologue (d : Dev nD) : List (Cmd F) := preCmds d ++ startsCmds d 0 8

end Cert.KernelIdeal.Steps
-- ==== Proof.Geo.lean ====
/-
  Where a device stands on the ring, its neighbours, and the rows and columns each access of the body names, in closed form.
-/
module

public import proofs.«01_k».proof.Proof.Steps
public import proofs.«01_k».proof.Proof.Gen.KernelIdeal

@[expose] public section

set_option maxRecDepth 100000

noncomputable section

namespace Cert.KernelIdeal.Steps

open Idealize.ShloMosaic Idealize.SL.Sem
open Cert.KernelIdeal Cert.KernelIdeal.Gen

/-- A device's place on the ring. -/
def pos (d : Dev nD) : Nat := k0_off1 d 0 / 128

theorem pos_lt (d : Dev nD) : pos d < 32 := by revert d; decide +kernel
theorem pos_inj : ∀ d e : Dev nD, pos d = pos e → d = e := by decide +kernel
theorem pos_right (d : Dev nD) : pos (rightD d) = (pos d + 1) % 32 := by revert d; decide +kernel
theorem pos_left (d : Dev nD) : pos (leftD d) = (pos d + 31) % 32 := by revert d; decide +kernel

theorem off1_eq (d : Dev nD) : k0_off1 d = ![pos d * 128, 0] := by
  have h : ∀ (d : Dev nD) (a : Fin 2), k0_off1 d a = (![pos d * 128, 0] : Fin 2 → Nat) a := by decide +kernel
  exact funext (h d)
theorem off2_eq (d : Dev nD) (r : Fin 31) : k0_off2 d (BitVec.ofNat 32 r.val) = ![(pos d + 31 - r.val) % 32 * 128, 0] := by
  have h : ∀ (d : Dev nD) (r : Fin 31) (a : Fin 2),
      k0_off2 d (BitVec.ofNat 32 r.val) a = (![(pos d + 31 - r.val) % 32 * 128, 0] : Fin 2 → Nat) a := by decide +kernel
  exact funext (h d r)

theorem off3_eq (d : Dev nD) (r : Fin 31) : k0_off3 d (BitVec.ofNat 32 r.val) = ![(pos d + r.val + 1) % 32 * 128, 0] := by
  have h : ∀ (d : Dev nD) (r : Fin 31) (a : Fin 2),
      k0_off3 d (BitVec.ofNat 32 r.val) a = (![(pos d + r.val + 1) % 32 * 128, 0] : Fin 2 → Nat) a := by decide +kernel
  exact funext (h d r)

/-- The first column of ring `i`. -/
def col (i : Nat) : Nat := i % 2 * 1024 + i / 2 * 256

/-- The chunk of rows ring `i` brings device `d` at step `h`. -/
def chunk (d : Dev nD) (i h : Nat) : Nat := if i % 2 = 0 then (pos d + 95 - h) % 32 else (pos d + h + 1) % 32

theorem chunk_lt (d : Dev nD) (i h : Nat) : chunk d i h < 32 := by unfold chunk; split <;> exact Nat.mod_lt _ (by decide)

theorem ownOff_eq (d : Dev nD) (i : Fin 8) : ownOff d i.val = ![chunk d i.val 30 * 128, col i.val] := by
  have h : ∀ (d : Dev nD) (i : Fin 8) (a : Fin 2), ownOff d i.val a = (![chunk d i.val 30 * 128, col i.val] : Fin 2 → Nat) a := by decide +kernel
  exact funext (h d i)

theorem gotOff_eq' (d : Dev nD) (i : Fin 8) (r : Fin 31) : gotOff d i.val (r.val + 31) = ![chunk d i.val (r.val + 31) * 128, col i.val] := by
  have h : ∀ (i : Fin 8) (d : Dev nD) (r : Fin 31) (a : Fin 2),
      gotOff d i.val (r.val + 31) a = (![chunk d i.val (r.val + 31) * 128, col i.val] : Fin 2 → Nat) a := by decide +kernel
  exact funext (h i d r)

theorem gotOff_eq (d : Dev nD) (i : Fin 8) (h : Nat) (h1 : 30 < h) (h2 : h < 62) : gotOff d i.val h = ![chunk d i.val h * 128, col i.val] := by
  obtain ⟨r, rfl⟩ := Nat.exists_eq_add_of_le (show 31 ≤ h from h1)
  have := gotOff_eq' d i ⟨r, by omega⟩
  rwa [Nat.add_comm] at this

/-! ### Neighbours -/

theorem left_right (d : Dev nD) : leftD (rightD d) = d := by revert d; decide +kernel
theorem right_left (d : Dev nD) : rightD (leftD d) = d := by revert d; decide +kernel
theorem up_down (d : Dev nD) (i : Nat) : upD (downD d i) i = d := by
  unfold upD downD; rcases Nat.mod_two_eq_zero_or_one i with h | h <;> simp only [h]
  · exact left_right d
  · exact right_left d
theorem down_up (d : Dev nD) (i : Nat) : downD (upD d i) i = d := by
  unfold upD downD; rcases Nat.mod_two_eq_zero_or_one i with h | h <;> simp only [h]
  · exact right_left d
  · exact left_right d

/-- Ring `i`, as a permutation of the devices. -/
def ringE (i : Nat) : Dev nD ≃ Dev nD := ⟨fun d => downD d i, fun d => upD d i, fun d => up_down d i, fun d => down_up d i⟩
def leftE : Dev nD ≃ Dev nD := ⟨leftD, rightD, right_left, left_right⟩
def rightE : Dev nD ≃ Dev nD := ⟨rightD, leftD, left_right, right_left⟩

theorem chunk_down (d : Dev nD) (i h : Nat) (hh : h < 62) : chunk (downD d i) i (h + 1) = chunk d i h := by
  unfold chunk downD
  have := pos_lt d
  rcases Nat.mod_two_eq_zero_or_one i with hi | hi <;> simp only [hi]
  · rw [pos_right]; simp only [if_true]; omega
  · rw [pos_left]; simp only [Nat.one_ne_zero, if_false]; omega

end Cert.KernelIdeal.Steps
-- ==== Proof.Cells.lean ====
/-
  The semaphore cells of the kernel, the slots of its rings as parts of one buffer, and what is read from and written to a slot.
-/
module

public import proofs.«01_k».proof.Proof.Geo
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Release
public import Idealize.ShloMosaic.Lib.Rounds
public import Idealize.ShloMosaic.Lib.ViewIndex
public import Idealize.ShloMosaic.Lib.Tactic

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

/-! ### The algebra: the staging pipeline's rounds, the rings' rounds, the slots' releases -/

abbrev UB : Type := URounds (GSem nD τ sig) ℕ
/-- A slot that is written: its reader, its ring, and which of the four hops in a row writes it. -/
abbrev Key : Type := Dev nD × Fin 8 × Fin 4
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

/-! ### Cells -/

/-- Which of four consecutive hops. -/
abbrev C (k : ℕ) : Fin 4 := ⟨k % 4, Nat.mod_lt _ (by decide)⟩

/-- A device's cells: the barrier, a ring's credits, a slot's transfers out and in. -/
inductive CK where
  | bar : CK
  | cred (i : Fin 8) : CK
  | snd (i : Fin 8) (s : Fin 4) : CK
  | rcv (i : Fin 8) (s : Fin 4) : CK
deriving DecidableEq

/-- The cells as a sum, for counting them. -/
def ckE : (Unit ⊕ Fin 8) ⊕ ((Fin 8 × Fin 4) ⊕ (Fin 8 × Fin 4)) ≃ CK where
  toFun x := match x with
    | .inl (.inl _) => .bar | .inl (.inr i) => .cred i | .inr (.inl p) => .snd p.1 p.2 | .inr (.inr p) => .rcv p.1 p.2
  invFun k := match k with
    | .bar => .inl (.inl ()) | .cred i => .inl (.inr i) | .snd i s => .inr (.inl (i, s)) | .rcv i s => .inr (.inr (i, s))
  left_inv x := by rcases x with (x | x) | (x | x) <;> rfl
  right_inv k := by cases k <;> rfl

instance : Fintype CK := Fintype.ofEquiv _ ckE

/-- The semaphore of a cell. A slot's transfers in are told by the hop that makes them: hop `s` lands in slot `s + 1`. -/
def csem : CK → SemLoc sig
  | .bar => .reg barC
  | .cred i => .reg (credC i.val)
  | .snd i s => .dma (ssemC i.val s.val)
  | .rcv i s => .dma (rsemC i.val (s.val + 1))

theorem csem_bar_cred : ∀ i : Fin 8, (SemLoc.reg barC : SemLoc sig) ≠ .reg (credC i.val) := by decide +kernel
theorem csem_cred_cred : ∀ i j : Fin 8, (SemLoc.reg (credC i.val) : SemLoc sig) = .reg (credC j.val) → i = j := by decide +kernel
theorem csem_snd_snd : ∀ (i j : Fin 8) (s t : Fin 4), (SemLoc.dma (ssemC i.val s.val) : SemLoc sig) = .dma (ssemC j.val t.val) → i = j ∧ s = t := by
  decide +kernel
theorem csem_rcv_rcv : ∀ (i j : Fin 8) (s t : Fin 4),
    (SemLoc.dma (rsemC i.val (s.val + 1)) : SemLoc sig) = .dma (rsemC j.val (t.val + 1)) → i = j ∧ s = t := by decide +kernel
theorem csem_snd_rcv : ∀ (i j : Fin 8) (s t : Fin 4), (SemLoc.dma (ssemC i.val s.val) : SemLoc sig) ≠ .dma (rsemC j.val (t.val + 1)) := by
  decide +kernel

theorem csem_inj : Function.Injective csem := by
  rintro (_ | i | ⟨i, s⟩ | ⟨i, s⟩) (_ | j | ⟨j, t⟩ | ⟨j, t⟩) h
  · rfl
  · exact absurd h (csem_bar_cred j)
  · exact absurd h (fun h => by cases h)
  · exact absurd h (fun h => by cases h)
  · exact absurd h.symm (csem_bar_cred i)
  · rw [csem_cred_cred i j h]
  · exact absurd h (fun h => by cases h)
  · exact absurd h (fun h => by cases h)
  · exact absurd h (fun h => by cases h)
  · exact absurd h (fun h => by cases h)
  · rw [(csem_snd_snd i j s t h).1, (csem_snd_snd i j s t h).2]
  · exact absurd h (csem_snd_rcv i j s t)
  · exact absurd h (fun h => by cases h)
  · exact absurd h (fun h => by cases h)
  · exact absurd h.symm (csem_snd_rcv j i t s)
  · rw [(csem_rcv_rcv i j s t h).1, (csem_rcv_rcv i j s t h).2]

/-- A device's cell. -/
def kcell (ck : Dev nD × CK) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which cell a semaphore is, if any. -/
def kind (s : SemLoc sig) : Option CK := by
  classical exact if h : ∃ k, csem k = s then some h.choose else none

theorem kind_csem (k : CK) : kind (csem k) = some k := by
  classical
  unfold kind
  rw [dif_pos ⟨k, rfl⟩]
  exact congrArg some (csem_inj (Exists.choose_spec (⟨k, rfl⟩ : ∃ k', csem k' = csem k)))

/-! The cells under the names the program gives them. -/

abbrev barCell (d : Dev nD) : GSem nD τ sig := ((d : Thread nD τ), .reg barC)
abbrev credCell (d : Dev nD) (i : Fin 8) : GSem nD τ sig := ((d : Thread nD τ), .reg (credC i.val))
/-- The cell that counts transfer `k` out of device `d` on ring `i`, -/
abbrev sndCell (d : Dev nD) (i : Fin 8) (k : ℕ) : GSem nD τ sig := ((d : Thread nD τ), .dma (ssemC i.val k))
/-- and the one that counts transfer `k` into it. -/
abbrev rcvCell (d : Dev nD) (i : Fin 8) (k : ℕ) : GSem nD τ sig := ((d : Thread nD τ), .dma (rsemC i.val (k + 1)))

theorem ssemC_congr (i : ℕ) {a b : ℕ} (h : a % 4 = b % 4) : ssemC i a = ssemC i b :=
  congrArg (fun x => (SemArray.squeeze x S_ Shapes1.Facts₀.squeezes_S1x1_S_).sem) (SemArray.slice_unit_congr cc0_scratch1 (by rw [h]) _ _)
theorem rsemC_congr (i : ℕ) {a b : ℕ} (h : a % 4 = b % 4) : rsemC i a = rsemC i b :=
  congrArg (fun x => (SemArray.squeeze x S_ Shapes1.Facts₀.squeezes_S1x1_S_).sem) (SemArray.slice_unit_congr cc0_scratch2 (by rw [h]) _ _)
theorem ssemC_mod (i k : ℕ) : ssemC i (k % 4) = ssemC i k := ssemC_congr i (Nat.mod_mod _ _)
theorem rsemC_mod (i k : ℕ) : rsemC i (k % 4 + 1) = rsemC i (k + 1) := rsemC_congr i (Nat.mod_add_mod _ _ _)

theorem barCell_eq (d : Dev nD) : barCell d = kcell (d, .bar) := rfl
theorem credCell_eq (d : Dev nD) (i : Fin 8) : credCell d i = kcell (d, .cred i) := rfl
theorem sndCell_eq (d : Dev nD) (i : Fin 8) (k : ℕ) : sndCell d i k = kcell (d, .snd i (C k)) := by
  show _ = ((d : Thread nD τ), SemLoc.dma (ssemC i.val (k % 4))); rw [ssemC_mod]
theorem rcvCell_eq (d : Dev nD) (i : Fin 8) (k : ℕ) : rcvCell d i k = kcell (d, .rcv i (C k)) := by
  show _ = ((d : Thread nD τ), SemLoc.dma (rsemC i.val (k % 4 + 1))); rw [rsemC_mod]

theorem C_add_four (k : ℕ) : C (k + 4) = C k := Fin.ext (by simp)
theorem sndCell_four (d : Dev nD) (i : Fin 8) (k : ℕ) : sndCell d i (k + 4) = sndCell d i k := by rw [sndCell_eq, sndCell_eq, C_add_four]
theorem rcvCell_four (d : Dev nD) (i : Fin 8) (k : ℕ) : rcvCell d i (k + 4) = rcvCell d i k := by rw [rcvCell_eq, rcvCell_eq, C_add_four]

/-! ### Slots -/

/-- What a transfer of a slot credits. -/
def N : ℕ := (slotM 0 0).view.dmaCredit
theorem N_pos : 0 < N := View.dmaCredit_pos _ (by decide)
theorem credit_eq (i k : ℕ) : (slotM i k).view.dmaCredit = N := rfl

theorem slotM_congr (i : ℕ) {a b : ℕ} (h : a % 4 = b % 4) : slotM i a = slotM i b := by
  have key : ∀ (n m : ℕ) (e : n = m) (hn hm), (cM.slice (Rect.unit (s := S8x4x128x256) ![i % 8, n, 0, 0] S1x1x128x256.size hn) (fun _ => rfl)).squeeze
        S128x256 Shapes1.Facts₀.squeezes_S1x1x128x256_S128x256
      = (cM.slice (Rect.unit (s := S8x4x128x256) ![i % 8, m, 0, 0] S1x1x128x256.size hm) (fun _ => rfl)).squeeze
        S128x256 Shapes1.Facts₀.squeezes_S1x1x128x256_S128x256 := by
    rintro n _ rfl _ _; rfl
  exact key _ _ h _ _

/-- The elements of slot `k` of ring `i`. -/
abbrev sset (i k : ℕ) : Finset (Idx ((slotM i k).view.loc ((0 : Dev nD) : Thread nD τ))) := (slotM i k).view.set

theorem sset_eq (i k : ℕ) : (slotM i k).view.set = (cM.access (sRect i k)).set := View.set_reshape _ _

/-- Device `d` holds slot `k` of ring `i`, at share `q`, with contents `f`. -/
abbrev slotPts (d : Dev nD) (i k : ℕ) (q : PosShare TreeShare) (f : Buf (Elt F) ((slotM i k).view.loc (d : Thread nD τ))) : sProp 𝕄 :=
  (slotM i k).view.loc (d : Thread nD τ) ↦[(slotM i k).view.set]{q} f

/-- What slot `k` of ring `i` reads in contents `f`. -/
abbrev sread (d : Dev nD) (i k : ℕ) (f : Buf (Elt F) ((slotM i k).view.loc (d : Thread nD τ))) : FVec F S128x256 .bf16 := (slotM i k).view.read (Elt F) f

theorem ofSlot_load (d : Dev nD) (i k : ℕ) (f : Buf (Elt F) ((slotM i k).view.loc (d : Thread nD τ))) :
    ofSlot (cM.view.readAt (Elt F) (sRect i k).toLoadRect f) = sread d i k f := rfl

theorem ofSlot_toSlot (v : FVec F S128x256 .bf16) : ofSlot (toSlot v) = v := shapeCast_shapeCast v _ _

theorem sread_store (d : Dev nD) (i k : ℕ) (f : Buf (Elt F) ((slotM i k).view.loc (d : Thread nD τ))) (v : FVec F S128x256 .bf16) :
    sread d i k ((cM.access (sRect i k)).write (Elt F) f (toSlot v) Finset.univ) = v := by
  show ofSlot ((cM.access (sRect i k)).read (Elt F) ((cM.access (sRect i k)).write (Elt F) f (toSlot v) Finset.univ)) = v
  rw [View.read_write_univ, ofSlot_toSlot]

theorem sread_land (d : Dev nD) (i k : ℕ) (f : (slotM i (k + 1)).view.ty.Contents (Elt F)) (v : FVec F S128x256 .bf16) :
    sread d i (k + 1) ((slotM i (k + 1)).view.write (Elt F) f v Finset.univ) = v := View.read_write_univ _ _

theorem slot_nonempty (i k : ℕ) : ((slotM i k).view.set).Nonempty :=
  ⟨_, View.emb_mem_set _ (fun a => ⟨0, by revert a; decide⟩)⟩

end Cert.KernelIdeal.Steps
-- ==== Proof.Sched.lean ====
/-
  What the devices say to each other: what a transfer brings, what a credit promises, who owes what, and the order of the waits.
-/
module

public import proofs.«01_k».proof.Proof.Cells

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ### Contents -/

/-- The blocks of `x` and of `w` on every device. -/
structure Blocks (F : FTy → Type) where
  x : Dev nD → (cc0_stg0_0 : Ref sig .tc).ty.Contents (Elt F)
  w : Dev nD → (cc0_stg1_0 : Ref sig .tc).ty.Contents (Elt F)

variable (B : Blocks F)

/-- Rows of a device's block of `x`, and half the columns of its block of `w`. -/
def xRows (d : Dev nD) (off : Fin 2 → Nat) (h : ∀ a, off a + S128x128.size a ≤ S4096x128.size a) : Vec F S128x128 .bf16 :=
  xM.view.readAt (Elt F) (Rect.unit (s := S4096x128) off S128x128.size h).toLoadRect (B.x d)
def wLeft (d : Dev nD) : Vec F S128x1024 .bf16 :=
  wM.view.readAt (Elt F) (Rect.unit (s := S128x2048) ![0, 0] S128x1024.size Shapes1.Facts₀.inb_S128x2048_S128x1024_0_0).toLoadRect (B.w d)
def wRight (d : Dev nD) : Vec F S128x1024 .bf16 :=
  wM.view.readAt (Elt F) (Rect.unit (s := S128x2048) ![0, 1024] S128x1024.size Shapes1.Facts₀.inb_S128x2048_S128x1024_0_1024).toLoadRect (B.w d)

/-- The product a ring starts from, and the one it adds at step `h`. -/
def prod₀ (d : Dev nD) (i : ℕ) : FVec F S128x1024 .f32 :=
  match i % 2 with
  | 0 => prod (xRows B d (k0_off1 d) (K0.R1.Facts₀.k0_off1_inb d)) (wLeft B d)
  | _ => prod (xRows B d (k0_off1 d) (K0.R1.Facts₀.k0_off1_inb d)) (wRight B d)
def prodAt (d : Dev nD) (i h : ℕ) : FVec F S128x1024 .f32 :=
  match i % 2 with
  | 0 => prod (xRows B d (k0_off2 d (BitVec.ofNat 32 (f31 h).val)) (K0.R1.Facts₀.k0_off2_inb d (f31 h))) (wLeft B d)
  | _ => prod (xRows B d (k0_off3 d (BitVec.ofNat 32 (f31 h).val)) (K0.R1.Facts₀.k0_off3_inb d (f31 h))) (wRight B d)

/-- A received partial sum and the device's own product. -/
def total' (i : ℕ) (P : FVec F S128x1024 .f32) (u : FVec F S128x256 .bf16) : FVec F S128x256 .f32 :=
  addf (extf .f32 u bitsLt_bf16_f32) (cols i P)

/-- What device `d` sends as transfer `k` of ring `i`. -/
def sent : ℕ → Dev nD → ℕ → FVec F S128x256 .bf16
  | 0, d, i => first i (prod₀ B d i)
  | k + 1, d, i =>
    if k < 30 then truncf .bf16 (total' i (prodAt B d i k) (sent k (upD d i) i)) bitsLt_bf16_f32
    else if k = 30 then gelu (total' i (prodAt B d i k) (sent k (upD d i) i))
    else sent k (upD d i) i

/-- What it receives as transfer `k`. -/
abbrev recv (d : Dev nD) (i k : ℕ) : FVec F S128x256 .bf16 := sent B k (upD d i) i

/-! ### What is handed over -/

/-- Transfer `k` into device `e` may go: the slot is released for it and the cell is at its round. -/
def ready (e : Dev nD) (i : Fin 8) (k : ℕ) : sProp 𝕄 :=
  iprop(released ES (e, i, C k) (k / 4 + 1) ∗ reached ER (rcvCell e i k) (k / 4))

instance ready_persistent (e : Dev nD) (i : Fin 8) (k : ℕ) : BI.Persistent (ready (F := F) e i k) := by unfold ready; infer_instance
instance ready_storable (e : Dev nD) (i : Fin 8) (k : ℕ) : BI.Storable (upEmb : UEmb _ 𝕄) (ready (F := F) e i k) := by unfold ready; infer_instance

/-- The first `n` transfers into `e` may go. -/
def readies (e : Dev nD) (i : Fin 8) (n : ℕ) : sProp 𝕄 := bigSep (Finset.range n) fun k => ready e i k

instance readies_persistent (e : Dev nD) (i : Fin 8) (n : ℕ) : BI.Persistent (readies (F := F) e i n) := by unfold readies; infer_instance
instance readies_storable (e : Dev nD) (i : Fin 8) (n : ℕ) : BI.Storable (upEmb : UEmb _ 𝕄) (readies (F := F) e i n) := by unfold readies; infer_instance

/-- A neighbour's word at the barrier: the rings towards it may start. -/
def barPay (d : Dev nD) (j : ℕ) : sProp 𝕄 := bigSep (Finset.univ.filter fun i : Fin 8 => i.val % 2 = j) fun i => readies (downD d i.val) i 3
/-- A transfer out gives back half the slot, -/
def sndPay (d : Dev nD) (i : ℕ) (k : ℕ) : sProp 𝕄 := iprop(∃ f, slotPts d i k fullShare.left f)
/-- a transfer in fills the next one. -/
def rcvPay (d : Dev nD) (i : ℕ) (k : ℕ) : sProp 𝕄 := iprop(∃ f, slotPts d i (k + 1) fullShare f ∗ ⌜sread d i (k + 1) f = recv B d i k⌝)

instance barPay_persistent (d : Dev nD) (j : ℕ) : BI.Persistent (barPay (F := F) d j) := by unfold barPay; infer_instance
instance barPay_storable (d : Dev nD) (j : ℕ) : BI.Storable (upEmb : UEmb _ 𝕄) (barPay (F := F) d j) := by unfold barPay; infer_instance
instance sndPay_storable (d : Dev nD) (i k : ℕ) : BI.Storable (upEmb : UEmb _ 𝕄) (sndPay (F := F) d i k) := by unfold sndPay; infer_instance
instance rcvPay_storable (d : Dev nD) (i k : ℕ) : BI.Storable (upEmb : UEmb _ 𝕄) (rcvPay B d i k) := by unfold rcvPay; infer_instance

/-- The schedule: the barrier hears both neighbours once; a ring's credits are the 59 units of one round; each transfer is
    one round of its cells. -/
def Rd : Rounds.Schedule (GSem nD τ sig) ℕ 𝕄 where
  duties g r := match kind g.2 with
    | none => ∅
    | some .bar => if r = 0 then {0, 1} else ∅
    | some (.cred _) => if r = 0 then Finset.range 59 else ∅
    | some (.snd _ s) => if 4 * r + s.val < 62 then {0} else ∅
    | some (.rcv _ s) => if 4 * r + s.val < 62 then {0} else ∅
  unitless _ := False
  amount g _ _ := match kind g.2 with
    | none => 1 | some .bar => 1 | some (.cred _) => 1 | some (.snd _ _) => N | some (.rcv _ _) => N
  payload g r x := match kind g.2 with
    | none => iprop(emp)
    | some .bar => barPay g.1.1 x
    | some (.cred i) => readies (downD g.1.1 i.val) i (x + 4)
    | some (.snd i s) => sndPay g.1.1 i.val (4 * r + s.val)
    | some (.rcv i s) => rcvPay B g.1.1 i.val (4 * r + s.val)
  amount_pos g _ _ _ := by
    split <;> first | exact Nat.one_pos | exact N_pos

instance Rd_storable (g : GSem nD τ sig) (r x : ℕ) : BI.Storable (upEmb : UEmb _ 𝕄) ((Rd B).payload g r x) := by
  dsimp only [Rd]
  split <;> infer_instance

section Lookups

variable (d : Dev nD) (i : Fin 8) (k : ℕ)

theorem kind_bar : kind (barCell d).2 = some .bar := kind_csem .bar
theorem kind_cred : kind (credCell d i).2 = some (.cred i) := kind_csem (.cred i)
theorem kind_snd : kind (sndCell d i k).2 = some (.snd i (C k)) := by rw [sndCell_eq]; exact kind_csem (.snd i (C k))
theorem kind_rcv : kind (rcvCell d i k).2 = some (.rcv i (C k)) := by rw [rcvCell_eq]; exact kind_csem (.rcv i (C k))

theorem duties_bar : (Rd B).duties (barCell d) 0 = {0, 1} := by dsimp only [Rd]; rw [kind_bar d]; rfl
theorem duties_cred : (Rd B).duties (credCell d i) 0 = Finset.range 59 := by dsimp only [Rd]; rw [kind_cred d i]; rfl
theorem duties_snd (hk : k < 62) : (Rd B).duties (sndCell d i k) (k / 4) = {0} := by
  dsimp only [Rd]; rw [kind_snd d i k]; exact if_pos (by show 4 * (k / 4) + k % 4 < 62; rwa [Nat.div_add_mod])
theorem duties_rcv (hk : k < 62) : (Rd B).duties (rcvCell d i k) (k / 4) = {0} := by
  dsimp only [Rd]; rw [kind_rcv d i k]; exact if_pos (by show 4 * (k / 4) + k % 4 < 62; rwa [Nat.div_add_mod])
theorem duties_bar_end : ∀ r, 1 ≤ r → (Rd B).duties (barCell d) r = ∅ := fun r hr => by
  dsimp only [Rd]; rw [kind_bar d]; exact if_neg (by omega)
theorem duties_cred_end : ∀ r, 1 ≤ r → (Rd B).duties (credCell d i) r = ∅ := fun r hr => by
  dsimp only [Rd]; rw [kind_cred d i]; exact if_neg (by omega)
theorem duties_snd_end (hk : 62 ≤ k) : ∀ r, k / 4 ≤ r → (Rd B).duties (sndCell d i k) r = ∅ := fun r hr => by
  dsimp only [Rd]; rw [kind_snd d i k]; exact if_neg (by show ¬ 4 * r + k % 4 < 62; omega)
theorem duties_rcv_end (hk : 62 ≤ k) : ∀ r, k / 4 ≤ r → (Rd B).duties (rcvCell d i k) r = ∅ := fun r hr => by
  dsimp only [Rd]; rw [kind_rcv d i k]; exact if_neg (by show ¬ 4 * r + k % 4 < 62; omega)

theorem amount_bar (r x : ℕ) : (Rd B).amount (barCell d) r x = 1 := by dsimp only [Rd]; rw [kind_bar d]
theorem amount_cred (r x : ℕ) : (Rd B).amount (credCell d i) r x = 1 := by dsimp only [Rd]; rw [kind_cred d i]
theorem amount_snd (r x : ℕ) : (Rd B).amount (sndCell d i k) r x = N := by dsimp only [Rd]; rw [kind_snd d i k]
theorem amount_rcv (r x : ℕ) : (Rd B).amount (rcvCell d i k) r x = N := by dsimp only [Rd]; rw [kind_rcv d i k]

theorem expect_bar : (Rd B).expect (barCell d) 0 = 2 := by
  unfold Schedule.expect Schedule.amountOf; rw [duties_bar, Finset.sum_congr rfl fun x _ => amount_bar B d 0 x]; rfl
theorem expect_cred : (Rd B).expect (credCell d i) 0 = 59 := by
  unfold Schedule.expect Schedule.amountOf; rw [duties_cred, Finset.sum_congr rfl fun x _ => amount_cred B d i 0 x]; rfl
theorem expect_snd (hk : k < 62) : (Rd B).expect (sndCell d i k) (k / 4) = N := by
  unfold Schedule.expect Schedule.amountOf; rw [duties_snd B d i k hk, Finset.sum_singleton, amount_snd]
theorem expect_rcv (hk : k < 62) : (Rd B).expect (rcvCell d i k) (k / 4) = N := by
  unfold Schedule.expect Schedule.amountOf; rw [duties_rcv B d i k hk, Finset.sum_singleton, amount_rcv]

theorem payload_bar (r x : ℕ) : (Rd B).payload (barCell d) r x = barPay d x := by dsimp only [Rd]; rw [kind_bar d]
theorem payload_cred (r x : ℕ) : (Rd B).payload (credCell d i) r x = readies (downD d i.val) i (x + 4) := by dsimp only [Rd]; rw [kind_cred d i]
theorem payload_snd (x : ℕ) : (Rd B).payload (sndCell d i k) (k / 4) x = sndPay d i.val k := by
  dsimp only [Rd]; rw [kind_snd d i k]; show sndPay d i.val (4 * (k / 4) + k % 4) = _; rw [Nat.div_add_mod]
theorem payload_rcv (x : ℕ) : (Rd B).payload (rcvCell d i k) (k / 4) x = rcvPay B d i.val k := by
  dsimp only [Rd]; rw [kind_rcv d i k]; show rcvPay B d i.val (4 * (k / 4) + k % 4) = _; rw [Nat.div_add_mod]

theorem rest_bar : bigSep ((Rd B).duties (barCell d) 0 \ ∅) (fun x => (Rd B).payload (barCell d) 0 x) = iprop(barPay d 0 ∗ barPay d 1) := by
  rw [Finset.sdiff_empty, duties_bar, show ({0, 1} : Finset ℕ) = insert 0 {1} from rfl, bigSep_insert (by decide), bigSep_singleton, payload_bar, payload_bar]
  rfl
theorem rest_snd (hk : k < 62) : bigSep ((Rd B).duties (sndCell d i k) (k / 4) \ ∅) (fun x => (Rd B).payload (sndCell d i k) (k / 4) x) = sndPay d i.val k := by
  rw [Finset.sdiff_empty, duties_snd B d i k hk, bigSep_singleton, payload_snd]
theorem rest_rcv (hk : k < 62) : bigSep ((Rd B).duties (rcvCell d i k) (k / 4) \ ∅) (fun x => (Rd B).payload (rcvCell d i k) (k / 4) x) = rcvPay B d i.val k := by
  rw [Finset.sdiff_empty, duties_rcv B d i k hk, bigSep_singleton, payload_rcv]

end Lookups

/-! ### What a device owes, and the order of the waits -/

/-- Ring `i`'s transfers from `n` on, and its credits. -/
def owSend (d : Dev nD) (i : Fin 8) (n : ℕ) : CellTallies nD τ sig ℕ := ∑ k ∈ Finset.Ico n 62, tallyAt (rcvCell (downD d i.val) i k) k N
def owCred (d : Dev nD) (i : Fin 8) (n : ℕ) : CellTallies nD τ sig ℕ := ∑ k ∈ Finset.Ico n 59, tallyAt (credCell (upD d i.val) i) k 1

/-- What device `d` owes when ring `i` has still to make its transfers from `a i` on and give its credits from `b i` on. -/
def Ow (d : Dev nD) (a b : Fin 8 → ℕ) : CellTallies nD τ sig ℕ := (∑ i, owSend d i (a i)) + ∑ i, owCred d i (b i)

theorem Ico_peel {n m : ℕ} (h : n < m) : Finset.Ico n m = insert n (Finset.Ico (n + 1) m) := by
  ext x; rw [Finset.mem_insert, Finset.mem_Ico, Finset.mem_Ico]; omega
theorem not_mem_peel (n m : ℕ) : n ∉ Finset.Ico (n + 1) m := fun h => absurd (Finset.mem_Ico.mp h).1 (by omega)

theorem sum_bump {M : Type} [AddCommMonoid M] (f : Fin 8 → ℕ → M) (a : Fin 8 → ℕ) (i : Fin 8) (t : M) (h : f i (a i) = f i (a i + 1) + t) :
    ∑ j, f j (a j) = (∑ j, f j (Function.update a i (a i + 1) j)) + t := by
  rw [← Finset.add_sum_erase _ (fun j => f j (a j)) (Finset.mem_univ i), ← Finset.add_sum_erase _ (fun j => f j (Function.update a i (a i + 1) j)) (Finset.mem_univ i), Function.update_self, h,
    Finset.sum_congr (f := fun j => f j (Function.update a i (a i + 1) j)) rfl fun j hj => by rw [Function.update_of_ne (Finset.ne_of_mem_erase hj)]]
  exact add_right_comm _ _ _

theorem Ow_send (d : Dev nD) (a b : Fin 8 → ℕ) (i : Fin 8) (h : a i < 62) :
    Ow d a b = Ow d (Function.update a i (a i + 1)) b + tallyAt (rcvCell (downD d i.val) i (a i)) (a i) N := by
  unfold Ow
  rw [sum_bump (owSend d) a i _ (by unfold owSend; rw [Ico_peel h, Finset.sum_insert (not_mem_peel _ _)]; exact add_comm _ _)]
  exact add_right_comm _ _ _

theorem Ow_cred (d : Dev nD) (a b : Fin 8 → ℕ) (i : Fin 8) (h : b i < 59) :
    Ow d a b = Ow d a (Function.update b i (b i + 1)) + tallyAt (credCell (upD d i.val) i) (b i) 1 := by
  unfold Ow
  rw [sum_bump (owCred d) b i _ (by unfold owCred; rw [Ico_peel h, Finset.sum_insert (not_mem_peel _ _)]; exact add_comm _ _)]
  exact (add_assoc _ _ _).symm

theorem Ow_zero (d : Dev nD) (a b : Fin 8 → ℕ) (ha : ∀ i, 62 ≤ a i) (hb : ∀ i, 59 ≤ b i) : Ow d a b = 0 := by
  unfold Ow owSend owCred
  rw [Finset.sum_eq_zero fun i _ => by rw [Finset.Ico_eq_empty (by have := ha i; omega), Finset.sum_empty],
    Finset.sum_eq_zero fun i _ => by rw [Finset.Ico_eq_empty (by have := hb i; omega), Finset.sum_empty], add_zero]

def L (g : GSem nD τ sig) : Finset ℕ := if g.1.2 = .tc then Finset.range 64 else ∅
/-- Transfer `k` in at `k + 2`, credit `k` at `k + 3`, the barrier below both, everything else at the bottom. -/
def lv (g : GSem nD τ sig) (n : ℕ) : ℕ := match kind g.2 with
  | some .bar => 1 | some (.rcv _ _) => n + 2 | some (.cred _) => n + 3 | _ => 0

theorem L_tc (d : Dev nD) (sm : SemLoc sig) : L ((d : Thread nD τ), sm) = Finset.range 64 := if_pos rfl
theorem lv_bar (d : Dev nD) (n : ℕ) : lv (barCell d) n = 1 := by unfold lv; rw [kind_bar d]
theorem lv_cred (d : Dev nD) (i : Fin 8) (n : ℕ) : lv (credCell d i) n = n + 3 := by unfold lv; rw [kind_cred d i]
theorem lv_snd (d : Dev nD) (i : Fin 8) (k n : ℕ) : lv (sndCell d i k) n = 0 := by unfold lv; rw [kind_snd d i k]
theorem lv_rcv (d : Dev nD) (i : Fin 8) (k n : ℕ) : lv (rcvCell d i k) n = n + 2 := by unfold lv; rw [kind_rcv d i k]

theorem Ow_pos {d : Dev nD} {a b : Fin 8 → ℕ} {g : GSem nD τ sig} {u : ℕ} (h : 0 < Ow d a b g u) :
    (∃ i, a i ≤ u ∧ u < 62 ∧ g = rcvCell (downD d i.val) i u) ∨ ∃ i, b i ≤ u ∧ u < 59 ∧ g = credCell (upD d i.val) i := by
  unfold Ow owSend owCred at h
  rw [Pi.add_apply, Finsupp.add_apply, Finset.sum_apply, Finset.sum_apply, Finsupp.finset_sum_apply, Finsupp.finset_sum_apply] at h
  rcases Nat.add_pos_iff_pos_or_pos.mp h with h | h
  · obtain ⟨i, -, hi⟩ := Finset.exists_ne_zero_of_sum_ne_zero (Nat.pos_iff_ne_zero.mp h)
    rw [Finset.sum_apply, Finsupp.finset_sum_apply] at hi
    obtain ⟨k, hk, hi⟩ := Finset.exists_ne_zero_of_sum_ne_zero hi
    rw [tallyAt_apply] at hi
    obtain ⟨hg, hu⟩ := (ite_ne_right_iff.mp hi).1
    subst hu
    exact .inl ⟨i, (Finset.mem_Ico.mp hk).1, (Finset.mem_Ico.mp hk).2, hg⟩
  · obtain ⟨i, -, hi⟩ := Finset.exists_ne_zero_of_sum_ne_zero (Nat.pos_iff_ne_zero.mp h)
    rw [Finset.sum_apply, Finsupp.finset_sum_apply] at hi
    obtain ⟨k, hk, hi⟩ := Finset.exists_ne_zero_of_sum_ne_zero hi
    rw [tallyAt_apply] at hi
    obtain ⟨hg, hu⟩ := (ite_ne_right_iff.mp hi).1
    subst hu
    exact .inr ⟨i, (Finset.mem_Ico.mp hk).1, (Finset.mem_Ico.mp hk).2, hg⟩

/-- A wait below everything still owed. -/
theorem mayWait (d : Dev nD) (sm : SemLoc sig) (n cut : ℕ) (a b : Fin 8 → ℕ) (hn : n < 64) (hc : lv ((d : Thread nD τ), sm) n ≤ cut)
    (ha : ∀ i, cut < a i + 2) (hb : ∀ i, cut < b i + 3) : (levAts L lv : sProp 𝕄) ⊢ MayWait (d : Thread nD τ) sm n (Ow d a b) :=
  MayOwe.of_cut (L := L) (lev := lv) cut
    (fun p hp => by rw [Finset.mem_singleton.mp hp, L_tc]; exact Finset.mem_range.mpr hn)
    (fun g u hg => by
      rcases Ow_pos hg with ⟨i, h1, h2, rfl⟩ | ⟨i, h1, h2, rfl⟩ <;> rw [L_tc] <;> exact Finset.mem_range.mpr (by omega))
    (fun p hp => by rw [Finset.mem_singleton.mp hp]; exact hc)
    (fun g u hg => by
      rcases Ow_pos hg with ⟨i, h1, h2, rfl⟩ | ⟨i, h1, h2, rfl⟩
      · rw [lv_rcv]; have := ha i; omega
      · rw [lv_cred]; have := hb i; omega)

end Cert.KernelIdeal.Steps
-- ==== Proof.Rules.lean ====
/-
  One rule for each command that talks to a neighbour or touches a slot, in terms of what ring `i` of device `d` holds.
-/
module

public import proofs.«01_k».proof.Proof.Sched

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

abbrev 𝒱₀ : Variants := Variants.none

/-- Device `d` runs `p`. -/
abbrev WP (d : Dev nD) (p : Pg F) (Q : PUnit.{1} → sProp 𝕄) : sProp 𝕄 :=
  wp frame (wpE (defs₀ (F := F)) 𝒱₀ (d : Thread nD τ) none) Set.univ p Q

variable (B : Blocks F) (Kc : Dev nD × CK → ℕ) (Ks : Key → ℕ)

/-! ### Summands over ranges -/

section Big
variable {I : Type} [DecidableEq I]

theorem big_elim {s : Finset I} {i : I} (h : i ∈ s) {Φ : I → sProp 𝕄} : bigSep s Φ ⊢ Φ i := bigSep_elim h
theorem big_split {s t : Finset I} (h : t ⊆ s) {Φ : I → sProp 𝕄} : bigSep s Φ = iprop(bigSep t Φ ∗ bigSep (s \ t) Φ) := bigSep_sdiff_split h
theorem big_insert {s : Finset I} {i : I} (h : i ∉ s) {Φ : I → sProp 𝕄} : bigSep (insert i s) Φ = iprop(Φ i ∗ bigSep s Φ) := bigSep_insert h

/-- The first of a range, apart; the last of a range, apart. -/
theorem big_peel {n m : ℕ} (h : n < m) (Φ : ℕ → sProp 𝕄) : bigSep (Finset.Ico n m) Φ = iprop(Φ n ∗ bigSep (Finset.Ico (n + 1) m) Φ) := by
  rw [Ico_peel h, big_insert (not_mem_peel _ _)]
theorem big_push {n m : ℕ} (h : n ≤ m) (Φ : ℕ → sProp 𝕄) : bigSep (Finset.Ico n (m + 1)) Φ = iprop(Φ m ∗ bigSep (Finset.Ico n m) Φ) := by
  rw [show Finset.Ico n (m + 1) = insert m (Finset.Ico n m) by ext x; rw [Finset.mem_insert, Finset.mem_Ico, Finset.mem_Ico]; omega,
    big_insert (fun h => absurd (Finset.mem_Ico.mp h).2 (by omega))]
/-- A window moves on by one. -/
theorem big_roll {n : ℕ} (w : ℕ) (Φ : ℕ → sProp 𝕄) :
    iprop(Φ (n + (w + 1)) ∗ bigSep (Finset.Ico (n + 1) (n + (w + 1))) Φ) = bigSep (Finset.Ico (n + 1) (n + 1 + (w + 1))) Φ := by
  rw [show n + 1 + (w + 1) = (n + (w + 1)) + 1 by omega, big_push (by omega)]

end Big

/-! ### What every device knows -/

/-- A slot that a transfer fills. -/
def keySlot (x : Key) : sProp 𝕄 := iprop(∃ f, slotPts x.1 x.2.1.val (x.2.2.val + 1) fullShare f)

instance keySlot_storable (x : Key) : BI.Storable (upEmb : UEmb _ 𝕄) (keySlot (F := F) x) := by unfold keySlot; infer_instance

/-- Every cell's schedule, every slot's release count, the levels, and that every cell has begun. -/
def Inv : sProp 𝕄 :=
  iprop((bigSep Finset.univ fun p : Dev nD × CK => cellInv ER (Rd B) (Kc p) (kcell p))
    ∗ (bigSep Finset.univ fun x : Key => slotInv ES (Ks x) x (keySlot (F := F) x))
    ∗ (bigSep Finset.univ fun p : Dev nD × CK => reached ER (kcell p) 0) ∗ levAts L lv)

instance Inv_persistent : BI.Persistent (Inv B Kc Ks) := by unfold Inv; infer_instance

theorem inv_cell (p : Dev nD × CK) : Inv B Kc Ks ⊢ cellInv ER (Rd B) (Kc p) (kcell p) := by
  unfold Inv; iintro ⟨#H, -⟩
  iapply (big_elim (Φ := fun p : Dev nD × CK => cellInv ER (Rd B) (Kc p) (kcell p)) (Finset.mem_univ p)); iexact H
theorem inv_reached (p : Dev nD × CK) : Inv B Kc Ks ⊢ reached ER (kcell p) 0 := by
  unfold Inv; iintro ⟨-, -, #H, -⟩
  iapply (big_elim (Φ := fun p : Dev nD × CK => reached ER (kcell p) 0) (Finset.mem_univ p)); iexact H
theorem inv_lev : Inv B Kc Ks ⊢ levAts L lv := by unfold Inv; iintro ⟨-, -, -, #H⟩; iexact H
theorem inv_rcv (d : Dev nD) (i : Fin 8) (k : ℕ) : Inv B Kc Ks ⊢ cellInv ER (Rd B) (Kc (d, .rcv i (C k))) (rcvCell d i k) := by
  rw [rcvCell_eq]; exact inv_cell B Kc Ks _
theorem inv_snd (d : Dev nD) (i : Fin 8) (k : ℕ) : Inv B Kc Ks ⊢ cellInv ER (Rd B) (Kc (d, .snd i (C k))) (sndCell d i k) := by
  rw [sndCell_eq]; exact inv_cell B Kc Ks _

theorem keySlot_eq (d : Dev nD) (i : Fin 8) (k : ℕ) : keySlot (F := F) (d, i, C k) = iprop(∃ f, slotPts d i.val (k + 1) fullShare f) := by
  have key : ∀ m m' : Memref sig .tc .vmem S128x256 .bf16, m = m' →
      (iprop(∃ f, m.view.loc (d : Thread nD τ) ↦[m.view.set]{fullShare} f) : sProp 𝕄) = iprop(∃ f, m'.view.loc (d : Thread nD τ) ↦[m'.view.set]{fullShare} f) := by
    rintro m _ rfl; rfl
  exact key _ _ (slotM_congr i.val (by show (k % 4 + 1) % 4 = (k + 1) % 4; omega))

theorem inv_slot (d : Dev nD) (i : Fin 8) (k : ℕ) :
    Inv B Kc Ks ⊢ slotInv ES (Ks (d, i, C k)) (d, i, C k) (iprop(∃ f, slotPts d i.val (k + 1) fullShare f)) := by
  rw [← keySlot_eq]; unfold Inv; iintro ⟨-, #H, -⟩
  iapply (big_elim (Φ := fun x : Key => slotInv ES (Ks x) x (keySlot (F := F) x)) (Finset.mem_univ (d, i, C k))); iexact H

/-! ### What a ring holds of each transfer -/

/-- The waits at a slot's cells, at the round of transfer `k`. -/
def atR (d : Dev nD) (i : Fin 8) (k : ℕ) : sProp 𝕄 := iprop(atPos ER (rcvCell d i k) (k / 4) ∅ 0 ∗ reached ER (rcvCell d i k) (k / 4))
def atS (d : Dev nD) (i : Fin 8) (k : ℕ) : sProp 𝕄 := iprop(atPos ER (sndCell d i k) (k / 4) ∅ 0 ∗ reached ER (sndCell d i k) (k / 4))
/-- The credit for transfer `k` in, the one for transfer `k` out once it is under way, the one for a neighbour's credit. -/
def cR (d : Dev nD) (i : Fin 8) (k : ℕ) : sProp 𝕄 := cred (tallyAt (rcvCell d i k) k N)
def cS (d : Dev nD) (i : Fin 8) (k : ℕ) : sProp 𝕄 := cred (tallyAt (sndCell d i k) 0 N)
def cC (d : Dev nD) (i : Fin 8) (k : ℕ) : sProp 𝕄 := cred (tallyAt (credCell d i) k 1)
/-- The right to make transfer `k`. -/
def toSend (d : Dev nD) (i : Fin 8) (k : ℕ) : sProp 𝕄 :=
  iprop(dutyTok ER (sndCell d i k) (k / 4) 0 ∗ dutyTok ER (rcvCell (downD d i.val) i k) (k / 4) 0 ∗ writeTok ES (downD d i.val, i, C k) (k / 4 + 1))
/-- The right to give credit `k`. -/
def toCred (d : Dev nD) (i : Fin 8) (k : ℕ) : sProp 𝕄 := dutyTok ER (credCell (upD d i.val) i) 0 k
/-- The right to release the slot transfer `k` fills. -/
def rd (d : Dev nD) (i : Fin 8) (k : ℕ) : sProp 𝕄 := readerAt ES (d, i, C k) (k / 4)
/-- `n` credits taken, and what came with them. -/
def credAt (d : Dev nD) (i : Fin 8) (n : ℕ) : sProp 𝕄 :=
  iprop(∃ T : Finset ℕ, ⌜T ⊆ Finset.range 59 ∧ n ≤ T.card⌝ ∗ atPos ER (credCell d i) 0 T n ∗ bigSep T fun x => readies (downD d i.val) i (x + 4))
/-- What a device owes, whatever it has waited for. -/
def owe (d : Dev nD) (a b : Fin 8 → ℕ) : sProp 𝕄 := iprop(∃ W, owes (d : Thread nD τ) (Ow d a b) W)

variable {B Kc Ks}
variable {d : Dev nD} {i : Fin 8} {a b : Fin 8 → ℕ} {st : St F} {K : St F → Pg F} {Q : PUnit.{1} → sProp (MT nD τ sig ℕ (Elt F) ℕ UU ℕ)}

/-! ### Waits and signals -/

theorem wp_recv {h : ℕ} (hh : h < 62) (ha : ∀ j, h < a j) (hb : ∀ j, h ≤ b j) :
    iprop(Inv B Kc Ks ∗ cR d i h ∗ owe d a b ∗ atR d i h)
      ⊢ iprop(((owe d a b ∗ atR d i (h + 4) ∗ rcvPay B d i.val h) -∗ WP d (K st) Q) -∗ WP d (waitRecv i.val h st K) Q) := by
  unfold cR owe atR
  iintro ⟨#HI, Hc, ⟨%W, HO⟩, HA, -⟩ Hk
  unfold waitRecv
  iapply (Rounds.wp_wait_rest_token 𝒱₀ ER (Rd B) (d : Thread nD τ) none (κ := Kc (d, .rcv i (C h)))
      (wpE_waitDma2_eq 𝒱₀ (d : Thread nD τ) none Set.univ) (Set.mem_univ _) h (O := Ow d a b) (W := W) (R := h / 4) (m := 0) (T := ∅)
      (by rw [Nat.zero_add]; exact (expect_rcv B d i h hh).symm)) $$ [Hc HO HA]
  · isplitr; · iapply (inv_rcv B Kc Ks d i h); iexact HI
    isplitl [Hc]; · iexact Hc
    isplitl [HO]; · iexact HO
    isplitr
    · iapply (mayWait d (.dma (rsemC i.val (h + 1))) h (h + 2) a b (by omega) (by rw [lv_rcv]) (fun j => by have := ha j; omega) (fun j => by have := hb j; omega))
      iapply (inv_lev B Kc Ks); iexact HI
    iexact HA
  iintro ⟨HO, HA, Hr, Hp⟩
  ihave Hp := (Entails.of_eq (rest_rcv B d i h hh)) $$ Hp
  iapply Hk
  isplitl [HO]; · iexists _; iexact HO
  rw [rcvCell_four, show (h + 4) / 4 = h / 4 + 1 by omega]
  isplitl [HA Hr]; · isplitl [HA]; · iexact HA
                     iexact Hr
  iexact Hp

theorem wp_sent {h : ℕ} (hh : h < 62) :
    iprop(Inv B Kc Ks ∗ cS d i h ∗ owe d a b ∗ atS d i h)
      ⊢ iprop(((owe d a b ∗ atS d i (h + 4) ∗ sndPay d i.val h) -∗ WP d (K st) Q) -∗ WP d (waitSend i.val h st K) Q) := by
  unfold cS owe atS
  iintro ⟨#HI, Hc, ⟨%W, HO⟩, HA, -⟩ Hk
  unfold waitSend
  iapply (Rounds.wp_wait_rest_token 𝒱₀ ER (Rd B) (d : Thread nD τ) none (κ := Kc (d, .snd i (C h)))
      (wpE_waitDma2_eq 𝒱₀ (d : Thread nD τ) none Set.univ) (Set.mem_univ _) 0 (O := Ow d a b) (W := W) (R := h / 4) (m := 0) (T := ∅)
      (by rw [Nat.zero_add]; exact (expect_snd B d i h hh).symm)) $$ [Hc HO HA]
  · isplitr; · iapply (inv_snd B Kc Ks d i h); iexact HI
    isplitl [Hc]; · iexact Hc
    isplitl [HO]; · iexact HO
    isplitr
    · iapply (mayWait d (.dma (ssemC i.val h)) 0 0 a b (by omega) (by rw [lv_snd]) (fun j => by omega) (fun j => by omega))
      iapply (inv_lev B Kc Ks); iexact HI
    iexact HA
  iintro ⟨HO, HA, Hr, Hp⟩
  ihave Hp := (Entails.of_eq (rest_snd B d i h hh)) $$ Hp
  iapply Hk
  isplitl [HO]; · iexists _; iexact HO
  rw [sndCell_four, show (h + 4) / 4 = h / 4 + 1 by omega]
  isplitl [HA Hr]; · isplitl [HA]; · iexact HA
                     iexact Hr
  iexact Hp

theorem wp_give {h : ℕ} (hh : h < 59) (hb : b i = h) :
    iprop(Inv B Kc Ks ∗ owe d a b ∗ toCred d i h ∗ readies d i (h + 4))
      ⊢ iprop((owe d a (Function.update b i (h + 1)) -∗ WP d (K st) Q) -∗ WP d (sigCredit d i.val st K) Q) := by
  unfold toCred owe
  iintro ⟨#HI, ⟨%W, HO⟩, Ht, Hp⟩ Hk
  unfold sigCredit
  subst hb
  iapply (Rounds.wp_signal 𝒱₀ ER (Rd B) (d : Thread nD τ) none (dst := (upD d i.val : Thread nD τ)) (κ := Kc (upD d i.val, .cred i)) (r := 0)
      (d := b i) (by rw [duties_cred]; exact Finset.mem_range.mpr hh) ((amount_cred B _ i 0 _).trans (by decide)) (b i)
      (Ow d a (Function.update b i (b i + 1))) (Ow_cred d a b i hh)) $$ [HO Ht Hp]
  · isplitr; · iapply (inv_cell B Kc Ks (upD d i.val, .cred i)); iexact HI
    isplitl [HO]; · iexact HO
    isplitl [Ht]; · iexact Ht
    isplitl [Hp]; · rw [payload_cred, down_up]; iexact Hp
    iapply (inv_reached B Kc Ks (upD d i.val, .cred i)); iexact HI
  iintro HO
  iapply Hk
  iexists W; iexact HO

theorem readies_mono {e : Dev nD} {n m : ℕ} (h : n ≤ m) : readies (F := F) e i m ⊢ readies e i n := by
  unfold readies; exact bigSep_subset (Finset.range_mono h)

theorem readies_get {e : Dev nD} {n m : ℕ} (h : n < m) : readies (F := F) e i m ⊢ ready e i n := by
  unfold readies; exact big_elim (Φ := fun k => ready e i k) (Finset.mem_range.mpr h)

theorem exists_large {S : Finset ℕ} {n : ℕ} (h : n < S.card) : ∃ x ∈ S, n ≤ x := by
  by_contra hc
  simp only [not_exists, not_and, not_le] at hc
  have : S ⊆ Finset.range n := fun x hx => Finset.mem_range.mpr (hc x hx)
  have := Finset.card_le_card this
  rw [Finset.card_range] at this
  omega

theorem wp_take {n : ℕ} (hn : n < 59) (ha : ∀ j, n + 1 < a j) (hb : ∀ j, n < b j) :
    iprop(Inv B Kc Ks ∗ cC d i n ∗ owe d a b ∗ credAt d i n)
      ⊢ iprop(((owe d a b ∗ credAt d i (n + 1) ∗ readies (downD d i.val) i (n + 4)) -∗ WP d (K st) Q) -∗ WP d (waitCredit i.val st K) Q) := by
  unfold cC owe credAt
  iintro ⟨#HI, Hc, ⟨%W, HO⟩, ⟨%T, %hT, HA, #HT⟩⟩ Hk
  unfold waitCredit
  iapply (Rounds.wp_wait 𝒱₀ ER (Rd B) (d : Thread nD τ) none (κ := Kc (d, .cred i)) (sm := .reg (credC i.val))
      (wpE_semWait_eq 𝒱₀ (d : Thread nD τ) none Set.univ) (Set.mem_univ _) (cr := Finsupp.single n 1) (O := Ow d a b) (W := W)
      {(.reg (credC i.val), n)} (R := 0) (m := n) (T := T) (by unfold Util.total; rw [Finsupp.sum_single_index rfl]; decide)
      (by intro p hp; obtain ⟨u, hu, rfl⟩ := Finset.mem_image.mp hp; rw [Finset.mem_singleton.mp (Finsupp.support_single_subset hu)]; exact Finset.mem_singleton_self _)) $$ [Hc HO HA]
  · isplitr; · iapply (inv_cell B Kc Ks (d, .cred i)); iexact HI
    isplitl [Hc]; · iexact Hc
    isplitl [HO]; · iexact HO
    isplitr
    · iapply (mayWait d (.reg (credC i.val)) n (n + 3) a b (by omega) (by rw [lv_cred]) (fun j => by have := ha j; omega) (fun j => by have := hb j; omega))
      iapply (inv_lev B Kc Ks); iexact HI
    iexact HA
  iintro %S ⟨%hS, HO, HA, Hp⟩
  ihave #Hp := (Entails.of_eq (bigSep_congr fun x _ => payload_cred B d i 0 x)) $$ Hp
  obtain ⟨h1, h2, h3⟩ := hS
  rw [duties_cred] at h2 h3
  have hcard : n + 1 ≤ S.card := by
    have e := expect_cred B d i
    rw [show (credCell d i : GSem nD τ sig) = ((d : Thread nD τ), .reg (credC i.val)) from rfl] at e
    rw [e, Finset.card_sdiff_of_subset h2, Finset.card_range] at h3
    have : (1#32 : BitVec 32).toNat = 1 := by decide
    omega
  ihave #HS : bigSep S (fun x => readies (F := F) (downD d i.val) i (x + 4)) $$ []
  · rw [big_split h1]
    isplitr; · iexact HT
    iexact Hp
  obtain ⟨x, hx, hnx⟩ := exists_large hcard
  iapply Hk
  isplitl [HO]; · iexists _; iexact HO
  isplitl [HA]
  · iexists S
    isplitr; · ipureintro; exact ⟨h2, hcard⟩
    isplitl [HA]; · iexact HA
    iexact HS
  · iapply (readies_mono (show n + 4 ≤ x + 4 by omega))
    iapply (big_elim (Φ := fun x => readies (F := F) (downD d i.val) i (x + 4)) hx); iexact HS

/-! ### The transfer -/

theorem halves {ℓ : Loc nD τ sig} {I : Finset (Idx ℓ)} {f : Buf (Elt F) ℓ} :
    (ℓ ↦[I]{fullShare} f : sProp 𝕄) ⊣⊢ iprop((ℓ ↦[I]{fullShare.left} f) ∗ (ℓ ↦[I]{fullShare.right} f)) :=
  pointsTo_share (PosShare.mem_left_op_right fullShare)

theorem wp_go {k : ℕ} (hk : k < 62) (ha : a i = k) {f : Buf (Elt F) ((slotM i.val k).view.loc (d : Thread nD τ))}
    (hf : sread d i.val k f = sent B k d i.val) :
    iprop(Inv B Kc Ks ∗ toSend d i k ∗ ready (downD d i.val) i k ∗ reached ER (sndCell d i k) (k / 4) ∗ slotPts d i.val k fullShare f ∗ owe d a b)
      ⊢ iprop(((owe d (Function.update a i (k + 1)) b ∗ cS d i k ∗ slotPts d i.val k fullShare.right f) -∗ WP d (K st) Q) -∗ WP d (send d i.val k st K) Q) := by
  unfold toSend ready owe cS
  iintro ⟨#HI, ⟨Ht1, Ht2, Hw⟩, ⟨#Hrel, #Hrr⟩, #Hrs, Hs, ⟨%W, HO⟩⟩ Hk
  icases (halves (F := F)).1 $$ Hs with ⟨Hl, Hr⟩
  imod (slot_take ES (Es := Set.univ) (Set.mem_univ (Ks (downD d i.val, i, C k))) (k / 4 + 1)
    (S := iprop(∃ f, slotPts (F := F) (downD d i.val) i.val (k + 1) fullShare f))) $$ [Hw] with ⟨%fd, Hd⟩
  · isplitr; · iapply (inv_slot B Kc Ks (downD d i.val) i k); iexact HI
    isplitr; · iexact Hrel
    iexact Hw
  unfold send
  subst ha
  iapply (Rounds.wp_send_pointsTo 𝒱₀ ER (Rd B) (d : Thread nD τ) none (κ₁ := Kc (d, .snd i (C (a i)))) (κ₂ := Kc (downD d i.val, .rcv i (C (a i))))
    (c' := (downD d i.val : Thread nD τ)) (r₁ := a i / 4) (r₂ := a i / 4) (d₁ := 0) (d₂ := 0) (fs := f) (fd := fd) (q := fullShare.left)
    (by rw [duties_snd B d i _ hk]; exact Finset.mem_singleton_self _) (by rw [duties_rcv B _ i _ hk]; exact Finset.mem_singleton_self _)
    (a i) 0 N rfl (amount_snd B d i _ _ 0) (amount_rcv B _ i _ _ 0) (Ow d (Function.update a i (a i + 1)) b) (Ow_send d a b i hk) (W := W)
    (by
      rw [payload_snd]; unfold sndPay; iintro H; iexists f; iexact H)
    (by
      rw [payload_rcv]; unfold rcvPay; iintro H; iexists _
      isplitl [H]; · iexact H
      ipureintro
      rw [recv, up_down, ← hf]
      exact sread_land _ _ _ _ _)) $$ [Hl Hd HO Ht1 Ht2]
  · isplitr; · iapply (inv_snd B Kc Ks d i (a i)); iexact HI
    isplitr; · iapply (inv_rcv B Kc Ks (downD d i.val) i (a i)); iexact HI
    isplitl [Hl]; · iexact Hl
    isplitl [Hd]; · iexact Hd
    isplitl [HO]; · iexact HO
    isplitl [Ht1]; · iexact Ht1
    isplitr; · iexact Hrs
    isplitl [Ht2]; · iexact Ht2
    iexact Hrr
  iintro ⟨Hc, HO⟩
  iapply Hk
  isplitl [HO]; · iexists W; iexact HO
  isplitl [Hc]; · iexact Hc
  iexact Hr

/-! ### Slots -/

theorem wp_loadC {k : ℕ} {q : PosShare TreeShare} {f : Buf (Elt F) ((slotM i.val k).view.loc (d : Thread nD τ))} :
    slotPts d i.val k q f
      ⊢ iprop((slotPts d i.val k q f -∗ WP d (K { st with ld := cM.view.readAt (Elt F) (sRect i.val k).toLoadRect f }) Q) -∗ WP d (loadC i.val k st K) Q) := by
  iintro H Hk
  unfold loadC
  iapply (wp_load 𝒱₀ (d : Thread nD τ) none Set.univ (m := cM) (r := (sRect i.val k).toLoadRect) (S := (slotM i.val k).view.set) (q := q) (f := f)
    (by rw [sset_eq, View.set_slice]; exact Finset.Subset.refl _)) $$ H
  iexact Hk

theorem wp_peekC {k : ℕ} {q : PosShare TreeShare} {f : Buf (Elt F) ((slotM i.val k).view.loc (d : Thread nD τ))} :
    slotPts d i.val k q f ⊢ iprop((slotPts d i.val k q f -∗ WP d (K st) Q) -∗ WP d (peekC i.val k st K) Q) := by
  iintro H Hk
  unfold peekC
  iapply (wp_load 𝒱₀ (d : Thread nD τ) none Set.univ (m := cM) (r := (sRect i.val k).toLoadRect) (S := (slotM i.val k).view.set) (q := q) (f := f)
    (by rw [sset_eq, View.set_slice]; exact Finset.Subset.refl _)) $$ H
  iexact Hk

theorem wp_storeC {k : ℕ} {v : St F → FVec F S128x256 .bf16} {f : Buf (Elt F) ((slotM i.val k).view.loc (d : Thread nD τ))} :
    slotPts d i.val k fullShare f
      ⊢ iprop((∀ f', ⌜sread d i.val k f' = v st⌝ -∗ slotPts d i.val k fullShare f' -∗ WP d (K st) Q) -∗ WP d (storeC i.val k v st K) Q) := by
  iintro H Hk
  unfold storeC
  iapply (wp_store 𝒱₀ (d : Thread nD τ) none Set.univ (m := cM) (r := sRect i.val k) (Mk := Finset.univ) (S := (slotM i.val k).view.set)
    (by rw [sset_eq, View.setOn_univ])) $$ H
  iintro H
  iapply Hk $$ [] H
  ipureintro
  exact sread_store d i.val k f (v st)

end Cert.KernelIdeal.Steps
-- ==== Proof.Out.lean ====
/-
  The result buffer of a device: the chunks its rings have finished are there, and a store of the next keeps the others.
-/
module

public import proofs.«01_k».proof.Proof.Rules

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (B : Blocks F)

/-! ### The result, chunk by chunk -/

theorem chunk_inb (d : Dev nD) (i : Fin 8) (h : ℕ) : ∀ a, (![chunk d i.val h * 128, col i.val] : Fin 2 → ℕ) a + S128x256.size a ≤ S4096x2048.size a := by
  have h1 := chunk_lt d i.val h
  have h2 : ∀ i : Fin 8, col i.val + 256 ≤ 2048 := by decide
  intro a; fin_cases a
  · show chunk d i.val h * 128 + 128 ≤ 4096; omega
  · exact h2 i

/-- Where step `h` of ring `i` puts a finished chunk. -/
abbrev cRect (d : Dev nD) (i : Fin 8) (h : ℕ) : Rect S4096x2048 :=
  Rect.unit (s := S4096x2048) ![chunk d i.val h * 128, col i.val] S128x256.size (chunk_inb d i h)

theorem col_apart : ∀ i j : Fin 8, i ≠ j → col i.val + 256 ≤ col j.val ∨ col j.val + 256 ≤ col i.val := by decide

theorem chunk_apart (d : Dev nD) (i h k : ℕ) (h1 : 30 ≤ h) (h2 : h < 62) (k1 : 30 ≤ k) (k2 : k < 62) (hk : h ≠ k) : chunk d i h ≠ chunk d i k := by
  have := pos_lt d
  unfold chunk
  split <;> omega

theorem cRect_disjoint (d : Dev nD) {i j : Fin 8} {h k : ℕ} (hij : i ≠ j ∨ chunk d i.val h ≠ chunk d j.val k) :
    Disjoint (cRect d i h).set (cRect d j k).set := by
  refine Finset.disjoint_left.mpr fun x h1 h2 => ?_
  rw [Rect.mem_set_unit] at h1 h2
  have a0 := h1 0
  have a1 := h1 1
  have b0 := h2 0
  have b1 := h2 1
  change chunk d i.val h * 128 ≤ _ ∧ _ < chunk d i.val h * 128 + 128 at a0
  change chunk d j.val k * 128 ≤ _ ∧ _ < chunk d j.val k * 128 + 128 at b0
  change col i.val ≤ _ ∧ _ < col i.val + 256 at a1
  change col j.val ≤ _ ∧ _ < col j.val + 256 at b1
  rcases hij with hij | hij
  · rcases col_apart i j hij with h | h <;> omega
  · omega

/-- The chunks finished before step `n j` of each ring `j` are there. -/
def OutOK (d : Dev nD) (n : Fin 8 → ℕ) (f : (cc0_stg2_0 : Ref sig .tc).ty.Contents (Elt F)) : Prop :=
  ∀ (j : Fin 8) (k : ℕ), 30 ≤ k → k < 62 → k < n j → (oM.view.slice (cRect d j k)).read (Elt F) f = sent B (k + 1) d j.val

theorem OutOK_early {d : Dev nD} {n : Fin 8 → ℕ} {f : (cc0_stg2_0 : Ref sig .tc).ty.Contents (Elt F)} (i : Fin 8) {h : ℕ} (hh : h < 30)
    (H : OutOK B d n f) : OutOK B d (Function.update n i (h + 1)) f := by
  intro j k k1 k2 k3
  by_cases e : j = i
  · subst e; rw [Function.update_self] at k3; omega
  · rw [Function.update_of_ne e] at k3; exact H j k k1 k2 k3

theorem OutOK_write {d : Dev nD} {n : Fin 8 → ℕ} {f : (cc0_stg2_0 : Ref sig .tc).ty.Contents (Elt F)} (i : Fin 8) {h : ℕ} (h1 : 30 ≤ h) (h2 : h < 62)
    (hn : n i = h) (H : OutOK B d n f) :
    OutOK B d (Function.update n i (h + 1)) ((oM.view.slice (cRect d i h)).write (Elt F) f (sent B (h + 1) d i.val) Finset.univ) := by
  intro j k k1 k2 k3
  by_cases e : j = i ∧ k = h
  · obtain ⟨rfl, rfl⟩ := e
    exact View.read_write_univ _ _
  · have hk : k < n j := by
      by_cases e' : j = i
      · subst e'; rw [Function.update_self] at k3
        have : k ≠ h := fun e'' => e ⟨rfl, e''⟩
        omega
      · rwa [Function.update_of_ne e'] at k3
    rw [View.read_slice_write_slice_of_disjoint]
    · exact H j k k1 k2 hk
    · rw [View.setOn_univ]
      refine View.disjoint_slice (cRect_disjoint d ?_)
      by_cases e' : j = i
      · subst e'; exact .inr (chunk_apart d _ _ _ k1 k2 h1 h2 fun e'' => e ⟨rfl, e''⟩)
      · exact .inl e'

/-- The staging buffer of the result so far. -/
def OutSt (d : Dev nD) (n : Fin 8 → ℕ) : sProp 𝕄 := iprop(∃ f, ⌜OutOK B d n f⌝ ∗ (((d : Thread nD τ).loc cc0_stg2_0) ↦{fullShare} f))

variable {B}
variable {d : Dev nD} {i : Fin 8} {n : Fin 8 → ℕ} {st : St F} {K : St F → Pg F} {Q : PUnit.{1} → sProp (MT nD τ sig ℕ (Elt F) ℕ UU ℕ)}

theorem wp_peekO {off : Fin 2 → ℕ} {h} : OutSt B d n ⊢ iprop((OutSt B d n -∗ WP d (K st) Q) -∗ WP d (peekO off h st K) Q) := by
  unfold OutSt
  iintro ⟨%f, %hf, H⟩ Hk
  unfold peekO
  iapply (wp_load 𝒱₀ (d : Thread nD τ) none Set.univ (m := oM) (r := (Rect.unit (s := S4096x2048) off S128x256.size h).toLoadRect) (S := Finset.univ) (q := fullShare) (f := f)
    (Finset.subset_univ _)) $$ H
  iintro H
  iapply Hk
  iexists f
  isplitr; · ipureintro; exact hf
  iexact H

theorem wp_storeO {off : Fin 2 → ℕ} {h hp} {v : St F → FVec F S128x256 .bf16} {k : ℕ} (e : off = ![chunk d i.val k * 128, col i.val])
    (k1 : 30 ≤ k) (k2 : k < 62) (hn : n i = k) (hv : v st = sent B (k + 1) d i.val) :
    OutSt B d n ⊢ iprop((OutSt B d (Function.update n i (k + 1)) -∗ WP d (K st) Q) -∗ WP d (storeO off h hp v st K) Q) := by
  subst e
  unfold OutSt
  iintro ⟨%f, %hf, H⟩ Hk
  unfold storeO
  iapply (wp_store 𝒱₀ (d : Thread nD τ) none Set.univ (m := oM) (r := cRect d i k) (Mk := Finset.univ) (S := Finset.univ) (f := f)
    (Finset.subset_univ _)) $$ H
  iintro H
  iapply Hk
  iexists _
  isplitr
  · ipureintro; exact OutOK_write B i k1 k2 hn hf
  · rw [← hv]; iexact H

end Cert.KernelIdeal.Steps
-- ==== Proof.Ring.lean ====
/-
  What a ring holds before each of its steps, and the parts of a step.
-/
module

public import proofs.«01_k».proof.Proof.Out

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (B : Blocks F) (Kc : Dev nD × CK → ℕ) (Ks : Key → ℕ)

/-! ### A ring before step `h` -/

/-- The slot holding transfer `k`: half lent out while the transfer out of it is under way. -/
def share (k : ℕ) : PosShare TreeShare := if k < 62 then fullShare.right else fullShare
def lent (d : Dev nD) (i : Fin 8) (k : ℕ) : sProp 𝕄 := if k < 62 then cS d i k else iprop(emp)
def cur (d : Dev nD) (i : Fin 8) (k : ℕ) : sProp 𝕄 := iprop(lent d i k ∗ ∃ f, slotPts d i.val k (share k) f)
def kept (d : Dev nD) (i : Fin 8) (k : ℕ) : sProp 𝕄 := iprop(∃ f, slotPts d i.val k fullShare f)

/-- What passing on takes: the rights to send, the credits. -/
def PassSt (d : Dev nD) (i : Fin 8) (h : ℕ) : sProp 𝕄 :=
  iprop(bigSep (Finset.Ico (h + 1) 62) (toSend d i) ∗ credAt d i (min (h - 2) 59) ∗ bigSep (Finset.Ico (min (h - 2) 59) 59) (cC d i)
    ∗ readies (downD d i.val) i (min (h - 2) 59 + 3))
/-- What letting a slot go takes: the rights to give credit, the rights to release, what was released. -/
def DoneSt (d : Dev nD) (i : Fin 8) (h : ℕ) : sProp 𝕄 :=
  iprop(bigSep (Finset.Ico h 59) (toCred d i) ∗ bigSep (Finset.Ico (min h 59 + 3) (min h 59 + 3 + (3 + 1))) (rd d i) ∗ readies d i (min h 59 + 3)
    ∗ bigSep (Finset.Ico 59 h) (kept d i))

def Ring (d : Dev nD) (i : Fin 8) (h : ℕ) : sProp 𝕄 :=
  iprop(bigSep (Finset.Ico h (h + (3 + 1))) (atR d i) ∗ bigSep (Finset.Ico h (h + (3 + 1))) (atS d i) ∗ bigSep (Finset.Ico h 62) (cR d i)
    ∗ PassSt d i h ∗ DoneSt d i h ∗ cur d i h)

variable {B Kc Ks}
variable {d : Dev nD} {i : Fin 8} {a n : Fin 8 → ℕ} {st : St F} {K : St F → Pg F} {Q : PUnit.{1} → sProp (MT nD τ sig ℕ (Elt F) ℕ UU ℕ)}

theorem run_append (l1 l2 : List (Cmd F)) (st : St F) (K : St F → Pg F) : run (l1 ++ l2) st K = run l1 st fun st' => run l2 st' K := by
  induction l1 generalizing st with
  | nil => rfl
  | cons c l ih =>
    show c st (fun st' => run (l ++ l2) st' K) = c st (fun st' => run l st' fun st'' => run l2 st'' K)
    exact congrArg (c st) (funext fun st' => ih st')

theorem slotPts_move {k m : ℕ} (h : k % 4 = m % 4) : (iprop(∃ f, slotPts (F := F) d i.val k fullShare f) : sProp 𝕄) ⊢ iprop(∃ f, slotPts d i.val m fullShare f) := by
  have key : ∀ m m' : Memref sig .tc .vmem S128x256 .bf16, m = m' →
      (iprop(∃ f, m.view.loc (d : Thread nD τ) ↦[m.view.set]{fullShare} f) : sProp 𝕄) ⊢ iprop(∃ f, m'.view.loc (d : Thread nD τ) ↦[m'.view.set]{fullShare} f) := by
    rintro m _ rfl; exact BI.Entails.refl _
  exact key _ _ (slotM_congr i.val h)

/-- A device lets a slot go for transfer `k`. -/
theorem release (k : ℕ) :
    iprop(Inv B Kc Ks ∗ rd d i k ∗ reached ER (rcvCell d i k) (k / 4) ∗ ∃ f, slotPts d i.val (k + 1) fullShare f)
      ⊢ iprop(|={Set.univ}=> (rd d i (k + 4) ∗ ready d i k) : sProp 𝕄) := by
  unfold rd ready
  iintro ⟨#HI, Hr, #Hre, Hs⟩
  imod (slot_release ES (Es := Set.univ) (Set.mem_univ (Ks (d, i, C k)))
    (S := iprop(∃ f, slotPts (F := F) d i.val (k + 1) fullShare f)) (k := (d, i, C k)) (slot_slot_false (slot_nonempty i.val (k + 1))) (k / 4)) $$ [Hr Hs] with ⟨Hr, #Hrel⟩
  · isplitr; · iapply (inv_slot B Kc Ks d i k); iexact HI
    isplitl [Hr]; · iexact Hr
    iexact Hs
  imodintro
  rw [C_add_four, show (k + 4) / 4 = k / 4 + 1 by omega]
  isplitl [Hr]; · iexact Hr
  isplitr; · iexact Hrel
  iexact Hre

theorem readies_succ {e : Dev nD} {n : ℕ} : iprop(ready e i n ∗ readies (F := F) e i n) ⊢ readies e i (n + 1) := by
  unfold readies
  rw [Finset.range_add_one, big_insert Finset.notMem_range_self]

theorem Ow_send_end {d : Dev nD} {a b : Fin 8 → ℕ} {i : Fin 8} (h : 62 ≤ a i) : Ow d (Function.update a i (a i + 1)) b = Ow d a b := by
  unfold Ow
  refine congrArg (· + _) (Finset.sum_congr rfl fun j _ => ?_)
  by_cases e : j = i
  · subst e
    rw [Function.update_self]
    unfold owSend
    rw [Finset.Ico_eq_empty (by omega), Finset.Ico_eq_empty (by omega)]
  · rw [Function.update_of_ne e]
theorem Ow_cred_end {d : Dev nD} {a b : Fin 8 → ℕ} {i : Fin 8} (h : 59 ≤ b i) : Ow d a (Function.update b i (b i + 1)) = Ow d a b := by
  unfold Ow
  refine congrArg (_ + ·) (Finset.sum_congr rfl fun j _ => ?_)
  by_cases e : j = i
  · subst e
    rw [Function.update_self]
    unfold owCred
    rw [Finset.Ico_eq_empty (by omega), Finset.Ico_eq_empty (by omega)]
  · rw [Function.update_of_ne e]

/-! ### The parts of a step -/

/-- Add, or activate: the slot received then holds what is sent on. -/
theorem use_step {h : ℕ} (hh : h < 62) (hst : h ≤ 30 → st.prod i.val = prodAt B d i.val h) (hn : n i = h)
    {f : Buf (Elt F) ((slotM i.val (h + 1)).view.loc (d : Thread nD τ))} (hf : sread d i.val (h + 1) f = recv B d i.val h) :
    iprop(slotPts d i.val (h + 1) fullShare f ∗ OutSt B d n)
      ⊢ iprop((∀ st' f', ⌜(∀ j, st'.prod j = st.prod j) ∧ sread d i.val (h + 1) f' = sent B (h + 1) d i.val⌝ -∗ slotPts d i.val (h + 1) fullShare f'
          -∗ OutSt B d (if h ≤ 30 then Function.update n i (h + 1) else n) -∗ WP d (K st') Q) -∗ WP d (run (useCmds d h i.val) st K) Q) := by
  iintro ⟨Hs, Ho⟩ Hk
  unfold useCmds
  rcases Nat.lt_trichotomy h 30 with h1 | h1 | h1
  · rw [if_pos h1, if_pos (show h ≤ 30 by omega)]
    simp only [run]
    iapply wp_loadC $$ Hs; iintro Hs
    iapply wp_peekC $$ Hs; iintro Hs
    iapply wp_storeC $$ Hs; iintro %f' %hf' Hs
    iapply Hk $$ %_ %f' [] Hs [Ho]
    · ipureintro
      refine ⟨fun j => rfl, hf'.trans ?_⟩
      show truncf .bf16 (total' i.val (st.prod i.val) (sread d i.val (h + 1) f)) bitsLt_bf16_f32 = _
      rw [hf, hst (by omega)]
      show _ = if h < 30 then _ else _
      rw [if_pos h1]
    · unfold OutSt
      icases Ho with ⟨%g, %hg, H⟩
      iexists g
      isplitr; · ipureintro; exact OutOK_early B i h1 hg
      iexact H
  · have hv : gelu (total' i.val (st.prod i.val) (sread d i.val (h + 1) f)) = sent B (h + 1) d i.val := by
      rw [hf, hst (by omega)]
      show _ = if h < 30 then _ else if h = 30 then _ else _
      rw [if_neg (by omega), if_pos h1]
    rw [if_neg (show ¬h < 30 by omega), if_pos h1, if_pos (show h ≤ 30 by omega)]
    simp only [run]
    iapply wp_loadC $$ Hs; iintro Hs
    iapply wp_peekC $$ Hs; iintro Hs
    iapply wp_storeC $$ Hs; iintro %f' %hf' Hs
    iapply wp_peekO $$ Ho; iintro Ho
    iapply (wp_storeO (i := i) (k := h) (by rw [h1]; exact ownOff_eq d i) (by omega) hh hn hv) $$ Ho; iintro Ho
    iapply Hk $$ %_ %f' [] Hs Ho
    ipureintro
    exact ⟨fun j => rfl, hf'.trans hv⟩
  · rw [if_neg (show ¬h < 30 by omega), if_neg (show ¬h = 30 by omega), if_neg (show ¬h ≤ 30 by omega)]
    simp only [run]
    iapply Hk $$ %st %f [] Hs Ho
    ipureintro
    refine ⟨fun j => rfl, hf.trans ?_⟩
    show _ = if h < 30 then _ else if h = 30 then _ else _
    rw [if_neg (by omega), if_neg (by omega)]

/-- Copy a finished chunk into the result. -/
theorem copy_step {h : ℕ} (hh : h < 62) (hn : n i = h) {q : PosShare TreeShare}
    {f : Buf (Elt F) ((slotM i.val (h + 1)).view.loc (d : Thread nD τ))} (hf : sread d i.val (h + 1) f = sent B (h + 1) d i.val) :
    iprop(slotPts d i.val (h + 1) q f ∗ OutSt B d (if h ≤ 30 then Function.update n i (h + 1) else n))
      ⊢ iprop((∀ st', ⌜∀ j, st'.prod j = st.prod j⌝ -∗ slotPts d i.val (h + 1) q f
          -∗ OutSt B d (Function.update n i (h + 1)) -∗ WP d (K st') Q) -∗ WP d (run (copyCmds d h i.val) st K) Q) := by
  iintro ⟨Hs, Ho⟩ Hk
  unfold copyCmds
  by_cases h1 : 30 < h
  · rw [if_pos h1, if_neg (show ¬h ≤ 30 by omega)]
    simp only [run]
    iapply wp_loadC $$ Hs; iintro Hs
    iapply wp_peekO $$ Ho; iintro Ho
    iapply (wp_storeO (i := i) (k := h) (gotOff_eq d i h h1 hh) (by omega) hh hn hf) $$ Ho; iintro Ho
    iapply Hk $$ %_ [] Hs Ho
    ipureintro; exact fun j => rfl
  · rw [if_neg h1, if_pos (show h ≤ 30 by omega)]
    simp only [run]
    iapply Hk $$ %st [] Hs Ho
    ipureintro; exact fun j => rfl

/-- Send the slot on. -/
theorem pass_step {h : ℕ} (hh : h < 62) (ha : a i = h + 1) (hlo : ∀ j, h + 1 ≤ a j) (hlo' : ∀ j, h ≤ n j)
    {f : Buf (Elt F) ((slotM i.val (h + 1)).view.loc (d : Thread nD τ))} (hf : sread d i.val (h + 1) f = sent B (h + 1) d i.val) :
    iprop(Inv B Kc Ks ∗ owe d a n ∗ PassSt d i h ∗ reached ER (sndCell d i (h + 1)) ((h + 1) / 4) ∗ slotPts d i.val (h + 1) fullShare f)
      ⊢ iprop(((owe d (Function.update a i (h + 2)) n ∗ PassSt d i (h + 1) ∗ lent d i (h + 1) ∗ slotPts d i.val (h + 1) (share (h + 1)) f) -∗ WP d (K st) Q)
          -∗ WP d (run (passCmds d h i.val) st K) Q) := by
  unfold PassSt
  iintro ⟨#HI, HO, ⟨Ht, HcA, HcC, #Hrd⟩, #Hre, Hs⟩ Hk
  unfold passCmds
  by_cases h1 : h < 61
  · have hsh : share (h + 1) = fullShare.right := if_pos (by omega)
    have hle : (lent d i (h + 1) : sProp 𝕄) = cS d i (h + 1) := if_pos (by omega)
    rw [if_pos h1, hsh, hle]
    ihave Ht := (Entails.of_eq (big_peel (show h + 1 < 62 by omega) (toSend d i))) $$ Ht
    icases Ht with ⟨Ht, Hts⟩
    by_cases h2 : 3 ≤ h + 1
    · rw [if_pos h2]
      simp only [run]
      have e1 : min (h - 2) 59 = h - 2 := by omega
      have e2 : min (h + 1 - 2) 59 = h - 2 + 1 := by omega
      rw [e1, e2]
      ihave HcC := (Entails.of_eq (big_peel (show h - 2 < 59 by omega) (cC d i))) $$ HcC
      icases HcC with ⟨Hc, HcC⟩
      iapply (wp_take (n := h - 2) (a := a) (b := n) (by omega) (fun j => by have := hlo j; omega) (fun j => by have := hlo' j; omega)) $$ [Hc HO HcA]
      · isplitr; · iexact HI
        isplitl [Hc]; · iexact Hc
        isplitl [HO] <;> iassumption
      iintro ⟨HO, HcA, #Hrd'⟩
      iapply (wp_go (k := h + 1) (by omega) ha hf) $$ [HO Ht Hs]
      · isplitr; · iexact HI
        isplitl [Ht]; · iexact Ht
        isplitr; · iapply (readies_get (show h + 1 < h - 2 + 4 by omega)); iexact Hrd'
        isplitr; · iexact Hre
        isplitl [Hs] <;> iassumption
      iintro ⟨HO, Hc, Hs⟩
      iapply Hk
      isplitl [HO]; · iexact HO
      isplitl [Hts HcA HcC]
      · isplitl [Hts]; · iexact Hts
        isplitl [HcA]; · iexact HcA
        isplitl [HcC]; · iexact HcC
        iexact Hrd'
      isplitl [Hc] <;> iassumption
    · rw [if_neg h2]
      simp only [run]
      have e1 : min (h - 2) 59 = 0 := by omega
      have e2 : min (h + 1 - 2) 59 = 0 := by omega
      rw [e1, e2]
      iapply (wp_go (k := h + 1) (by omega) ha hf) $$ [HO Ht Hs]
      · isplitr; · iexact HI
        isplitl [Ht]; · iexact Ht
        isplitr; · iapply (readies_get (show h + 1 < 0 + 3 by omega)); iexact Hrd
        isplitr; · iexact Hre
        isplitl [Hs] <;> iassumption
      iintro ⟨HO, Hc, Hs⟩
      iapply Hk
      isplitl [HO]; · iexact HO
      isplitl [Hts HcA HcC]
      · isplitl [Hts]; · iexact Hts
        isplitl [HcA]; · iexact HcA
        isplitl [HcC]; · iexact HcC
        iexact Hrd
      isplitl [Hc] <;> iassumption
  · obtain rfl : h = 61 := by omega
    rw [if_neg h1]
    simp only [run]
    have hsh : share (61 + 1) = fullShare := if_neg (by omega)
    have hle : (lent d i (61 + 1) : sProp 𝕄) = iprop(emp) := if_neg (by omega)
    rw [hsh, hle]
    iapply Hk
    isplitl [HO]
    · unfold owe
      rw [show (61 + 2 : ℕ) = a i + 1 by omega, Ow_send_end (by omega)]
      iexact HO
    isplitl [HcA HcC]
    · isplitr; · rw [Finset.Ico_eq_empty (by omega), bigSep_empty]; iempintro
      isplitl [HcA]; · iexact HcA
      isplitl [HcC]; · iexact HcC
      iexact Hrd
    isplitr; · iempintro
    iexact Hs

/-- Wait until the slot has left, and let it go. -/
theorem done_step {h : ℕ} (hh : h < 62) (hn : n i = h) :
    iprop(Inv B Kc Ks ∗ owe d a n ∗ DoneSt d i h ∗ cur d i h ∗ atS d i h ∗ reached ER (rcvCell d i (h + 3)) ((h + 3) / 4))
      ⊢ iprop(((owe d a (Function.update n i (h + 1)) ∗ DoneSt d i (h + 1) ∗ atS d i (h + 4)) -∗ WP d (K st) Q)
          -∗ WP d (run (doneCmds d h i.val) st K) Q) := by
  have hsh : share h = fullShare.right := if_pos hh
  have hle : (lent d i h : sProp 𝕄) = cS d i h := if_pos hh
  unfold DoneSt cur
  rw [hsh, hle]
  iintro ⟨#HI, HO, ⟨HtC, Hrd, #Hre, Hkp⟩, ⟨Hc, %f, Hs⟩, HA, #Hrr⟩ Hk
  have hd : doneCmds (F := F) d h i.val = waitSend i.val h :: (if h ≤ 58 then [sigCredit d i.val] else []) := by unfold doneCmds; split <;> rfl
  rw [hd]
  simp only [run]
  iapply (wp_sent hh) $$ [Hc HO HA]
  · isplitr; · iexact HI
    isplitl [Hc]; · iexact Hc
    isplitl [HO] <;> iassumption
  unfold sndPay
  iintro ⟨HO, HA, %g, Hl⟩
  icombine Hl Hs gives %hag
  ihave Hfull : iprop(∃ f, slotPts (F := F) d i.val h fullShare f) $$ [Hl Hs]
  · iexists f
    ihave Hl := (Entails.of_eq (pointsTo_congr (f := g) (g := f) (fun x hx => (hag x (Finset.mem_inter.mpr ⟨hx, hx⟩)).1))) $$ Hl
    iapply (halves (F := F)).2
    isplitl [Hl] <;> iassumption
  by_cases h1 : h ≤ 58
  · rw [if_pos h1]
    simp only [run]
    have e1 : min h 59 = h := by omega
    have e2 : min (h + 1) 59 = h + 1 := by omega
    rw [e1, e2]
    ihave HtC := (Entails.of_eq (big_peel (show h < 59 by omega) (toCred d i))) $$ HtC
    ihave Hrd := (Entails.of_eq (big_peel (show h + 3 < h + 3 + (3 + 1) by omega) (rd d i))) $$ Hrd
    icases HtC with ⟨Ht, HtC⟩
    icases Hrd with ⟨Hr, Hrd⟩
    imod (release (h + 3)) $$ [Hr Hfull] with ⟨Hr, #Hry⟩
    · isplitr; · iexact HI
      isplitl [Hr]; · iexact Hr
      isplitr; · iexact Hrr
      iapply (slotPts_move (show h % 4 = (h + 3 + 1) % 4 by omega)); iexact Hfull
    ihave #Hre' := (readies_succ (F := F) (i := i) (e := d) (n := h + 3)) $$ []
    · isplitr <;> iassumption
    iapply (wp_give (show h < 59 by omega) hn) $$ [HO Ht]
    · isplitr; · iexact HI
      isplitl [HO]; · iexact HO
      isplitl [Ht]; · iexact Ht
      iexact Hre'
    iintro HO
    iapply Hk
    isplitl [HO]; · iexact HO
    isplitr [HA]
    · isplitl [HtC]; · iexact HtC
      isplitl [Hr Hrd]
      · rw [show h + 1 + 3 = h + 3 + 1 by omega, ← big_roll 3 (rd d i)]
        isplitl [Hr] <;> iassumption
      isplitr; · rw [show h + 1 + 3 = h + 3 + 1 by omega]; iexact Hre'
      rw [Finset.Ico_eq_empty (show ¬59 < h + 1 by omega), bigSep_empty]; iempintro
    · iexact HA
  · rw [if_neg h1]
    simp only [run]
    have e1 : min h 59 = 59 := by omega
    have e2 : min (h + 1) 59 = 59 := by omega
    rw [e1, e2]
    iapply Hk
    isplitl [HO]
    · unfold owe
      rw [show h + 1 = n i + 1 by omega, Ow_cred_end (by omega)]
      iexact HO
    isplitr [HA]
    · isplitr; · rw [Finset.Ico_eq_empty (by omega), bigSep_empty]; iempintro
      isplitl [Hrd]; · iexact Hrd
      isplitr; · iexact Hre
      rw [big_push (show 59 ≤ h by omega)]
      isplitl [Hfull]; · unfold kept; iexact Hfull
      iexact Hkp
    · iexact HA

end Cert.KernelIdeal.Steps
-- ==== Proof.Loop.lean ====
/-
  The steps: each ring by its parts, all rings in turn, sixty-two steps.
-/
module

public import proofs.«01_k».proof.Proof.Ring

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable {B : Blocks F} {Kc : Dev nD × CK → ℕ} {Ks : Key → ℕ}
variable {d : Dev nD} {i : Fin 8} {a n : Fin 8 → ℕ} {st : St F} {K : St F → Pg F} {Q : PUnit.{1} → sProp (MT nD τ sig ℕ (Elt F) ℕ UU ℕ)}

/-! ### One ring, one step -/

theorem atR_reached {s : Finset ℕ} {k : ℕ} (hk : k ∈ s) : bigSep s (atR (F := F) d i) ⊢ iprop(bigSep s (atR d i) ∗ reached ER (rcvCell d i k) (k / 4)) := by
  rw [← Finset.insert_erase hk, big_insert (Finset.notMem_erase k s)]
  iintro ⟨H, Hs⟩
  unfold atR
  icases H with ⟨H, #Hr⟩
  isplitl [H Hs]
  · isplitl [H]
    · isplitl [H]; · iexact H
      iexact Hr
    iexact Hs
  iexact Hr

theorem atS_reached {s : Finset ℕ} {k : ℕ} (hk : k ∈ s) : bigSep s (atS (F := F) d i) ⊢ iprop(bigSep s (atS d i) ∗ reached ER (sndCell d i k) (k / 4)) := by
  rw [← Finset.insert_erase hk, big_insert (Finset.notMem_erase k s)]
  iintro ⟨H, Hs⟩
  unfold atS
  icases H with ⟨H, #Hr⟩
  isplitl [H Hs]
  · isplitl [H]
    · isplitl [H]; · iexact H
      iexact Hr
    iexact Hs
  iexact Hr

theorem update_succ {h : ℕ} : Function.update (fun j => n j + 1) i (h + 2) = fun j => Function.update n i (h + 1) j + 1 := by
  funext j
  by_cases e : j = i
  · subst e; rw [Function.update_self, Function.update_self]
  · rw [Function.update_of_ne e, Function.update_of_ne e]

/-- What a device holds with every ring `j` before its step `n j`. -/
def All (B : Blocks F) (d : Dev nD) (n : Fin 8 → ℕ) : sProp 𝕄 :=
  iprop(owe d (fun j => n j + 1) n ∗ OutSt B d n ∗ bigSep Finset.univ fun j => Ring d j (n j))

theorem ring_step {h : ℕ} (hh : h < 62) (hst : h ≤ 30 → st.prod i.val = prodAt B d i.val h) (hn : n i = h) (hlo : ∀ j, h ≤ n j) :
    iprop(Inv B Kc Ks ∗ owe d (fun j => n j + 1) n ∗ OutSt B d n ∗ Ring d i h)
      ⊢ iprop((∀ st', ⌜∀ j, st'.prod j = st.prod j⌝ -∗ owe d (fun j => Function.update n i (h + 1) j + 1) (Function.update n i (h + 1))
          -∗ OutSt B d (Function.update n i (h + 1)) -∗ Ring d i (h + 1) -∗ WP d (K st') Q) -∗ WP d (run (ringCmds d h i.val) st K) Q) := by
  iintro ⟨#HI, Ho, HO, HR⟩ Hk
  unfold Ring
  icases HR with ⟨HAR, HAS, HcR, HP, HD, Hcur⟩
  ihave HAR := (Entails.of_eq (big_peel (show h < h + (3 + 1) by omega) (atR (F := F) d i))) $$ HAR
  ihave HAS := (Entails.of_eq (big_peel (show h < h + (3 + 1) by omega) (atS (F := F) d i))) $$ HAS
  ihave HcR := (Entails.of_eq (big_peel hh (cR (F := F) d i))) $$ HcR
  icases HAR with ⟨HaR, HAR⟩
  icases HAS with ⟨HaS, HAS⟩
  icases HcR with ⟨Hc, HcR⟩
  rw [show run (ringCmds d h i.val) st K = waitRecv i.val h st (fun st' => run (useCmds d h i.val ++ (passCmds d h i.val ++ (copyCmds d h i.val ++ doneCmds d h i.val))) st' K) from rfl]
  iapply (wp_recv (i := i) (a := fun j => n j + 1) (b := n) (K := fun st' => run (useCmds d h i.val ++ (passCmds d h i.val ++ (copyCmds d h i.val ++ doneCmds d h i.val))) st' K)
    hh (fun j => by have := hlo j; show h < n j + 1; omega) hlo) $$ [HaR Hc Ho]
  · isplitr; · iexact HI
    isplitl [Hc]; · iexact Hc
    isplitl [Ho]; · iexact Ho
    iexact HaR
  iintro ⟨Ho, HaR, Hp⟩
  ihave HAR := (Entails.of_eq (big_roll 3 (atR (F := F) d i))) $$ [HaR HAR]
  · isplitl [HaR]; · iexact HaR
    iexact HAR
  ihave HAR := (atR_reached (k := h + 3) (Finset.mem_Ico.mpr ⟨by omega, by omega⟩)) $$ HAR
  icases HAR with ⟨HAR, #Hre⟩
  ihave HAS := (atS_reached (k := h + 1) (Finset.mem_Ico.mpr ⟨by omega, by omega⟩)) $$ HAS
  icases HAS with ⟨HAS, #Hse⟩
  unfold rcvPay
  icases Hp with ⟨%f, Hs, %hf⟩
  rw [run_append]
  iapply (use_step (K := fun st' => run (passCmds d h i.val ++ (copyCmds d h i.val ++ doneCmds d h i.val)) st' K) hh hst hn hf) $$ [Hs HO]
  · isplitl [Hs]; · iexact Hs
    iexact HO
  iintro %st1 %f1 %h1 Hs HO
  rw [run_append]
  iapply (pass_step (i := i) (a := fun j => n j + 1) (n := n) (K := fun st' => run (copyCmds d h i.val ++ doneCmds d h i.val) st' K) hh (by show n i + 1 = _; rw [hn])
    (fun j => by have := hlo j; show h + 1 ≤ n j + 1; omega) hlo h1.2) $$ [Ho HP Hs]
  · isplitr; · iexact HI
    isplitl [Ho]; · iexact Ho
    isplitl [HP]; · iexact HP
    isplitr; · iexact Hse
    iexact Hs
  iintro ⟨Ho, HP, Hl, Hs⟩
  rw [run_append]
  iapply (copy_step (K := fun st' => run (doneCmds d h i.val) st' K) hh hn h1.2) $$ [Hs HO]
  · isplitl [Hs]; · iexact Hs
    iexact HO
  iintro %st2 %h2 Hs HO
  rw [show Function.update (fun j => n j + 1) i (h + 2) = fun j => Function.update n i (h + 1) j + 1 from update_succ]
  iapply (done_step (i := i) (a := fun j => Function.update n i (h + 1) j + 1) (n := n) (K := K) hh hn) $$ [Ho HD Hcur HaS]
  · isplitr; · iexact HI
    isplitl [Ho]; · iexact Ho
    isplitl [HD]; · iexact HD
    isplitl [Hcur]; · iexact Hcur
    isplitl [HaS]; · iexact HaS
    iexact Hre
  iintro ⟨Ho, HD, HaS⟩
  ihave HAS := (Entails.of_eq (big_roll 3 (atS (F := F) d i))) $$ [HaS HAS]
  · isplitl [HaS]; · iexact HaS
    iexact HAS
  iapply Hk $$ %_ [] Ho HO
  · ipureintro; exact fun j => (h2 j).trans (h1.1 j)
  isplitl [HAR]; · iexact HAR
  isplitl [HAS]; · iexact HAS
  isplitl [HcR]; · iexact HcR
  isplitl [HP]; · iexact HP
  isplitl [HD]; · iexact HD
  unfold cur
  isplitl [Hl]; · iexact Hl
  iexists f1; iexact Hs

/-! ### All rings, one step -/

theorem big_univ (i : Fin 8) (Φ : Fin 8 → sProp 𝕄) : bigSep Finset.univ Φ = iprop(Φ i ∗ bigSep (Finset.univ.erase i) Φ) := bigSep_univ_split i

def upto (h m : ℕ) (j : Fin 8) : ℕ := if j.val < m then h + 1 else h

theorem upto_update {h : ℕ} : Function.update (upto h i.val) i (h + 1) = upto h (i.val + 1) := by
  funext j
  unfold upto
  by_cases e : j = i
  · subst e; rw [Function.update_self, if_pos (Nat.lt_succ_self _)]
  · rw [Function.update_of_ne e]
    have : j.val ≠ i.val := fun h => e (Fin.ext h)
    by_cases hl : j.val < i.val
    · rw [if_pos hl, if_pos (by omega)]
    · rw [if_neg hl, if_neg (by omega)]

theorem rings_one {h : ℕ} (hh : h < 62) (hst : h ≤ 30 → st.prod i.val = prodAt B d i.val h) :
    iprop(Inv B Kc Ks ∗ All B d (upto h i.val))
      ⊢ iprop((∀ st', ⌜∀ j, st'.prod j = st.prod j⌝ -∗ All B d (upto h (i.val + 1)) -∗ WP d (K st') Q) -∗ WP d (run (ringCmds d h i.val) st K) Q) := by
  have hi : upto h i.val i = h := if_neg (Nat.lt_irrefl _)
  iintro ⟨#HI, HA⟩ Hk
  unfold All
  icases HA with ⟨Ho, HO, HR⟩
  ihave HR := (Entails.of_eq (big_univ i (Φ := fun j => Ring (F := F) d j (upto h i.val j)))) $$ HR
  icases HR with ⟨Hi, HR⟩
  iapply (ring_step (i := i) (n := upto h i.val) (K := K) hh hst hi (fun j => by unfold upto; split <;> omega)) $$ [Ho HO Hi]
  · isplitr; · iexact HI
    isplitl [Ho]; · iexact Ho
    isplitl [HO]; · iexact HO
    ihave Hi := (Entails.of_eq (show Ring (F := F) d i (upto h i.val i) = Ring d i h by rw [hi])) $$ Hi
    iexact Hi
  rw [upto_update (i := i) (h := h)]
  iintro %st' %h' Ho HO Hi
  iapply Hk $$ %_ []
  · ipureintro; exact h'
  isplitl [Ho]; · iexact Ho
  isplitl [HO]; · iexact HO
  iapply (Entails.of_eq (big_univ i (Φ := fun j => Ring (F := F) d j (upto h (i.val + 1) j))).symm)
  isplitl [Hi]
  · iapply (Entails.of_eq (show Ring (F := F) d i (h + 1) = Ring d i (upto h (i.val + 1) i) by rw [show upto h (i.val + 1) i = h + 1 from if_pos (Nat.lt_succ_self _)])); iexact Hi
  · iapply (Entails.of_eq (bigSep_congr (Φ := fun j => Ring (F := F) d j (upto h i.val j)) (Ψ := fun j => Ring d j (upto h (i.val + 1) j)) fun j hj => by
      rw [← upto_update, Function.update_of_ne (Finset.ne_of_mem_erase hj)]))
    iexact HR

theorem rings_step {h : ℕ} (hh : h < 62) (c m : ℕ) (hm : m + c = 8) (st : St F) (hst : ∀ i : Fin 8, h ≤ 30 → st.prod i.val = prodAt B d i.val h) :
    iprop(Inv B Kc Ks ∗ All B d (upto h m))
      ⊢ iprop((∀ st', All B d (upto h 8) -∗ WP d (K st') Q) -∗ WP d (run (ringsCmds d h m c) st K) Q) := by
  induction c generalizing m st with
  | zero =>
    obtain rfl : m = 8 := by omega
    iintro ⟨#HI, HA⟩ Hk
    simp only [ringsCmds, run]
    iapply Hk $$ %_ HA
  | succ c ih =>
    iintro ⟨#HI, HA⟩ Hk
    rw [show ringsCmds (F := F) d h m (c + 1) = ringCmds d h m ++ ringsCmds d h (m + 1) c from rfl, run_append]
    iapply (rings_one (i := ⟨m, by omega⟩) (K := fun st' => run (ringsCmds d h (m + 1) c) st' K) hh (hst ⟨m, by omega⟩)) $$ [HA]
    · isplitr; · iexact HI
      iexact HA
    iintro %st' %h' HA
    iapply (ih (m + 1) (by omega) st' (fun i hi => (h' i.val).trans (hst i hi))) $$ [HA]
    · isplitr; · iexact HI
      iexact HA
    iexact Hk

/-! ### The loads of a step, and all the steps -/

/-- A device's blocks of the two inputs. -/
def Ins (B : Blocks F) (d : Dev nD) : sProp 𝕄 :=
  iprop(((d : Thread nD τ).loc cc0_stg0_0 ↦{fullShare} B.x d) ∗ ((d : Thread nD τ).loc cc0_stg1_0 ↦{fullShare} B.w d))

theorem wp_loadXa {off : Fin 2 → Nat} {hb : ∀ a, off a + S128x128.size a ≤ S4096x128.size a} :
    Ins B d ⊢ iprop((Ins B d -∗ WP d (K { st with xa := xRows B d off hb }) Q) -∗ WP d (loadXa off hb st K) Q) := by
  unfold Ins
  iintro ⟨Hx, Hw⟩ Hk
  unfold loadXa
  iapply (wp_load 𝒱₀ (d : Thread nD τ) none Set.univ (m := xM) (r := (Rect.unit (s := S4096x128) off S128x128.size hb).toLoadRect) (S := Finset.univ) (q := fullShare) (f := B.x d) (Finset.subset_univ _)) $$ Hx
  iintro Hx
  iapply Hk
  isplitl [Hx]; · iexact Hx
  iexact Hw
theorem wp_loadXb {off : Fin 2 → Nat} {hb : ∀ a, off a + S128x128.size a ≤ S4096x128.size a} :
    Ins B d ⊢ iprop((Ins B d -∗ WP d (K { st with xb := xRows B d off hb }) Q) -∗ WP d (loadXb off hb st K) Q) := by
  unfold Ins
  iintro ⟨Hx, Hw⟩ Hk
  unfold loadXb
  iapply (wp_load 𝒱₀ (d : Thread nD τ) none Set.univ (m := xM) (r := (Rect.unit (s := S4096x128) off S128x128.size hb).toLoadRect) (S := Finset.univ) (q := fullShare) (f := B.x d) (Finset.subset_univ _)) $$ Hx
  iintro Hx
  iapply Hk
  isplitl [Hx]; · iexact Hx
  iexact Hw
theorem wp_loadWa : Ins B d ⊢ iprop((Ins B d -∗ WP d (K { st with wa := wLeft B d }) Q) -∗ WP d (loadWa st K) Q) := by
  unfold Ins
  iintro ⟨Hx, Hw⟩ Hk
  unfold loadWa
  iapply (wp_load 𝒱₀ (d : Thread nD τ) none Set.univ (m := wM) (r := (Rect.unit (s := S128x2048) ![0, 0] S128x1024.size Shapes1.Facts₀.inb_S128x2048_S128x1024_0_0).toLoadRect) (S := Finset.univ) (q := fullShare) (f := B.w d) (Finset.subset_univ _)) $$ Hw
  iintro Hw
  iapply Hk
  isplitl [Hx]; · iexact Hx
  iexact Hw
theorem wp_loadWb : Ins B d ⊢ iprop((Ins B d -∗ WP d (K { st with wb := wRight B d }) Q) -∗ WP d (loadWb st K) Q) := by
  unfold Ins
  iintro ⟨Hx, Hw⟩ Hk
  unfold loadWb
  iapply (wp_load 𝒱₀ (d : Thread nD τ) none Set.univ (m := wM) (r := (Rect.unit (s := S128x2048) ![0, 1024] S128x1024.size Shapes1.Facts₀.inb_S128x2048_S128x1024_0_1024).toLoadRect) (S := Finset.univ) (q := fullShare) (f := B.w d) (Finset.subset_univ _)) $$ Hw
  iintro Hw
  iapply Hk
  isplitl [Hx]; · iexact Hx
  iexact Hw

theorem prods_step {h : ℕ} :
    Ins B d ⊢ iprop((∀ st', ⌜∀ j, h ≤ 30 → st'.prod j = prodAt B d j h⌝ -∗ Ins B d -∗ WP d (K st') Q) -∗ WP d (run (prodCmds d h) st K) Q) := by
  iintro HX Hk
  unfold prodCmds
  by_cases hh : h ≤ 30
  · rw [if_pos hh]
    simp only [run]
    iapply wp_loadXa $$ HX; iintro HX
    iapply wp_loadWa $$ HX; iintro HX
    iapply wp_loadXb $$ HX; iintro HX
    iapply wp_loadWb $$ HX; iintro HX
    iapply Hk $$ %_ [] HX
    ipureintro
    intro j _
    rcases Nat.mod_two_eq_zero_or_one j with e | e <;> simp only [St.prod, prodAt, e]
  · rw [if_neg hh]
    simp only [run]
    iapply Hk $$ %_ [] HX
    ipureintro
    exact fun j h => absurd h hh

theorem upto_zero (h : ℕ) : upto h 0 = fun _ => h := funext fun j => if_neg (Nat.not_lt_zero _)
theorem upto_full (h : ℕ) : upto h 8 = fun _ => h + 1 := funext fun j => if_pos j.isLt

theorem steps (c h : ℕ) (hc : h + c = 62) (st : St F) :
    iprop(Inv B Kc Ks ∗ Ins B d ∗ All B d (fun _ => h))
      ⊢ iprop((∀ st', Ins B d -∗ All B d (fun _ => 62) -∗ WP d (K st') Q) -∗ WP d (run (stepsCmds d h c) st K) Q) := by
  induction c generalizing h st with
  | zero =>
    obtain rfl : h = 62 := by omega
    iintro ⟨#HI, HX, HA⟩ Hk
    iapply Hk $$ %_ HX HA
  | succ c ih =>
    iintro ⟨#HI, HX, HA⟩ Hk
    rw [show stepsCmds (F := F) d h (c + 1) = (prodCmds d h ++ ringsCmds d h 0 8) ++ stepsCmds d (h + 1) c from rfl, run_append, run_append]
    iapply (prods_step (K := fun st' => run (ringsCmds d h 0 8) st' fun st'' => run (stepsCmds d (h + 1) c) st'' K)) $$ HX
    iintro %st' %h' HX
    iapply (rings_step (Kc := Kc) (Ks := Ks) (K := fun st'' => run (stepsCmds d (h + 1) c) st'' K) (by omega) 8 0 rfl st' (fun i hi => h' i.val hi)) $$ [HA]
    · isplitr; · iexact HI
      rw [upto_zero]; iexact HA
    rw [upto_full]
    iintro %st2 HA
    iapply (ih (h + 1) (by omega) st2) $$ [HX HA]
    · isplitr; · iexact HI
      isplitl [HX]; · iexact HX
      iexact HA
    iexact Hk

end Cert.KernelIdeal.Steps
-- ==== Proof.Start.lean ====
/-
  The start: slots let go, the barrier, the first transfers.
-/
module

public import proofs.«01_k».proof.Proof.Loop

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable {B : Blocks F} {Kc : Dev nD × CK → ℕ} {Ks : Key → ℕ}
variable {d : Dev nD} {i : Fin 8} {a b n : Fin 8 → ℕ} {st : St F} {K : St F → Pg F} {Q : PUnit.{1} → sProp (MT nD τ sig ℕ (Elt F) ℕ UU ℕ)}

theorem big_frame {I : Type} [DecidableEq I] {s : Finset I} {P : sProp 𝕄} [BI.Persistent P] {Φ Ψ : I → sProp 𝕄}
    (h : ∀ i ∈ s, iprop(P ∗ Φ i) ⊢ Ψ i) : iprop(P ∗ bigSep s Φ) ⊢ bigSep s Ψ :=
  (sep_mono_left (BI.bigSep_of_persistent s P)).trans ((Entails.of_eq (BI.bigSep_sep s (fun _ => P) Φ).symm).trans (bigSep_mono h))

theorem big_sep {I : Type} [DecidableEq I] (s : Finset I) (Φ Ψ : I → sProp 𝕄) : bigSep s (fun i => iprop(Φ i ∗ Ψ i)) = iprop(bigSep s Φ ∗ bigSep s Ψ) := BI.bigSep_sep s Φ Ψ

/-! ### What a ring starts with -/

/-- Its rights and credits for every transfer, the first slot. -/
def Common (d : Dev nD) (i : Fin 8) : sProp 𝕄 :=
  iprop(bigSep (Finset.Ico 0 (0 + (3 + 1))) (atR d i) ∗ bigSep (Finset.Ico 0 (0 + (3 + 1))) (atS d i) ∗ bigSep (Finset.Ico 0 62) (cR d i)
    ∗ bigSep (Finset.Ico 0 62) (toSend d i) ∗ credAt d i 0 ∗ bigSep (Finset.Ico 0 59) (cC d i) ∗ bigSep (Finset.Ico 0 59) (toCred d i)
    ∗ kept d i 0)
/-- Before the barrier: the other three slots too, and the rights to let the four go. -/
def Fresh (d : Dev nD) (i : Fin 8) : sProp 𝕄 :=
  iprop(Common d i ∗ (rd d i 0 ∗ rd d i 1 ∗ rd d i 2 ∗ rd d i 3) ∗ (kept d i 1 ∗ kept d i 2 ∗ kept d i 3))
/-- Once it has let those three go, -/
def Loose (d : Dev nD) (i : Fin 8) : sProp 𝕄 := iprop(Common d i ∗ bigSep (Finset.Ico 3 7) (rd d i) ∗ readies d i 3)
/-- and heard that its neighbour has. -/
def Armed (d : Dev nD) (i : Fin 8) : sProp 𝕄 := iprop(Loose d i ∗ readies (downD d i.val) i 3)

theorem letgo : iprop(Inv B Kc Ks ∗ Fresh d i) ⊢ iprop(|={Set.univ}=> Loose (F := F) d i : sProp 𝕄) := by
  unfold Fresh Common
  iintro ⟨#HI, ⟨HAR, HC⟩, ⟨Hr0, Hr1, Hr2, Hr3⟩, Hs1, Hs2, Hs3⟩
  ihave HAR := (atR_reached (k := 0) (by decide)) $$ HAR
  icases HAR with ⟨HAR, #H0⟩
  ihave HAR := (atR_reached (k := 1) (by decide)) $$ HAR
  icases HAR with ⟨HAR, #H1⟩
  ihave HAR := (atR_reached (k := 2) (by decide)) $$ HAR
  icases HAR with ⟨HAR, #H2⟩
  imod (release (B := B) (Kc := Kc) (Ks := Ks) (d := d) (i := i) 0) $$ [Hr0 Hs1] with ⟨Hr4, #Hy0⟩
  · isplitr; · iexact HI
    isplitl [Hr0]; · iexact Hr0
    isplitr; · iexact H0
    unfold kept; iexact Hs1
  imod (release (B := B) (Kc := Kc) (Ks := Ks) (d := d) (i := i) 1) $$ [Hr1 Hs2] with ⟨Hr5, #Hy1⟩
  · isplitr; · iexact HI
    isplitl [Hr1]; · iexact Hr1
    isplitr; · iexact H1
    unfold kept; iexact Hs2
  imod (release (B := B) (Kc := Kc) (Ks := Ks) (d := d) (i := i) 2) $$ [Hr2 Hs3] with ⟨Hr6, #Hy2⟩
  · isplitr; · iexact HI
    isplitl [Hr2]; · iexact Hr2
    isplitr; · iexact H2
    unfold kept; iexact Hs3
  imodintro
  unfold Loose Common
  isplitl [HAR HC]
  · isplitl [HAR]; · iexact HAR
    iexact HC
  isplitl
  · iapply (Entails.of_eq (show iprop(rd (F := F) d i 3 ∗ rd d i 4 ∗ rd d i 5 ∗ rd d i 6) = bigSep (Finset.Ico 3 7) (rd d i) by
      rw [big_peel (by decide), big_peel (by decide), big_peel (by decide), show Finset.Ico (3 + 1 + 1 + 1) 7 = {6} from by decide, bigSep_singleton]))
    isplitl [Hr3]; · iexact Hr3
    isplitl [Hr4]; · iexact Hr4
    isplitl [Hr5]; · iexact Hr5
    iexact Hr6
  · iapply readies_succ
    isplitr; · iexact Hy2
    iapply readies_succ
    isplitr; · iexact Hy1
    iapply readies_succ
    isplitr; · iexact Hy0
    unfold readies
    rw [Finset.range_zero, bigSep_empty]
    iempintro

theorem letgo_all : iprop(Inv B Kc Ks ∗ bigSep Finset.univ (Fresh (F := F) d)) ⊢ iprop(|={Set.univ}=> bigSep Finset.univ (Loose d) : sProp 𝕄) :=
  (big_frame fun i _ => letgo).trans (bigSep_fupd _ _)

/-! ### The barrier -/

/-- What a device owes at the start: every transfer and credit, and a signal to each neighbour. -/
def O₀ (d : Dev nD) : CellTallies nD τ sig ℕ := Ow d (fun _ => 0) (fun _ => 0) + tallyAt (barCell (rightD d)) 0 1 + tallyAt (barCell (leftD d)) 0 1

/-- A device's part of the barrier. -/
def Bar (d : Dev nD) : sProp 𝕄 :=
  iprop(atPos ER (barCell d) 0 ∅ 0 ∗ cred (tallyAt (barCell d) 0 2) ∗ dutyTok ER (barCell (leftD d)) 0 0 ∗ dutyTok ER (barCell (rightD d)) 0 1)

theorem word_left : bigSep Finset.univ (fun i => readies (F := F) d i 3) ⊢ barPay (leftD d) 0 := by
  unfold barPay
  refine (bigSep_subset (Finset.filter_subset (fun i : Fin 8 => i.val % 2 = 0) _)).trans (Entails.of_eq (bigSep_congr fun i hi => ?_))
  rw [show leftD d = upD d i.val by unfold upD; rw [(Finset.mem_filter.mp hi).2]; rfl, down_up]
theorem word_right : bigSep Finset.univ (fun i => readies (F := F) d i 3) ⊢ barPay (rightD d) 1 := by
  unfold barPay
  refine (bigSep_subset (Finset.filter_subset (fun i : Fin 8 => i.val % 2 = 1) _)).trans (Entails.of_eq (bigSep_congr fun i hi => ?_))
  rw [show rightD d = upD d i.val by unfold upD; rw [(Finset.mem_filter.mp hi).2]; rfl, down_up]
theorem word_both : iprop(barPay d 0 ∗ barPay d 1) ⊢ bigSep Finset.univ (fun i => readies (F := F) (downD d i.val) i 3) := by
  unfold barPay
  rw [big_split (Finset.filter_subset (fun i : Fin 8 => i.val % 2 = 0) Finset.univ),
    show (Finset.univ \ Finset.univ.filter fun i : Fin 8 => i.val % 2 = 0) = Finset.univ.filter fun i : Fin 8 => i.val % 2 = 1 from by decide]

theorem signal_left {O : CellTallies nD τ sig ℕ} :
    iprop(Inv B Kc Ks ∗ (∃ W, owes (d : Thread nD τ) (O + tallyAt (barCell (leftD d)) 0 1) W) ∗ dutyTok ER (barCell (leftD d)) 0 0 ∗ barPay (leftD d) 0)
      ⊢ iprop(((∃ W, owes (d : Thread nD τ) O W) -∗ WP d (K st) Q) -∗ WP d (sigBar (leftD d) st K) Q) := by
  iintro ⟨#HI, ⟨%W, HO⟩, Ht, Hp⟩ Hk
  unfold sigBar
  iapply (Rounds.wp_signal 𝒱₀ ER (Rd B) (d : Thread nD τ) none (dst := (leftD d : Thread nD τ)) (κ := Kc (leftD d, .bar)) (r := 0)
      (d := 0) (by rw [duties_bar]; decide) ((amount_bar B _ 0 _).trans (by decide)) 0 O rfl) $$ [HO Ht Hp]
  · isplitr; · iapply (inv_cell B Kc Ks (leftD d, .bar)); iexact HI
    isplitl [HO]; · iexact HO
    isplitl [Ht]; · iexact Ht
    isplitl [Hp]; · rw [payload_bar]; iexact Hp
    iapply (inv_reached B Kc Ks (leftD d, .bar)); iexact HI
  iintro HO
  iapply Hk
  iexists W; iexact HO
theorem signal_right {O : CellTallies nD τ sig ℕ} :
    iprop(Inv B Kc Ks ∗ (∃ W, owes (d : Thread nD τ) (O + tallyAt (barCell (rightD d)) 0 1) W) ∗ dutyTok ER (barCell (rightD d)) 0 1 ∗ barPay (rightD d) 1)
      ⊢ iprop(((∃ W, owes (d : Thread nD τ) O W) -∗ WP d (K st) Q) -∗ WP d (sigBar (rightD d) st K) Q) := by
  iintro ⟨#HI, ⟨%W, HO⟩, Ht, Hp⟩ Hk
  unfold sigBar
  iapply (Rounds.wp_signal 𝒱₀ ER (Rd B) (d : Thread nD τ) none (dst := (rightD d : Thread nD τ)) (κ := Kc (rightD d, .bar)) (r := 0)
      (d := 1) (by rw [duties_bar]; decide) ((amount_bar B _ 0 _).trans (by decide)) 0 O rfl) $$ [HO Ht Hp]
  · isplitr; · iapply (inv_cell B Kc Ks (rightD d, .bar)); iexact HI
    isplitl [HO]; · iexact HO
    isplitl [Ht]; · iexact Ht
    isplitl [Hp]; · rw [payload_bar]; iexact Hp
    iapply (inv_reached B Kc Ks (rightD d, .bar)); iexact HI
  iintro HO
  iapply Hk
  iexists W; iexact HO

theorem wait_bar :
    iprop(Inv B Kc Ks ∗ cred (tallyAt (barCell d) 0 2) ∗ owe d (fun _ => 0) (fun _ => 0) ∗ atPos ER (barCell d) 0 ∅ 0)
      ⊢ iprop(((owe d (fun _ => 0) (fun _ => 0) ∗ atPos ER (barCell d) 1 ∅ 0 ∗ barPay d 0 ∗ barPay d 1) -∗ WP d (K st) Q) -∗ WP d (waitBar st K) Q) := by
  unfold owe
  iintro ⟨#HI, Hc, ⟨%W, HO⟩, HA⟩ Hk
  unfold waitBar
  iapply (Rounds.wp_wait_rest_token 𝒱₀ ER (Rd B) (d : Thread nD τ) none (κ := Kc (d, .bar)) (sm := .reg barC)
      (wpE_semWait_eq 𝒱₀ (d : Thread nD τ) none Set.univ) (Set.mem_univ _) 0 (O := Ow d (fun _ => 0) (fun _ => 0)) (W := W) (R := 0) (m := 0) (T := ∅)
      (by rw [Nat.zero_add]; exact (show (2#32 : BitVec 32).toInt.toNat = 2 by decide).trans (expect_bar B d).symm)) $$ [Hc HO HA]
  · isplitr; · iapply (inv_cell B Kc Ks (d, .bar)); iexact HI
    isplitl [Hc]; · iexact Hc
    isplitl [HO]; · iexact HO
    isplitr
    · iapply (mayWait d (.reg barC) 0 1 (fun _ => 0) (fun _ => 0) (by omega) (Nat.le_of_eq (lv_bar d 0)) (fun j => by omega) (fun j => by omega))
      iapply (inv_lev B Kc Ks); iexact HI
    iexact HA
  iintro ⟨HO, HA, -, Hp⟩
  ihave Hp := (Entails.of_eq (rest_bar B d)) $$ Hp
  iapply Hk
  isplitl [HO]; · iexists _; iexact HO
  isplitl [HA]; · iexact HA
  iexact Hp

/-! ### The first transfers -/

theorem start_one (ha : a i = 0) (hst : st.prod i.val = prod₀ B d i.val) :
    iprop(Inv B Kc Ks ∗ owe d a b ∗ Armed d i)
      ⊢ iprop(((owe d (Function.update a i 1) b ∗ Ring d i 0) -∗ WP d (K st) Q) -∗ WP d (run (startCmds d i.val) st K) Q) := by
  unfold Armed Loose Common kept
  iintro ⟨#HI, HO, ⟨⟨HAR, HAS, HcR, Hts, Hca, HcC, Htc, ⟨%f0, Hs⟩⟩, Hrd, #Hme⟩, #Hdn⟩ Hk
  unfold startCmds
  simp only [run]
  ihave HAS := (atS_reached (k := 0) (by decide)) $$ HAS
  icases HAS with ⟨HAS, #Hse⟩
  ihave Hts := (Entails.of_eq (big_peel (show 0 < 62 by decide) (toSend (F := F) d i))) $$ Hts
  icases Hts with ⟨Ht, Hts⟩
  iapply wp_peekC $$ Hs; iintro Hs
  iapply wp_storeC $$ Hs; iintro %f %hf Hs
  iapply (wp_go (B := B) (Kc := Kc) (Ks := Ks) (k := 0) (K := K) (by decide) ha (hf.trans (show first i.val (st.prod i.val) = _ by rw [hst]; rfl))) $$ [HO Ht Hs]
  · isplitr; · iexact HI
    isplitl [Ht]; · iexact Ht
    isplitr; · iapply (readies_get (show 0 < 3 by decide)); iexact Hdn
    isplitr; · iexact Hse
    isplitl [Hs]; · iexact Hs
    iexact HO
  iintro ⟨HO, HcS, Hs⟩
  iapply Hk
  isplitl [HO]; · iexact HO
  unfold Ring
  isplitl [HAR]; · iexact HAR
  isplitl [HAS]; · iexact HAS
  isplitl [HcR]; · iexact HcR
  isplitl [Hts Hca HcC]
  · unfold PassSt
    rw [show min (0 - 2) 59 = 0 from rfl]
    isplitl [Hts]; · iexact Hts
    isplitl [Hca]; · iexact Hca
    isplitl [HcC]; · iexact HcC
    iexact Hdn
  isplitl [Htc Hrd]
  · unfold DoneSt
    rw [show min 0 59 = 0 from rfl, Finset.Ico_eq_empty (show ¬ 59 < 0 by decide), bigSep_empty]
    isplitl [Htc]; · iexact Htc
    isplitl [Hrd]; · iexact Hrd
    isplitr; · iexact Hme
    iempintro
  unfold cur lent share
  rw [if_pos (show 0 < 62 by decide), if_pos (show 0 < 62 by decide)]
  isplitl [HcS]; · iexact HcS
  iexists f; iexact Hs

/-- The rings below `m` have started. -/
def begun (m : ℕ) (j : Fin 8) : ℕ := if j.val < m then 1 else 0
def Part (d : Dev nD) (m : ℕ) (j : Fin 8) : sProp 𝕄 := if j.val < m then Ring d j 0 else Armed d j

theorem begun_update : Function.update (begun i.val) i 1 = begun (i.val + 1) := by
  funext j
  unfold begun
  by_cases e : j = i
  · subst e; rw [Function.update_self, if_pos (Nat.lt_succ_self _)]
  · rw [Function.update_of_ne e]
    have : j.val ≠ i.val := fun h => e (Fin.ext h)
    by_cases hl : j.val < i.val
    · rw [if_pos hl, if_pos (by omega)]
    · rw [if_neg hl, if_neg (by omega)]

theorem starts (c m : ℕ) (hm : m + c = 8) (st : St F) (hst : ∀ i : Fin 8, st.prod i.val = prod₀ B d i.val) :
    iprop(Inv B Kc Ks ∗ owe d (begun m) (fun _ => 0) ∗ bigSep Finset.univ (Part d m))
      ⊢ iprop((∀ st', (owe d (begun 8) (fun _ => 0) ∗ bigSep Finset.univ (Part d 8)) -∗ WP d (K st') Q) -∗ WP d (run (startsCmds d m c) st K) Q) := by
  induction c generalizing m with
  | zero =>
    obtain rfl : m = 8 := by omega
    iintro ⟨#HI, HA⟩ Hk
    simp only [startsCmds, run]
    iapply Hk $$ %_ HA
  | succ c ih =>
    iintro ⟨#HI, HO, HA⟩ Hk
    have hm8 : m < 8 := by omega
    rw [show startsCmds (F := F) d m (c + 1) = startCmds d m ++ startsCmds d (m + 1) c from rfl, run_append]
    ihave HA := (Entails.of_eq (big_univ ⟨m, hm8⟩ (Part (F := F) d m))) $$ HA
    icases HA with ⟨Hi, HA⟩
    iapply (start_one (B := B) (Kc := Kc) (Ks := Ks) (i := ⟨m, hm8⟩) (a := begun m) (b := fun _ => 0) (st := st) (K := fun st' => run (startsCmds d (m + 1) c) st' K)
      (if_neg (Nat.lt_irrefl m)) (hst ⟨m, hm8⟩)) $$ [HO Hi]
    · isplitr; · iexact HI
      isplitl [HO]; · iexact HO
      ihave Hi := (Entails.of_eq (show Part (F := F) d m ⟨m, hm8⟩ = Armed d ⟨m, hm8⟩ from if_neg (Nat.lt_irrefl m))) $$ Hi
      iexact Hi
    iintro ⟨HO, Hi⟩
    iapply (ih (m + 1) (by omega)) $$ [HO HA Hi]
    · isplitr; · iexact HI
      isplitl [HO]
      · ihave HO := (Entails.of_eq (congrArg (fun a => owe (F := F) d a (fun _ => 0)) (begun_update (i := ⟨m, hm8⟩)))) $$ HO
        iexact HO
      iapply (Entails.of_eq (big_univ ⟨m, hm8⟩ (Part (F := F) d (m + 1))).symm)
      isplitl [Hi]
      · iapply (Entails.of_eq (show Ring (F := F) d ⟨m, hm8⟩ 0 = Part d (m + 1) ⟨m, hm8⟩ from (if_pos (Nat.lt_succ_self m)).symm)); iexact Hi
      · iapply (Entails.of_eq (bigSep_congr (Φ := Part (F := F) d m) (Ψ := Part d (m + 1)) fun j hj => by
          have hne : j.val ≠ m := fun h => Finset.ne_of_mem_erase hj (Fin.ext h)
          unfold Part
          by_cases hl : j.val < m
          · rw [if_pos hl, if_pos (by omega)]
          · rw [if_neg hl, if_neg (by omega)]))
        iexact HA
    iexact Hk

/-! ### Up to the first step -/

theorem prologue_step :
    iprop(Inv B Kc Ks ∗ Ins B d ∗ OutSt B d (fun _ => 0) ∗ bigSep Finset.univ (Fresh d) ∗ Bar d ∗ ∃ W, owes (d : Thread nD τ) (O₀ d) W)
      ⊢ iprop((∀ st', Ins B d -∗ All B d (fun _ => 0) -∗ atPos ER (barCell d) 1 ∅ 0 -∗ WP d (K st') Q) -∗ WP d (run (prologue d) st K) Q) := by
  unfold Bar
  iintro ⟨#HI, HX, HOut, HF, ⟨HaB, HcB, HtL, HtR⟩, HO⟩ Hk
  imod (letgo_all (B := B) (Kc := Kc) (Ks := Ks)) $$ [HF] with HF
  · isplitr; · iexact HI
    iexact HF
  unfold Loose
  ihave HF := (Entails.of_eq (big_sep Finset.univ (fun i => Common (F := F) d i) fun i => iprop(bigSep (Finset.Ico 3 7) (rd d i) ∗ readies d i 3))) $$ HF
  icases HF with ⟨HC, HF⟩
  ihave HF := (Entails.of_eq (big_sep Finset.univ (fun i => bigSep (Finset.Ico 3 7) (rd (F := F) d i)) fun i => readies d i 3)) $$ HF
  icases HF with ⟨Hrd, #Hme⟩
  unfold prologue
  rw [run_append]
  unfold preCmds
  simp only [run]
  iapply (signal_left (B := B) (Kc := Kc) (Ks := Ks)) $$ [HO HtL]
  · isplitr; · iexact HI
    isplitl [HO]; · unfold O₀; iexact HO
    isplitl [HtL]; · iexact HtL
    iapply word_left; iexact Hme
  iintro HO
  iapply (signal_right (B := B) (Kc := Kc) (Ks := Ks)) $$ [HO HtR]
  · isplitr; · iexact HI
    isplitl [HO]; · iexact HO
    isplitl [HtR]; · iexact HtR
    iapply word_right; iexact Hme
  iintro HO
  iapply (wait_bar (B := B) (Kc := Kc) (Ks := Ks)) $$ [HO HcB HaB]
  · isplitr; · iexact HI
    isplitl [HcB]; · iexact HcB
    isplitl [HO]; · unfold owe; iexact HO
    iexact HaB
  iintro ⟨HO, HaB, Hp⟩
  ihave #Hdn := (word_both (F := F)) $$ Hp
  iapply wp_loadXa $$ HX; iintro HX
  iapply wp_loadWa $$ HX; iintro HX
  iapply wp_loadXb $$ HX; iintro HX
  iapply wp_loadWb $$ HX; iintro HX
  iapply (starts (B := B) (Kc := Kc) (Ks := Ks) (K := K) 8 0 rfl _ (fun i => by
    rcases Nat.mod_two_eq_zero_or_one i.val with e | e <;> simp only [St.prod, prod₀, e])) $$ [HO HC Hrd]
  · isplitr; · iexact HI
    isplitl [HO]
    · rw [show begun 0 = fun _ => 0 from funext fun j => if_neg (Nat.not_lt_zero _)]; iexact HO
    · rw [show Part (F := F) d 0 = fun j => iprop((Common d j ∗ bigSep (Finset.Ico 3 7) (rd d j) ∗ readies d j 3) ∗ readies (downD d j.val) j 3)
        from funext fun j => if_neg (Nat.not_lt_zero _)]
      rw [big_sep, big_sep, big_sep]
      isplitl
      · isplitl [HC]; · iexact HC
        isplitl [Hrd]; · iexact Hrd
        iexact Hme
      · iexact Hdn
  iintro %st' ⟨HO, HR⟩
  iapply Hk $$ %_ HX [HO HR HOut] HaB
  unfold All
  isplitl [HO]
  · rw [show begun 8 = fun _ => 0 + 1 from funext fun j => if_pos j.isLt]; iexact HO
  isplitl [HOut]; · iexact HOut
  rw [show Part (F := F) d 8 = fun j => Ring d j 0 from funext fun j => if_pos j.isLt]
  iexact HR

end Cert.KernelIdeal.Steps
-- ==== Proof.Finish.lean ====
/-
  The end: every cell closed, the slots together again; the body as a whole.
-/
module

public import proofs.«01_k».proof.Proof.Start

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable {B : Blocks F} {Kc : Dev nD × CK → ℕ} {Ks : Key → ℕ}
variable {d : Dev nD} {i : Fin 8} {a b n : Fin 8 → ℕ} {st : St F} {K : St F → Pg F} {Q : PUnit.{1} → sProp (MT nD τ sig ℕ (Elt F) ℕ UU ℕ)}

/-! ### Families over the cells, the slots -/

/-- The first four transfers, and the four past the last, are one for each slot. -/
def firstFour : Fin 4 ↪ ℕ := ⟨fun s => s.val, by decide⟩
def lastFour : Fin 4 ↪ ℕ := ⟨fun s => 62 + (s.val + 2) % 4, by decide⟩

theorem big_first (Φ : ℕ → sProp 𝕄) (Ψ : Fin 4 → sProp 𝕄) (h : ∀ s : Fin 4, Φ s.val = Ψ s) : bigSep (Finset.Ico 0 (0 + (3 + 1))) Φ = bigSep Finset.univ Ψ := by
  rw [← show Finset.univ.map firstFour = Finset.Ico 0 (0 + (3 + 1)) from by decide, bigSep_map]
  exact bigSep_congr fun s _ => h s
theorem big_last (Φ : ℕ → sProp 𝕄) (Ψ : Fin 4 → sProp 𝕄) (h : ∀ s : Fin 4, Φ (62 + (s.val + 2) % 4) = Ψ s) :
    bigSep (Finset.Ico 62 (62 + (3 + 1))) Φ = bigSep Finset.univ Ψ := by
  rw [← show Finset.univ.map lastFour = Finset.Ico 62 (62 + (3 + 1)) from by decide, bigSep_map]
  exact bigSep_congr fun s _ => h s
theorem C_last : ∀ s : Fin 4, C (62 + (s.val + 2) % 4) = s := by decide
theorem C_first : ∀ s : Fin 4, C s.val = s := by decide

theorem big_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, big_insert (by decide), big_insert (by decide), big_insert (by decide), bigSep_singleton]

theorem sep_assoc_eq (P Q R : sProp 𝕄) : iprop((P ∗ Q) ∗ R) = iprop(P ∗ Q ∗ R) := BI.equiv_iff.mp ⟨Idealize.SL.BI.sep_assoc, Idealize.SL.BI.sep_assoc'⟩

/-- A family over a device's cells: the barrier's, and each ring's. -/
theorem big_cells (Φ : CK → sProp 𝕄) : bigSep Finset.univ Φ
    = iprop(Φ .bar ∗ bigSep Finset.univ fun i => iprop(Φ (.cred i) ∗ (bigSep Finset.univ fun s => Φ (.snd i s)) ∗ bigSep Finset.univ fun s => Φ (.rcv i s))) := by
  rw [bigSep_univ_equiv ckE, bigSep_univ_sum, bigSep_univ_sum, bigSep_univ_sum, bigSep_univ_prod, bigSep_univ_prod,
    show (Finset.univ : Finset Unit) = {()} from rfl, bigSep_singleton, big_sep, big_sep]
  exact sep_assoc_eq _ _ _

/-! ### Closing the cells -/

/-- Every semaphore of a ring reads zero. -/
def Zero (d : Dev nD) (i : Fin 8) : sProp 𝕄 :=
  iprop(semVal (kcell (d, .cred i)) 0 ∗ (bigSep Finset.univ fun s => semVal (kcell (d, .snd i s)) 0) ∗ bigSep Finset.univ fun s => semVal (kcell (d, .rcv i s)) 0)
/-- Its four slots are its own again. -/
def Slots (d : Dev nD) (i : Fin 8) : sProp 𝕄 := bigSep Finset.univ fun s : Fin 4 => kept d i s.val

theorem close_rcv {k : ℕ} (hk : 62 ≤ k) : iprop(Inv B Kc Ks ∗ atR d i k) ⊢ iprop(|={Set.univ}=> semVal (kcell (d, .rcv i (C k))) 0 : sProp 𝕄) := by
  unfold atR
  rw [← rcvCell_eq]
  iintro ⟨#HI, HA, -⟩
  iapply (Rounds.cell_close ER (Rd B) (κ := Kc (d, .rcv i (C k))) (Set.mem_univ _) (fun h => h) (R := k / 4) (duties_rcv_end B d i k hk))
  isplitr; · iapply (inv_rcv B Kc Ks d i k); iexact HI
  iexact HA
theorem close_snd {k : ℕ} (hk : 62 ≤ k) : iprop(Inv B Kc Ks ∗ atS d i k) ⊢ iprop(|={Set.univ}=> semVal (kcell (d, .snd i (C k))) 0 : sProp 𝕄) := by
  unfold atS
  rw [← sndCell_eq]
  iintro ⟨#HI, HA, -⟩
  iapply (Rounds.cell_close ER (Rd B) (κ := Kc (d, .snd i (C k))) (Set.mem_univ _) (fun h => h) (R := k / 4) (duties_snd_end B d i k hk))
  isplitr; · iapply (inv_snd B Kc Ks d i k); iexact HI
  iexact HA
theorem close_cred : iprop(Inv B Kc Ks ∗ credAt d i 59) ⊢ iprop(|={Set.univ}=> semVal (kcell (d, .cred i)) 0 : sProp 𝕄) := by
  unfold credAt
  iintro ⟨#HI, %T, %hT, HA, -⟩
  imod (Rounds.fupd_skip ER (Rd B) (κ := Kc (d, .cred i)) (g := credCell d i) (R := 0) (m := 59) (T := T) (Es := Set.univ)
    (by
      rw [duties_cred]
      exact (Finset.eq_of_subset_of_card_le hT.1 (by rw [Finset.card_range]; exact hT.2)).symm ▸ Finset.Subset.refl _)
    (expect_cred B d i).symm (Set.mem_univ _)) $$ [HA] with ⟨HA, -⟩
  · isplitr; · iapply (inv_cell B Kc Ks (d, .cred i)); iexact HI
    iexact HA
  iapply (Rounds.cell_close ER (Rd B) (κ := Kc (d, .cred i)) (Set.mem_univ _) (fun h => h) (R := 1) (duties_cred_end B d i))
  isplitr; · iapply (inv_cell B Kc Ks (d, .cred i)); iexact HI
  iexact HA
theorem close_bar : iprop(Inv B Kc Ks ∗ atPos ER (barCell d) 1 ∅ 0) ⊢ iprop(|={Set.univ}=> semVal (kcell (d, .bar)) 0 : sProp 𝕄) := by
  iintro ⟨#HI, HA⟩
  iapply (Rounds.cell_close ER (Rd B) (κ := Kc (d, .bar)) (Set.mem_univ _) (fun h => h) (R := 1) (duties_bar_end B d))
  isplitr; · iapply (inv_cell B Kc Ks (d, .bar)); iexact HI
  iexact HA

theorem close_ring : iprop(Inv B Kc Ks ∗ Ring d i 62) ⊢ iprop(|={Set.univ}=> (Zero d i ∗ Slots d i) : sProp 𝕄) := by
  unfold Ring PassSt DoneSt cur lent share
  rw [if_neg (show ¬ 62 < 62 by decide), if_neg (show ¬ 62 < 62 by decide)]
  iintro ⟨#HI, HAR, HAS, -, ⟨-, Hca, -⟩, ⟨-, -, -, Hk⟩, -, Hs⟩
  imod ((big_frame (P := Inv B Kc Ks) (Φ := atR (F := F) d i) (s := Finset.Ico 62 (62 + (3 + 1))) fun k hk => close_rcv (Finset.mem_Ico.mp hk).1).trans
    (bigSep_fupd _ _)) $$ [HAR] with HzR
  · isplitr; · iexact HI
    iexact HAR
  imod ((big_frame (P := Inv B Kc Ks) (Φ := atS (F := F) d i) (s := Finset.Ico 62 (62 + (3 + 1))) fun k hk => close_snd (Finset.mem_Ico.mp hk).1).trans
    (bigSep_fupd _ _)) $$ [HAS] with HzS
  · isplitr; · iexact HI
    iexact HAS
  imod (close_cred (B := B) (Kc := Kc) (Ks := Ks)) $$ [Hca] with Hz
  · isplitr; · iexact HI
    iexact Hca
  imodintro
  isplitl [Hz HzS HzR]
  · unfold Zero
    isplitl [Hz]; · iexact Hz
    isplitl [HzS]
    · iapply (Entails.of_eq (big_last (F := F) (fun k => semVal (kcell (d, .snd i (C k))) 0) (fun s => semVal (kcell (d, .snd i s)) 0) fun s => by rw [C_last]))
      iexact HzS
    · iapply (Entails.of_eq (big_last (F := F) (fun k => semVal (kcell (d, .rcv i (C k))) 0) (fun s => semVal (kcell (d, .rcv i s)) 0) fun s => by rw [C_last]))
      iexact HzR
  · unfold Slots
    rw [big_four]
    ihave Hk := (Entails.of_eq (show bigSep (Finset.Ico 59 62) (kept (F := F) d i) = iprop(kept d i 59 ∗ kept d i 60 ∗ kept d i 61) by
      rw [big_peel (by decide), big_peel (by decide), show Finset.Ico (59 + 1 + 1) 62 = {61} from by decide, bigSep_singleton])) $$ Hk
    icases Hk with ⟨H3, H0, H1⟩
    unfold kept
    isplitl [H0]; · iapply (slotPts_move (k := 60) (m := (0 : Fin 4).val) (by decide)); iexact H0
    isplitl [H1]; · iapply (slotPts_move (k := 61) (m := (1 : Fin 4).val) (by decide)); iexact H1
    isplitl [Hs]; · iapply (slotPts_move (k := 62) (m := (2 : Fin 4).val) (by decide)); iexact Hs
    iapply (slotPts_move (k := 59) (m := (3 : Fin 4).val) (by decide)); iexact H3

/-! ### The scratch buffer, slot by slot -/

/-- The elements of a ring's slot. -/
def slotSet (p : Fin 8 × Fin 4) : Finset (S8x4x128x256).Idx := (sRect p.1.val p.2.val).set

theorem slotSet_eq (p : Fin 8 × Fin 4) : (slotM p.1.val p.2.val).view.set = slotSet p := by
  rw [sset_eq]; exact View.set_slice_whole cc0_scratch0 _

theorem mem_slotSet {p : Fin 8 × Fin 4} {x : (S8x4x128x256).Idx} : Iff (x ∈ slotSet p) ((x 0).val = p.1.val ∧ (x 1).val = p.2.val) := by
  have x2 : (x 2).val < 128 := (x 2).isLt
  have x3 : (x 3).val < 256 := (x 3).isLt
  have p1 := p.1.isLt
  have p2 := p.2.isLt
  unfold slotSet
  rw [Rect.mem_set_unit]
  constructor
  · intro h
    have h0 := h 0
    have h1 := h 1
    change p.1.val % 8 ≤ (x 0).val ∧ (x 0).val < p.1.val % 8 + 1 at h0
    change p.2.val % 4 ≤ (x 1).val ∧ (x 1).val < p.2.val % 4 + 1 at h1
    omega
  · rintro ⟨h0, h1⟩ a
    fin_cases a
    · show p.1.val % 8 ≤ (x 0).val ∧ (x 0).val < p.1.val % 8 + 1; omega
    · show p.2.val % 4 ≤ (x 1).val ∧ (x 1).val < p.2.val % 4 + 1; omega
    · show 0 ≤ (x 2).val ∧ (x 2).val < 0 + 128; omega
    · show 0 ≤ (x 3).val ∧ (x 3).val < 0 + 256; omega

theorem slotSet_apart (p q : Fin 8 × Fin 4) (h : p ≠ q) : Disjoint (slotSet p) (slotSet q) :=
  Finset.disjoint_left.mpr fun x hp hq => h (Prod.ext (Fin.ext ((mem_slotSet.mp hp).1.symm.trans (mem_slotSet.mp hq).1))
    (Fin.ext ((mem_slotSet.mp hp).2.symm.trans (mem_slotSet.mp hq).2)))
theorem slotSet_cover : Finset.univ.biUnion slotSet = Finset.univ :=
  Finset.eq_univ_iff_forall.mpr fun x => Finset.mem_biUnion.mpr ⟨(⟨(x 0).val, (x 0).isLt⟩, ⟨(x 1).val, (x 1).isLt⟩), Finset.mem_univ _, mem_slotSet.mpr ⟨rfl, rfl⟩⟩

theorem slot_kept (i : Fin 8) (s : Fin 4) (f : (cc0_scratch0 : Ref sig .tc).ty.Contents (Elt F)) :
    ((d : Thread nD τ).loc cc0_scratch0 ↦[slotSet (i, s)]{fullShare} f : sProp 𝕄) ⊢ kept d i s.val := by
  unfold kept
  rw [← slotSet_eq (i, s)]
  iintro H
  iexists f
  iexact H

/-- The scratch buffer is the slots of all the rings. -/
theorem slots_of_scratch (f : (cc0_scratch0 : Ref sig .tc).ty.Contents (Elt F)) :
    ((d : Thread nD τ).loc cc0_scratch0 ↦{fullShare} f : sProp 𝕄) ⊢ bigSep Finset.univ fun i => Slots d i := by
  rw [← slotSet_cover]
  refine (Entails.of_eq (pointsTo_biUnion (ℓ := (d : Thread nD τ).loc cc0_scratch0) Finset.univ slotSet fun p _ q _ h => slotSet_apart p q h)).trans ?_
  refine (Entails.of_eq (bigSep_univ_prod _)).trans (bigSep_mono fun i _ => bigSep_mono fun s _ => slot_kept i s f)
theorem scratch_of_slots : (bigSep Finset.univ fun i => Slots (F := F) d i) ⊢ iprop(∃ f, ((d : Thread nD τ).loc cc0_scratch0 ↦{fullShare} f) : sProp 𝕄) := by
  have hS : (bigSep Finset.univ fun i => Slots (F := F) d i)
      = bigSep Finset.univ fun p : Fin 8 × Fin 4 => iprop(∃ f : Buf (Elt F) ((d : Thread nD τ).loc cc0_scratch0), (d : Thread nD τ).loc cc0_scratch0 ↦[slotSet p]{fullShare} f) := by
    rw [bigSep_univ_prod]
    refine bigSep_congr fun i _ => bigSep_congr fun s _ => ?_
    unfold kept slotPts
    rw [slotSet_eq (i, s)]
  rw [hS]
  have : Nonempty (Buf (Elt F) ((d : Thread nD τ).loc cc0_scratch0)) := ⟨fun _ => Classical.arbitrary _⟩
  refine (BI.bigSep_exists_pi Finset.univ (fun (p : Fin 8 × Fin 4) (f : Buf (Elt F) ((d : Thread nD τ).loc cc0_scratch0)) =>
    ((d : Thread nD τ).loc cc0_scratch0 ↦[slotSet p]{fullShare} f : sProp 𝕄))).trans ?_
  iintro ⟨%fs, H⟩
  ihave H := (pointsTo_biUnion_join (ℓ := (d : Thread nD τ).loc cc0_scratch0) Finset.univ slotSet fs (fun _ => Classical.arbitrary _) fun p _ q _ h => slotSet_apart p q h) $$ H
  icases H with ⟨%g, -, H⟩
  iexists g
  ihave H := (Entails.of_eq (congrArg (fun S => ((d : Thread nD τ).loc cc0_scratch0 ↦[S]{fullShare} g : sProp 𝕄)) slotSet_cover)) $$ H
  iexact H

/-! ### The body -/

/-- Everything the program needs, and what it leaves. -/
def Before (B : Blocks F) (Kc : Dev nD × CK → ℕ) (Ks : Key → ℕ) (d : Dev nD) : sProp 𝕄 :=
  iprop(Inv B Kc Ks ∗ Ins B d ∗ OutSt B d (fun _ => 0) ∗ bigSep Finset.univ (Fresh d) ∗ Bar d ∗ ∃ W, owes (d : Thread nD τ) (O₀ d) W)
def After (B : Blocks F) (d : Dev nD) : sProp 𝕄 :=
  iprop(Ins B d ∗ OutSt B d (fun _ => 62) ∗ (bigSep Finset.univ fun k : CK => semVal (kcell (d, k)) 0)
    ∗ (∃ f, ((d : Thread nD τ).loc cc0_scratch0 ↦{fullShare} f)) ∗ ∃ W, owes (d : Thread nD τ) 0 W)

theorem body_runs (st : St F) : Before B Kc Ks d ⊢ WP d (run (prologue d ++ stepsCmds d 0 62) st fun _ => .ret PUnit.unit) fun _ => After B d := by
  unfold Before
  iintro ⟨#HI, HX, HOut, HF, HB, HO⟩
  rw [run_append]
  iapply (prologue_step (B := B) (Kc := Kc) (Ks := Ks) (K := fun st' => run (stepsCmds d 0 62) st' fun _ => .ret PUnit.unit)) $$ [HX HOut HF HB HO]
  · isplitr; · iexact HI
    isplitl [HX]; · iexact HX
    isplitl [HOut]; · iexact HOut
    isplitl [HF]; · iexact HF
    isplitl [HB]; · iexact HB
    iexact HO
  iintro %st1 HX HA HaB
  iapply (steps (B := B) (Kc := Kc) (Ks := Ks) (K := fun _ => .ret PUnit.unit) 62 0 rfl st1) $$ [HX HA]
  · isplitr; · iexact HI
    isplitl [HX]; · iexact HX
    iexact HA
  iintro %st2 HX HA
  unfold All
  icases HA with ⟨HO, HOut, HR⟩
  unfold WP
  rw [wp_ret]
  imod (close_bar (B := B) (Kc := Kc) (Ks := Ks)) $$ [HaB] with HzB
  · isplitr; · iexact HI
    iexact HaB
  imod ((big_frame (P := Inv B Kc Ks) (Φ := fun i => Ring (F := F) d i 62) (s := Finset.univ) fun i _ => close_ring).trans (bigSep_fupd _ _)) $$ [HR] with HR
  · isplitr; · iexact HI
    iexact HR
  ihave HR := (Entails.of_eq (big_sep Finset.univ (fun i => Zero (F := F) d i) fun i => Slots d i)) $$ HR
  icases HR with ⟨HZ, HS⟩
  imodintro
  unfold After
  isplitl [HX]; · iexact HX
  isplitl [HOut]; · iexact HOut
  isplitl [HzB HZ]
  · rw [big_cells]
    isplitl [HzB]; · iexact HzB
    unfold Zero; iexact HZ
  isplitl [HS]; · iapply scratch_of_slots; iexact HS
  unfold owe
  rw [Ow_zero d (fun _ => 62 + 1) (fun _ => 62) (fun _ => by decide) (fun _ => by decide)]
  iexact HO

end Cert.KernelIdeal.Steps
-- ==== Proof.Deal.lean ====
/-
  What the launch deals a device: its credit, its rights to pay.
-/
module

public import proofs.«01_k».proof.Proof.Finish

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ### Counting -/

theorem big_pull {I J : Type} {s : Finset I} {t : Finset J} (f : J → I) (inj : Set.InjOn f t) (sub : ∀ j ∈ t, f j ∈ s)
    (Φ : I → sProp 𝕄) : bigSep s Φ ⊢ bigSep t fun j => Φ (f j) := by
  classical
  exact (bigSep_subset (Finset.image_subset_iff.mpr sub)).trans (Entails.of_eq (bigSep_image_of_injOn inj Φ))

theorem big_fin (n : ℕ) (Φ : ℕ → sProp 𝕄) : bigSep (Finset.univ : Finset (Fin n)) (fun k => Φ k.val) = bigSep (Finset.Ico 0 n) Φ := by
  rw [show Finset.Ico 0 n = (Finset.univ : Finset (Fin n)).map Fin.valEmbedding by
    ext x; rw [Finset.mem_Ico, Finset.mem_map]
    exact ⟨fun h => ⟨⟨x, h.2⟩, Finset.mem_univ _, rfl⟩, fun ⟨y, _, h⟩ => h ▸ ⟨Nat.zero_le _, y.isLt⟩⟩, bigSep_map]
  rfl

theorem big_prod {α β : Type} [Fintype α] [Fintype β] (Φ : α × β → sProp 𝕄) :
    bigSep Finset.univ Φ = bigSep Finset.univ fun a => bigSep Finset.univ fun b => Φ (a, b) := BI.bigSep_univ_prod Φ

theorem big_trip (n : ℕ) (Φ : Dev nD → Fin 8 → ℕ → sProp 𝕄) :
    bigSep (Finset.univ : Finset (Dev nD × Fin 8 × Fin n)) (fun x => Φ x.1 x.2.1 x.2.2.val)
      = bigSep Finset.univ fun d => bigSep Finset.univ fun i => bigSep (Finset.Ico 0 n) (Φ d i) := by
  rw [big_prod]
  refine bigSep_congr fun d _ => ?_
  rw [big_prod]
  exact bigSep_congr fun i _ => big_fin n (Φ d i)

theorem big_sum {α β : Type} [Fintype α] [Fintype β] (Φ : α ⊕ β → sProp 𝕄) :
    bigSep Finset.univ Φ = iprop((bigSep Finset.univ fun a => Φ (.inl a)) ∗ bigSep Finset.univ fun b => Φ (.inr b)) := BI.bigSep_univ_sum Φ

/-- The four classes of transfers, as the first four. -/
theorem big_classes (Φ : Fin 4 → sProp 𝕄) : bigSep Finset.univ Φ = bigSep (Finset.Ico 0 4) fun k => Φ (C k) := by
  rw [← big_fin 4 fun k => Φ (C k)]
  exact bigSep_congr fun k _ => congrArg Φ (Fin.ext (Nat.mod_eq_of_lt k.isLt).symm)

/-! ### The credit of the launch -/

theorem creds (c : Dev nD) :
    (Pipeline.launchCred O₀ c : sProp 𝕄)
      ⊢ iprop((bigSep Finset.univ fun i => bigSep (Finset.Ico 0 62) (cR c i)) ∗ (bigSep Finset.univ fun i => bigSep (Finset.Ico 0 59) (cC c i))
          ∗ cred (tallyAt (barCell c) 0 2)) := by
  rw [show O₀ = fun d => (((∑ i, owSend d i 0) + ∑ i, owCred d i 0) + tallyAt (barCell (rightD d)) 0 1) + tallyAt (barCell (leftD d)) 0 1 from rfl,
    Pipeline.launchCred_add, Pipeline.launchCred_add, Pipeline.launchCred_add, Pipeline.launchCred_sum, Pipeline.launchCred_sum]
  have hS : (bigSep Finset.univ fun i : Fin 8 => Pipeline.launchCred (fun d => owSend d i 0) c : sProp 𝕄)
      ⊢ bigSep Finset.univ fun i => bigSep (Finset.Ico 0 62) (cR c i) := bigSep_mono fun i _ => by
    unfold owSend
    rw [Pipeline.launchCred_sum]
    exact bigSep_mono fun k _ => Pipeline.launchCred_tallyAt (.dma (rsemC i.val (k + 1))) (fun d => downD d i.val) (fun d => upD d i.val)
      (fun d => down_up d i.val) (fun d => up_down d i.val) k N c
  have hC : (bigSep Finset.univ fun i : Fin 8 => Pipeline.launchCred (fun d => owCred d i 0) c : sProp 𝕄)
      ⊢ bigSep Finset.univ fun i => bigSep (Finset.Ico 0 59) (cC c i) := bigSep_mono fun i _ => by
    unfold owCred
    rw [Pipeline.launchCred_sum]
    exact bigSep_mono fun k _ => Pipeline.launchCred_tallyAt (.reg (credC i.val)) (fun d => upD d i.val) (fun d => downD d i.val)
      (fun d => up_down d i.val) (fun d => down_up d i.val) k 1 c
  iintro ⟨⟨⟨H1, H2⟩, H3⟩, H4⟩
  isplitl [H1]; · iapply hS; iexact H1
  isplitl [H2]; · iapply hC; iexact H2
  iapply ((cred_add _ _).2.trans (Entails.of_eq (congrArg cred (tallyAt_add (barCell c) 0 1 1))))
  isplitl [H3]
  · iapply (Pipeline.launchCred_tallyAt (.reg barC) rightD leftD right_left left_right 0 1 c); iexact H3
  · iapply (Pipeline.launchCred_tallyAt (.reg barC) leftD rightD left_right right_left 0 1 c); iexact H4

/-! ### The tokens -/

def ringCells : Finset (GSem nD τ sig) := Finset.univ.map ⟨kcell, kcell_inj⟩

/-- Enough rounds and duties for every cell. -/
def room : Finset ((Dev nD × CK) × ℕ × ℕ) := Finset.univ ×ˢ (Finset.range 16 ×ˢ Finset.range 59)
def roomTok (x : (Dev nD × CK) × ℕ × ℕ) : GSem nD τ sig × ℕ × ℕ := (kcell x.1, x.2)
theorem roomTok_inj : Function.Injective roomTok := fun x y h =>
  Prod.ext (kcell_inj (congrArg (fun z : GSem nD τ sig × ℕ × ℕ => z.1) h)) (congrArg (fun z : GSem nD τ sig × ℕ × ℕ => z.2) h)
def ringToks : Finset (GSem nD τ sig × ℕ × ℕ) := room.map ⟨roomTok, roomTok_inj⟩

/-- Who is to pay: transfers out, transfers in, credits, the two words at the barrier. -/
abbrev Due : Type := ((Dev nD × Fin 8 × Fin 62) ⊕ (Dev nD × Fin 8 × Fin 62)) ⊕ ((Dev nD × Fin 8 × Fin 59) ⊕ (Dev nD ⊕ Dev nD))
def dueTok : Due → (Dev nD × CK) × ℕ × ℕ
  | .inl (.inl x) => ((x.1, .snd x.2.1 (C x.2.2.val)), x.2.2.val / 4, 0)
  | .inl (.inr x) => ((downD x.1 x.2.1.val, .rcv x.2.1 (C x.2.2.val)), x.2.2.val / 4, 0)
  | .inr (.inl x) => ((upD x.1 x.2.1.val, .cred x.2.1), 0, x.2.2.val)
  | .inr (.inr (.inl d)) => ((leftD d, .bar), 0, 0)
  | .inr (.inr (.inr d)) => ((rightD d, .bar), 0, 1)

theorem class_inj {k l : ℕ} (h : C k = C l) (h' : k / 4 = l / 4) : k = l := by
  have : k % 4 = l % 4 := congrArg Fin.val h
  omega

theorem downD_inj {d e : Dev nD} {i : ℕ} (h : downD d i = downD e i) : d = e := by rw [← up_down d i, h, up_down]
theorem upD_inj {d e : Dev nD} {i : ℕ} (h : upD d i = upD e i) : d = e := by rw [← down_up d i, h, down_up]
theorem leftD_inj {d e : Dev nD} (h : leftD d = leftD e) : d = e := by rw [← right_left d, h, right_left]
theorem rightD_inj {d e : Dev nD} (h : rightD d = rightD e) : d = e := by rw [← left_right d, h, left_right]

theorem dueTok_inj : Function.Injective dueTok := by
  rintro ((⟨d, i, k⟩ | ⟨d, i, k⟩) | (⟨d, i, k⟩ | (d | d))) ((⟨e, j, l⟩ | ⟨e, j, l⟩) | (⟨e, j, l⟩ | (e | e))) h <;>
    simp only [dueTok, Prod.mk.injEq, CK.snd.injEq, CK.rcv.injEq, CK.cred.injEq, reduceCtorEq, and_false, false_and, and_true, zero_ne_one, one_ne_zero] at h
  · obtain ⟨⟨rfl, rfl, h1⟩, h2⟩ := h; rw [Fin.ext (class_inj h1 h2)]
  · obtain ⟨⟨h0, rfl, h1⟩, h2⟩ := h; rw [downD_inj h0, Fin.ext (class_inj h1 h2)]
  · obtain ⟨⟨h0, rfl⟩, -, h2⟩ := h; rw [upD_inj h0, Fin.ext h2]
  · rw [leftD_inj h]
  · rw [rightD_inj h]

theorem dueTok_mem (x : Due) : dueTok x ∈ room := by
  refine Finset.mem_product.mpr ⟨Finset.mem_univ _, Finset.mem_product.mpr ⟨Finset.mem_range.mpr ?_, Finset.mem_range.mpr ?_⟩⟩ <;>
    rcases x with ((⟨d, i, k⟩ | ⟨d, i, k⟩) | (⟨d, i, k⟩ | (d | d))) <;> simp only [dueTok] <;> omega

/-- The write of each transfer's slot. -/
def wrTok (x : Dev nD × Fin 8 × Fin 62) : Key × ℕ := ((downD x.1 x.2.1.val, x.2.1, C x.2.2.val), x.2.2.val / 4)
theorem wrTok_inj : Function.Injective wrTok := by
  rintro ⟨d, i, k⟩ ⟨e, j, l⟩ h
  simp only [wrTok, Prod.mk.injEq] at h
  obtain ⟨⟨h0, rfl, h1⟩, h2⟩ := h
  rw [downD_inj h0, Fin.ext (class_inj h1 h2)]

/-- A device's rights. -/
def Toks (d : Dev nD) : sProp 𝕄 :=
  iprop((bigSep Finset.univ fun i => bigSep (Finset.Ico 0 62) (toSend d i)) ∗ (bigSep Finset.univ fun i => bigSep (Finset.Ico 0 59) (toCred d i))
    ∗ dutyTok ER (barCell (leftD d)) 0 0 ∗ dutyTok ER (barCell (rightD d)) 0 1)

theorem toks_deal :
    iprop((bigSep ringToks fun x => dutyTok ER x.1 x.2.1 x.2.2) ∗ bigSep (Finset.univ ×ˢ Finset.range 16) fun x : Key × ℕ => writeTok ES x.1 (x.2 + 1))
      ⊢ (bigSep Finset.univ Toks : sProp 𝕄) := by
  let T (x : Due) : sProp 𝕄 := dutyTok ER (kcell (dueTok x).1) (dueTok x).2.1 (dueTok x).2.2
  have k1 : (bigSep Finset.univ fun x : Dev nD × Fin 8 × Fin 62 => T (.inl (.inl x)))
      = bigSep Finset.univ fun d => bigSep Finset.univ fun i => bigSep (Finset.Ico 0 62) fun k => dutyTok ER (sndCell d i k) (k / 4) 0 :=
    (bigSep_congr fun x _ => by rw [sndCell_eq]; rfl).trans (big_trip 62 fun d i k => dutyTok ER (sndCell d i k) (k / 4) 0)
  have k2 : (bigSep Finset.univ fun x : Dev nD × Fin 8 × Fin 62 => T (.inl (.inr x)))
      = bigSep Finset.univ fun d => bigSep Finset.univ fun i => bigSep (Finset.Ico 0 62) fun k => dutyTok ER (rcvCell (downD d i.val) i k) (k / 4) 0 :=
    (bigSep_congr fun x _ => by rw [rcvCell_eq]; rfl).trans (big_trip 62 fun d i k => dutyTok ER (rcvCell (downD d i.val) i k) (k / 4) 0)
  have k3 : (bigSep Finset.univ fun x : Dev nD × Fin 8 × Fin 59 => T (.inr (.inl x)))
      = bigSep Finset.univ fun d => bigSep Finset.univ fun i => bigSep (Finset.Ico 0 59) (toCred d i) := big_trip 59 toCred
  have h1 : (bigSep ringToks fun x => (dutyTok ER x.1 x.2.1 x.2.2 : sProp 𝕄))
      ⊢ iprop(((bigSep Finset.univ fun d => bigSep Finset.univ fun i => bigSep (Finset.Ico 0 62) fun k => dutyTok ER (sndCell d i k) (k / 4) 0)
          ∗ bigSep Finset.univ fun d => bigSep Finset.univ fun i => bigSep (Finset.Ico 0 62) fun k => dutyTok ER (rcvCell (downD d i.val) i k) (k / 4) 0)
        ∗ (bigSep Finset.univ fun d => bigSep Finset.univ fun i => bigSep (Finset.Ico 0 59) (toCred d i))
        ∗ (bigSep Finset.univ fun d => dutyTok ER (barCell (leftD d)) 0 0) ∗ bigSep Finset.univ fun d => dutyTok ER (barCell (rightD d)) 0 1) := by
    unfold ringToks
    rw [bigSep_map]
    change bigSep room (fun x => dutyTok ER (kcell x.1) x.2.1 x.2.2) ⊢ _
    refine (big_pull dueTok (s := room) (t := Finset.univ) (fun _ _ _ _ h => dueTok_inj h) (fun x _ => dueTok_mem x)
      (fun x => dutyTok ER (kcell x.1) x.2.1 x.2.2)).trans (Entails.of_eq ?_)
    change bigSep Finset.univ T = _
    rw [big_sum, big_sum, big_sum, big_sum, k1, k2, k3]
    rfl
  have h2 : (bigSep (Finset.univ ×ˢ Finset.range 16) fun x : Key × ℕ => (writeTok ES x.1 (x.2 + 1) : sProp 𝕄))
      ⊢ bigSep Finset.univ fun d => bigSep Finset.univ fun i => bigSep (Finset.Ico 0 62) fun k => writeTok ES (downD d i.val, i, C k) (k / 4 + 1) := by
    refine (big_pull wrTok (t := Finset.univ) (fun _ _ _ _ h => wrTok_inj h)
      (fun x _ => Finset.mem_product.mpr ⟨Finset.mem_univ _, Finset.mem_range.mpr (show x.2.2.val / 4 < 16 by omega)⟩)
      (fun x : Key × ℕ => writeTok ES x.1 (x.2 + 1))).trans (Entails.of_eq ?_)
    exact big_trip 62 fun d i k => writeTok ES (downD d i.val, i, C k) (k / 4 + 1)
  have h3 : (bigSep Finset.univ Toks : sProp 𝕄)
      = iprop(((bigSep Finset.univ fun d => bigSep Finset.univ fun i => bigSep (Finset.Ico 0 62) fun k => dutyTok ER (sndCell d i k) (k / 4) 0)
          ∗ (bigSep Finset.univ fun d => bigSep Finset.univ fun i => bigSep (Finset.Ico 0 62) fun k => dutyTok ER (rcvCell (downD d i.val) i k) (k / 4) 0)
          ∗ bigSep Finset.univ fun d => bigSep Finset.univ fun i => bigSep (Finset.Ico 0 62) fun k => writeTok ES (downD d i.val, i, C k) (k / 4 + 1))
        ∗ (bigSep Finset.univ fun d => bigSep Finset.univ fun i => bigSep (Finset.Ico 0 59) (toCred d i))
        ∗ (bigSep Finset.univ fun d => dutyTok ER (barCell (leftD d)) 0 0) ∗ bigSep Finset.univ fun d => dutyTok ER (barCell (rightD d)) 0 1) := by
    rw [← big_sep, ← big_sep, ← big_sep, ← big_sep, ← big_sep]
    refine bigSep_congr fun d _ => ?_
    unfold Toks
    rw [← big_sep, ← big_sep]
    refine congrArg (fun X : sProp 𝕄 => iprop(X ∗ _)) (bigSep_congr fun i _ => ?_)
    rw [← big_sep, ← big_sep]
    rfl
  rw [h3]
  iintro ⟨H1, H2⟩
  ihave H1 := h1 $$ H1
  ihave H2 := h2 $$ H2
  icases H1 with ⟨⟨H3, H4⟩, H5⟩
  isplitl [H2 H3 H4]
  · isplitl [H3]; · iexact H3
    isplitl [H4]; · iexact H4
    iexact H2
  iexact H5

end Cert.KernelIdeal.Steps
-- ==== Proof.Result.lean ====
/-
  What a device's result buffer holds in the end, element by element.
-/
module

public import proofs.«01_k».proof.Proof.Out

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (B : Blocks F)

/-! ### The result, element by element -/

theorem chunk_inj {d e : Dev nD} {j : ℕ} (h : chunk d j 30 = chunk e j 30) : d = e := by
  refine pos_inj d e ?_
  have := pos_lt d
  have := pos_lt e
  unfold chunk at h
  split at h <;> omega

/-- The device whose ring `j` finishes chunk `c`. -/
def owner (j c : ℕ) : Dev nD := by
  classical exact if h : ∃ d, chunk d j 30 = c then h.choose else 0

theorem owner_chunk (d : Dev nD) (j : ℕ) : owner j (chunk d j 30) = d := by
  classical
  unfold owner
  rw [dif_pos ⟨d, rfl⟩]
  exact chunk_inj (Exists.choose_spec (⟨d, rfl⟩ : ∃ e, chunk e j 30 = chunk d j 30))

/-- A finished chunk is the one its owner made. -/
theorem sent_owner (j k : ℕ) (hk : k + 30 < 62) : ∀ d : Dev nD, sent B (k + 30 + 1) d j = sent B 31 (owner j (chunk d j (k + 30))) j := by
  induction k with
  | zero => intro d; rw [show 0 + 30 = 30 from rfl, owner_chunk]
  | succ k ih =>
    intro d
    rw [show k + 1 + 30 = k + 30 + 1 by omega, show sent B (k + 30 + 1 + 1) d j = sent B (k + 30 + 1) (upD d j) j by
      show (if k + 30 + 1 < 30 then _ else if k + 30 + 1 = 30 then _ else _) = _
      rw [if_neg (by omega), if_neg (by omega)], ih (by omega)]
    have h := chunk_down (upD d j) j (k + 30) (by omega)
    rw [down_up] at h
    rw [h]

/-- The ring of a column. -/
def ringOf (q : ℕ) : Fin 8 := ⟨(q % 4 * 2 + q / 4) % 8, Nat.mod_lt _ (by decide)⟩

theorem col_ringOf : ∀ q : Fin 8, col (ringOf q.val).val = q.val * 256 := by decide

/-- The place of an element in its chunk. -/
def inner (x : S4096x2048.Idx) : S128x256.Idx := fun a => match a with
  | 0 => ⟨(x 0).val % 128, Nat.mod_lt _ (by decide)⟩
  | 1 => ⟨(x 1).val % 256, Nat.mod_lt _ (by decide)⟩

/-- The contents of the result after the run. -/
def outAt : (cc0_stg2_0 : Ref sig .tc).ty.Contents (Elt F) := fun x : S4096x2048.Idx =>
  sent B 31 (owner (ringOf ((x 1).val / 256)).val ((x 0).val / 128)) (ringOf ((x 1).val / 256)).val (inner x)

theorem chunk_onto (d : Dev nD) (j c : ℕ) (hc : c < 32) : ∃ t, t < 32 ∧ chunk d j (t + 30) = c := by
  have := pos_lt d
  unfold chunk
  split
  · exact ⟨(pos d + 65 - c) % 32, Nat.mod_lt _ (by decide), by omega⟩
  · exact ⟨(c + 33 - pos d) % 32, Nat.mod_lt _ (by decide), by omega⟩

theorem out_unique {d : Dev nD} {f : (cc0_stg2_0 : Ref sig .tc).ty.Contents (Elt F)} (H : OutOK B d (fun _ => 62) f) : f = outAt B := by
  refine funext fun x => ?_
  change S4096x2048.Idx at x
  have h0 : (x 0).val < 4096 := (x 0).isLt
  have h1 : (x 1).val < 2048 := (x 1).isLt
  obtain ⟨t, ht, hc⟩ := chunk_onto d (ringOf ((x 1).val / 256)).val ((x 0).val / 128) (by omega)
  have H1 := H (ringOf ((x 1).val / 256)) (t + 30) (by omega) (by omega) (show t + 30 < 62 by omega)
  rw [sent_owner B _ t (by omega), hc] at H1
  have H2 := congrFun H1 (inner x)
  refine Eq.trans ?_ H2
  show f x = f ((cRect d (ringOf ((x 1).val / 256)) (t + 30)).emb _)
  have hq := col_ringOf ⟨(x 1).val / 256, by omega⟩
  refine congrArg f (funext fun a => Fin.ext ?_)
  rw [Rect.emb_apply]
  match a with
  | 0 => show (x 0).val = chunk d (ringOf ((x 1).val / 256)).val (t + 30) * 128 + 1 * ((x 0).val % 128); rw [hc]; omega
  | 1 => show (x 1).val = col (ringOf ((x 1).val / 256)).val + 1 * ((x 1).val % 256); rw [hq]; show _ = (x 1).val / 256 * 256 + _; omega

end Cert.KernelIdeal.Steps
-- ==== Proof.Whole.lean ====
/-
  The kernel's body is the list of commands, run.
-/
module

public import proofs.«01_k».proof.Proof.Steps

@[expose] public section

noncomputable section

namespace Cert.KernelIdeal.Steps

open Idealize.ShloMosaic Idealize.SL.Sem
open Cert.KernelIdeal

variable {F : FTy → Type} [FloatOps F] [Facts]

abbrev hxM : (xM).IsWhole := Memref.isWhole_whole _
abbrev hwM : (wM).IsWhole := Memref.isWhole_whole _

set_option maxRecDepth 10000000 in
set_option maxHeartbeats 0 in
/-- The body reads the device's number, then runs the start and the 62 steps. -/
theorem whole (st : St F) :
    (cc0_body (F := F) xM hxM wM hwM oM hoM cM hcM cc0_scratch1 cc0_scratch2 cc0_scratch3) =
     .op .deviceId fun d => run (prologue d ++ stepsCmds d 0 62) st (fun _ => .ret PUnit.unit) := rfl

end Cert.KernelIdeal.Steps
-- ==== Proof.Launch.lean ====
/-
  The launch: what every device starts from, and the run of the whole program.
-/
module

public import proofs.«01_k».proof.Proof.Deal
public import proofs.«01_k».proof.Proof.Result
public import proofs.«01_k».proof.Proof.Whole

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ### What a device starts from -/

/-- Its waits at the start; the rights to release its slots. -/
def Cells (d : Dev nD) : sProp 𝕄 := bigSep Finset.univ fun k : CK => atPos ER (kcell (d, k)) 0 ∅ 0
def Readers (d : Dev nD) : sProp 𝕄 := bigSep Finset.univ fun i : Fin 8 => bigSep Finset.univ fun s : Fin 4 => readerAt ES (d, i, s) 0
def Creds (d : Dev nD) : sProp 𝕄 :=
  iprop((bigSep Finset.univ fun i => bigSep (Finset.Ico 0 62) (cR d i)) ∗ (bigSep Finset.univ fun i => bigSep (Finset.Ico 0 59) (cC d i))
    ∗ cred (tallyAt (barCell d) 0 2))

variable {B : Blocks F} {Kc : Dev nD × CK → ℕ} {Ks : Key → ℕ} {d : Dev nD} {i : Fin 8}

theorem waits_in : iprop(Inv B Kc Ks ∗ bigSep Finset.univ fun s : Fin 4 => atPos ER (kcell (d, .rcv i s)) 0 ∅ 0) ⊢ bigSep (Finset.Ico 0 4) (atR (F := F) d i) := by
  rw [big_classes]
  refine big_frame fun k hk => ?_
  unfold atR
  rw [Nat.div_eq_of_lt (Finset.mem_Ico.mp hk).2, rcvCell_eq]
  iintro ⟨#HI, H⟩
  isplitl [H]; · iexact H
  iapply (inv_reached B Kc Ks (d, .rcv i (C k))); iexact HI
theorem waits_out : iprop(Inv B Kc Ks ∗ bigSep Finset.univ fun s : Fin 4 => atPos ER (kcell (d, .snd i s)) 0 ∅ 0) ⊢ bigSep (Finset.Ico 0 4) (atS (F := F) d i) := by
  rw [big_classes]
  refine big_frame fun k hk => ?_
  unfold atS
  rw [Nat.div_eq_of_lt (Finset.mem_Ico.mp hk).2, sndCell_eq]
  iintro ⟨#HI, H⟩
  isplitl [H]; · iexact H
  iapply (inv_reached B Kc Ks (d, .snd i (C k))); iexact HI

/-- A ring's part of all this. -/
def Dealt (d : Dev nD) (i : Fin 8) : sProp 𝕄 :=
  iprop((atPos ER (kcell (d, .cred i)) 0 ∅ 0 ∗ (bigSep Finset.univ fun s : Fin 4 => atPos ER (kcell (d, .snd i s)) 0 ∅ 0)
      ∗ bigSep Finset.univ fun s : Fin 4 => atPos ER (kcell (d, .rcv i s)) 0 ∅ 0)
    ∗ (bigSep Finset.univ fun s : Fin 4 => readerAt ES (d, i, s) 0)
    ∗ bigSep (Finset.Ico 0 62) (cR d i) ∗ bigSep (Finset.Ico 0 59) (cC d i)
    ∗ bigSep (Finset.Ico 0 62) (toSend d i) ∗ bigSep (Finset.Ico 0 59) (toCred d i) ∗ Slots d i)

theorem fresh_intro : iprop(Inv B Kc Ks ∗ Dealt d i) ⊢ Fresh (F := F) d i := by
  unfold Dealt Fresh Common
  iintro ⟨#HI, ⟨HC, HS, HR⟩, Hrd, HcR, HcC, Hts, Htc, Hsl⟩
  unfold Slots
  ihave Hsl := (Entails.of_eq (big_four fun s : Fin 4 => kept (F := F) d i s.val)) $$ Hsl
  ihave Hrd := (Entails.of_eq (big_four fun s : Fin 4 => (readerAt ES (d, i, s) 0 : sProp 𝕄))) $$ Hrd
  icases Hsl with ⟨Hs0, Hs1, Hs2, Hs3⟩
  isplitr [Hrd Hs1 Hs2 Hs3]
  · isplitl [HR]
    · iapply (waits_in (B := B) (Kc := Kc) (Ks := Ks)); isplitr; · iexact HI
      iexact HR
    isplitl [HS]
    · iapply (waits_out (B := B) (Kc := Kc) (Ks := Ks)); isplitr; · iexact HI
      iexact HS
    isplitl [HcR]; · iexact HcR
    isplitl [Hts]; · iexact Hts
    isplitl [HC]
    · unfold credAt
      iexists (∅ : Finset ℕ)
      isplitr; · ipureintro; exact ⟨Finset.empty_subset _, Nat.le_refl _⟩
      isplitl [HC]; · iexact HC
      rw [bigSep_empty]; iempintro
    isplitl [HcC]; · iexact HcC
    isplitl [Htc]; · iexact Htc
    iexact Hs0
  isplitl [Hrd]; · unfold rd; iexact Hrd
  isplitl [Hs1]; · iexact Hs1
  isplitl [Hs2]; · iexact Hs2
  iexact Hs3

theorem all_intro (f : (cc0_scratch0 : Ref sig .tc).ty.Contents (Elt F)) :
    iprop(Inv B Kc Ks ∗ Cells d ∗ Toks d ∗ Readers d ∗ Creds d ∗ ((d : Thread nD τ).loc cc0_scratch0 ↦{fullShare} f))
      ⊢ iprop(bigSep Finset.univ (Fresh d) ∗ Bar (F := F) d) := by
  unfold Cells Toks Readers Creds Bar
  have hD : (bigSep Finset.univ (Dealt (F := F) d))
      = iprop((bigSep Finset.univ fun i => iprop(atPos ER (kcell (d, .cred i)) 0 ∅ 0 ∗ (bigSep Finset.univ fun s : Fin 4 => atPos ER (kcell (d, .snd i s)) 0 ∅ 0)
            ∗ bigSep Finset.univ fun s : Fin 4 => atPos ER (kcell (d, .rcv i s)) 0 ∅ 0))
          ∗ (bigSep Finset.univ fun i => bigSep Finset.univ fun s : Fin 4 => readerAt ES (d, i, s) 0)
          ∗ (bigSep Finset.univ fun i => bigSep (Finset.Ico 0 62) (cR d i)) ∗ (bigSep Finset.univ fun i => bigSep (Finset.Ico 0 59) (cC d i))
          ∗ (bigSep Finset.univ fun i => bigSep (Finset.Ico 0 62) (toSend d i)) ∗ (bigSep Finset.univ fun i => bigSep (Finset.Ico 0 59) (toCred d i))
          ∗ bigSep Finset.univ fun i => Slots d i) := by
    rw [← big_sep, ← big_sep, ← big_sep, ← big_sep, ← big_sep, ← big_sep]
    rfl
  iintro ⟨#HI, HA, ⟨Hts, Htc, HtL, HtR⟩, Hrd, ⟨HcR, HcC, HcB⟩, Hs⟩
  ihave HA := (Entails.of_eq (big_cells fun k => (atPos ER (kcell (d, k)) 0 ∅ 0 : sProp 𝕄))) $$ HA
  icases HA with ⟨HaB, HA⟩
  isplitr [HaB HcB HtL HtR]
  · iapply (big_frame (P := Inv B Kc Ks) (Φ := Dealt (F := F) d) (s := Finset.univ) fun i _ => fresh_intro)
    isplitr; · iexact HI
    iapply (Entails.of_eq hD.symm)
    isplitl [HA]; · iexact HA
    isplitl [Hrd]; · iexact Hrd
    isplitl [HcR]; · iexact HcR
    isplitl [HcC]; · iexact HcC
    isplitl [Hts]; · iexact Hts
    isplitl [Htc]; · iexact Htc
    iapply (slots_of_scratch f); iexact Hs
  isplitl [HaB]; · iexact HaB
  isplitl [HcB]; · iexact HcB
  isplitl [HtL]; · iexact HtL
  iexact HtR

/-! ### The run's data -/

variable (m : (ℓ : Loc nD τ sig) → Buf (Elt F) ℓ) (ρ : Dev nD → PrngReg)

abbrev s₀ : MemSt nD τ sig (Elt F) := ⟨m, fun _ => 0, ρ⟩

/-- The blocks of `x` and `w`, as they are fetched. -/
def BB : Blocks F where
  x c := (win0_0.blk (0 : Fin 1)).view.read (Elt F) (m ((c : Thread nD τ).loc main_arg0))
  w c := (win0_1.blk (0 : Fin 1)).view.read (Elt F) (m ((c : Thread nD τ).loc main_arg1))

/-- What the global step leaves with a device. -/
def G' (c : Dev nD) : sProp 𝕄 :=
  iprop(∃ Kc : Dev nD × CK → ℕ, ∃ Ks : Key → ℕ, ((bigSep Finset.univ fun p : Dev nD × CK => cellInv ER (Rd (BB m)) (Kc p) (kcell p))
    ∗ (bigSep Finset.univ fun x : Key => slotInv ES (Ks x) x (keySlot (F := F) x))
    ∗ (bigSep Finset.univ fun p : Dev nD × CK => reached ER (kcell p) 0)) ∗ Cells c ∗ Toks c ∗ Readers c)

def start (c : Dev nD) : sProp 𝕄 := iprop(∃ Kc : Dev nD × CK → ℕ, ∃ Ks : Key → ℕ, Inv (BB m) Kc Ks ∗ Cells c ∗ Toks c ∗ Readers c ∗ Creds c)
def Φ₀ (c : Dev nD) : sProp 𝕄 := iprop(start m c ∗ ∃ f, ((c : Thread nD τ).loc cc0_scratch0 ↦{fullShare} f))
def Φ₁ (c : Dev nD) : sProp 𝕄 :=
  iprop((bigSep Finset.univ fun k : CK => semVal (kcell (c, k)) 0) ∗ ∃ f, ((c : Thread nD τ).loc cc0_scratch0 ↦{fullShare} f))

def dats (_ : Fin 1) (c : Dev nD) : Pipeline.Dat τ (Elt F) ℕ ℕ UU ℕ (cfgs (0 : Fin 1)) c where
  A w := (s₀ m ρ).mem (((cfgs (0 : Fin 1)).win w).arr.view.loc (c : Thread nD τ))
  after w _ := match w with
    | ⟨0, _⟩ => (BB m).x c
    | ⟨1, _⟩ => (BB m).w c
    | ⟨2, _⟩ => outAt (BB m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem big_W (Φ : Fin (cfgs (0 : Fin 1)).W → sProp 𝕄) : bigSep Finset.univ Φ = iprop(Φ (0 : Fin 3) ∗ Φ (1 : Fin 3) ∗ Φ (2 : Fin 3)) := bigSep_W0 Φ

theorem fetch_x (t : Fin (cfgs (0 : Fin 1)).N) : ((cfgs (0 : Fin 1)).win (0 : Fin 3)).fetch t = true := by rw [fin_N0 t]; rfl
theorem fetch_w (t : Fin (cfgs (0 : Fin 1)).N) : ((cfgs (0 : Fin 1)).win (1 : Fin 3)).fetch t = true := by rw [fin_N0 t]; rfl

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt 0 t0_0.succ ∗ stg c cc0_stg0_0 ((BB m).x c) ∗ stg c cc0_stg1_0 ((BB m).w c) ∗ stg c cc0_stg2_0 (outAt (BB m)))

/-- Any values for the program's variables at the start. -/
def anySt (c : Dev nD) : St F :=
  ⟨xRows (BB m) c (k0_off1 c) (K0.R1.Facts₀.k0_off1_inb c), wLeft (BB m) c, xRows (BB m) c (k0_off1 c) (K0.R1.Facts₀.k0_off1_inb c), wRight (BB m) c,
    toSlot (sent (BB m) 0 c 0)⟩

theorem done (c : Dev nD) : After (BB m) c ⊢ bodyPost m ρ c := by
  unfold After bodyPost Φ₁ Ins OutSt Pipeline.Dat.owesAt Pipeline.owesWithin
  rw [show (dats m ρ 0 c).owed t0_0.succ = 0 from rfl]
  iintro ⟨⟨Hx, Hw⟩, ⟨%f, %hf, Hout⟩, Hz, Hs, ⟨%W, HO⟩⟩
  isplitl [Hz Hs]
  · isplitl [Hz]; · iexact Hz
    iexact Hs
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f
  isplitr; · ipureintro; exact out_unique (BB m) hf
  iexact Hout

theorem sound_body (c : Dev nD) :
    bodyPre m ρ c ⊢ wp frame (wpE (defs₀ (F := F)) 𝒱₀ (c : Thread nD τ) none) Set.univ
      (cc0_body (F := F) xM hxM wM hwM oM hoM cM hcM cc0_scratch1 cc0_scratch2 cc0_scratch3) fun _ => bodyPost m ρ c := by
  rw [whole (anySt m c)]
  simp only [wp_deviceId]
  unfold bodyPre Φ₀ start
  iintro ⟨⟨⟨%Kc, %Ks, #HI, HC, HT, HR, Hcr⟩, ⟨%f, Hs⟩⟩, Ho, ⟨%d0, %g0, %hg0, Hx⟩, ⟨%d1, %g1, %hg1, Hw⟩, ⟨%d2, %g2, -, Hout⟩⟩
  have hx : g0 = (BB m).x c := by rw [hg0]; unfold Pipeline.Dat.before; rw [if_pos (fetch_x t0_0)]; rfl
  have hw : g1 = (BB m).w c := by rw [hg1]; unfold Pipeline.Dat.before; rw [if_pos (fetch_w t0_0)]; rfl
  subst hx hw
  unfold Pipeline.Dat.owesAt Pipeline.owesWithin
  icases Ho with ⟨%W, %hW, HO⟩
  ihave HF := (all_intro (B := BB m) (Kc := Kc) (Ks := Ks) (d := c) f) $$ [HC HT HR Hcr Hs]
  · isplitr; · iexact HI
    isplitl [HC]; · iexact HC
    isplitl [HT]; · iexact HT
    isplitl [HR]; · iexact HR
    isplitl [Hcr]; · iexact Hcr
    iexact Hs
  icases HF with ⟨HF, HB⟩
  iapply ((body_runs (anySt m c)).trans (wp_mono _ _ _ fun _ => done m ρ c))
  unfold Before
  isplitr; · iexact HI
  isplitl [Hx Hw]
  · unfold Ins
    isplitl [Hx]; · iexact Hx
    iexact Hw
  isplitl [Hout]
  · unfold OutSt
    iexists g2
    isplitr; · ipureintro; exact fun _ k _ _ h => absurd h (Nat.not_lt_zero k)
    iexact Hout
  isplitl [HF]; · iexact HF
  isplitl [HB]; · iexact HB
  iexists W; iexact HO

set_option maxRecDepth 10000000 in
set_option maxHeartbeats 1000000 in
theorem body_obligation (c : Dev nD) : Pipeline.BodyObligation (dats (F := F) m ρ 0 c) (defs₀ (F := F)) 𝒱₀ 0 Set.univ := fun t => by
  rw [fin_N0 t]
  rw [big_W, big_W]
  simp only [owns_whole]
  show bodyPre m ρ c ⊢ wp frame (wpE (defs₀ (F := F)) 𝒱₀ (c : Thread nD τ) none) Set.univ
    (cc0_body (F := F) xM hxM wM hwM oM hoM cM hcM cc0_scratch1 cc0_scratch2 cc0_scratch3) (fun _ => bodyPost m ρ c)
  exact sound_body m ρ c

end Cert.KernelIdeal.Steps
-- ==== Proof.Run.lean ====
/-
  The run of the whole program: all devices start together, each runs its body, all end.
-/
module

public import proofs.«01_k».proof.Proof.Launch
public import Idealize.ShloMosaic.Lib.Pipeline.CollectiveSegs

@[expose] public section

set_option maxRecDepth 100000

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ### The semaphores -/

/-- The kernel's own semaphores: every cell but the barrier's. -/
abbrev Own : Type := Fin 8 ⊕ ((Fin 8 × Fin 4) ⊕ (Fin 8 × Fin 4))
def ownCK : Own → CK
  | .inl i => .cred i | .inr (.inl p) => .snd p.1 p.2 | .inr (.inr p) => .rcv p.1 p.2
def osem (k : Own) : SemLoc sig := csem (ownCK k)

theorem ownCK_inj : Function.Injective ownCK := by
  rintro (i | (p | p)) (j | (q | q)) h <;> simp only [ownCK, CK.cred.injEq, CK.snd.injEq, CK.rcv.injEq, reduceCtorEq] at h
  · rw [h]
  · rw [Prod.ext h.1 h.2]
  · rw [Prod.ext h.1 h.2]

theorem osem_scoped : ∀ k, (osem k).isScoped .tc = true := by decide +kernel
theorem osem_stage : ∀ k (w : Fin 3) s, osem k ≠ .dma ((spec0 w).sem s) := by decide +kernel

theorem ownSemFacts : Pipeline.OwnSemFacts (cfgs (0 : Fin 1)).spec osem :=
  ⟨osem_scoped, fun _ _ h => ownCK_inj (csem_inj h), osem_stage⟩

theorem bar_stage : ∀ (w : Fin 3) s, SemLoc.dma ((spec0 w).sem s) ≠ .reg barC := by decide +kernel

theorem unscoped_eq : (Finset.univ.filter fun sm : SemLoc sig => ¬ sm.isScoped .tc) = [SemLoc.reg barC].toFinset := by decide +kernel

theorem unscopedSems0_eq (c : Dev nD) : (unscopedSems0 c : sProp 𝕄) = semVal (barCell c) 0 := by
  unfold unscopedSems0; rw [bigSep_eq_bigSepL_of_eq [SemLoc.reg barC] unscoped_eq (by decide)]; rfl

theorem sems_eq (c : Dev nD) :
    (iprop(unscopedSems0 c ∗ Pipeline.ownSems0 (Ix := ℕ) (Name := ℕ) (U := UU) (Lvl := ℕ) (Val := Elt F) (τ := τ) osem c) : sProp 𝕄)
      = bigSep Finset.univ fun k : CK => semVal (kcell (c, k)) 0 := by
  rw [unscopedSems0_eq, big_cells]
  unfold Pipeline.ownSems0
  rw [big_sum, big_sum, big_prod, big_prod, big_sep, big_sep]
  rfl

/-! ### The launch element -/

def u₀ : UU :=
  (initOf (Pipeline.cells cfgs cellOf_inj) (Pipeline.launchToks cfgs cellOf_inj), (initOf ringCells ringToks, initSlots (Finset.univ : Finset Key) 16))

/-- All of it: every cell's rounds, every slot's releases, all rights. -/
def Pool : sProp 𝕄 :=
  iprop((bigSep Finset.univ fun p : Dev nD × CK => roundState ER (Rd (BB m)) (kcell p) 0)
    ∗ (bigSep Finset.univ fun p : Dev nD × CK => reached ER (kcell p) 0)
    ∗ (bigSep Finset.univ fun p : Dev nD × CK => atPos ER (kcell p) 0 ∅ 0)
    ∗ (bigSep ringToks fun x => dutyTok ER x.1 x.2.1 x.2.2)
    ∗ (∃ Ks : Key → ℕ, bigSep Finset.univ fun x : Key => slotInv ES (Ks x) x (keySlot (F := F) x))
    ∗ (bigSep Finset.univ fun x : Key => readerAt ES x 0)
    ∗ bigSep (Finset.univ ×ˢ Finset.range 16) fun x : Key × ℕ => writeTok ES x.1 (x.2 + 1))

theorem pool_intro : iprop(BI.own (ER (initOf ringCells ringToks)) ∗ BI.own (ES (initSlots (Finset.univ : Finset Key) 16)))
    ⊢ iprop(|={Set.univ}=> Pool m : sProp 𝕄) := by
  have hX (Φ : GSem nD τ sig → sProp 𝕄) : bigSep ringCells Φ = bigSep Finset.univ fun p : Dev nD × CK => Φ (kcell p) := by
    unfold ringCells; rw [bigSep_map]; rfl
  iintro ⟨HE, HS⟩
  imod (Rounds.fund ER (Rd (BB m)) ringCells ringToks) $$ HE with ⟨H1, H2, H3, H4⟩
  imod (slots_init ES (Finset.univ : Finset Key) 16 (keySlot (F := F)) (Es := Set.univ)) $$ HS with ⟨%Ks, -, H5, H6, H7⟩
  ihave H1 := (Entails.of_eq (hX fun g => roundState ER (Rd (BB m)) g 0)) $$ H1
  ihave H2 := (Entails.of_eq (hX fun g => reached ER g 0)) $$ H2
  ihave H3 := (Entails.of_eq (hX fun g => atPos ER g 0 ∅ 0)) $$ H3
  imodintro
  unfold Pool
  isplitl [H1]; · iexact H1
  isplitl [H2]; · iexact H2
  isplitl [H3]; · iexact H3
  isplitl [H4]; · iexact H4
  isplitl [H5]; · iexists Ks; iexact H5
  isplitl [H6]; · iexact H6
  iexact H7

/-- It is handed to the first device, for all of them to share. -/
def G (c : Dev nD) : sProp 𝕄 := if c = 0 then Pool m else iprop(emp)

theorem big_emp (s : Finset (Dev nD)) : (bigSep s fun _ => (iprop(emp) : sProp 𝕄)) = iprop(emp) := BI.bigSep_emp_const s

theorem G_intro : Pool m ⊢ bigSep Finset.univ (G m) := by
  rw [bigSep_univ_at (G m) 0, bigSep_congr (s := Finset.univ.erase (0 : Dev nD)) (Φ := G m) (Ψ := fun _ => iprop(emp)) (fun c hc => if_neg (Finset.ne_of_mem_erase hc)),
    big_emp, show G m 0 = Pool m from if_pos rfl]
  iintro H
  isplitl; · iexact H
  iempintro
theorem G_elim : bigSep Finset.univ (G m) ⊢ Pool m :=
  (big_elim (Finset.mem_univ (0 : Dev nD))).trans (Entails.of_eq (if_pos rfl))

/-- What is shared. -/
def Shared (Kc : Dev nD × CK → ℕ) (Ks : Key → ℕ) : sProp 𝕄 :=
  iprop((bigSep Finset.univ fun p : Dev nD × CK => cellInv ER (Rd (BB m)) (Kc p) (kcell p))
    ∗ (bigSep Finset.univ fun x : Key => slotInv ES (Ks x) x (keySlot (F := F) x))
    ∗ (bigSep Finset.univ fun p : Dev nD × CK => reached ER (kcell p) 0))
instance Shared_persistent (Kc : Dev nD × CK → ℕ) (Ks : Key → ℕ) : BI.Persistent (Shared m Kc Ks) := by unfold Shared; infer_instance

theorem G'_intro (Kc : Dev nD × CK → ℕ) (Ks : Key → ℕ) (c : Dev nD) : iprop(Shared m Kc Ks ∗ Cells c ∗ Toks c ∗ Readers c) ⊢ G' m c := by
  unfold Shared G'
  iintro ⟨H, HR⟩
  iexists Kc
  iexists Ks
  isplitl [H]; · iexact H
  iexact HR

theorem cells_alloc :
    iprop((bigSep Finset.univ fun p : Dev nD × CK => semVal (kcell p) 0) ∗ bigSep Finset.univ fun p : Dev nD × CK => roundState ER (Rd (BB m)) (kcell p) 0)
      ⊢ iprop(|={Set.univ}=> ∃ Kc : Dev nD × CK → ℕ, bigSep Finset.univ fun p => cellInv ER (Rd (BB m)) (Kc p) (kcell p) : sProp 𝕄) := by
  rw [← big_sep]
  refine Entails.trans (((bigSep_mono fun p _ => (Rounds.body_intro ER (Rd (BB m)) (kcell p)).trans inv_alloc).trans (bigSep_fupd _ _))) (BI.fupd_mono ?_)
  exact BI.bigSep_exists_pi Finset.univ fun (p : Dev nD × CK) (κ : ℕ) => (cellInv ER (Rd (BB m)) κ (kcell p) : sProp 𝕄)

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have hV : iprop((bigSep Finset.univ fun c => unscopedSems0 c) ∗ bigSep Finset.univ fun c => Pipeline.ownSems0 (Ix := ℕ) (Name := ℕ) (U := UU) (Lvl := ℕ) (Val := Elt F) (τ := τ) osem c)
      = (bigSep Finset.univ fun p : Dev nD × CK => semVal (kcell p) 0 : sProp 𝕄) := by
    rw [← big_sep, big_prod]
    exact bigSep_congr fun c _ => sems_eq c
  have hA : (bigSep Finset.univ fun p : Dev nD × CK => (atPos ER (kcell p) 0 ∅ 0 : sProp 𝕄)) = bigSep Finset.univ Cells := by rw [big_prod]; rfl
  have hR : (bigSep Finset.univ fun x : Key => (readerAt ES x 0 : sProp 𝕄)) = bigSep Finset.univ Readers := by
    rw [big_prod]; refine bigSep_congr fun c _ => ?_; rw [big_prod]; rfl
  have hL : bigSep Finset.univ (fun c => iprop(Cells (F := F) c ∗ Toks c ∗ Readers c)) = iprop(bigSep Finset.univ Cells ∗ bigSep Finset.univ Toks ∗ bigSep Finset.univ Readers) := by
    rw [big_sep, big_sep]
  rw [big_sep, big_sep]
  iintro ⟨HO, HU, HG⟩
  ihave HG := (G_elim m) $$ HG
  unfold Pool
  icases HG with ⟨Hst, #Hre, Hat, Htok, ⟨%Ks, #Hsl⟩, Hrd, Hwr⟩
  ihave HV := (Entails.of_eq hV) $$ [HO HU]
  · isplitl [HU]; · iexact HU
    iexact HO
  imod (cells_alloc m) $$ [HV Hst] with ⟨%Kc, #HC⟩
  · isplitl [HV]; · iexact HV
    iexact Hst
  ihave HT := (toks_deal (F := F)) $$ [Htok Hwr]
  · isplitl [Htok]; · iexact Htok
    iexact Hwr
  ihave Hat := (Entails.of_eq hA) $$ Hat
  ihave Hrd := (Entails.of_eq hR) $$ Hrd
  imodintro
  iapply (big_frame (P := Shared m Kc Ks) (Φ := fun c => iprop(Cells c ∗ Toks c ∗ Readers c)) (s := Finset.univ) fun c _ => G'_intro m Kc Ks c)
  isplitr
  · unfold Shared
    isplitr; · iexact HC
    isplitr; · iexact Hsl
    iexact Hre
  iapply (Entails.of_eq hL.symm)
  isplitl [Hat]; · iexact Hat
  isplitl [HT]; · iexact HT
  iexact Hrd

/-! ### The theorem's side conditions -/

theorem start_intro (c : Dev nD) :
    iprop(Pipeline.unscopedRestP Pipeline.Prefetch.none (cfgs (0 : Fin 1)).spec c (fun b => m ((c : Thread nD τ).loc b)) ∗ levAts L lv
        ∗ Pipeline.launchCred O₀ c ∗ prngReg c (ρ c) ∗ G' m c)
      ⊢ |={Set.univ}=> iprop(start m c ∗ emp) := by
  unfold G' start Inv
  iintro ⟨-, Hlev, Hcr, -, %Kc, %Ks, ⟨H1, H2, H3⟩, HC, HT, HR⟩
  ihave Hcr := (creds (F := F) c) $$ Hcr
  imodintro
  isplitl
  · iexists Kc
    iexists Ks
    isplitl [H1 H2 H3 Hlev]
    · isplitl [H1]; · iexact H1
      isplitl [H2]; · iexact H2
      isplitl [H3]; · iexact H3
      iexact Hlev
    isplitl [HC]; · iexact HC
    isplitl [HT]; · iexact HT
    isplitl [HR]; · iexact HR
    unfold Creds; iexact Hcr
  · iempintro

theorem phi0_intro (c : Dev nD) :
    iprop(start m c ∗ Pipeline.prefHeld Pipeline.Prefetch.none c (fun _ => fullShare.right) (fun k => k.elim0) ∗ Pipeline.scopedRest (cfgs (0 : Fin 1)).spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last (cfgs (0 : Fin 1)).N)
      ⊢ iprop(unscopedSems0 c ∗ Pipeline.ownSems0 osem c ∗ Pipeline.scopedRest (cfgs (0 : Fin 1)).spec c) := by
  rw [show (dats m ρ 0 c).Φ (Fin.last (cfgs (0 : Fin 1)).N) = Φ₁ c from rfl, scopedRest0_eq]
  unfold Φ₁
  rw [← sems_eq]
  iintro ⟨⟨HU, HO⟩, Hs⟩
  isplitl [HU]; · iexact HU
  isplitl [HO]; · iexact HO
  iexact Hs

theorem O₀_pos {c : Dev nD} {g : GSem nD τ sig} {u : ℕ} (h : 0 < O₀ c g u) : g.1.2 = .tc ∧ u < 64 ∧ 0 < lv g u := by
  unfold O₀ at h
  rw [Pi.add_apply, Finsupp.add_apply, Pi.add_apply, Finsupp.add_apply, tallyAt_apply, tallyAt_apply] at h
  by_cases h1 : g = barCell (rightD c) ∧ u = 0
  · obtain ⟨rfl, rfl⟩ := h1; exact ⟨rfl, by decide, by rw [lv_bar]; decide⟩
  by_cases h2 : g = barCell (leftD c) ∧ u = 0
  · obtain ⟨rfl, rfl⟩ := h2; exact ⟨rfl, by decide, by rw [lv_bar]; decide⟩
  rw [if_neg h1, if_neg h2] at h
  replace h : 0 < Ow c (fun _ => 0) (fun _ => 0) g u := by simpa using h
  rcases Ow_pos h with ⟨i, -, h4, rfl⟩ | ⟨i, -, h4, rfl⟩
  · exact ⟨rfl, by omega, by rw [lv_rcv]; omega⟩
  · exact ⟨rfl, by omega, by rw [lv_cred]; omega⟩

theorem stage_kind (w : Fin 3) (s : Fin (spec0 w).nbuf) : kind (.dma ((spec0 w).sem s)) = none := by
  classical
  unfold kind
  rw [dif_neg]
  rintro ⟨k, hk⟩
  cases k with
  | bar => exact bar_stage w s hk.symm
  | cred i => exact osem_stage (.inl i) w s hk
  | snd i t => exact osem_stage (.inr (.inl (i, t))) w s hk
  | rcv i t => exact osem_stage (.inr (.inr (i, t))) w s hk

theorem mayWait_stage (c : Dev nD) (w : Fin 3) (s : Fin (spec0 w).nbuf) (O : CellTallies nD τ sig ℕ) (hO : O = O₀ c ∨ O = 0) :
    (levAts L lv : sProp 𝕄) ⊢ MayWait (c : Thread nD τ) (.dma ((spec0 w).sem s)) 0 O := by
  rcases hO with rfl | rfl
  · refine MayOwe.of_cut (L := L) (lev := lv) 0
      (fun p hp => by rw [Finset.mem_singleton.mp hp, L_tc]; exact Finset.mem_range.mpr (show 0 < 64 by decide))
      (fun g u hg => by obtain ⟨h1, h2, -⟩ := O₀_pos hg; unfold L; rw [if_pos h1]; exact Finset.mem_range.mpr h2)
      (fun p hp => by rw [Finset.mem_singleton.mp hp]; unfold lv; rw [stage_kind w s])
      (fun g u hg => (O₀_pos hg).2.2)
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    mayWait_stage c w s _ (by
      rcases t with ⟨_ | _, ht⟩
      · exact Or.inl rfl
      · exact Or.inr rfl)

theorem share_eq (c : Dev nD) (w : Fin (cfgs (0 : Fin 1)).W) : (dats m ρ 0 c).share w = fullShare := by unfold Pipeline.Dat.share; split <;> rfl

/-! ### The run -/

def finalA (c : Dev nD) (w : Fin (cfgs (0 : Fin 1)).W) : Buf (Elt F) (((cfgs (0 : Fin 1)).win w).arr.view.loc (c : Thread nD τ)) := (dats m ρ 0 c).arrAt w (cfgs (0 : Fin 1)).N

def QC : PUnit × MemSt nD τ sig (Elt F) → Prop := fun r =>
  ∀ c : Dev nD, ∀ w : Fin (cfgs (0 : Fin 1)).W, r.2.mem (((cfgs (0 : Fin 1)).win w).arr.view.loc (c : Thread nD τ)) = finalA m ρ c w

set_option maxRecDepth 10000000 in
set_option maxHeartbeats 1000000 in
/-- From any memory with zero counters, for any float values: every weakly fair execution of the 32 devices ends, with the
    result of every device as computed, `x` and `w` unchanged, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := fun g h => if_neg h) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      imod (pool_intro m) $$ HX with HG
      imodintro
      isplitl [HP]; · iexact HP
      iapply (G_intro m); iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Steps
-- ==== Proof.Frames.lean ====
/-
  The frames: each program ends, its arguments unchanged and every counter at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.KernelIdeal.Steps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem finalA_x (c : Dev nD) : finalA m ρ c (0 : Fin 3) = m ((c : Thread nD τ).loc main_arg0) :=
  (dats m ρ 0 c).arrAt_in (0 : Fin 3) rfl _
theorem finalA_w (c : Dev nD) : finalA m ρ c (1 : Fin 3) = m ((c : Thread nD τ).loc main_arg1) :=
  (dats m ρ 0 c).arrAt_in (1 : Fin 3) rfl _

/-- The result array's one block, read back, is what the body left. -/
theorem finalA_o (c : Dev nD) : (win0_2.blk t0_0).view.read (Elt F) (finalA m ρ c (2 : Fin 3)) = outAt (BB m) := by
  have h : finalA m ρ c (2 : Fin 3) = _ := (dats m ρ 0 c).arrAt_succ (2 : Fin 3) t0_0
  have hf : ((cfgs (0 : Fin 1)).win (2 : Fin 3)).flush t0_0 = true := rfl
  rw [if_pos hf] at h
  rw [h]
  exact View.read_write_univ _ _

/-- What the run says of the arguments and the counters. -/
def Kept (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)) ∧ r.2.sem = fun _ => 0

theorem run_kept : θ_run defs (onTc (τ := τ) (main (F := F))) (s₀ m ρ) (Kept m) :=
  (θ_run defs _ _).mono (fun _ h => ⟨fun c => ⟨(h.1 c (0 : Fin 3)).trans (finalA_x m ρ c), (h.1 c (1 : Fin 3)).trans (finalA_w m ρ c)⟩, h.2⟩) (run_main m ρ)

end Cert.KernelIdeal.Steps

namespace Cert.Proof

open Idealize.ShloMosaic Idealize.SL.Sem

theorem frame_ideal : Cert.quiescent_KernelIdeal (hKernelIdeal := Cert.KernelIdeal.Gen.facts) := fun m g _ =>
  Cert.KernelIdeal.Steps.run_kept (F := Ideal) m g

/-! The printed kernel and its idealization are the same text. -/

set_option maxRecDepth 100000 in
theorem defs₀_eq : (@Cert.Kernel.defs₀ Bits _ Cert.Kernel.Gen.facts) = @Cert.KernelIdeal.defs₀ Bits _ Cert.KernelIdeal.Gen.facts := by
  unfold Cert.Kernel.defs₀ Cert.KernelIdeal.defs₀
  congr 1
  funext l x
  match l, x with
  | 0, (t, s) => rfl

set_option maxRecDepth 100000 in
theorem defs_eq : (@Cert.Kernel.defs Bits _ Cert.Kernel.Gen.facts) = @Cert.KernelIdeal.defs Bits _ Cert.KernelIdeal.Gen.facts :=
  congrArg (Pipeline.defs (Cert.KernelIdeal.pcfgs (F := Bits))) defs₀_eq

set_option maxRecDepth 100000 in
theorem main_eq : (@Cert.Kernel.main Bits _) = @Cert.KernelIdeal.main Bits _ := rfl

set_option maxRecDepth 100000 in
theorem frame_kernel : Cert.quiescent_Kernel (hKernel := Cert.Kernel.Gen.facts) := fun m g _ => by
  rw [defs_eq, main_eq]
  exact Cert.KernelIdeal.Steps.run_kept (F := Bits) m g

/-- The reference is host operations only, and declares no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Sums.lean ====
/-
  What the rings add up to over the extended reals: each chunk is the sum, over all devices, of their products of its rows.
-/
module

public import proofs.«01_k».proof.Proof.Result
public import Idealize.ShloMosaic.Lib.Pointwise

@[expose] public section

set_option maxRecDepth 100000

noncomputable section

namespace Cert.KernelIdeal.Steps

open Idealize.ShloMosaic Idealize.ShloMosaic.TcCoe
open Cert.KernelIdeal Cert.KernelIdeal.Gen

variable (B : Blocks Ideal)

/-- One entry of a product. -/
theorem prod_apply (x : Vec Ideal S128x128 .bf16) (w : Vec Ideal S128x1024 .bf16) (j : S128x1024.Idx) :
    prod x w j = ∑ k : Fin 128, x (ix2 (j 0) k) * w (ix2 k (j 1)) := by
  pointwise [prod]

theorem row_lt (c : ℕ) (hc : c < 32) (y : S128x256.Idx) : c * 128 + (y 0).val < 4096 := by
  have h : (y 0).val < 128 := (y 0).isLt
  omega
theorem col_lt (j : Fin 8) (y : S128x256.Idx) : col j.val + (y 1).val < 2048 := by
  have h : (y 1).val < 256 := (y 1).isLt
  unfold col
  omega

/-- The blocks, as arrays. -/
abbrev bx (d : Dev nD) : FVec Ideal S4096x128 .bf16 := B.x d
abbrev bw (d : Dev nD) : FVec Ideal S128x2048 .bf16 := B.w d

/-- Device `d`'s part of entry `y` of chunk `c` of ring `j`. -/
def part (c : Fin 32) (j : Fin 8) (y : S128x256.Idx) (d : Dev nD) : EReal :=
  ∑ k : Fin 128, bx B d (ix2 ⟨c.val * 128 + (y 0).val, row_lt c.val c.isLt y⟩ k) * bw B d (ix2 k ⟨col j.val + (y 1).val, col_lt j y⟩)

/-- A product of rows from `c * 128` on with half the columns, read at ring `j`'s columns. -/
theorem part_even (c : Fin 32) (j : Fin 8) (hj : j.val % 2 = 0) (y : S128x256.Idx) (d : Dev nD) (off : Fin 2 → ℕ) (h) (e : off = ![c.val * 128, 0]) :
    cols j.val (prod (xRows B d off h) (wLeft B d)) y = part B c j y d := by
  subst e
  show prod _ _ _ = _
  rw [prod_apply]
  refine Finset.sum_congr rfl fun k _ => congrArg₂ (· * ·) ?_ ?_
  · show bx B d _ = bx B d _
    refine congrArg (bx B d) (funext fun a => Fin.ext ?_)
    match a with
    | 0 => show c.val * 128 + 1 * (0 + (y 0).val) = c.val * 128 + (y 0).val; omega
    | 1 => show 0 + 1 * k.val = k.val; omega
  · show bw B d _ = bw B d _
    refine congrArg (bw B d) (funext fun a => Fin.ext ?_)
    match a with
    | 0 => show 0 + 1 * k.val = k.val; omega
    | 1 => show 0 + 1 * (j.val / 2 % 4 * 256 + (y 1).val) = j.val % 2 * 1024 + j.val / 2 * 256 + (y 1).val; have := j.isLt; omega

theorem part_odd (c : Fin 32) (j : Fin 8) (hj : j.val % 2 = 1) (y : S128x256.Idx) (d : Dev nD) (off : Fin 2 → ℕ) (h) (e : off = ![c.val * 128, 0]) :
    cols j.val (prod (xRows B d off h) (wRight B d)) y = part B c j y d := by
  subst e
  show prod _ _ _ = _
  rw [prod_apply]
  refine Finset.sum_congr rfl fun k _ => congrArg₂ (· * ·) ?_ ?_
  · show bx B d _ = bx B d _
    refine congrArg (bx B d) (funext fun a => Fin.ext ?_)
    match a with
    | 0 => show c.val * 128 + 1 * (0 + (y 0).val) = c.val * 128 + (y 0).val; omega
    | 1 => show 0 + 1 * k.val = k.val; omega
  · show bw B d _ = bw B d _
    refine congrArg (bw B d) (funext fun a => Fin.ext ?_)
    match a with
    | 0 => show 0 + 1 * k.val = k.val; omega
    | 1 => show 1024 + 1 * (j.val / 2 % 4 * 256 + (y 1).val) = j.val % 2 * 1024 + j.val / 2 * 256 + (y 1).val; have := j.isLt; omega

/-- The chunk device `d` works on when it makes transfer `k` of ring `j`. -/
def at' (d : Dev nD) (j : Fin 8) : ℕ → Fin 32
  | 0 => ⟨pos d, pos_lt d⟩
  | k + 1 => ⟨chunk d j.val k, chunk_lt d j.val k⟩

theorem at_up (d : Dev nD) (j : Fin 8) (k : ℕ) (hk : k < 62) : at' (upD d j.val) j k = at' d j (k + 1) := by
  refine Fin.ext ?_
  match k with
  | 0 =>
    show pos (upD d j.val) = chunk d j.val 0
    have := pos_lt d
    unfold chunk upD
    rcases Nat.mod_two_eq_zero_or_one j.val with hj | hj <;> simp only [hj]
    · rw [pos_left]; simp only [if_true]; omega
    · rw [pos_right, if_neg (by decide)]
  | k + 1 =>
    show chunk (upD d j.val) j.val k = chunk d j.val (k + 1)
    have h := chunk_down (upD d j.val) j.val k (by omega)
    rw [down_up] at h
    exact h.symm

theorem first_part (d : Dev nD) (j : Fin 8) (y : S128x256.Idx) : first j.val (prod₀ B d j.val) y = part B (at' d j 0) j y d := by
  show cols j.val (prod₀ B d j.val) y = _
  unfold prod₀
  rcases Nat.mod_two_eq_zero_or_one j.val with hj | hj <;> simp only [hj]
  · exact part_even B _ j hj y d _ _ (off1_eq d)
  · exact part_odd B _ j hj y d _ _ (off1_eq d)

theorem step_part (d : Dev nD) (j : Fin 8) (k : ℕ) (hk : k ≤ 30) (y : S128x256.Idx) :
    cols j.val (prodAt B d j.val k) y = part B (at' d j (k + 1)) j y d := by
  have hf : (f31 k).val = k := Nat.mod_eq_of_lt (by omega)
  have := pos_lt d
  unfold prodAt
  rcases Nat.mod_two_eq_zero_or_one j.val with hj | hj <;> simp only [hj]
  · refine part_even B _ j hj y d _ _ ((off2_eq d (f31 k)).trans ?_)
    rw [hf, show (at' d j (k + 1)).val = (pos d + 31 - k) % 32 by show chunk d j.val k = _; unfold chunk; rw [if_pos hj]; omega]
  · refine part_odd B _ j hj y d _ _ ((off3_eq d (f31 k)).trans ?_)
    rw [hf, show (at' d j (k + 1)).val = (pos d + k + 1) % 32 by show chunk d j.val k = _; unfold chunk; rw [if_neg (by omega)]]

/-- The device `t` places up ring `j` from `d`. -/
def ups (j : Fin 8) (d : Dev nD) : ℕ → Dev nD
  | 0 => d
  | t + 1 => ups j (upD d j.val) t

theorem total_part (d : Dev nD) (j : Fin 8) (k : ℕ) (hk : k ≤ 30) (u : FVec Ideal S128x256 .bf16) (y : S128x256.Idx) :
    total' j.val (prodAt B d j.val k) u y = u y + part B (at' d j (k + 1)) j y d := by
  rw [← step_part B d j k hk y]
  rfl

/-- A partial sum on its way: the parts of the devices it has passed. -/
theorem sent_part (j : Fin 8) (k : ℕ) (hk : k ≤ 30) : ∀ (d : Dev nD) (y : S128x256.Idx),
    sent B k d j.val y = ∑ t ∈ Finset.range (k + 1), part B (at' d j k) j y (ups j d t) := by
  induction k with
  | zero =>
    intro d y
    rw [Finset.sum_range_one]
    exact first_part B d j y
  | succ k ih =>
    intro d y
    rw [Finset.sum_range_succ', ← at_up d j k (by omega)]
    show (if k < 30 then _ else _ : FVec Ideal S128x256 .bf16) y = _
    rw [if_pos (by omega)]
    show total' j.val (prodAt B d j.val k) (sent B k (upD d j.val) j.val) y = _
    rw [total_part B d j k (by omega), ih (by omega), at_up d j k (by omega)]
    rfl

theorem pos_ups (j : Fin 8) (t : ℕ) (ht : t < 32) : ∀ d, pos (ups j d t) = if j.val % 2 = 0 then (pos d + 32 - t) % 32 else (pos d + t) % 32 := by
  induction t with
  | zero =>
    intro d
    have := pos_lt d
    show pos d = _
    split <;> omega
  | succ t ih =>
    intro d
    have := pos_lt d
    show pos (ups j (upD d j.val) t) = _
    rw [ih (by omega)]
    unfold upD
    rcases Nat.mod_two_eq_zero_or_one j.val with hj | hj <;> simp only [hj]
    · rw [pos_left]; simp only [if_true]; omega
    · rw [pos_right]; simp only [Nat.one_ne_zero, if_false]; omega

/-- Going round the ring meets every device once. -/
theorem ups_bij (j : Fin 8) (d : Dev nD) : Function.Bijective fun t : Fin 32 => ups j d t.val := by
  refine (Fintype.bijective_iff_injective_and_card _).mpr ⟨fun s t h => Fin.ext ?_, by decide⟩
  have h' := congrArg pos h
  dsimp only at h'
  rw [pos_ups j _ s.isLt, pos_ups j _ t.isLt] at h'
  have := pos_lt d
  have := s.isLt
  have := t.isLt
  split at h' <;> omega

/-- What a finished chunk is before the activation. -/
theorem finished_part (j : Fin 8) (d : Dev nD) (y : S128x256.Idx) :
    total' j.val (prodAt B d j.val 30) (sent B 30 (upD d j.val) j.val) y = ∑ e : Dev nD, part B ⟨chunk d j.val 30, chunk_lt d j.val 30⟩ j y e := by
  rw [total_part B d j 30 le_rfl, sent_part B j 30 le_rfl, at_up d j 30 (by omega)]
  rw [← (ups_bij j d).sum_comp fun e => part B ⟨chunk d j.val 30, chunk_lt d j.val 30⟩ j y e,
    Fin.sum_univ_eq_sum_range (fun t => part B ⟨chunk d j.val 30, chunk_lt d j.val 30⟩ j y (ups j d t)) 32]
  exact (Finset.sum_range_succ' (fun t => part B ⟨chunk d j.val 30, chunk_lt d j.val 30⟩ j y (ups j d t)) 31).symm

end Cert.KernelIdeal.Steps

end
-- ==== Proof.Value.lean ====
/-
  The result of the kernel is the reference's, over the extended reals.
-/
module

public import proofs.«01_k».proof.Proof.Sums
public import proofs.«01_k».proof.ReferenceIdeal
public import proofs.«01_k».proof.Proof.Gen.ReferenceIdeal
public import Idealize.ShloMosaic.Lib.Layout

@[expose] public section

set_option maxRecDepth 100000

noncomputable section

namespace Cert.KernelIdeal.Steps

open Idealize.ShloMosaic Idealize.ShloMosaic.TcCoe
open Cert.KernelIdeal Cert.KernelIdeal.Gen

/-- The activation. -/
def act (s : EReal) : EReal :=
  Ideal.ofBits .f32 0x3F000000#32 * s * (Ideal.ofBits .f32 0x3F800000#32
    + Ideal.tanh (Ideal.ofBits .f32 0x3F4C422A#32 * (s + Ideal.ofBits .f32 0x3D372713#32 * (s * s * s))))

/-- The kernel multiplies the cube up from the left: the same. -/
theorem gelu_apply (s : FVec Ideal S128x256 .f32) (y : S128x256.Idx) : gelu s y = act (s y) := by
  pointwise [gelu, act]
  simp only [mul_assoc]

/-- The reference's result, as its operations compute it. -/
def refOut (X : FVec Ideal Cert.ReferenceIdeal.S4096x4096 .bf16) (W : FVec Ideal Cert.ReferenceIdeal.S4096x2048 .bf16) : FVec Ideal Cert.ReferenceIdeal.S4096x2048 .bf16 :=
  have s : FVec Ideal Cert.ReferenceIdeal.S4096x2048 .f32 := extf .f32 (truncf .bf16 (Host.dotGeneral Cert.ReferenceIdeal.dot_S4096x4096_S4096x2048_S4096x2048_1_0_0_1_n_n none
    (extf .f32 X Cert.ReferenceIdeal.Facts₀.bitsLt_bf16_f32) (extf .f32 W Cert.ReferenceIdeal.Facts₀.bitsLt_bf16_f32)) Cert.ReferenceIdeal.Facts₀.bitsLt_bf16_f32) Cert.ReferenceIdeal.Facts₀.bitsLt_bf16_f32
  have k (b : BitVec 32) : FVec Ideal Cert.ReferenceIdeal.S4096x2048 .f32 :=
    broadcastInDim Cert.ReferenceIdeal.S4096x2048 ![] Cert.ReferenceIdeal.Facts₀.bcast_S_S4096x2048 (constant Cert.ReferenceIdeal.S_ .f32 b)
  truncf .bf16 (mulf (mulf (k 0x3F000000#32) s) (addf (k 0x3F800000#32) (Host.tanh (mulf (k 0x3F4C422A#32)
    (addf s (mulf (k 0x3D372713#32) (mulf (mulf s s) s))))))) Cert.ReferenceIdeal.Facts₀.bitsLt_bf16_f32

/-- One entry of it. -/
theorem refOut_apply (X : FVec Ideal Cert.ReferenceIdeal.S4096x4096 .bf16) (W : FVec Ideal Cert.ReferenceIdeal.S4096x2048 .bf16) (r : Fin 4096) (q : Fin 2048) :
    refOut X W (ix2 r q) = act (∑ k : Fin 4096, X (ix2 r k) * W (ix2 k q)) := by
  pointwise [refOut, act]

/-- A sum over 4096 places is one over 32 blocks of 128. -/
theorem sum_blocks (f : Fin 4096 → EReal) : ∑ k, f k = ∑ e : Fin 32, ∑ k : Fin 128, f ⟨e.val * 128 + k.val, by have := e.isLt; have := k.isLt; omega⟩ := by
  rw [← Fintype.sum_prod_type', ← (finProdFinEquiv (m := 32) (n := 128)).sum_comp]
  refine Finset.sum_congr rfl fun p _ => congrArg f (Fin.ext ?_)
  show p.2.val + 128 * p.1.val = p.1.val * 128 + p.2.val
  omega

/-- Every chunk is finished by some device. -/
theorem chunk_some (j c : ℕ) (hc : c < 32) : ∃ d : Dev nD, chunk d j 30 = c := by
  have H : ∀ (j : Fin 2) (c : Fin 32), ∃ d : Dev nD, chunk d j.val 30 = c.val := by decide +kernel
  obtain ⟨d, hd⟩ := H ⟨j % 2, Nat.mod_lt _ (by decide)⟩ ⟨c, hc⟩
  refine ⟨d, Eq.trans ?_ hd⟩
  unfold chunk
  rw [show (j % 2) % 2 = j % 2 by omega]

/-- Where the devices' blocks are those of `X` and `W`, the kernel's result is the reference's. -/
theorem value (B : Blocks Ideal) (X : FVec Ideal Cert.ReferenceIdeal.S4096x4096 .bf16) (W : FVec Ideal Cert.ReferenceIdeal.S4096x2048 .bf16)
    (hx : ∀ d : Fin 32, bx B d = Layout.block S4096x128 Cert.ReferenceIdeal.S4096x4096 1 32 d X)
    (hw : ∀ d : Fin 32, bw B d = Layout.block S128x2048 Cert.ReferenceIdeal.S4096x2048 0 32 d W) :
    outAt B = refOut X W := by
  refine funext fun x => ?_
  change S4096x2048.Idx at x
  have h0 : (x 0).val < 4096 := (x 0).isLt
  have h1 : (x 1).val < 2048 := (x 1).isLt
  generalize hj : ringOf ((x 1).val / 256) = j
  have hc : col j.val = (x 1).val / 256 * 256 := by rw [← hj]; exact col_ringOf ⟨(x 1).val / 256, by omega⟩
  obtain ⟨d, hd⟩ : ∃ d, chunk d j.val 30 = (x 0).val / 128 := chunk_some j.val _ (by omega)
  have hs : outAt B x = act (∑ e : Dev nD, part B ⟨chunk d j.val 30, chunk_lt d j.val 30⟩ j (inner x) e) := by
    rw [← finished_part, ← gelu_apply]
    show sent B 31 (owner (ringOf ((x 1).val / 256)).val ((x 0).val / 128)) (ringOf ((x 1).val / 256)).val (inner x) = _
    rw [hj, ← hd, owner_chunk]
    rfl
  rw [hs, show refOut X W x = refOut X W (ix2 ⟨(x 0).val, h0⟩ ⟨(x 1).val, h1⟩) from congrArg (refOut X W) (funext fun a => match a with | 0 => rfl | 1 => rfl),
    refOut_apply, sum_blocks]
  refine congrArg act (Finset.sum_congr rfl fun e _ => Finset.sum_congr rfl fun k _ => congrArg₂ (· * ·) ?_ ?_)
  · rw [hx e, Layout.block_apply]
    refine congrArg X (funext fun a => Fin.ext ?_)
    match a with
    | 0 => show chunk d j.val 30 * 128 + (x 0).val % 128 = (x 0).val; rw [hd]; omega
    | 1 => rfl
  · rw [hw e, Layout.block_apply]
    refine congrArg W (funext fun a => Fin.ext ?_)
    match a with
    | 0 => rfl
    | 1 => show col j.val + (x 1).val % 256 = (x 1).val; rw [hc]; omega

end Cert.KernelIdeal.Steps

end
-- ==== Proof.Claims.lean ====
/-
  The value claim: on every device the kernel's result is the reference's.
-/
module

public import proofs.«01_k».proof.Proof.Frames
public import proofs.«01_k».proof.Proof.Value

@[expose] public section

noncomputable section

namespace Cert.Proof

open Idealize.ShloMosaic Idealize.ShloMosaic.TcCoe Idealize.SL.Sem
open Cert.KernelIdeal Cert.KernelIdeal.Gen Cert.KernelIdeal.Steps

theorem zero_x : (fun a => win0_0.index t0_0 a * main_arg0.ty.shape.size a) = fun _ => 0 := funext fun a => by fin_cases a <;> decide
theorem zero_w : (fun a => win0_1.index t0_0 a * main_arg1.ty.shape.size a) = fun _ => 0 := funext fun a => by fin_cases a <;> decide
theorem zero_o : (fun a => win0_2.index t0_0 a * main_v1.ty.shape.size a) = fun _ => 0 := funext fun a => by fin_cases a <;> decide

/-- Each window is its whole array. -/
theorem read_x (f : main_arg0.ty.Contents (Elt Ideal)) : (win0_0.blk t0_0).view.read (Elt Ideal) f = f :=
  Memref.read_access_unit_zero (Elt Ideal) main_arg0 zero_x (fun a => by fin_cases a <;> decide) f
theorem read_w (f : main_arg1.ty.Contents (Elt Ideal)) : (win0_1.blk t0_0).view.read (Elt Ideal) f = f :=
  Memref.read_access_unit_zero (Elt Ideal) main_arg1 zero_w (fun a => by fin_cases a <;> decide) f
theorem read_o (f : main_v1.ty.Contents (Elt Ideal)) : (win0_2.blk t0_0).view.read (Elt Ideal) f = f :=
  Memref.read_access_unit_zero (Elt Ideal) main_v1 zero_o (fun a => by fin_cases a <;> decide) f

theorem algebraic : Cert.algebraic_KernelIdeal_ReferenceIdeal (hKernelIdeal := Cert.KernelIdeal.Gen.facts) (hReferenceIdeal := Cert.ReferenceIdeal.Gen.facts) := by
  intro m g m' g' _ hag
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c (2 : Fin 3)).trans ?_, (h.1 c (0 : Fin 3)).trans (finalA_x m g c), (h.1 c (1 : Fin 3)).trans (finalA_w m g c)⟩) (run_main (F := Ideal) m g)
    refine ((read_o _).symm.trans (finalA_o m g c)).trans ?_
    exact value (BB m) _ _ (fun d => (read_x _).trans (hag d).1) (fun d => (read_w _).trans (hag d).2)
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Frames
public import proofs.«01_k».proof.Proof.Claims

@[expose] public section

noncomputable section

namespace Cert.Proof

open Idealize.ShloMosaic Idealize.SL.Sem

/-- The three frames, the ideal program being the kernel's own text, and the value. -/
theorem claim : Cert.Claim :=
  ⟨Cert.Kernel.Gen.facts, Cert.KernelIdeal.Gen.facts, Cert.ReferenceIdeal.Gen.facts, frame_kernel, frame_ideal, frame_ref, trivial, algebraic⟩

end Cert.Proof

end
